-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_no_tie [hPre_no_tie : Cert.Pre_no_tie.Facts] (m : (ℓ : Loc Cert.KernelIdeal.nD Cert.KernelIdeal.τ Cert.KernelIdeal.sig) → Buf (Elt Ideal) ℓ) : Prop :=
  ∀ c : Dev Cert.KernelIdeal.nD,
    (Cert.Pre_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_tie [hPre_no_tie : Cert.Pre_no_tie.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_no_tie2 [hPre_no_tie2 : Cert.Pre_no_tie2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_no_tie2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_no_tie2 [hPre_no_tie2 : Cert.Pre_no_tie2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_no_tie2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def Pre_Last (m : (ℓ : Loc Cert.Last.nD Cert.Last.τ Cert.Last.sig) → Buf (Elt Bits) ℓ) : Prop :=
  True

def Pre_LastIdeal (m : (ℓ : Loc Cert.LastIdeal.nD Cert.LastIdeal.τ Cert.LastIdeal.sig) → Buf (Elt Ideal) ℓ) : Prop :=
  True

def Pre_ReferenceLastIdeal (m : (ℓ : Loc Cert.ReferenceLastIdeal.nD Cert.ReferenceLastIdeal.τ Cert.ReferenceLastIdeal.sig) → Buf (Elt Ideal) ℓ) : Prop :=
  True

def Pre_Kernel1 (m : (ℓ : Loc Cert.Kernel1.nD Cert.Kernel1.τ Cert.Kernel1.sig) → Buf (Elt Bits) ℓ) : Prop :=
  True

def Pre_Kernel1Ideal (m : (ℓ : Loc Cert.Kernel1Ideal.nD Cert.Kernel1Ideal.τ Cert.Kernel1Ideal.sig) → Buf (Elt Ideal) ℓ) : Prop :=
  True

def Pre_Kernel1Ideal_no_tie1 [hPre_no_tie1 : Cert.Pre_no_tie1.Facts] (m : (ℓ : Loc Cert.Kernel1Ideal.nD Cert.Kernel1Ideal.τ Cert.Kernel1Ideal.sig) → Buf (Elt Ideal) ℓ) : Prop :=
  ∀ c : Dev Cert.Kernel1Ideal.nD,
    (Cert.Pre_no_tie1.fn (F := Ideal) (m ((c.tc : Thread Cert.Kernel1Ideal.nD Cert.Kernel1Ideal.τ).loc Cert.Kernel1Ideal.main_arg0)) (m ((c.tc : Thread Cert.Kernel1Ideal.nD Cert.Kernel1Ideal.τ).loc Cert.Kernel1Ideal.main_arg1))) = (fun _ => 1#1)

def Pre_Reference1Ideal (m : (ℓ : Loc Cert.Reference1Ideal.nD Cert.Reference1Ideal.τ Cert.Reference1Ideal.sig) → Buf (Elt Ideal) ℓ) : Prop :=
  True

def Pre_Reference1Ideal_no_tie1 [hPre_no_tie1 : Cert.Pre_no_tie1.Facts] (m : (ℓ : Loc Cert.Reference1Ideal.nD Cert.Reference1Ideal.τ Cert.Reference1Ideal.sig) → Buf (Elt Ideal) ℓ) : Prop :=
  ∀ c : Dev Cert.Reference1Ideal.nD,
    (Cert.Pre_no_tie1.fn (F := Ideal) (m ((c.tc : Thread Cert.Reference1Ideal.nD Cert.Reference1Ideal.τ).loc Cert.Reference1Ideal.main_arg0)) (m ((c.tc : Thread Cert.Reference1Ideal.nD Cert.Reference1Ideal.τ).loc Cert.Reference1Ideal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_no_tie [hKernelIdeal : Cert.KernelIdeal.Facts] [hPre_no_tie : Cert.Pre_no_tie.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_no_tie m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_no_tie [hReferenceIdeal : Cert.ReferenceIdeal.Facts] [hPre_no_tie : Cert.Pre_no_tie.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_tie m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_no_tie2 [hKernel2Ideal : Cert.Kernel2Ideal.Facts] [hPre_no_tie2 : Cert.Pre_no_tie2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_no_tie2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_no_tie2 [hReference2Ideal : Cert.Reference2Ideal.Facts] [hPre_no_tie2 : Cert.Pre_no_tie2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_no_tie2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Last [hLast : Cert.Last.Facts] : Prop :=
  ∀ (m : (ℓ : Loc Cert.Last.nD Cert.Last.τ Cert.Last.sig) → Buf (Elt Bits) ℓ) (g : Dev Cert.Last.nD → PrngReg), Pre_Last m →
    θ_run (Cert.Last.defs (F := Bits)) (onTc (τ := Cert.Last.τ) (Cert.Last.main (F := Bits))) ⟨m, fun _ => 0, g⟩ (fun r => (∀ c : Dev Cert.Last.nD,
      r.2.mem ((c.tc : Thread Cert.Last.nD Cert.Last.τ).loc Cert.Last.main_arg0) = m ((c.tc : Thread Cert.Last.nD Cert.Last.τ).loc Cert.Last.main_arg0)
      ∧ r.2.mem ((c.tc : Thread Cert.Last.nD Cert.Last.τ).loc Cert.Last.main_arg1) = m ((c.tc : Thread Cert.Last.nD Cert.Last.τ).loc Cert.Last.main_arg1)
      ∧ r.2.mem ((c.tc : Thread Cert.Last.nD Cert.Last.τ).loc Cert.Last.main_arg2) = m ((c.tc : Thread Cert.Last.nD Cert.Last.τ).loc Cert.Last.main_arg2)
      ∧ r.2.mem ((c.tc : Thread Cert.Last.nD Cert.Last.τ).loc Cert.Last.main_arg3) = m ((c.tc : Thread Cert.Last.nD Cert.Last.τ).loc Cert.Last.main_arg3)
      ∧ r.2.mem ((c.tc : Thread Cert.Last.nD Cert.Last.τ).loc Cert.Last.main_arg4) = m ((c.tc : Thread Cert.Last.nD Cert.Last.τ).loc Cert.Last.main_arg4)
      ∧ r.2.mem ((c.tc : Thread Cert.Last.nD Cert.Last.τ).loc Cert.Last.main_arg5) = m ((c.tc : Thread Cert.Last.nD Cert.Last.τ).loc Cert.Last.main_arg5)
      ∧ r.2.mem ((c.tc : Thread Cert.Last.nD Cert.Last.τ).loc Cert.Last.main_arg6) = m ((c.tc : Thread Cert.Last.nD Cert.Last.τ).loc Cert.Last.main_arg6))
      ∧ r.2.sem = fun _ => 0)

def quiescent_LastIdeal [hLastIdeal : Cert.LastIdeal.Facts] : Prop :=
  ∀ (m : (ℓ : Loc Cert.LastIdeal.nD Cert.LastIdeal.τ Cert.LastIdeal.sig) → Buf (Elt Ideal) ℓ) (g : Dev Cert.LastIdeal.nD → PrngReg), Pre_LastIdeal m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
      ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
      ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
      ∧ r.2.mem ((c.tc : Thread Cert.LastIdeal.nD Cert.LastIdeal.τ).loc Cert.LastIdeal.main_arg5) = m ((c.tc : Thread Cert.LastIdeal.nD Cert.LastIdeal.τ).loc Cert.LastIdeal.main_arg5)
      ∧ r.2.mem ((c.tc : Thread Cert.LastIdeal.nD Cert.LastIdeal.τ).loc Cert.LastIdeal.main_arg6) = m ((c.tc : Thread Cert.LastIdeal.nD Cert.LastIdeal.τ).loc Cert.LastIdeal.main_arg6))
      ∧ r.2.sem = fun _ => 0)

def quiescent_ReferenceLastIdeal [hReferenceLastIdeal : Cert.ReferenceLastIdeal.Facts] : Prop :=
  ∀ (m : (ℓ : Loc Cert.ReferenceLastIdeal.nD Cert.ReferenceLastIdeal.τ Cert.ReferenceLastIdeal.sig) → Buf (Elt Ideal) ℓ) (g : Dev Cert.ReferenceLastIdeal.nD → PrngReg), Pre_ReferenceLastIdeal m →
    θ_run (Cert.ReferenceLastIdeal.defs (F := Ideal)) (onTc (τ := Cert.ReferenceLastIdeal.τ) (Cert.ReferenceLastIdeal.main (F := Ideal))) ⟨m, fun _ => 0, g⟩ (fun r => (∀ c : Dev Cert.ReferenceLastIdeal.nD,
      r.2.mem ((c.tc : Thread Cert.ReferenceLastIdeal.nD Cert.ReferenceLastIdeal.τ).loc Cert.ReferenceLastIdeal.main_arg0) = m ((c.tc : Thread Cert.ReferenceLastIdeal.nD Cert.ReferenceLastIdeal.τ).loc Cert.ReferenceLastIdeal.main_arg0)
      ∧ r.2.mem ((c.tc : Thread Cert.ReferenceLastIdeal.nD Cert.ReferenceLastIdeal.τ).loc Cert.ReferenceLastIdeal.main_arg1) = m ((c.tc : Thread Cert.ReferenceLastIdeal.nD Cert.ReferenceLastIdeal.τ).loc Cert.ReferenceLastIdeal.main_arg1)
      ∧ r.2.mem ((c.tc : Thread Cert.ReferenceLastIdeal.nD Cert.ReferenceLastIdeal.τ).loc Cert.ReferenceLastIdeal.main_arg2) = m ((c.tc : Thread Cert.ReferenceLastIdeal.nD Cert.ReferenceLastIdeal.τ).loc Cert.ReferenceLastIdeal.main_arg2)
      ∧ r.2.mem ((c.tc : Thread Cert.ReferenceLastIdeal.nD Cert.ReferenceLastIdeal.τ).loc Cert.ReferenceLastIdeal.main_arg3) = m ((c.tc : Thread Cert.ReferenceLastIdeal.nD Cert.ReferenceLastIdeal.τ).loc Cert.ReferenceLastIdeal.main_arg3)
      ∧ r.2.mem ((c.tc : Thread Cert.ReferenceLastIdeal.nD Cert.ReferenceLastIdeal.τ).loc Cert.ReferenceLastIdeal.main_arg4) = m ((c.tc : Thread Cert.ReferenceLastIdeal.nD Cert.ReferenceLastIdeal.τ).loc Cert.ReferenceLastIdeal.main_arg4)
      ∧ r.2.mem ((c.tc : Thread Cert.ReferenceLastIdeal.nD Cert.ReferenceLastIdeal.τ).loc Cert.ReferenceLastIdeal.main_arg5) = m ((c.tc : Thread Cert.ReferenceLastIdeal.nD Cert.ReferenceLastIdeal.τ).loc Cert.ReferenceLastIdeal.main_arg5)
      ∧ r.2.mem ((c.tc : Thread Cert.ReferenceLastIdeal.nD Cert.ReferenceLastIdeal.τ).loc Cert.ReferenceLastIdeal.main_arg6) = m ((c.tc : Thread Cert.ReferenceLastIdeal.nD Cert.ReferenceLastIdeal.τ).loc Cert.ReferenceLastIdeal.main_arg6))
      ∧ r.2.sem = fun _ => 0)

def quiescent_Kernel1 [hKernel1 : Cert.Kernel1.Facts] : Prop :=
  ∀ (m : (ℓ : Loc Cert.Kernel1.nD Cert.Kernel1.τ Cert.Kernel1.sig) → Buf (Elt Bits) ℓ) (g : Dev Cert.Kernel1.nD → PrngReg), Pre_Kernel1 m →
    θ_run (Cert.Kernel1.defs (F := Bits)) (onTc (τ := Cert.Kernel1.τ) (Cert.Kernel1.main (F := Bits))) ⟨m, fun _ => 0, g⟩ (fun r => (∀ c : Dev Cert.Kernel1.nD,
      r.2.mem ((c.tc : Thread Cert.Kernel1.nD Cert.Kernel1.τ).loc Cert.Kernel1.main_arg0) = m ((c.tc : Thread Cert.Kernel1.nD Cert.Kernel1.τ).loc Cert.Kernel1.main_arg0)
      ∧ r.2.mem ((c.tc : Thread Cert.Kernel1.nD Cert.Kernel1.τ).loc Cert.Kernel1.main_arg1) = m ((c.tc : Thread Cert.Kernel1.nD Cert.Kernel1.τ).loc Cert.Kernel1.main_arg1))
      ∧ r.2.sem = fun _ => 0)

def quiescent_Kernel1Ideal [hKernel1Ideal : Cert.Kernel1Ideal.Facts] : Prop :=
  ∀ (m : (ℓ : Loc Cert.Kernel1Ideal.nD Cert.Kernel1Ideal.τ Cert.Kernel1Ideal.sig) → Buf (Elt Ideal) ℓ) (g : Dev Cert.Kernel1Ideal.nD → PrngReg), Pre_Kernel1Ideal m →
    θ_run (Cert.Kernel1Ideal.defs (F := Ideal)) (onTc (τ := Cert.Kernel1Ideal.τ) (Cert.Kernel1Ideal.main (F := Ideal))) ⟨m, fun _ => 0, g⟩ (fun r => (∀ c : Dev Cert.Kernel1Ideal.nD,
      r.2.mem ((c.tc : Thread Cert.Kernel1Ideal.nD Cert.Kernel1Ideal.τ).loc Cert.Kernel1Ideal.main_arg0) = m ((c.tc : Thread Cert.Kernel1Ideal.nD Cert.Kernel1Ideal.τ).loc Cert.Kernel1Ideal.main_arg0)
      ∧ r.2.mem ((c.tc : Thread Cert.Kernel1Ideal.nD Cert.Kernel1Ideal.τ).loc Cert.Kernel1Ideal.main_arg1) = m ((c.tc : Thread Cert.Kernel1Ideal.nD Cert.Kernel1Ideal.τ).loc Cert.Kernel1Ideal.main_arg1))
      ∧ r.2.sem = fun _ => 0)

def quiescent_Kernel1Ideal_pre_no_tie1 [hKernel1Ideal : Cert.Kernel1Ideal.Facts] [hPre_no_tie1 : Cert.Pre_no_tie1.Facts] : Prop :=
  ∀ (m : (ℓ : Loc Cert.Kernel1Ideal.nD Cert.Kernel1Ideal.τ Cert.Kernel1Ideal.sig) → Buf (Elt Ideal) ℓ) (g : Dev Cert.Kernel1Ideal.nD → PrngReg), Pre_Kernel1Ideal_no_tie1 m →
    θ_run (Cert.Kernel1Ideal.defs (F := Ideal)) (onTc (τ := Cert.Kernel1Ideal.τ) (Cert.Kernel1Ideal.main (F := Ideal))) ⟨m, fun _ => 0, g⟩ (fun r => (∀ c : Dev Cert.Kernel1Ideal.nD,
      r.2.mem ((c.tc : Thread Cert.Kernel1Ideal.nD Cert.Kernel1Ideal.τ).loc Cert.Kernel1Ideal.main_arg0) = m ((c.tc : Thread Cert.Kernel1Ideal.nD Cert.Kernel1Ideal.τ).loc Cert.Kernel1Ideal.main_arg0)
      ∧ r.2.mem ((c.tc : Thread Cert.Kernel1Ideal.nD Cert.Kernel1Ideal.τ).loc Cert.Kernel1Ideal.main_arg1) = m ((c.tc : Thread Cert.Kernel1Ideal.nD Cert.Kernel1Ideal.τ).loc Cert.Kernel1Ideal.main_arg1))
      ∧ r.2.sem = fun _ => 0)

def quiescent_Reference1Ideal [hReference1Ideal : Cert.Reference1Ideal.Facts] : Prop :=
  ∀ (m : (ℓ : Loc Cert.Reference1Ideal.nD Cert.Reference1Ideal.τ Cert.Reference1Ideal.sig) → Buf (Elt Ideal) ℓ) (g : Dev Cert.Reference1Ideal.nD → PrngReg), Pre_Reference1Ideal m →
    θ_run (Cert.Reference1Ideal.defs (F := Ideal)) (onTc (τ := Cert.Reference1Ideal.τ) (Cert.Reference1Ideal.main (F := Ideal))) ⟨m, fun _ => 0, g⟩ (fun r => (∀ c : Dev Cert.Reference1Ideal.nD,
      r.2.mem ((c.tc : Thread Cert.Reference1Ideal.nD Cert.Reference1Ideal.τ).loc Cert.Reference1Ideal.main_arg0) = m ((c.tc : Thread Cert.Reference1Ideal.nD Cert.Reference1Ideal.τ).loc Cert.Reference1Ideal.main_arg0)
      ∧ r.2.mem ((c.tc : Thread Cert.Reference1Ideal.nD Cert.Reference1Ideal.τ).loc Cert.Reference1Ideal.main_arg1) = m ((c.tc : Thread Cert.Reference1Ideal.nD Cert.Reference1Ideal.τ).loc Cert.Reference1Ideal.main_arg1))
      ∧ r.2.sem = fun _ => 0)

def quiescent_Reference1Ideal_pre_no_tie1 [hReference1Ideal : Cert.Reference1Ideal.Facts] [hPre_no_tie1 : Cert.Pre_no_tie1.Facts] : Prop :=
  ∀ (m : (ℓ : Loc Cert.Reference1Ideal.nD Cert.Reference1Ideal.τ Cert.Reference1Ideal.sig) → Buf (Elt Ideal) ℓ) (g : Dev Cert.Reference1Ideal.nD → PrngReg), Pre_Reference1Ideal_no_tie1 m →
    θ_run (Cert.Reference1Ideal.defs (F := Ideal)) (onTc (τ := Cert.Reference1Ideal.τ) (Cert.Reference1Ideal.main (F := Ideal))) ⟨m, fun _ => 0, g⟩ (fun r => (∀ c : Dev Cert.Reference1Ideal.nD,
      r.2.mem ((c.tc : Thread Cert.Reference1Ideal.nD Cert.Reference1Ideal.τ).loc Cert.Reference1Ideal.main_arg0) = m ((c.tc : Thread Cert.Reference1Ideal.nD Cert.Reference1Ideal.τ).loc Cert.Reference1Ideal.main_arg0)
      ∧ r.2.mem ((c.tc : Thread Cert.Reference1Ideal.nD Cert.Reference1Ideal.τ).loc Cert.Reference1Ideal.main_arg1) = m ((c.tc : Thread Cert.Reference1Ideal.nD Cert.Reference1Ideal.τ).loc Cert.Reference1Ideal.main_arg1))
      ∧ r.2.sem = fun _ => 0)

def preserves_Kernel_KernelIdeal : Prop :=
  IdealRules.named_const.Statement Cert.KernelIdeal.κ "neg" .f32 0xFF61B1E6#32 ⊥

def algebraic_KernelIdeal_ReferenceIdeal_pre_no_tie [hKernelIdeal : Cert.KernelIdeal.Facts] [hReferenceIdeal : Cert.ReferenceIdeal.Facts] [hPre_no_tie : Cert.Pre_no_tie.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_no_tie m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v18_0)) (v1 : (c : Dev Cert.KernelIdeal.nD) → Buf (Elt Ideal) ((c.tc : Thread Cert.KernelIdeal.nD Cert.KernelIdeal.τ).loc Cert.KernelIdeal.main_v18_1)) (v2 : (c : Dev Cert.KernelIdeal.nD) → Buf (Elt Ideal) ((c.tc : Thread Cert.KernelIdeal.nD Cert.KernelIdeal.τ).loc Cert.KernelIdeal.main_v18_2)) (v3 : (c : Dev Cert.KernelIdeal.nD) → Buf (Elt Ideal) ((c.tc : Thread Cert.KernelIdeal.nD Cert.KernelIdeal.τ).loc Cert.KernelIdeal.main_v18_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18_0) = v0 c
          ∧ r.2.mem ((c.tc : Thread Cert.KernelIdeal.nD Cert.KernelIdeal.τ).loc Cert.KernelIdeal.main_v18_1) = v1 c
          ∧ r.2.mem ((c.tc : Thread Cert.KernelIdeal.nD Cert.KernelIdeal.τ).loc Cert.KernelIdeal.main_v18_2) = v2 c
          ∧ r.2.mem ((c.tc : Thread Cert.KernelIdeal.nD Cert.KernelIdeal.τ).loc Cert.KernelIdeal.main_v18_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_v42) = v2 c
          ∧ r.2.mem ((c.tc : Thread Cert.ReferenceIdeal.nD Cert.ReferenceIdeal.τ).loc Cert.ReferenceIdeal.main_v45) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  IdealRules.named_const.Statement Cert.Kernel2Ideal.κ "neg" .f32 0xFF61B1E6#32 ⊥

def algebraic_Kernel2Ideal_Reference2Ideal_pre_no_tie2 [hKernel2Ideal : Cert.Kernel2Ideal.Facts] [hReference2Ideal : Cert.Reference2Ideal.Facts] [hPre_no_tie2 : Cert.Pre_no_tie2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_no_tie2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v18_0)) (v1 : (c : Dev Cert.Kernel2Ideal.nD) → Buf (Elt Ideal) ((c.tc : Thread Cert.Kernel2Ideal.nD Cert.Kernel2Ideal.τ).loc Cert.Kernel2Ideal.main_v18_1)) (v2 : (c : Dev Cert.Kernel2Ideal.nD) → Buf (Elt Ideal) ((c.tc : Thread Cert.Kernel2Ideal.nD Cert.Kernel2Ideal.τ).loc Cert.Kernel2Ideal.main_v18_2)) (v3 : (c : Dev Cert.Kernel2Ideal.nD) → Buf (Elt Ideal) ((c.tc : Thread Cert.Kernel2Ideal.nD Cert.Kernel2Ideal.τ).loc Cert.Kernel2Ideal.main_v18_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v18_0) = v0 c
          ∧ r.2.mem ((c.tc : Thread Cert.Kernel2Ideal.nD Cert.Kernel2Ideal.τ).loc Cert.Kernel2Ideal.main_v18_1) = v1 c
          ∧ r.2.mem ((c.tc : Thread Cert.Kernel2Ideal.nD Cert.Kernel2Ideal.τ).loc Cert.Kernel2Ideal.main_v18_2) = v2 c
          ∧ r.2.mem ((c.tc : Thread Cert.Kernel2Ideal.nD Cert.Kernel2Ideal.τ).loc Cert.Kernel2Ideal.main_v18_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v10) = v0 c
          ∧ r.2.mem ((c.tc : Thread Cert.Reference2Ideal.nD Cert.Reference2Ideal.τ).loc Cert.Reference2Ideal.main_v39) = v1 c
          ∧ r.2.mem ((c.tc : Thread Cert.Reference2Ideal.nD Cert.Reference2Ideal.τ).loc Cert.Reference2Ideal.main_v41) = v2 c
          ∧ r.2.mem ((c.tc : Thread Cert.Reference2Ideal.nD Cert.Reference2Ideal.τ).loc Cert.Reference2Ideal.main_v44) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Last_LastIdeal : Prop :=
  True

def algebraic_LastIdeal_ReferenceLastIdeal [hLastIdeal : Cert.LastIdeal.Facts] [hReferenceLastIdeal : Cert.ReferenceLastIdeal.Facts] : Prop :=
  ∀ (m : (ℓ : Loc Cert.LastIdeal.nD Cert.LastIdeal.τ Cert.LastIdeal.sig) → Buf (Elt Ideal) ℓ) (g : Dev Cert.LastIdeal.nD → PrngReg)
    (m' : (ℓ : Loc Cert.ReferenceLastIdeal.nD Cert.ReferenceLastIdeal.τ Cert.ReferenceLastIdeal.sig) → Buf (Elt Ideal) ℓ) (g' : Dev Cert.ReferenceLastIdeal.nD → PrngReg), Pre_LastIdeal m →
    (∀ c : Dev Cert.LastIdeal.nD,
      m' ((c.tc : Thread Cert.ReferenceLastIdeal.nD Cert.ReferenceLastIdeal.τ).loc Cert.ReferenceLastIdeal.main_arg0) = m ((c.tc : Thread Cert.LastIdeal.nD Cert.LastIdeal.τ).loc Cert.LastIdeal.main_arg0)
      ∧ m' ((c.tc : Thread Cert.ReferenceLastIdeal.nD Cert.ReferenceLastIdeal.τ).loc Cert.ReferenceLastIdeal.main_arg1) = m ((c.tc : Thread Cert.LastIdeal.nD Cert.LastIdeal.τ).loc Cert.LastIdeal.main_arg1)
      ∧ m' ((c.tc : Thread Cert.ReferenceLastIdeal.nD Cert.ReferenceLastIdeal.τ).loc Cert.ReferenceLastIdeal.main_arg2) = m ((c.tc : Thread Cert.LastIdeal.nD Cert.LastIdeal.τ).loc Cert.LastIdeal.main_arg2)
      ∧ m' ((c.tc : Thread Cert.ReferenceLastIdeal.nD Cert.ReferenceLastIdeal.τ).loc Cert.ReferenceLastIdeal.main_arg3) = m ((c.tc : Thread Cert.LastIdeal.nD Cert.LastIdeal.τ).loc Cert.LastIdeal.main_arg3)
      ∧ m' ((c.tc : Thread Cert.ReferenceLastIdeal.nD Cert.ReferenceLastIdeal.τ).loc Cert.ReferenceLastIdeal.main_arg4) = m ((c.tc : Thread Cert.LastIdeal.nD Cert.LastIdeal.τ).loc Cert.LastIdeal.main_arg4)
      ∧ m' ((c.tc : Thread Cert.ReferenceLastIdeal.nD Cert.ReferenceLastIdeal.τ).loc Cert.ReferenceLastIdeal.main_arg5) = m ((c.tc : Thread Cert.LastIdeal.nD Cert.LastIdeal.τ).loc Cert.LastIdeal.main_arg5)
      ∧ m' ((c.tc : Thread Cert.ReferenceLastIdeal.nD Cert.ReferenceLastIdeal.τ).loc Cert.ReferenceLastIdeal.main_arg6) = m ((c.tc : Thread Cert.LastIdeal.nD Cert.LastIdeal.τ).loc Cert.LastIdeal.main_arg6)) →
    ∃ (v0 : (c : Dev Cert.LastIdeal.nD) → Buf (Elt Ideal) ((c.tc : Thread Cert.LastIdeal.nD Cert.LastIdeal.τ).loc Cert.LastIdeal.main_v1)),
      θ_run (Cert.LastIdeal.defs (F := Ideal)) (onTc (τ := Cert.LastIdeal.τ) (Cert.LastIdeal.main (F := Ideal))) ⟨m, fun _ => 0, g⟩ (fun r => ∀ c : Dev Cert.LastIdeal.nD,
          r.2.mem ((c.tc : Thread Cert.LastIdeal.nD Cert.LastIdeal.τ).loc Cert.LastIdeal.main_v1) = v0 c
          ∧ r.2.mem ((c.tc : Thread Cert.LastIdeal.nD Cert.LastIdeal.τ).loc Cert.LastIdeal.main_arg0) = m ((c.tc : Thread Cert.LastIdeal.nD Cert.LastIdeal.τ).loc Cert.LastIdeal.main_arg0)
          ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
          ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
          ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
          ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
          ∧ r.2.mem ((c.tc : Thread Cert.LastIdeal.nD Cert.LastIdeal.τ).loc Cert.LastIdeal.main_arg5) = m ((c.tc : Thread Cert.LastIdeal.nD Cert.LastIdeal.τ).loc Cert.LastIdeal.main_arg5)
          ∧ r.2.mem ((c.tc : Thread Cert.LastIdeal.nD Cert.LastIdeal.τ).loc Cert.LastIdeal.main_arg6) = m ((c.tc : Thread Cert.LastIdeal.nD Cert.LastIdeal.τ).loc Cert.LastIdeal.main_arg6))
      ∧ θ_run (Cert.ReferenceLastIdeal.defs (F := Ideal)) (onTc (τ := Cert.ReferenceLastIdeal.τ) (Cert.ReferenceLastIdeal.main (F := Ideal))) ⟨m', fun _ => 0, g'⟩ (fun r => ∀ c : Dev Cert.ReferenceLastIdeal.nD,
          r.2.mem ((c.tc : Thread Cert.ReferenceLastIdeal.nD Cert.ReferenceLastIdeal.τ).loc Cert.ReferenceLastIdeal.main_v14) = v0 c
          ∧ r.2.mem ((c.tc : Thread Cert.ReferenceLastIdeal.nD Cert.ReferenceLastIdeal.τ).loc Cert.ReferenceLastIdeal.main_arg0) = m' ((c.tc : Thread Cert.ReferenceLastIdeal.nD Cert.ReferenceLastIdeal.τ).loc Cert.ReferenceLastIdeal.main_arg0)
          ∧ r.2.mem ((c.tc : Thread Cert.ReferenceLastIdeal.nD Cert.ReferenceLastIdeal.τ).loc Cert.ReferenceLastIdeal.main_arg1) = m' ((c.tc : Thread Cert.ReferenceLastIdeal.nD Cert.ReferenceLastIdeal.τ).loc Cert.ReferenceLastIdeal.main_arg1)
          ∧ r.2.mem ((c.tc : Thread Cert.ReferenceLastIdeal.nD Cert.ReferenceLastIdeal.τ).loc Cert.ReferenceLastIdeal.main_arg2) = m' ((c.tc : Thread Cert.ReferenceLastIdeal.nD Cert.ReferenceLastIdeal.τ).loc Cert.ReferenceLastIdeal.main_arg2)
          ∧ r.2.mem ((c.tc : Thread Cert.ReferenceLastIdeal.nD Cert.ReferenceLastIdeal.τ).loc Cert.ReferenceLastIdeal.main_arg3) = m' ((c.tc : Thread Cert.ReferenceLastIdeal.nD Cert.ReferenceLastIdeal.τ).loc Cert.ReferenceLastIdeal.main_arg3)
          ∧ r.2.mem ((c.tc : Thread Cert.ReferenceLastIdeal.nD Cert.ReferenceLastIdeal.τ).loc Cert.ReferenceLastIdeal.main_arg4) = m' ((c.tc : Thread Cert.ReferenceLastIdeal.nD Cert.ReferenceLastIdeal.τ).loc Cert.ReferenceLastIdeal.main_arg4)
          ∧ r.2.mem ((c.tc : Thread Cert.ReferenceLastIdeal.nD Cert.ReferenceLastIdeal.τ).loc Cert.ReferenceLastIdeal.main_arg5) = m' ((c.tc : Thread Cert.ReferenceLastIdeal.nD Cert.ReferenceLastIdeal.τ).loc Cert.ReferenceLastIdeal.main_arg5)
          ∧ r.2.mem ((c.tc : Thread Cert.ReferenceLastIdeal.nD Cert.ReferenceLastIdeal.τ).loc Cert.ReferenceLastIdeal.main_arg6) = m' ((c.tc : Thread Cert.ReferenceLastIdeal.nD Cert.ReferenceLastIdeal.τ).loc Cert.ReferenceLastIdeal.main_arg6))

def preserves_Kernel1_Kernel1Ideal : Prop :=
  IdealRules.named_const.Statement Cert.Kernel1Ideal.κ "neg" .f32 0xFF61B1E6#32 ⊥

def algebraic_Kernel1Ideal_Reference1Ideal_pre_no_tie1 [hKernel1Ideal : Cert.Kernel1Ideal.Facts] [hReference1Ideal : Cert.Reference1Ideal.Facts] [hPre_no_tie1 : Cert.Pre_no_tie1.Facts] : Prop :=
  ∀ (m : (ℓ : Loc Cert.Kernel1Ideal.nD Cert.Kernel1Ideal.τ Cert.Kernel1Ideal.sig) → Buf (Elt Ideal) ℓ) (g : Dev Cert.Kernel1Ideal.nD → PrngReg)
    (m' : (ℓ : Loc Cert.Reference1Ideal.nD Cert.Reference1Ideal.τ Cert.Reference1Ideal.sig) → Buf (Elt Ideal) ℓ) (g' : Dev Cert.Reference1Ideal.nD → PrngReg), Pre_Kernel1Ideal_no_tie1 m →
    (∀ c : Dev Cert.Kernel1Ideal.nD,
      m' ((c.tc : Thread Cert.Reference1Ideal.nD Cert.Reference1Ideal.τ).loc Cert.Reference1Ideal.main_arg0) = m ((c.tc : Thread Cert.Kernel1Ideal.nD Cert.Kernel1Ideal.τ).loc Cert.Kernel1Ideal.main_arg0)
      ∧ m' ((c.tc : Thread Cert.Reference1Ideal.nD Cert.Reference1Ideal.τ).loc Cert.Reference1Ideal.main_arg1) = m ((c.tc : Thread Cert.Kernel1Ideal.nD Cert.Kernel1Ideal.τ).loc Cert.Kernel1Ideal.main_arg1)) →
    ∃ (v0 : (c : Dev Cert.Kernel1Ideal.nD) → Buf (Elt Ideal) ((c.tc : Thread Cert.Kernel1Ideal.nD Cert.Kernel1Ideal.τ).loc Cert.Kernel1Ideal.main_v18_0)) (v1 : (c : Dev Cert.Kernel1Ideal.nD) → Buf (Elt Ideal) ((c.tc : Thread Cert.Kernel1Ideal.nD Cert.Kernel1Ideal.τ).loc Cert.Kernel1Ideal.main_v18_1)) (v2 : (c : Dev Cert.Kernel1Ideal.nD) → Buf (Elt Ideal) ((c.tc : Thread Cert.Kernel1Ideal.nD Cert.Kernel1Ideal.τ).loc Cert.Kernel1Ideal.main_v18_2)),
      θ_run (Cert.Kernel1Ideal.defs (F := Ideal)) (onTc (τ := Cert.Kernel1Ideal.τ) (Cert.Kernel1Ideal.main (F := Ideal))) ⟨m, fun _ => 0, g⟩ (fun r => ∀ c : Dev Cert.Kernel1Ideal.nD,
          r.2.mem ((c.tc : Thread Cert.Kernel1Ideal.nD Cert.Kernel1Ideal.τ).loc Cert.Kernel1Ideal.main_v18_0) = v0 c
          ∧ r.2.mem ((c.tc : Thread Cert.Kernel1Ideal.nD Cert.Kernel1Ideal.τ).loc Cert.Kernel1Ideal.main_v18_1) = v1 c
          ∧ r.2.mem ((c.tc : Thread Cert.Kernel1Ideal.nD Cert.Kernel1Ideal.τ).loc Cert.Kernel1Ideal.main_v18_2) = v2 c
          ∧ r.2.mem ((c.tc : Thread Cert.Kernel1Ideal.nD Cert.Kernel1Ideal.τ).loc Cert.Kernel1Ideal.main_arg0) = m ((c.tc : Thread Cert.Kernel1Ideal.nD Cert.Kernel1Ideal.τ).loc Cert.Kernel1Ideal.main_arg0)
          ∧ r.2.mem ((c.tc : Thread Cert.Kernel1Ideal.nD Cert.Kernel1Ideal.τ).loc Cert.Kernel1Ideal.main_arg1) = m ((c.tc : Thread Cert.Kernel1Ideal.nD Cert.Kernel1Ideal.τ).loc Cert.Kernel1Ideal.main_arg1))
      ∧ θ_run (Cert.Reference1Ideal.defs (F := Ideal)) (onTc (τ := Cert.Reference1Ideal.τ) (Cert.Reference1Ideal.main (F := Ideal))) ⟨m', fun _ => 0, g'⟩ (fun r => ∀ c : Dev Cert.Reference1Ideal.nD,
          r.2.mem ((c.tc : Thread Cert.Reference1Ideal.nD Cert.Reference1Ideal.τ).loc Cert.Reference1Ideal.main_v28) = v0 c
          ∧ r.2.mem ((c.tc : Thread Cert.Reference1Ideal.nD Cert.Reference1Ideal.τ).loc Cert.Reference1Ideal.main_v30) = v1 c
          ∧ r.2.mem ((c.tc : Thread Cert.Reference1Ideal.nD Cert.Reference1Ideal.τ).loc Cert.Reference1Ideal.main_v33) = v2 c
          ∧ r.2.mem ((c.tc : Thread Cert.Reference1Ideal.nD Cert.Reference1Ideal.τ).loc Cert.Reference1Ideal.main_arg0) = m' ((c.tc : Thread Cert.Reference1Ideal.nD Cert.Reference1Ideal.τ).loc Cert.Reference1Ideal.main_arg0)
          ∧ r.2.mem ((c.tc : Thread Cert.Reference1Ideal.nD Cert.Reference1Ideal.τ).loc Cert.Reference1Ideal.main_arg1) = m' ((c.tc : Thread Cert.Reference1Ideal.nD Cert.Reference1Ideal.τ).loc Cert.Reference1Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hLast : Cert.Last.Facts) (hLastIdeal : Cert.LastIdeal.Facts) (hReferenceLastIdeal : Cert.ReferenceLastIdeal.Facts) (hKernel1 : Cert.Kernel1.Facts) (hKernel1Ideal : Cert.Kernel1Ideal.Facts) (hReference1Ideal : Cert.Reference1Ideal.Facts) (hPre_no_tie : Cert.Pre_no_tie.Facts) (hPre_no_tie2 : Cert.Pre_no_tie2.Facts) (hPre_no_tie1 : Cert.Pre_no_tie1.Facts),
    quiescent_Kernel (hKernel := hKernel)
    ∧ quiescent_KernelIdeal (hKernelIdeal := hKernelIdeal)
    ∧ quiescent_KernelIdeal_pre_no_tie (hKernelIdeal := hKernelIdeal) (hPre_no_tie := hPre_no_tie)
    ∧ quiescent_ReferenceIdeal (hReferenceIdeal := hReferenceIdeal)
    ∧ quiescent_ReferenceIdeal_pre_no_tie (hReferenceIdeal := hReferenceIdeal) (hPre_no_tie := hPre_no_tie)
    ∧ quiescent_Kernel2 (hKernel2 := hKernel2)
    ∧ quiescent_Kernel2Ideal (hKernel2Ideal := hKernel2Ideal)
    ∧ quiescent_Kernel2Ideal_pre_no_tie2 (hKernel2Ideal := hKernel2Ideal) (hPre_no_tie2 := hPre_no_tie2)
    ∧ quiescent_Reference2Ideal (hReference2Ideal := hReference2Ideal)
    ∧ quiescent_Reference2Ideal_pre_no_tie2 (hReference2Ideal := hReference2Ideal) (hPre_no_tie2 := hPre_no_tie2)
    ∧ quiescent_Last (hLast := hLast)
    ∧ quiescent_LastIdeal (hLastIdeal := hLastIdeal)
    ∧ quiescent_ReferenceLastIdeal (hReferenceLastIdeal := hReferenceLastIdeal)
    ∧ quiescent_Kernel1 (hKernel1 := hKernel1)
    ∧ quiescent_Kernel1Ideal (hKernel1Ideal := hKernel1Ideal)
    ∧ quiescent_Kernel1Ideal_pre_no_tie1 (hKernel1Ideal := hKernel1Ideal) (hPre_no_tie1 := hPre_no_tie1)
    ∧ quiescent_Reference1Ideal (hReference1Ideal := hReference1Ideal)
    ∧ quiescent_Reference1Ideal_pre_no_tie1 (hReference1Ideal := hReference1Ideal) (hPre_no_tie1 := hPre_no_tie1)
    ∧ preserves_Kernel_KernelIdeal
    ∧ algebraic_KernelIdeal_ReferenceIdeal_pre_no_tie (hKernelIdeal := hKernelIdeal) (hReferenceIdeal := hReferenceIdeal) (hPre_no_tie := hPre_no_tie)
    ∧ preserves_Kernel2_Kernel2Ideal
    ∧ algebraic_Kernel2Ideal_Reference2Ideal_pre_no_tie2 (hKernel2Ideal := hKernel2Ideal) (hReference2Ideal := hReference2Ideal) (hPre_no_tie2 := hPre_no_tie2)
    ∧ preserves_Last_LastIdeal
    ∧ algebraic_LastIdeal_ReferenceLastIdeal (hLastIdeal := hLastIdeal) (hReferenceLastIdeal := hReferenceLastIdeal)
    ∧ preserves_Kernel1_Kernel1Ideal
    ∧ algebraic_Kernel1Ideal_Reference1Ideal_pre_no_tie1 (hKernel1Ideal := hKernel1Ideal) (hReference1Ideal := hReference1Ideal) (hPre_no_tie1 := hPre_no_tie1)
-- ==== Pre_no_tie.lean ====
abbrev S32x32x1024 : Shape := ⟨3, ![32, 32, 1024]⟩
abbrev S32x1 : Shape := ⟨2, ![32, 1]⟩
abbrev S32x64 : Shape := ⟨2, ![32, 64]⟩
abbrev S_ : Shape := ⟨0, ![]⟩
abbrev S32x1024x32 : Shape := ⟨3, ![32, 1024, 32]⟩
abbrev S32x1024 : Shape := ⟨2, ![32, 1024]⟩
abbrev S32x1024x1024 : Shape := ⟨3, ![32, 1024, 1024]⟩
abbrev S32x1024x1 : Shape := ⟨3, ![32, 1024, 1]⟩
abbrev S32x1x1024 : Shape := ⟨3, ![32, 1, 1024]⟩
abbrev S32x1024x41 : Shape := ⟨3, ![32, 1024, 41]⟩

class Facts : Prop where
  bcast_S32x1_S32x32x1024_1_2 : S32x1.BroadcastsInDim S32x32x1024 (![1, 2] : Fin 2 → Fin S32x32x1024.rank)
  bcast_S_S32x32x1024 : S_.BroadcastsInDim S32x32x1024 (![] : Fin 0 → Fin S32x32x1024.rank)
  transposes_S32x32x1024_S32x1024x32_0_2_1 : S32x32x1024.Transposes [0, 2, 1] S32x1024x32
  reducesTo_S32x1024x32_S32x1024_d2 : S32x1024x32.ReducesTo [2] S32x1024
  h_S_ : 0 < S_.numel
  bcast_S32x1024_S32x1024x1_0_1 : S32x1024.BroadcastsInDim S32x1024x1 (![0, 1] : Fin 2 → Fin S32x1024x1.rank)
  bcast_S_S32x1024x1024 : S_.BroadcastsInDim S32x1024x1024 (![] : Fin 0 → Fin S32x1024x1024.rank)
  bcast_S32x1024x1_S32x1024x1024_0_1_2 : S32x1024x1.BroadcastsInDim S32x1024x1024 (![0, 1, 2] : Fin 3 → Fin S32x1024x1024.rank)
  bcast_S32x1024_S32x1x1024_0_2 : S32x1024.BroadcastsInDim S32x1x1024 (![0, 2] : Fin 2 → Fin S32x1x1024.rank)
  bcast_S32x1x1024_S32x1024x1024_0_1_2 : S32x1x1024.BroadcastsInDim S32x1024x1024 (![0, 1, 2] : Fin 3 → Fin S32x1024x1024.rank)
  sliceFits_S32x1024x1024_S32x1024x41 : S32x1024x1024.Slices (fun _ => 0) S32x1024x41
  slices_S32x1024x41_S32x1024x1_0_0_39 : S32x1024x41.Slices ![0, 0, 39] S32x1024x1
  slices_S32x1024x41_S32x1024x1_0_0_40 : S32x1024x41.Slices ![0, 0, 40] S32x1024x1
  dot_S32x1024x32_S32x1024x32_S32x1024x1024_2_2_1_1_0_0_wf : DotDims.WF S32x1024x32 S32x1024x32 S32x1024x1024 [2] [2] [1] [1] [0] [0]

variable [Facts]

def dot_S32x1024x32_S32x1024x32_S32x1024x1024_2_2_1_1_0_0 : DotDims S32x1024x32 S32x1024x32 S32x1024x1024 where
  lhsContracting := [2]
  rhsContracting := [2]
  lhsNonContracting := [1]
  rhsNonContracting := [1]
  lhsBatch := [0]
  rhsBatch := [0]
  wf := dot_S32x1024x32_S32x1024x32_S32x1024x1024_2_2_1_1_0_0_wf
def fn_part1 {F : FTy → Type} [FloatOps F] (main_v18 : FVec F S32x1024x1024 .f32) (main_v19 : FVec F S32x1x1024 .f32) : IVec S32x1024x1 1 :=
  let main_v20 : FVec F S32x1024x1024 .f32 := broadcastInDim S32x1024x1024 ![0, 1, 2] bcast_S32x1x1024_S32x1024x1024_0_1_2 main_v19
  let main_v21 : FVec F S32x1024x1024 .f32 := addf main_v18 main_v20
  let main_v22 : FVec F S32x1024x1024 .f32 := Host.negf main_v21
  let main_values : FVec F S32x1024x41 .f32 := (fun x => (Host.topK S32x1024x41 2 (FloatOps.cmpfTotal .gt) x sliceFits_S32x1024x1024_S32x1024x41).1) main_v22
  let main_indices : IVec S32x1024x41 32 := (fun x => (Host.topK S32x1024x41 2 (FloatOps.cmpfTotal .gt) x sliceFits_S32x1024x1024_S32x1024x41).2) main_v22
  let main_v23 : FVec F S32x1024x1 .f32 := (extractStridedSlice S32x1024x1 ![0, 0, 39] · slices_S32x1024x41_S32x1024x1_0_0_39) main_values
  let main_v24 : FVec F S32x1024x1 .f32 := (extractStridedSlice S32x1024x1 ![0, 0, 40] · slices_S32x1024x41_S32x1024x1_0_0_40) main_values
  let main_v25 : IVec S32x1024x1 1 := cmpf .ogt main_v23 main_v24
  main_v25

def fn {F : FTy → Type} [FloatOps F] (main_arg0 : FVec F S32x32x1024 .f32) (main_arg1 : FVec F S32x1 .f32) (main_arg2 : FVec F S32x1 .f32) (main_arg3 : FVec F S32x32x1024 .f32) (main_arg4 : FVec F S32x64 .f32) : IVec S32x1024x1 1 :=
  let main_v0 : FVec F S32x32x1024 .f32 := broadcastInDim S32x32x1024 ![1, 2] bcast_S32x1_S32x32x1024_1_2 main_arg1
  let main_v1 : FVec F S32x32x1024 .f32 := mulf main_arg0 main_v0
  let main_v2 : FVec F S32x32x1024 .f32 := broadcastInDim S32x32x1024 ![1, 2] bcast_S32x1_S32x32x1024_1_2 main_arg2
  let main_v3 : FVec F S32x32x1024 .f32 := addf main_v1 main_v2
  let main_cst : FVec F S_ .f32 := constant S_ .f32 0x00000000#32
  let main_v4 : FVec F S32x32x1024 .f32 := broadcastInDim S32x32x1024 ![] bcast_S_S32x32x1024 main_cst
  let main_v5 : IVec S32x32x1024 1 := cmpf .oge main_v3 main_v4
  let main_cst_0 : FVec F S_ .f32 := constant S_ .f32 0x3E4CCCCD#32
  let main_v6 : FVec F S32x32x1024 .f32 := broadcastInDim S32x32x1024 ![] bcast_S_S32x32x1024 main_cst_0
  let main_v7 : FVec F S32x32x1024 .f32 := mulf main_v6 main_v3
  let main_v8 : FVec F S32x32x1024 .f32 := select main_v5 main_v3 main_v7
  let main_v9 : FVec F S32x32x1024 .f32 := addf main_v8 main_arg3
  let main_v10 : FVec F S32x1024x32 .f32 := (transpose S32x1024x32 [0, 2, 1] · transposes_S32x32x1024_S32x1024x32_0_2_1) main_v9
  let main_v11 : FVec F S32x1024x32 .f32 := mulf main_v10 main_v10
  let main_cst_1 : FVec F S_ .f32 := constant S_ .f32 0x00000000#32
  let main_v12 : FVec F S32x1024 .f32 := (fun x v => Host.reduceAdd x v reducesTo_S32x1024x32_S32x1024_d2 h_S_) main_v11 main_cst_1
  let main_v13 : FVec F S32x1024x1024 .f32 := (fun l r => Host.dotGeneral dot_S32x1024x32_S32x1024x32_S32x1024x1024_2_2_1_1_0_0 none l r) main_v10 main_v10
  let main_v14 : FVec F S32x1024x1 .f32 := broadcastInDim S32x1024x1 ![0, 1] bcast_S32x1024_S32x1024x1_0_1 main_v12
  let main_cst_2 : FVec F S_ .f32 := constant S_ .f32 0x40000000#32
  let main_v15 : FVec F S32x1024x1024 .f32 := broadcastInDim S32x1024x1024 ![] bcast_S_S32x1024x1024 main_cst_2
  let main_v16 : FVec F S32x1024x1024 .f32 := mulf main_v15 main_v13
  let main_v17 : FVec F S32x1024x1024 .f32 := broadcastInDim S32x1024x1024 ![0, 1, 2] bcast_S32x1024x1_S32x1024x1024_0_1_2 main_v14
  let main_v18 : FVec F S32x1024x1024 .f32 := subf main_v17 main_v16
  let main_v19 : FVec F S32x1x1024 .f32 := broadcastInDim S32x1x1024 ![0, 2] bcast_S32x1024_S32x1x1024_0_2 main_v12
  fn_part1 (F := F) main_v18 main_v19
-- ==== Pre_no_tie1.lean ====
abbrev S32x9x1024 : Shape := ⟨3, ![32, 9, 1024]⟩
abbrev S32x18 : Shape := ⟨2, ![32, 18]⟩
abbrev S32x1024x9 : Shape := ⟨3, ![32, 1024, 9]⟩
abbrev S_ : Shape := ⟨0, ![]⟩
abbrev S32x1024 : Shape := ⟨2, ![32, 1024]⟩
abbrev S32x1024x1024 : Shape := ⟨3, ![32, 1024, 1024]⟩
abbrev S32x1024x1 : Shape := ⟨3, ![32, 1024, 1]⟩
abbrev S32x1x1024 : Shape := ⟨3, ![32, 1, 1024]⟩
abbrev S32x1024x41 : Shape := ⟨3, ![32, 1024, 41]⟩

class Facts : Prop where
  transposes_S32x9x1024_S32x1024x9_0_2_1 : S32x9x1024.Transposes [0, 2, 1] S32x1024x9
  reducesTo_S32x1024x9_S32x1024_d2 : S32x1024x9.ReducesTo [2] S32x1024
  h_S_ : 0 < S_.numel
  bcast_S32x1024_S32x1024x1_0_1 : S32x1024.BroadcastsInDim S32x1024x1 (![0, 1] : Fin 2 → Fin S32x1024x1.rank)
  bcast_S_S32x1024x1024 : S_.BroadcastsInDim S32x1024x1024 (![] : Fin 0 → Fin S32x1024x1024.rank)
  bcast_S32x1024x1_S32x1024x1024_0_1_2 : S32x1024x1.BroadcastsInDim S32x1024x1024 (![0, 1, 2] : Fin 3 → Fin S32x1024x1024.rank)
  bcast_S32x1024_S32x1x1024_0_2 : S32x1024.BroadcastsInDim S32x1x1024 (![0, 2] : Fin 2 → Fin S32x1x1024.rank)
  bcast_S32x1x1024_S32x1024x1024_0_1_2 : S32x1x1024.BroadcastsInDim S32x1024x1024 (![0, 1, 2] : Fin 3 → Fin S32x1024x1024.rank)
  sliceFits_S32x1024x1024_S32x1024x41 : S32x1024x1024.Slices (fun _ => 0) S32x1024x41
  slices_S32x1024x41_S32x1024x1_0_0_39 : S32x1024x41.Slices ![0, 0, 39] S32x1024x1
  slices_S32x1024x41_S32x1024x1_0_0_40 : S32x1024x41.Slices ![0, 0, 40] S32x1024x1
  dot_S32x1024x9_S32x1024x9_S32x1024x1024_2_2_1_1_0_0_wf : DotDims.WF S32x1024x9 S32x1024x9 S32x1024x1024 [2] [2] [1] [1] [0] [0]

variable [Facts]

def dot_S32x1024x9_S32x1024x9_S32x1024x1024_2_2_1_1_0_0 : DotDims S32x1024x9 S32x1024x9 S32x1024x1024 where
  lhsContracting := [2]
  rhsContracting := [2]
  lhsNonContracting := [1]
  rhsNonContracting := [1]
  lhsBatch := [0]
  rhsBatch := [0]
  wf := dot_S32x1024x9_S32x1024x9_S32x1024x1024_2_2_1_1_0_0_wf
def fn {F : FTy → Type} [FloatOps F] (main_arg0 : FVec F S32x9x1024 .f32) (main_arg1 : FVec F S32x18 .f32) : IVec S32x1024x1 1 :=
  let main_v0 : FVec F S32x1024x9 .f32 := (transpose S32x1024x9 [0, 2, 1] · transposes_S32x9x1024_S32x1024x9_0_2_1) main_arg0
  let main_v1 : FVec F S32x1024x9 .f32 := mulf main_v0 main_v0
  let main_cst : FVec F S_ .f32 := constant S_ .f32 0x00000000#32
  let main_v2 : FVec F S32x1024 .f32 := (fun x v => Host.reduceAdd x v reducesTo_S32x1024x9_S32x1024_d2 h_S_) main_v1 main_cst
  let main_v3 : FVec F S32x1024x1024 .f32 := (fun l r => Host.dotGeneral dot_S32x1024x9_S32x1024x9_S32x1024x1024_2_2_1_1_0_0 none l r) main_v0 main_v0
  let main_v4 : FVec F S32x1024x1 .f32 := broadcastInDim S32x1024x1 ![0, 1] bcast_S32x1024_S32x1024x1_0_1 main_v2
  let main_cst_0 : FVec F S_ .f32 := constant S_ .f32 0x40000000#32
  let main_v5 : FVec F S32x1024x1024 .f32 := broadcastInDim S32x1024x1024 ![] bcast_S_S32x1024x1024 main_cst_0
  let main_v6 : FVec F S32x1024x1024 .f32 := mulf main_v5 main_v3
  let main_v7 : FVec F S32x1024x1024 .f32 := broadcastInDim S32x1024x1024 ![0, 1, 2] bcast_S32x1024x1_S32x1024x1024_0_1_2 main_v4
  let main_v8 : FVec F S32x1024x1024 .f32 := subf main_v7 main_v6
  let main_v9 : FVec F S32x1x1024 .f32 := broadcastInDim S32x1x1024 ![0, 2] bcast_S32x1024_S32x1x1024_0_2 main_v2
  let main_v10 : FVec F S32x1024x1024 .f32 := broadcastInDim S32x1024x1024 ![0, 1, 2] bcast_S32x1x1024_S32x1024x1024_0_1_2 main_v9
  let main_v11 : FVec F S32x1024x1024 .f32 := addf main_v8 main_v10
  let main_v12 : FVec F S32x1024x1024 .f32 := Host.negf main_v11
  let main_values : FVec F S32x1024x41 .f32 := (fun x => (Host.topK S32x1024x41 2 (FloatOps.cmpfTotal .gt) x sliceFits_S32x1024x1024_S32x1024x41).1) main_v12
  let main_indices : IVec S32x1024x41 32 := (fun x => (Host.topK S32x1024x41 2 (FloatOps.cmpfTotal .gt) x sliceFits_S32x1024x1024_S32x1024x41).2) main_v12
  let main_v13 : FVec F S32x1024x1 .f32 := (extractStridedSlice S32x1024x1 ![0, 0, 39] · slices_S32x1024x41_S32x1024x1_0_0_39) main_values
  let main_v14 : FVec F S32x1024x1 .f32 := (extractStridedSlice S32x1024x1 ![0, 0, 40] · slices_S32x1024x41_S32x1024x1_0_0_40) main_values
  let main_v15 : IVec S32x1024x1 1 := cmpf .ogt main_v13 main_v14
  main_v15
-- ==== Pre_no_tie2.lean ====
abbrev S32x32x1024 : Shape := ⟨3, ![32, 32, 1024]⟩
abbrev S32x1 : Shape := ⟨2, ![32, 1]⟩
abbrev S32x64 : Shape := ⟨2, ![32, 64]⟩
abbrev S_ : Shape := ⟨0, ![]⟩
abbrev S32x1024x32 : Shape := ⟨3, ![32, 1024, 32]⟩
abbrev S32x1024 : Shape := ⟨2, ![32, 1024]⟩
abbrev S32x1024x1024 : Shape := ⟨3, ![32, 1024, 1024]⟩
abbrev S32x1024x1 : Shape := ⟨3, ![32, 1024, 1]⟩
abbrev S32x1x1024 : Shape := ⟨3, ![32, 1, 1024]⟩
abbrev S32x1024x41 : Shape := ⟨3, ![32, 1024, 41]⟩

class Facts : Prop where
  bcast_S32x1_S32x32x1024_1_2 : S32x1.BroadcastsInDim S32x32x1024 (![1, 2] : Fin 2 → Fin S32x32x1024.rank)
  bcast_S_S32x32x1024 : S_.BroadcastsInDim S32x32x1024 (![] : Fin 0 → Fin S32x32x1024.rank)
  transposes_S32x32x1024_S32x1024x32_0_2_1 : S32x32x1024.Transposes [0, 2, 1] S32x1024x32
  reducesTo_S32x1024x32_S32x1024_d2 : S32x1024x32.ReducesTo [2] S32x1024
  h_S_ : 0 < S_.numel
  bcast_S32x1024_S32x1024x1_0_1 : S32x1024.BroadcastsInDim S32x1024x1 (![0, 1] : Fin 2 → Fin S32x1024x1.rank)
  bcast_S_S32x1024x1024 : S_.BroadcastsInDim S32x1024x1024 (![] : Fin 0 → Fin S32x1024x1024.rank)
  bcast_S32x1024x1_S32x1024x1024_0_1_2 : S32x1024x1.BroadcastsInDim S32x1024x1024 (![0, 1, 2] : Fin 3 → Fin S32x1024x1024.rank)
  bcast_S32x1024_S32x1x1024_0_2 : S32x1024.BroadcastsInDim S32x1x1024 (![0, 2] : Fin 2 → Fin S32x1x1024.rank)
  bcast_S32x1x1024_S32x1024x1024_0_1_2 : S32x1x1024.BroadcastsInDim S32x1024x1024 (![0, 1, 2] : Fin 3 → Fin S32x1024x1024.rank)
  sliceFits_S32x1024x1024_S32x1024x41 : S32x1024x1024.Slices (fun _ => 0) S32x1024x41
  slices_S32x1024x41_S32x1024x1_0_0_39 : S32x1024x41.Slices ![0, 0, 39] S32x1024x1
  slices_S32x1024x41_S32x1024x1_0_0_40 : S32x1024x41.Slices ![0, 0, 40] S32x1024x1
  dot_S32x1024x32_S32x1024x32_S32x1024x1024_2_2_1_1_0_0_wf : DotDims.WF S32x1024x32 S32x1024x32 S32x1024x1024 [2] [2] [1] [1] [0] [0]

variable [Facts]

def dot_S32x1024x32_S32x1024x32_S32x1024x1024_2_2_1_1_0_0 : DotDims S32x1024x32 S32x1024x32 S32x1024x1024 where
  lhsContracting := [2]
  rhsContracting := [2]
  lhsNonContracting := [1]
  rhsNonContracting := [1]
  lhsBatch := [0]
  rhsBatch := [0]
  wf := dot_S32x1024x32_S32x1024x32_S32x1024x1024_2_2_1_1_0_0_wf
def fn_part1 {F : FTy → Type} [FloatOps F] (main_v17 : FVec F S32x1024x1024 .f32) (main_v19 : FVec F S32x1024x1024 .f32) : IVec S32x1024x1 1 :=
  let main_v20 : FVec F S32x1024x1024 .f32 := addf main_v17 main_v19
  let main_v21 : FVec F S32x1024x1024 .f32 := Host.negf main_v20
  let main_values : FVec F S32x1024x41 .f32 := (fun x => (Host.topK S32x1024x41 2 (FloatOps.cmpfTotal .gt) x sliceFits_S32x1024x1024_S32x1024x41).1) main_v21
  let main_indices : IVec S32x1024x41 32 := (fun x => (Host.topK S32x1024x41 2 (FloatOps.cmpfTotal .gt) x sliceFits_S32x1024x1024_S32x1024x41).2) main_v21
  let main_v22 : FVec F S32x1024x1 .f32 := (extractStridedSlice S32x1024x1 ![0, 0, 39] · slices_S32x1024x41_S32x1024x1_0_0_39) main_values
  let main_v23 : FVec F S32x1024x1 .f32 := (extractStridedSlice S32x1024x1 ![0, 0, 40] · slices_S32x1024x41_S32x1024x1_0_0_40) main_values
  let main_v24 : IVec S32x1024x1 1 := cmpf .ogt main_v22 main_v23
  main_v24

def fn {F : FTy → Type} [FloatOps F] (main_arg0 : FVec F S32x32x1024 .f32) (main_arg1 : FVec F S32x1 .f32) (main_arg2 : FVec F S32x1 .f32) (main_arg3 : FVec F S32x64 .f32) : IVec S32x1024x1 1 :=
  let main_v0 : FVec F S32x32x1024 .f32 := broadcastInDim S32x32x1024 ![1, 2] bcast_S32x1_S32x32x1024_1_2 main_arg1
  let main_v1 : FVec F S32x32x1024 .f32 := mulf main_arg0 main_v0
  let main_v2 : FVec F S32x32x1024 .f32 := broadcastInDim S32x32x1024 ![1, 2] bcast_S32x1_S32x32x1024_1_2 main_arg2
  let main_v3 : FVec F S32x32x1024 .f32 := addf main_v1 main_v2
  let main_cst : FVec F S_ .f32 := constant S_ .f32 0x00000000#32
  let main_v4 : FVec F S32x32x1024 .f32 := broadcastInDim S32x32x1024 ![] bcast_S_S32x32x1024 main_cst
  let main_v5 : IVec S32x32x1024 1 := cmpf .oge main_v3 main_v4
  let main_cst_0 : FVec F S_ .f32 := constant S_ .f32 0x3E4CCCCD#32
  let main_v6 : FVec F S32x32x1024 .f32 := broadcastInDim S32x32x1024 ![] bcast_S_S32x32x1024 main_cst_0
  let main_v7 : FVec F S32x32x1024 .f32 := mulf main_v6 main_v3
  let main_v8 : FVec F S32x32x1024 .f32 := select main_v5 main_v3 main_v7
  let main_v9 : FVec F S32x1024x32 .f32 := (transpose S32x1024x32 [0, 2, 1] · transposes_S32x32x1024_S32x1024x32_0_2_1) main_v8
  let main_v10 : FVec F S32x1024x32 .f32 := mulf main_v9 main_v9
  let main_cst_1 : FVec F S_ .f32 := constant S_ .f32 0x00000000#32
  let main_v11 : FVec F S32x1024 .f32 := (fun x v => Host.reduceAdd x v reducesTo_S32x1024x32_S32x1024_d2 h_S_) main_v10 main_cst_1
  let main_v12 : FVec F S32x1024x1024 .f32 := (fun l r => Host.dotGeneral dot_S32x1024x32_S32x1024x32_S32x1024x1024_2_2_1_1_0_0 none l r) main_v9 main_v9
  let main_v13 : FVec F S32x1024x1 .f32 := broadcastInDim S32x1024x1 ![0, 1] bcast_S32x1024_S32x1024x1_0_1 main_v11
  let main_cst_2 : FVec F S_ .f32 := constant S_ .f32 0x40000000#32
  let main_v14 : FVec F S32x1024x1024 .f32 := broadcastInDim S32x1024x1024 ![] bcast_S_S32x1024x1024 main_cst_2
  let main_v15 : FVec F S32x1024x1024 .f32 := mulf main_v14 main_v12
  let main_v16 : FVec F S32x1024x1024 .f32 := broadcastInDim S32x1024x1024 ![0, 1, 2] bcast_S32x1024x1_S32x1024x1024_0_1_2 main_v13
  let main_v17 : FVec F S32x1024x1024 .f32 := subf main_v16 main_v15
  let main_v18 : FVec F S32x1x1024 .f32 := broadcastInDim S32x1x1024 ![0, 2] bcast_S32x1024_S32x1x1024_0_2 main_v11
  let main_v19 : FVec F S32x1024x1024 .f32 := broadcastInDim S32x1024x1024 ![0, 1, 2] bcast_S32x1x1024_S32x1024x1024_0_1_2 main_v18
  fn_part1 (F := F) main_v17 main_v19
-- ==== Kernel.lean ====
abbrev S32x32x1024 : Shape := ⟨3, ![32, 32, 1024]⟩
abbrev S32x1 : Shape := ⟨2, ![32, 1]⟩
abbrev S32x64 : Shape := ⟨2, ![32, 64]⟩
abbrev S_ : Shape := ⟨0, ![]⟩
abbrev S128x256 : Shape := ⟨2, ![128, 256]⟩
abbrev S1 : Shape := ⟨1, ![1]⟩
abbrev S2 : Shape := ⟨1, ![2]⟩
abbrev S1x32 : Shape := ⟨2, ![1, 32]⟩
abbrev S1x32x1024 : Shape := ⟨3, ![1, 32, 1024]⟩
abbrev S32x1024 : Shape := ⟨2, ![32, 1024]⟩
abbrev S1024x1024 : Shape := ⟨2, ![1024, 1024]⟩
abbrev S1024 : Shape := ⟨1, ![1024]⟩
abbrev S1x1024 : Shape := ⟨2, ![1, 1024]⟩
abbrev S1024x1 : Shape := ⟨2, ![1024, 1]⟩
abbrev S32x8192 : Shape := ⟨2, ![32, 8192]⟩
abbrev S32x128 : Shape := ⟨2, ![32, 128]⟩
abbrev S64x8192 : Shape := ⟨2, ![64, 8192]⟩
abbrev S256x8192 : Shape := ⟨2, ![256, 8192]⟩
abbrev S128x8192 : Shape := ⟨2, ![128, 8192]⟩
abbrev S8x1024 : Shape := ⟨2, ![8, 1024]⟩
abbrev S32 : Shape := ⟨1, ![32]⟩

abbrev nBuf : Space → Nat
  | .hbm => 36
  | .vmem => 17
  | .smem => 0
  | _ => 0

abbrev bufTy : (tb : Table) → Fin (tcTables nBuf tb) → BufTy
  | .hbm, ⟨0, _⟩ => ⟨S32x32x1024, .f32⟩
  | .hbm, ⟨1, _⟩ => ⟨S32x1, .f32⟩
  | .hbm, ⟨2, _⟩ => ⟨S32x1, .f32⟩
  | .hbm, ⟨3, _⟩ => ⟨S32x32x1024, .f32⟩
  | .hbm, ⟨4, _⟩ => ⟨S32x64, .f32⟩
  | .hbm, ⟨5, _⟩ => ⟨S_, .f32⟩
  | .hbm, ⟨6, _⟩ => ⟨S128x256, .f32⟩
  | .hbm, ⟨7, _⟩ => ⟨S_, .i32⟩
  | .hbm, ⟨8, _⟩ => ⟨S1, .i32⟩
  | .hbm, ⟨9, _⟩ => ⟨S_, .i32⟩
  | .hbm, ⟨10, _⟩ => ⟨S1, .i32⟩
  | .hbm, ⟨11, _⟩ => ⟨S2, .i32⟩
  | .hbm, ⟨12, _⟩ => ⟨S128x256, .f32⟩
  | .hbm, ⟨13, _⟩ => ⟨S_, .i32⟩
  | .hbm, ⟨14, _⟩ => ⟨S1, .i32⟩
  | .hbm, ⟨15, _⟩ => ⟨S_, .i32⟩
  | .hbm, ⟨16, _⟩ => ⟨S1, .i32⟩
  | .hbm, ⟨17, _⟩ => ⟨S2, .i32⟩
  | .hbm, ⟨18, _⟩ => ⟨S128x256, .f32⟩
  | .hbm, ⟨19, _⟩ => ⟨S_, .i32⟩
  | .hbm, ⟨20, _⟩ => ⟨S1, .i32⟩
  | .hbm, ⟨21, _⟩ => ⟨S_, .i32⟩
  | .hbm, ⟨22, _⟩ => ⟨S1, .i32⟩
  | .hbm, ⟨23, _⟩ => ⟨S2, .i32⟩
  | .hbm, ⟨24, _⟩ => ⟨S128x256, .f32⟩
  | .hbm, ⟨25, _⟩ => ⟨S_, .i32⟩
  | .hbm, ⟨26, _⟩ => ⟨S1, .i32⟩
  | .hbm, ⟨27, _⟩ => ⟨S_, .i32⟩
  | .hbm, ⟨28, _⟩ => ⟨S1, .i32⟩
  | .hbm, ⟨29, _⟩ => ⟨S2, .i32⟩
  | .hbm, ⟨30, _⟩ => ⟨S128x256, .f32⟩
  | .hbm, ⟨31, _⟩ => ⟨S128x256, .bf16⟩
  | .hbm, ⟨32, _⟩ => ⟨S32x32x1024, .f32⟩
  | .hbm, ⟨33, _⟩ => ⟨S32x32x1024, .f32⟩
  | .hbm, ⟨34, _⟩ => ⟨S1x32, .f32⟩
  | .hbm, ⟨35, _⟩ => ⟨S1x32, .f32⟩
  | .local _ .vmem, ⟨0, _⟩ => ⟨S1x32x1024, .f32⟩
  | .local _ .vmem, ⟨1, _⟩ => ⟨S1x32x1024, .f32⟩
  | .local _ .vmem, ⟨2, _⟩ => ⟨S32x1, .f32⟩
  | .local _ .vmem, ⟨3, _⟩ => ⟨S32x1, .f32⟩
  | .local _ .vmem, ⟨4, _⟩ => ⟨S1x32x1024, .f32⟩
  | .local _ .vmem, ⟨5, _⟩ => ⟨S1x32x1024, .f32⟩
  | .local _ .vmem, ⟨6, _⟩ => ⟨S128x256, .bf16⟩
  | .local _ .vmem, ⟨7, _⟩ => ⟨S1x32x1024, .f32⟩
  | .local _ .vmem, ⟨8, _⟩ => ⟨S1x32x1024, .f32⟩
  | .local _ .vmem, ⟨9, _⟩ => ⟨S1x32x1024, .f32⟩
  | .local _ .vmem, ⟨10, _⟩ => ⟨S1x32x1024, .f32⟩
  | .local _ .vmem, ⟨11, _⟩ => ⟨S1x32, .f32⟩
  | .local _ .vmem, ⟨12, _⟩ => ⟨S1x32, .f32⟩
  | .local _ .vmem, ⟨13, _⟩ => ⟨S32x1024, .f32⟩
  | .local _ .vmem, ⟨14, _⟩ => ⟨S1024x1024, .f32⟩
  | .local _ .vmem, ⟨15, _⟩ => ⟨S32x1024, .f32⟩
  | .local _ .vmem, ⟨16, _⟩ => ⟨S32x1024, .f32⟩
  | _, _ => ⟨S32x32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c_1 : Ref sig .tc := ⟨.hbm, 13, rfl⟩
abbrev main_v5 : Ref sig .tc := ⟨.hbm, 14, rfl⟩
abbrev main_c_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c_3 : Ref sig .tc := ⟨.hbm, 19, rfl⟩
abbrev main_v9 : Ref sig .tc := ⟨.hbm, 20, rfl⟩
abbrev main_c_4 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c_5 : Ref sig .tc := ⟨.hbm, 25, rfl⟩
abbrev main_v13 : Ref sig .tc := ⟨.hbm, 26, rfl⟩
abbrev main_c_6 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18_0 : Ref sig .tc := ⟨.hbm, 32, rfl⟩
abbrev main_v18_1 : Ref sig .tc := ⟨.hbm, 33, rfl⟩
abbrev main_v18_2 : Ref sig .tc := ⟨.hbm, 34, rfl⟩
abbrev main_v18_3 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32_20 : BitVec 32 := 0#32
  let c1024_i32 : BitVec 32 := 1024#32
  let v38 : BitVec 32 := Scalar.addi c0_i32_20 c1024_i32
  let c1_i32 : BitVec 32 := 1#32
  ⟨c0_i32_20, v38, c1_i32⟩
def k0_off1 (k0_t1 : Fin k0_t1_loop.trips) : Fin 2 → Nat :=
  let c0_i32_20 : BitVec 32 := 0#32
  let c1_i32 : BitVec 32 := 1#32
  let arg14 : BitVec 32 := Scf.iv c0_i32_20 c1_i32 k0_t1
  let v422 : Index := Scalar.indexCast arg14
  let c0_111 : Index := 0#32
  ![v422.toNat, 0]
@[reducible] def k0_t2_loop : Scf.Loop 32 :=
  let c0_i32_94 : BitVec 32 := 0#32
  let c8_i32 : BitVec 32 := 8#32
  let v403 : BitVec 32 := Scalar.addi c0_i32_94 c8_i32
  let c1_i32_95 : BitVec 32 := 1#32
  ⟨c0_i32_94, v403, c1_i32_95⟩
def k0_mult1 (k0_t2 : Fin k0_t2_loop.trips) : BitVec 32 :=
  let c128_i32_111 : BitVec 32 := 128#32
  let c0_i32_94 : BitVec 32 := 0#32
  let c1_i32_95 : BitVec 32 := 1#32
  let arg14 : BitVec 32 := Scf.iv c0_i32_94 c1_i32_95 k0_t2
  let v422 : BitVec 32 := Scalar.muli c128_i32_111 arg14
  v422
def k0_off2 (k0_t2 : Fin k0_t2_loop.trips) : Fin 2 → Nat :=
  let c0_112 : Index := 0#32
  let c128_i32_111 : BitVec 32 := 128#32
  let c0_i32_94 : BitVec 32 := 0#32
  let c1_i32_95 : BitVec 32 := 1#32
  let arg14 : BitVec 32 := Scf.iv c0_i32_94 c1_i32_95 k0_t2
  let v422 : BitVec 32 := Scalar.muli c128_i32_111 arg14
  let v423 : BitVec 32 := v422
  let v424 : Index := Scalar.indexCast v423
  ![0, v424.toNat]
def k0_mult2 (k0_t2 : Fin k0_t2_loop.trips) : BitVec 32 :=
  let c128_i32_123 : BitVec 32 := 128#32
  let c0_i32_94 : BitVec 32 := 0#32
  let c1_i32_95 : BitVec 32 := 1#32
  let arg14 : BitVec 32 := Scf.iv c0_i32_94 c1_i32_95 k0_t2
  let v547 : BitVec 32 := Scalar.muli c128_i32_123 arg14
  let c0_i32_124 : BitVec 32 := 0#32
  let v548 : BitVec 32 := Scalar.addi v547 c0_i32_124
  let c0_i32_125 : BitVec 32 := 0#32
  let v549 : BitVec 32 := Scalar.addi v548 c0_i32_125
  v549
def k0_off3 (k0_t2 : Fin k0_t2_loop.trips) (c0_i32_124 : BitVec 32) (c0_i32_125 : BitVec 32) : Fin 2 → Nat :=
  let c128_i32_123 : BitVec 32 := 128#32
  let c0_i32_94 : BitVec 32 := 0#32
  let c1_i32_95 : BitVec 32 := 1#32
  let arg14 : BitVec 32 := Scf.iv c0_i32_94 c1_i32_95 k0_t2
  let v547 : BitVec 32 := Scalar.muli c128_i32_123 arg14
  let v548 : BitVec 32 := Scalar.addi v547 c0_i32_124
  let v549 : BitVec 32 := Scalar.addi v548 c0_i32_125
  let v550 : BitVec 32 := v549
  let v551 : Index := Scalar.indexCast v550
  let c0_126 : Index := 0#32
  ![v551.toNat, 0]
def k0_mult3 (k0_t2 : Fin k0_t2_loop.trips) : BitVec 32 :=
  let c128_i32_151 : BitVec 32 := 128#32
  let c0_i32_94 : BitVec 32 := 0#32
  let c1_i32_95 : BitVec 32 := 1#32
  let arg14 : BitVec 32 := Scf.iv c0_i32_94 c1_i32_95 k0_t2
  let v682 : BitVec 32 := Scalar.muli c128_i32_151 arg14
  let c0_i32_152 : BitVec 32 := 0#32
  let v683 : BitVec 32 := Scalar.addi v682 c0_i32_152
  let c8_i32_153 : BitVec 32 := 8#32
  let v684 : BitVec 32 := Scalar.addi v683 c8_i32_153
  v684
def k0_mult4 (k0_t2 : Fin k0_t2_loop.trips) : BitVec 32 :=
  let c128_i32_179 : BitVec 32 := 128#32
  let c0_i32_94 : BitVec 32 := 0#32
  let c1_i32_95 : BitVec 32 := 1#32
  let arg14 : BitVec 32 := Scf.iv c0_i32_94 c1_i32_95 k0_t2
  let v817 : BitVec 32 := Scalar.muli c128_i32_179 arg14
  let c0_i32_180 : BitVec 32 := 0#32
  let v818 : BitVec 32 := Scalar.addi v817 c0_i32_180
  let c16_i32_181 : BitVec 32 := 16#32
  let v819 : BitVec 32 := Scalar.addi v818 c16_i32_181
  v819
def k0_mult5 (k0_t2 : Fin k0_t2_loop.trips) : BitVec 32 :=
  let c128_i32_207 : BitVec 32 := 128#32
  let c0_i32_94 : BitVec 32 := 0#32
  let c1_i32_95 : BitVec 32 := 1#32
  let arg14 : BitVec 32 := Scf.iv c0_i32_94 c1_i32_95 k0_t2
  let v952 : BitVec 32 := Scalar.muli c128_i32_207 arg14
  let c0_i32_208 : BitVec 32 := 0#32
  let v953 : BitVec 32 := Scalar.addi v952 c0_i32_208
  let c24_i32 : BitVec 32 := 24#32
  let v954 : BitVec 32 := Scalar.addi v953 c24_i32
  v954
def k0_mult6 (k0_t2 : Fin k0_t2_loop.trips) : BitVec 32 :=
  let c128_i32_237 : BitVec 32 := 128#32
  let c0_i32_94 : BitVec 32 := 0#32
  let c1_i32_95 : BitVec 32 := 1#32
  let arg14 : BitVec 32 := Scf.iv c0_i32_94 c1_i32_95 k0_t2
  let v1203 : BitVec 32 := Scalar.muli c128_i32_237 arg14
  let c32_i32_238 : BitVec 32 := 32#32
  let v1204 : BitVec 32 := Scalar.addi v1203 c32_i32_238
  let c0_i32_239 : BitVec 32 := 0#32
  let v1205 : BitVec 32 := Scalar.addi v1204 c0_i32_239
  v1205
def k0_mult7 (k0_t2 : Fin k0_t2_loop.trips) : BitVec 32 :=
  let c128_i32_265 : BitVec 32 := 128#32
  let c0_i32_94 : BitVec 32 := 0#32
  let c1_i32_95 : BitVec 32 := 1#32
  let arg14 : BitVec 32 := Scf.iv c0_i32_94 c1_i32_95 k0_t2
  let v1338 : BitVec 32 := Scalar.muli c128_i32_265 arg14
  let c32_i32_266 : BitVec 32 := 32#32
  let v1339 : BitVec 32 := Scalar.addi v1338 c32_i32_266
  let c8_i32_267 : BitVec 32 := 8#32
  let v1340 : BitVec 32 := Scalar.addi v1339 c8_i32_267
  v1340
def k0_mult8 (k0_t2 : Fin k0_t2_loop.trips) : BitVec 32 :=
  let c128_i32_293 : BitVec 32 := 128#32
  let c0_i32_94 : BitVec 32 := 0#32
  let c1_i32_95 : BitVec 32 := 1#32
  let arg14 : BitVec 32 := Scf.iv c0_i32_94 c1_i32_95 k0_t2
  let v1473 : BitVec 32 := Scalar.muli c128_i32_293 arg14
  let c32_i32_294 : BitVec 32 := 32#32
  let v1474 : BitVec 32 := Scalar.addi v1473 c32_i32_294
  let c16_i32_295 : BitVec 32 := 16#32
  let v1475 : BitVec 32 := Scalar.addi v1474 c16_i32_295
  v1475
def k0_mult9 (k0_t2 : Fin k0_t2_loop.trips) : BitVec 32 :=
  let c128_i32_321 : BitVec 32 := 128#32
  let c0_i32_94 : BitVec 32 := 0#32
  let c1_i32_95 : BitVec 32 := 1#32
  let arg14 : BitVec 32 := Scf.iv c0_i32_94 c1_i32_95 k0_t2
  let v1608 : BitVec 32 := Scalar.muli c128_i32_321 arg14
  let c32_i32_322 : BitVec 32 := 32#32
  let v1609 : BitVec 32 := Scalar.addi v1608 c32_i32_322
  let c24_i32_323 : BitVec 32 := 24#32
  let v1610 : BitVec 32 := Scalar.addi v1609 c24_i32_323
  v1610
def k0_mult10 (k0_t2 : Fin k0_t2_loop.trips) : BitVec 32 :=
  let c128_i32_352 : BitVec 32 := 128#32
  let c0_i32_94 : BitVec 32 := 0#32
  let c1_i32_95 : BitVec 32 := 1#32
  let arg14 : BitVec 32 := Scf.iv c0_i32_94 c1_i32_95 k0_t2
  let v1859 : BitVec 32 := Scalar.muli c128_i32_352 arg14
  let c64_i32_353 : BitVec 32 := 64#32
  let v1860 : BitVec 32 := Scalar.addi v1859 c64_i32_353
  let c0_i32_354 : BitVec 32 := 0#32
  let v1861 : BitVec 32 := Scalar.addi v1860 c0_i32_354
  v1861
def k0_mult11 (k0_t2 : Fin k0_t2_loop.trips) : BitVec 32 :=
  let c128_i32_380 : BitVec 32 := 128#32
  let c0_i32_94 : BitVec 32 := 0#32
  let c1_i32_95 : BitVec 32 := 1#32
  let arg14 : BitVec 32 := Scf.iv c0_i32_94 c1_i32_95 k0_t2
  let v1994 : BitVec 32 := Scalar.muli c128_i32_380 arg14
  let c64_i32_381 : BitVec 32 := 64#32
  let v1995 : BitVec 32 := Scalar.addi v1994 c64_i32_381
  let c8_i32_382 : BitVec 32 := 8#32
  let v1996 : BitVec 32 := Scalar.addi v1995 c8_i32_382
  v1996
def k0_mult12 (k0_t2 : Fin k0_t2_loop.trips) : BitVec 32 :=
  let c128_i32_408 : BitVec 32 := 128#32
  let c0_i32_94 : BitVec 32 := 0#32
  let c1_i32_95 : BitVec 32 := 1#32
  let arg14 : BitVec 32 := Scf.iv c0_i32_94 c1_i32_95 k0_t2
  let v2129 : BitVec 32 := Scalar.muli c128_i32_408 arg14
  let c64_i32_409 : BitVec 32 := 64#32
  let v2130 : BitVec 32 := Scalar.addi v2129 c64_i32_409
  let c16_i32_410 : BitVec 32 := 16#32
  let v2131 : BitVec 32 := Scalar.addi v2130 c16_i32_410
  v2131
def k0_mult13 (k0_t2 : Fin k0_t2_loop.trips) : BitVec 32 :=
  let c128_i32_436 : BitVec 32 := 128#32
  let c0_i32_94 : BitVec 32 := 0#32
  let c1_i32_95 : BitVec 32 := 1#32
  let arg14 : BitVec 32 := Scf.iv c0_i32_94 c1_i32_95 k0_t2
  let v2264 : BitVec 32 := Scalar.muli c128_i32_436 arg14
  let c64_i32_437 : BitVec 32 := 64#32
  let v2265 : BitVec 32 := Scalar.addi v2264 c64_i32_437
  let c24_i32_438 : BitVec 32 := 24#32
  let v2266 : BitVec 32 := Scalar.addi v2265 c24_i32_438
  v2266
def k0_mult14 (k0_t2 : Fin k0_t2_loop.trips) : BitVec 32 :=
  let c128_i32_467 : BitVec 32 := 128#32
  let c0_i32_94 : BitVec 32 := 0#32
  let c1_i32_95 : BitVec 32 := 1#32
  let arg14 : BitVec 32 := Scf.iv c0_i32_94 c1_i32_95 k0_t2
  let v2515 : BitVec 32 := Scalar.muli c128_i32_467 arg14
  let c96_i32 : BitVec 32 := 96#32
  let v2516 : BitVec 32 := Scalar.addi v2515 c96_i32
  let c0_i32_468 : BitVec 32 := 0#32
  let v2517 : BitVec 32 := Scalar.addi v2516 c0_i32_468
  v2517
def k0_mult15 (k0_t2 : Fin k0_t2_loop.trips) : BitVec 32 :=
  let c128_i32_494 : BitVec 32 := 128#32
  let c0_i32_94 : BitVec 32 := 0#32
  let c1_i32_95 : BitVec 32 := 1#32
  let arg14 : BitVec 32 := Scf.iv c0_i32_94 c1_i32_95 k0_t2
  let v2650 : BitVec 32 := Scalar.muli c128_i32_494 arg14
  let c96_i32_495 : BitVec 32 := 96#32
  let v2651 : BitVec 32 := Scalar.addi v2650 c96_i32_495
  let c8_i32_496 : BitVec 32 := 8#32
  let v2652 : BitVec 32 := Scalar.addi v2651 c8_i32_496
  v2652
def k0_mult16 (k0_t2 : Fin k0_t2_loop.trips) : BitVec 32 :=
  let c128_i32_522 : BitVec 32 := 128#32
  let c0_i32_94 : BitVec 32 := 0#32
  let c1_i32_95 : BitVec 32 := 1#32
  let arg14 : BitVec 32 := Scf.iv c0_i32_94 c1_i32_95 k0_t2
  let v2785 : BitVec 32 := Scalar.muli c128_i32_522 arg14
  let c96_i32_523 : BitVec 32 := 96#32
  let v2786 : BitVec 32 := Scalar.addi v2785 c96_i32_523
  let c16_i32_524 : BitVec 32 := 16#32
  let v2787 : BitVec 32 := Scalar.addi v2786 c16_i32_524
  v2787
def k0_mult17 (k0_t2 : Fin k0_t2_loop.trips) : BitVec 32 :=
  let c128_i32_550 : BitVec 32 := 128#32
  let c0_i32_94 : BitVec 32 := 0#32
  let c1_i32_95 : BitVec 32 := 1#32
  let arg14 : BitVec 32 := Scf.iv c0_i32_94 c1_i32_95 k0_t2
  let v2920 : BitVec 32 := Scalar.muli c128_i32_550 arg14
  let c96_i32_551 : BitVec 32 := 96#32
  let v2921 : BitVec 32 := Scalar.addi v2920 c96_i32_551
  let c24_i32_552 : BitVec 32 := 24#32
  let v2922 : BitVec 32 := Scalar.addi v2921 c24_i32_552
  v2922
def k0_cond1 (i : grid0.Coords) : BitVec 1 :=
  let arg0 : BitVec 32 := BitVec.ofNat 32 (i 0).val
  let c0_i32_103 : BitVec 32 := 0#32
  let v409 : BitVec 1 := Scalar.cmpi .eq arg0 c0_i32_103
  let v410 : BitVec 32 := Scalar.extui v409
  let c0_i32_104 : BitVec 32 := 0#32
  let v411 : BitVec 1 := Scalar.cmpi .ne v410 c0_i32_104
  v411

def k0_cond2 (i : grid0.Coords) : BitVec 1 :=
  let arg0 : BitVec 32 := BitVec.ofNat 32 (i 0).val
  let c0_i32_105 : BitVec 32 := 0#32
  let v412 : BitVec 1 := Scalar.cmpi .ne arg0 c0_i32_105
  let v413 : BitVec 32 := Scalar.extui v412
  let c0_i32_106 : BitVec 32 := 0#32
  let v414 : BitVec 1 := Scalar.cmpi .ne v413 c0_i32_106
  v414

def k0_cond3 (i : grid0.Coords) : BitVec 1 :=
  let arg0 : BitVec 32 := BitVec.ofNat 32 (i 0).val
  let c0_i32_107 : BitVec 32 := 0#32
  let v416 : BitVec 1 := Scalar.cmpi .eq arg0 c0_i32_107
  let v417 : BitVec 32 := Scalar.extui v416
  let c0_i32_108 : BitVec 32 := 0#32
  let v418 : BitVec 1 := Scalar.cmpi .ne v417 c0_i32_108
  v418

def k0_cond4 (i : grid0.Coords) : BitVec 1 :=
  let arg0 : BitVec 32 := BitVec.ofNat 32 (i 0).val
  let c0_i32_109 : BitVec 32 := 0#32
  let v419 : BitVec 1 := Scalar.cmpi .ne arg0 c0_i32_109
  let v420 : BitVec 32 := Scalar.extui v419
  let c0_i32_110 : BitVec 32 := 0#32
  let v421 : BitVec 1 := Scalar.cmpi .ne v420 c0_i32_110
  v421

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== KernelIdeal.lean ====
variable {F : FTy → Type} [FloatOps F] [Named F]
def κ : String → Option EReal := fun
  | "neg" => some ⊥
  | _ => none
-- ==== ReferenceIdeal.lean ====
abbrev S32x32x1024 : Shape := ⟨3, ![32, 32, 1024]⟩
abbrev S32x1 : Shape := ⟨2, ![32, 1]⟩
abbrev S32x64 : Shape := ⟨2, ![32, 64]⟩
abbrev S1x32x1 : Shape := ⟨3, ![1, 32, 1]⟩
abbrev S_ : Shape := ⟨0, ![]⟩
abbrev S32x1024x32 : Shape := ⟨3, ![32, 1024, 32]⟩
abbrev S32x1024 : Shape := ⟨2, ![32, 1024]⟩
abbrev S32x1024x1024 : Shape := ⟨3, ![32, 1024, 1024]⟩
abbrev S32x1024x1 : Shape := ⟨3, ![32, 1024, 1]⟩
abbrev S32x1x1024 : Shape := ⟨3, ![32, 1, 1024]⟩
abbrev S32x1024x40 : Shape := ⟨3, ![32, 1024, 40]⟩
abbrev S32x1024x40x1 : Shape := ⟨4, ![32, 1024, 40, 1]⟩
abbrev S32x1024x40x32 : Shape := ⟨4, ![32, 1024, 40, 32]⟩
abbrev S32x1024x1x32 : Shape := ⟨4, ![32, 1024, 1, 32]⟩
abbrev S32x1024x40x64 : Shape := ⟨4, ![32, 1024, 40, 64]⟩
abbrev S32x64x1024x40 : Shape := ⟨4, ![32, 64, 1024, 40]⟩
abbrev S32x32x1024x40 : Shape := ⟨4, ![32, 32, 1024, 40]⟩
abbrev S32 : Shape := ⟨1, ![32]⟩
abbrev S1x32 : Shape := ⟨2, ![1, 32]⟩

abbrev nBuf : Space → Nat
  | .hbm => 62
  | .vmem => 0
  | .smem => 0
  | _ => 0

abbrev bufTy : (tb : Table) → Fin (tcTables nBuf tb) → BufTy
  | .hbm, ⟨0, _⟩ => ⟨S32x32x1024, .f32⟩
  | .hbm, ⟨1, _⟩ => ⟨S32x1, .f32⟩
  | .hbm, ⟨2, _⟩ => ⟨S32x1, .f32⟩
  | .hbm, ⟨3, _⟩ => ⟨S32x32x1024, .f32⟩
  | .hbm, ⟨4, _⟩ => ⟨S32x64, .f32⟩
  | .hbm, ⟨5, _⟩ => ⟨S1x32x1, .f32⟩
  | .hbm, ⟨6, _⟩ => ⟨S32x32x1024, .f32⟩
  | .hbm, ⟨7, _⟩ => ⟨S32x32x1024, .f32⟩
  | .hbm, ⟨8, _⟩ => ⟨S1x32x1, .f32⟩
  | .hbm, ⟨9, _⟩ => ⟨S32x32x1024, .f32⟩
  | .hbm, ⟨10, _⟩ => ⟨S32x32x1024, .f32⟩
  | .hbm, ⟨11, _⟩ => ⟨S_, .f32⟩
  | .hbm, ⟨12, _⟩ => ⟨S32x32x1024, .f32⟩
  | .hbm, ⟨13, _⟩ => ⟨S32x32x1024, .i1⟩
  | .hbm, ⟨14, _⟩ => ⟨S_, .f32⟩
  | .hbm, ⟨15, _⟩ => ⟨S32x32x1024, .f32⟩
  | .hbm, ⟨16, _⟩ => ⟨S32x32x1024, .f32⟩
  | .hbm, ⟨17, _⟩ => ⟨S32x32x1024, .f32⟩
  | .hbm, ⟨18, _⟩ => ⟨S32x32x1024, .f32⟩
  | .hbm, ⟨19, _⟩ => ⟨S32x1024x32, .f32⟩
  | .hbm, ⟨20, _⟩ => ⟨S32x1024x32, .f32⟩
  | .hbm, ⟨21, _⟩ => ⟨S_, .f32⟩
  | .hbm, ⟨22, _⟩ => ⟨S32x1024, .f32⟩
  | .hbm, ⟨23, _⟩ => ⟨S32x1024x1024, .f32⟩
  | .hbm, ⟨24, _⟩ => ⟨S32x1024x1, .f32⟩
  | .hbm, ⟨25, _⟩ => ⟨S_, .f32⟩
  | .hbm, ⟨26, _⟩ => ⟨S32x1024x1024, .f32⟩
  | .hbm, ⟨27, _⟩ => ⟨S32x1024x1024, .f32⟩
  | .hbm, ⟨28, _⟩ => ⟨S32x1024x1024, .f32⟩
  | .hbm, ⟨29, _⟩ => ⟨S32x1024x1024, .f32⟩
  | .hbm, ⟨30, _⟩ => ⟨S32x1x1024, .f32⟩
  | .hbm, ⟨31, _⟩ => ⟨S32x1024x1024, .f32⟩
  | .hbm, ⟨32, _⟩ => ⟨S32x1024x1024, .f32⟩
  | .hbm, ⟨33, _⟩ => ⟨S32x1024x1024, .f32⟩
  | .hbm, ⟨34, _⟩ => ⟨S32x1024x40, .f32⟩
  | .hbm, ⟨35, _⟩ => ⟨S32x1024x40, .i32⟩
  | .hbm, ⟨36, _⟩ => ⟨S32x1024x32, .f32⟩
  | .hbm, ⟨37, _⟩ => ⟨S_, .i32⟩
  | .hbm, ⟨38, _⟩ => ⟨S32x1024x40, .i32⟩
  | .hbm, ⟨39, _⟩ => ⟨S32x1024x40, .i1⟩
  | .hbm, ⟨40, _⟩ => ⟨S_, .i32⟩
  | .hbm, ⟨41, _⟩ => ⟨S32x1024x40, .i32⟩
  | .hbm, ⟨42, _⟩ => ⟨S32x1024x40, .i32⟩
  | .hbm, ⟨43, _⟩ => ⟨S32x1024x40, .i32⟩
  | .hbm, ⟨44, _⟩ => ⟨S32x1024x40x1, .i32⟩
  | .hbm, ⟨45, _⟩ => ⟨S32x1024x40x32, .f32⟩
  | .hbm, ⟨46, _⟩ => ⟨S32x1024x1x32, .f32⟩
  | .hbm, ⟨47, _⟩ => ⟨S32x1024x40x32, .f32⟩
  | .hbm, ⟨48, _⟩ => ⟨S32x1024x40x32, .f32⟩
  | .hbm, ⟨49, _⟩ => ⟨S32x1024x40x64, .f32⟩
  | .hbm, ⟨50, _⟩ => ⟨S32x64x1024x40, .f32⟩
  | .hbm, ⟨51, _⟩ => ⟨S32x1024x40x32, .f32⟩
  | .hbm, ⟨52, _⟩ => ⟨S32x32x1024x40, .f32⟩
  | .hbm, ⟨53, _⟩ => ⟨S_, .f32⟩
  | .hbm, ⟨54, _⟩ => ⟨S32x32x1024, .f32⟩
  | .hbm, ⟨55, _⟩ => ⟨S_, .f32⟩
  | .hbm, ⟨56, _⟩ => ⟨S32, .f32⟩
  | .hbm, ⟨57, _⟩ => ⟨S1x32, .f32⟩
  | .hbm, ⟨58, _⟩ => ⟨S32x32x1024x40, .f32⟩
  | .hbm, ⟨59, _⟩ => ⟨S_, .f32⟩
  | .hbm, ⟨60, _⟩ => ⟨S32, .f32⟩
  | .hbm, ⟨61, _⟩ => ⟨S1x32, .f32⟩
  | _, _ => ⟨S32x32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_values : Ref sig .tc := ⟨.hbm, 34, rfl⟩
abbrev main_indices : Ref sig .tc := ⟨.hbm, 35, rfl⟩
abbrev main_v25 : Ref sig .tc := ⟨.hbm, 36, rfl⟩
abbrev main_c : Ref sig .tc := ⟨.hbm, 37, rfl⟩
abbrev main_v26 : Ref sig .tc := ⟨.hbm, 38, rfl⟩
abbrev main_v27 : Ref sig .tc := ⟨.hbm, 39, rfl⟩
abbrev main_c_3 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_4 : Ref sig .tc := ⟨.hbm, 53, rfl⟩
abbrev main_v40 : Ref sig .tc := ⟨.hbm, 54, rfl⟩
abbrev main_cst_5 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_6 : Ref sig .tc := ⟨.hbm, 59, rfl⟩
abbrev main_v44 : Ref sig .tc := ⟨.hbm, 60, rfl⟩
abbrev main_v45 : Ref sig .tc := ⟨.hbm, 61, rfl⟩

abbrev nD : Nat := 1
abbrev τ : Topo := Topo.v7x

variable {F : FTy → Type} [FloatOps F]
-- ==== Kernel2.lean ====
abbrev S32x32x1024 : Shape := ⟨3, ![32, 32, 1024]⟩
abbrev S32x1 : Shape := ⟨2, ![32, 1]⟩
abbrev S32x64 : Shape := ⟨2, ![32, 64]⟩
abbrev S_ : Shape := ⟨0, ![]⟩
abbrev S128x256 : Shape := ⟨2, ![128, 256]⟩
abbrev S1 : Shape := ⟨1, ![1]⟩
abbrev S2 : Shape := ⟨1, ![2]⟩
abbrev S1x32 : Shape := ⟨2, ![1, 32]⟩
abbrev S1x32x1024 : Shape := ⟨3, ![1, 32, 1024]⟩
abbrev S32x1024 : Shape := ⟨2, ![32, 1024]⟩
abbrev S1024x1024 : Shape := ⟨2, ![1024, 1024]⟩
abbrev S1024 : Shape := ⟨1, ![1024]⟩
abbrev S1x1024 : Shape := ⟨2, ![1, 1024]⟩
abbrev S1024x1 : Shape := ⟨2, ![1024, 1]⟩
abbrev S32x8192 : Shape := ⟨2, ![32, 8192]⟩
abbrev S32x128 : Shape := ⟨2, ![32, 128]⟩
abbrev S64x8192 : Shape := ⟨2, ![64, 8192]⟩
abbrev S256x8192 : Shape := ⟨2, ![256, 8192]⟩
abbrev S128x8192 : Shape := ⟨2, ![128, 8192]⟩
abbrev S8x1024 : Shape := ⟨2, ![8, 1024]⟩
abbrev S32 : Shape := ⟨1, ![32]⟩

abbrev nBuf : Space → Nat
  | .hbm => 35
  | .vmem => 15
  | .smem => 0
  | _ => 0

abbrev bufTy : (tb : Table) → Fin (tcTables nBuf tb) → BufTy
  | .hbm, ⟨0, _⟩ => ⟨S32x32x1024, .f32⟩
  | .hbm, ⟨1, _⟩ => ⟨S32x1, .f32⟩
  | .hbm, ⟨2, _⟩ => ⟨S32x1, .f32⟩
  | .hbm, ⟨3, _⟩ => ⟨S32x64, .f32⟩
  | .hbm, ⟨4, _⟩ => ⟨S_, .f32⟩
  | .hbm, ⟨5, _⟩ => ⟨S128x256, .f32⟩
  | .hbm, ⟨6, _⟩ => ⟨S_, .i32⟩
  | .hbm, ⟨7, _⟩ => ⟨S1, .i32⟩
  | .hbm, ⟨8, _⟩ => ⟨S_, .i32⟩
  | .hbm, ⟨9, _⟩ => ⟨S1, .i32⟩
  | .hbm, ⟨10, _⟩ => ⟨S2, .i32⟩
  | .hbm, ⟨11, _⟩ => ⟨S128x256, .f32⟩
  | .hbm, ⟨12, _⟩ => ⟨S_, .i32⟩
  | .hbm, ⟨13, _⟩ => ⟨S1, .i32⟩
  | .hbm, ⟨14, _⟩ => ⟨S_, .i32⟩
  | .hbm, ⟨15, _⟩ => ⟨S1, .i32⟩
  | .hbm, ⟨16, _⟩ => ⟨S2, .i32⟩
  | .hbm, ⟨17, _⟩ => ⟨S128x256, .f32⟩
  | .hbm, ⟨18, _⟩ => ⟨S_, .i32⟩
  | .hbm, ⟨19, _⟩ => ⟨S1, .i32⟩
  | .hbm, ⟨20, _⟩ => ⟨S_, .i32⟩
  | .hbm, ⟨21, _⟩ => ⟨S1, .i32⟩
  | .hbm, ⟨22, _⟩ => ⟨S2, .i32⟩
  | .hbm, ⟨23, _⟩ => ⟨S128x256, .f32⟩
  | .hbm, ⟨24, _⟩ => ⟨S_, .i32⟩
  | .hbm, ⟨25, _⟩ => ⟨S1, .i32⟩
  | .hbm, ⟨26, _⟩ => ⟨S_, .i32⟩
  | .hbm, ⟨27, _⟩ => ⟨S1, .i32⟩
  | .hbm, ⟨28, _⟩ => ⟨S2, .i32⟩
  | .hbm, ⟨29, _⟩ => ⟨S128x256, .f32⟩
  | .hbm, ⟨30, _⟩ => ⟨S128x256, .bf16⟩
  | .hbm, ⟨31, _⟩ => ⟨S32x32x1024, .f32⟩
  | .hbm, ⟨32, _⟩ => ⟨S32x32x1024, .f32⟩
  | .hbm, ⟨33, _⟩ => ⟨S1x32, .f32⟩
  | .hbm, ⟨34, _⟩ => ⟨S1x32, .f32⟩
  | .local _ .vmem, ⟨0, _⟩ => ⟨S1x32x1024, .f32⟩
  | .local _ .vmem, ⟨1, _⟩ => ⟨S1x32x1024, .f32⟩
  | .local _ .vmem, ⟨2, _⟩ => ⟨S32x1, .f32⟩
  | .local _ .vmem, ⟨3, _⟩ => ⟨S32x1, .f32⟩
  | .local _ .vmem, ⟨4, _⟩ => ⟨S128x256, .bf16⟩
  | .local _ .vmem, ⟨5, _⟩ => ⟨S1x32x1024, .f32⟩
  | .local _ .vmem, ⟨6, _⟩ => ⟨S1x32x1024, .f32⟩
  | .local _ .vmem, ⟨7, _⟩ => ⟨S1x32x1024, .f32⟩
  | .local _ .vmem, ⟨8, _⟩ => ⟨S1x32x1024, .f32⟩
  | .local _ .vmem, ⟨9, _⟩ => ⟨S1x32, .f32⟩
  | .local _ .vmem, ⟨10, _⟩ => ⟨S1x32, .f32⟩
  | .local _ .vmem, ⟨11, _⟩ => ⟨S32x1024, .f32⟩
  | .local _ .vmem, ⟨12, _⟩ => ⟨S1024x1024, .f32⟩
  | .local _ .vmem, ⟨13, _⟩ => ⟨S32x1024, .f32⟩
  | .local _ .vmem, ⟨14, _⟩ => ⟨S32x1024, .f32⟩
  | _, _ => ⟨S32x32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c_1 : Ref sig .tc := ⟨.hbm, 12, rfl⟩
abbrev main_v5 : Ref sig .tc := ⟨.hbm, 13, rfl⟩
abbrev main_c_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_3 : Ref sig .tc := ⟨.hbm, 18, rfl⟩
abbrev main_v9 : Ref sig .tc := ⟨.hbm, 19, rfl⟩
abbrev main_c_4 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c_5 : Ref sig .tc := ⟨.hbm, 24, rfl⟩
abbrev main_v13 : Ref sig .tc := ⟨.hbm, 25, rfl⟩
abbrev main_c_6 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18_0 : Ref sig .tc := ⟨.hbm, 31, rfl⟩
abbrev main_v18_1 : Ref sig .tc := ⟨.hbm, 32, rfl⟩
abbrev main_v18_2 : Ref sig .tc := ⟨.hbm, 33, rfl⟩
abbrev main_v18_3 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32_17 : BitVec 32 := 0#32
  let c1024_i32 : BitVec 32 := 1024#32
  let v35 : BitVec 32 := Scalar.addi c0_i32_17 c1024_i32
  let c1_i32 : BitVec 32 := 1#32
  ⟨c0_i32_17, v35, c1_i32⟩
def k0_off1 (k0_t1 : Fin k0_t1_loop.trips) : Fin 2 → Nat :=
  let c0_i32_17 : BitVec 32 := 0#32
  let c1_i32 : BitVec 32 := 1#32
  let arg13 : BitVec 32 := Scf.iv c0_i32_17 c1_i32 k0_t1
  let v419 : Index := Scalar.indexCast arg13
  let c0_108 : Index := 0#32
  ![v419.toNat, 0]
@[reducible] def k0_t2_loop : Scf.Loop 32 :=
  let c0_i32_91 : BitVec 32 := 0#32
  let c8_i32 : BitVec 32 := 8#32
  let v400 : BitVec 32 := Scalar.addi c0_i32_91 c8_i32
  let c1_i32_92 : BitVec 32 := 1#32
  ⟨c0_i32_91, v400, c1_i32_92⟩
def k0_mult1 (k0_t2 : Fin k0_t2_loop.trips) : BitVec 32 :=
  let c128_i32_108 : BitVec 32 := 128#32
  let c0_i32_91 : BitVec 32 := 0#32
  let c1_i32_92 : BitVec 32 := 1#32
  let arg13 : BitVec 32 := Scf.iv c0_i32_91 c1_i32_92 k0_t2
  let v419 : BitVec 32 := Scalar.muli c128_i32_108 arg13
  v419
def k0_off2 (k0_t2 : Fin k0_t2_loop.trips) : Fin 2 → Nat :=
  let c0_109 : Index := 0#32
  let c128_i32_108 : BitVec 32 := 128#32
  let c0_i32_91 : BitVec 32 := 0#32
  let c1_i32_92 : BitVec 32 := 1#32
  let arg13 : BitVec 32 := Scf.iv c0_i32_91 c1_i32_92 k0_t2
  let v419 : BitVec 32 := Scalar.muli c128_i32_108 arg13
  let v420 : BitVec 32 := v419
  let v421 : Index := Scalar.indexCast v420
  ![0, v421.toNat]
def k0_mult2 (k0_t2 : Fin k0_t2_loop.trips) : BitVec 32 :=
  let c128_i32_120 : BitVec 32 := 128#32
  let c0_i32_91 : BitVec 32 := 0#32
  let c1_i32_92 : BitVec 32 := 1#32
  let arg13 : BitVec 32 := Scf.iv c0_i32_91 c1_i32_92 k0_t2
  let v544 : BitVec 32 := Scalar.muli c128_i32_120 arg13
  let c0_i32_121 : BitVec 32 := 0#32
  let v545 : BitVec 32 := Scalar.addi v544 c0_i32_121
  let c0_i32_122 : BitVec 32 := 0#32
  let v546 : BitVec 32 := Scalar.addi v545 c0_i32_122
  v546
def k0_off3 (k0_t2 : Fin k0_t2_loop.trips) (c0_i32_121 : BitVec 32) (c0_i32_122 : BitVec 32) : Fin 2 → Nat :=
  let c128_i32_120 : BitVec 32 := 128#32
  let c0_i32_91 : BitVec 32 := 0#32
  let c1_i32_92 : BitVec 32 := 1#32
  let arg13 : BitVec 32 := Scf.iv c0_i32_91 c1_i32_92 k0_t2
  let v544 : BitVec 32 := Scalar.muli c128_i32_120 arg13
  let v545 : BitVec 32 := Scalar.addi v544 c0_i32_121
  let v546 : BitVec 32 := Scalar.addi v545 c0_i32_122
  let v547 : BitVec 32 := v546
  let v548 : Index := Scalar.indexCast v547
  let c0_123 : Index := 0#32
  ![v548.toNat, 0]
def k0_mult3 (k0_t2 : Fin k0_t2_loop.trips) : BitVec 32 :=
  let c128_i32_148 : BitVec 32 := 128#32
  let c0_i32_91 : BitVec 32 := 0#32
  let c1_i32_92 : BitVec 32 := 1#32
  let arg13 : BitVec 32 := Scf.iv c0_i32_91 c1_i32_92 k0_t2
  let v679 : BitVec 32 := Scalar.muli c128_i32_148 arg13
  let c0_i32_149 : BitVec 32 := 0#32
  let v680 : BitVec 32 := Scalar.addi v679 c0_i32_149
  let c8_i32_150 : BitVec 32 := 8#32
  let v681 : BitVec 32 := Scalar.addi v680 c8_i32_150
  v681
def k0_mult4 (k0_t2 : Fin k0_t2_loop.trips) : BitVec 32 :=
  let c128_i32_176 : BitVec 32 := 128#32
  let c0_i32_91 : BitVec 32 := 0#32
  let c1_i32_92 : BitVec 32 := 1#32
  let arg13 : BitVec 32 := Scf.iv c0_i32_91 c1_i32_92 k0_t2
  let v814 : BitVec 32 := Scalar.muli c128_i32_176 arg13
  let c0_i32_177 : BitVec 32 := 0#32
  let v815 : BitVec 32 := Scalar.addi v814 c0_i32_177
  let c16_i32_178 : BitVec 32 := 16#32
  let v816 : BitVec 32 := Scalar.addi v815 c16_i32_178
  v816
def k0_mult5 (k0_t2 : Fin k0_t2_loop.trips) : BitVec 32 :=
  let c128_i32_204 : BitVec 32 := 128#32
  let c0_i32_91 : BitVec 32 := 0#32
  let c1_i32_92 : BitVec 32 := 1#32
  let arg13 : BitVec 32 := Scf.iv c0_i32_91 c1_i32_92 k0_t2
  let v949 : BitVec 32 := Scalar.muli c128_i32_204 arg13
  let c0_i32_205 : BitVec 32 := 0#32
  let v950 : BitVec 32 := Scalar.addi v949 c0_i32_205
  let c24_i32 : BitVec 32 := 24#32
  let v951 : BitVec 32 := Scalar.addi v950 c24_i32
  v951
def k0_mult6 (k0_t2 : Fin k0_t2_loop.trips) : BitVec 32 :=
  let c128_i32_234 : BitVec 32 := 128#32
  let c0_i32_91 : BitVec 32 := 0#32
  let c1_i32_92 : BitVec 32 := 1#32
  let arg13 : BitVec 32 := Scf.iv c0_i32_91 c1_i32_92 k0_t2
  let v1200 : BitVec 32 := Scalar.muli c128_i32_234 arg13
  let c32_i32_235 : BitVec 32 := 32#32
  let v1201 : BitVec 32 := Scalar.addi v1200 c32_i32_235
  let c0_i32_236 : BitVec 32 := 0#32
  let v1202 : BitVec 32 := Scalar.addi v1201 c0_i32_236
  v1202
def k0_mult7 (k0_t2 : Fin k0_t2_loop.trips) : BitVec 32 :=
  let c128_i32_262 : BitVec 32 := 128#32
  let c0_i32_91 : BitVec 32 := 0#32
  let c1_i32_92 : BitVec 32 := 1#32
  let arg13 : BitVec 32 := Scf.iv c0_i32_91 c1_i32_92 k0_t2
  let v1335 : BitVec 32 := Scalar.muli c128_i32_262 arg13
  let c32_i32_263 : BitVec 32 := 32#32
  let v1336 : BitVec 32 := Scalar.addi v1335 c32_i32_263
  let c8_i32_264 : BitVec 32 := 8#32
  let v1337 : BitVec 32 := Scalar.addi v1336 c8_i32_264
  v1337
def k0_mult8 (k0_t2 : Fin k0_t2_loop.trips) : BitVec 32 :=
  let c128_i32_290 : BitVec 32 := 128#32
  let c0_i32_91 : BitVec 32 := 0#32
  let c1_i32_92 : BitVec 32 := 1#32
  let arg13 : BitVec 32 := Scf.iv c0_i32_91 c1_i32_92 k0_t2
  let v1470 : BitVec 32 := Scalar.muli c128_i32_290 arg13
  let c32_i32_291 : BitVec 32 := 32#32
  let v1471 : BitVec 32 := Scalar.addi v1470 c32_i32_291
  let c16_i32_292 : BitVec 32 := 16#32
  let v1472 : BitVec 32 := Scalar.addi v1471 c16_i32_292
  v1472
def k0_mult9 (k0_t2 : Fin k0_t2_loop.trips) : BitVec 32 :=
  let c128_i32_318 : BitVec 32 := 128#32
  let c0_i32_91 : BitVec 32 := 0#32
  let c1_i32_92 : BitVec 32 := 1#32
  let arg13 : BitVec 32 := Scf.iv c0_i32_91 c1_i32_92 k0_t2
  let v1605 : BitVec 32 := Scalar.muli c128_i32_318 arg13
  let c32_i32_319 : BitVec 32 := 32#32
  let v1606 : BitVec 32 := Scalar.addi v1605 c32_i32_319
  let c24_i32_320 : BitVec 32 := 24#32
  let v1607 : BitVec 32 := Scalar.addi v1606 c24_i32_320
  v1607
def k0_mult10 (k0_t2 : Fin k0_t2_loop.trips) : BitVec 32 :=
  let c128_i32_349 : BitVec 32 := 128#32
  let c0_i32_91 : BitVec 32 := 0#32
  let c1_i32_92 : BitVec 32 := 1#32
  let arg13 : BitVec 32 := Scf.iv c0_i32_91 c1_i32_92 k0_t2
  let v1856 : BitVec 32 := Scalar.muli c128_i32_349 arg13
  let c64_i32_350 : BitVec 32 := 64#32
  let v1857 : BitVec 32 := Scalar.addi v1856 c64_i32_350
  let c0_i32_351 : BitVec 32 := 0#32
  let v1858 : BitVec 32 := Scalar.addi v1857 c0_i32_351
  v1858
def k0_mult11 (k0_t2 : Fin k0_t2_loop.trips) : BitVec 32 :=
  let c128_i32_377 : BitVec 32 := 128#32
  let c0_i32_91 : BitVec 32 := 0#32
  let c1_i32_92 : BitVec 32 := 1#32
  let arg13 : BitVec 32 := Scf.iv c0_i32_91 c1_i32_92 k0_t2
  let v1991 : BitVec 32 := Scalar.muli c128_i32_377 arg13
  let c64_i32_378 : BitVec 32 := 64#32
  let v1992 : BitVec 32 := Scalar.addi v1991 c64_i32_378
  let c8_i32_379 : BitVec 32 := 8#32
  let v1993 : BitVec 32 := Scalar.addi v1992 c8_i32_379
  v1993
def k0_mult12 (k0_t2 : Fin k0_t2_loop.trips) : BitVec 32 :=
  let c128_i32_405 : BitVec 32 := 128#32
  let c0_i32_91 : BitVec 32 := 0#32
  let c1_i32_92 : BitVec 32 := 1#32
  let arg13 : BitVec 32 := Scf.iv c0_i32_91 c1_i32_92 k0_t2
  let v2126 : BitVec 32 := Scalar.muli c128_i32_405 arg13
  let c64_i32_406 : BitVec 32 := 64#32
  let v2127 : BitVec 32 := Scalar.addi v2126 c64_i32_406
  let c16_i32_407 : BitVec 32 := 16#32
  let v2128 : BitVec 32 := Scalar.addi v2127 c16_i32_407
  v2128
def k0_mult13 (k0_t2 : Fin k0_t2_loop.trips) : BitVec 32 :=
  let c128_i32_433 : BitVec 32 := 128#32
  let c0_i32_91 : BitVec 32 := 0#32
  let c1_i32_92 : BitVec 32 := 1#32
  let arg13 : BitVec 32 := Scf.iv c0_i32_91 c1_i32_92 k0_t2
  let v2261 : BitVec 32 := Scalar.muli c128_i32_433 arg13
  let c64_i32_434 : BitVec 32 := 64#32
  let v2262 : BitVec 32 := Scalar.addi v2261 c64_i32_434
  let c24_i32_435 : BitVec 32 := 24#32
  let v2263 : BitVec 32 := Scalar.addi v2262 c24_i32_435
  v2263
def k0_mult14 (k0_t2 : Fin k0_t2_loop.trips) : BitVec 32 :=
  let c128_i32_464 : BitVec 32 := 128#32
  let c0_i32_91 : BitVec 32 := 0#32
  let c1_i32_92 : BitVec 32 := 1#32
  let arg13 : BitVec 32 := Scf.iv c0_i32_91 c1_i32_92 k0_t2
  let v2512 : BitVec 32 := Scalar.muli c128_i32_464 arg13
  let c96_i32 : BitVec 32 := 96#32
  let v2513 : BitVec 32 := Scalar.addi v2512 c96_i32
  let c0_i32_465 : BitVec 32 := 0#32
  let v2514 : BitVec 32 := Scalar.addi v2513 c0_i32_465
  v2514
def k0_mult15 (k0_t2 : Fin k0_t2_loop.trips) : BitVec 32 :=
  let c128_i32_491 : BitVec 32 := 128#32
  let c0_i32_91 : BitVec 32 := 0#32
  let c1_i32_92 : BitVec 32 := 1#32
  let arg13 : BitVec 32 := Scf.iv c0_i32_91 c1_i32_92 k0_t2
  let v2647 : BitVec 32 := Scalar.muli c128_i32_491 arg13
  let c96_i32_492 : BitVec 32 := 96#32
  let v2648 : BitVec 32 := Scalar.addi v2647 c96_i32_492
  let c8_i32_493 : BitVec 32 := 8#32
  let v2649 : BitVec 32 := Scalar.addi v2648 c8_i32_493
  v2649
def k0_mult16 (k0_t2 : Fin k0_t2_loop.trips) : BitVec 32 :=
  let c128_i32_519 : BitVec 32 := 128#32
  let c0_i32_91 : BitVec 32 := 0#32
  let c1_i32_92 : BitVec 32 := 1#32
  let arg13 : BitVec 32 := Scf.iv c0_i32_91 c1_i32_92 k0_t2
  let v2782 : BitVec 32 := Scalar.muli c128_i32_519 arg13
  let c96_i32_520 : BitVec 32 := 96#32
  let v2783 : BitVec 32 := Scalar.addi v2782 c96_i32_520
  let c16_i32_521 : BitVec 32 := 16#32
  let v2784 : BitVec 32 := Scalar.addi v2783 c16_i32_521
  v2784
def k0_mult17 (k0_t2 : Fin k0_t2_loop.trips) : BitVec 32 :=
  let c128_i32_547 : BitVec 32 := 128#32
  let c0_i32_91 : BitVec 32 := 0#32
  let c1_i32_92 : BitVec 32 := 1#32
  let arg13 : BitVec 32 := Scf.iv c0_i32_91 c1_i32_92 k0_t2
  let v2917 : BitVec 32 := Scalar.muli c128_i32_547 arg13
  let c96_i32_548 : BitVec 32 := 96#32
  let v2918 : BitVec 32 := Scalar.addi v2917 c96_i32_548
  let c24_i32_549 : BitVec 32 := 24#32
  let v2919 : BitVec 32 := Scalar.addi v2918 c24_i32_549
  v2919
def k0_cond1 (i : grid0.Coords) : BitVec 1 :=
  let arg0 : BitVec 32 := BitVec.ofNat 32 (i 0).val
  let c0_i32_100 : BitVec 32 := 0#32
  let v406 : BitVec 1 := Scalar.cmpi .eq arg0 c0_i32_100
  let v407 : BitVec 32 := Scalar.extui v406
  let c0_i32_101 : BitVec 32 := 0#32
  let v408 : BitVec 1 := Scalar.cmpi .ne v407 c0_i32_101
  v408

def k0_cond2 (i : grid0.Coords) : BitVec 1 :=
  let arg0 : BitVec 32 := BitVec.ofNat 32 (i 0).val
  let c0_i32_102 : BitVec 32 := 0#32
  let v409 : BitVec 1 := Scalar.cmpi .ne arg0 c0_i32_102
  let v410 : BitVec 32 := Scalar.extui v409
  let c0_i32_103 : BitVec 32 := 0#32
  let v411 : BitVec 1 := Scalar.cmpi .ne v410 c0_i32_103
  v411

def k0_cond3 (i : grid0.Coords) : BitVec 1 :=
  let arg0 : BitVec 32 := BitVec.ofNat 32 (i 0).val
  let c0_i32_104 : BitVec 32 := 0#32
  let v413 : BitVec 1 := Scalar.cmpi .eq arg0 c0_i32_104
  let v414 : BitVec 32 := Scalar.extui v413
  let c0_i32_105 : BitVec 32 := 0#32
  let v415 : BitVec 1 := Scalar.cmpi .ne v414 c0_i32_105
  v415

def k0_cond4 (i : grid0.Coords) : BitVec 1 :=
  let arg0 : BitVec 32 := BitVec.ofNat 32 (i 0).val
  let c0_i32_106 : BitVec 32 := 0#32
  let v416 : BitVec 1 := Scalar.cmpi .ne arg0 c0_i32_106
  let v417 : BitVec 32 := Scalar.extui v416
  let c0_i32_107 : BitVec 32 := 0#32
  let v418 : BitVec 1 := Scalar.cmpi .ne v417 c0_i32_107
  v418

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Kernel2Ideal.lean ====
variable {F : FTy → Type} [FloatOps F] [Named F]
def κ : String → Option EReal := fun
  | "neg" => some ⊥
  | _ => none
-- ==== Reference2Ideal.lean ====
abbrev S32x32x1024 : Shape := ⟨3, ![32, 32, 1024]⟩
abbrev S32x1 : Shape := ⟨2, ![32, 1]⟩
abbrev S32x64 : Shape := ⟨2, ![32, 64]⟩
abbrev S1x32x1 : Shape := ⟨3, ![1, 32, 1]⟩
abbrev S_ : Shape := ⟨0, ![]⟩
abbrev S32x1024x32 : Shape := ⟨3, ![32, 1024, 32]⟩
abbrev S32x1024 : Shape := ⟨2, ![32, 1024]⟩
abbrev S32x1024x1024 : Shape := ⟨3, ![32, 1024, 1024]⟩
abbrev S32x1024x1 : Shape := ⟨3, ![32, 1024, 1]⟩
abbrev S32x1x1024 : Shape := ⟨3, ![32, 1, 1024]⟩
abbrev S32x1024x40 : Shape := ⟨3, ![32, 1024, 40]⟩
abbrev S32x1024x40x1 : Shape := ⟨4, ![32, 1024, 40, 1]⟩
abbrev S32x1024x40x32 : Shape := ⟨4, ![32, 1024, 40, 32]⟩
abbrev S32x1024x1x32 : Shape := ⟨4, ![32, 1024, 1, 32]⟩
abbrev S32x1024x40x64 : Shape := ⟨4, ![32, 1024, 40, 64]⟩
abbrev S32x64x1024x40 : Shape := ⟨4, ![32, 64, 1024, 40]⟩
abbrev S32x32x1024x40 : Shape := ⟨4, ![32, 32, 1024, 40]⟩
abbrev S32 : Shape := ⟨1, ![32]⟩
abbrev S1x32 : Shape := ⟨2, ![1, 32]⟩

abbrev nBuf : Space → Nat
  | .hbm => 60
  | .vmem => 0
  | .smem => 0
  | _ => 0

abbrev bufTy : (tb : Table) → Fin (tcTables nBuf tb) → BufTy
  | .hbm, ⟨0, _⟩ => ⟨S32x32x1024, .f32⟩
  | .hbm, ⟨1, _⟩ => ⟨S32x1, .f32⟩
  | .hbm, ⟨2, _⟩ => ⟨S32x1, .f32⟩
  | .hbm, ⟨3, _⟩ => ⟨S32x64, .f32⟩
  | .hbm, ⟨4, _⟩ => ⟨S1x32x1, .f32⟩
  | .hbm, ⟨5, _⟩ => ⟨S32x32x1024, .f32⟩
  | .hbm, ⟨6, _⟩ => ⟨S32x32x1024, .f32⟩
  | .hbm, ⟨7, _⟩ => ⟨S1x32x1, .f32⟩
  | .hbm, ⟨8, _⟩ => ⟨S32x32x1024, .f32⟩
  | .hbm, ⟨9, _⟩ => ⟨S32x32x1024, .f32⟩
  | .hbm, ⟨10, _⟩ => ⟨S_, .f32⟩
  | .hbm, ⟨11, _⟩ => ⟨S32x32x1024, .f32⟩
  | .hbm, ⟨12, _⟩ => ⟨S32x32x1024, .i1⟩
  | .hbm, ⟨13, _⟩ => ⟨S_, .f32⟩
  | .hbm, ⟨14, _⟩ => ⟨S32x32x1024, .f32⟩
  | .hbm, ⟨15, _⟩ => ⟨S32x32x1024, .f32⟩
  | .hbm, ⟨16, _⟩ => ⟨S32x32x1024, .f32⟩
  | .hbm, ⟨17, _⟩ => ⟨S32x1024x32, .f32⟩
  | .hbm, ⟨18, _⟩ => ⟨S32x1024x32, .f32⟩
  | .hbm, ⟨19, _⟩ => ⟨S_, .f32⟩
  | .hbm, ⟨20, _⟩ => ⟨S32x1024, .f32⟩
  | .hbm, ⟨21, _⟩ => ⟨S32x1024x1024, .f32⟩
  | .hbm, ⟨22, _⟩ => ⟨S32x1024x1, .f32⟩
  | .hbm, ⟨23, _⟩ => ⟨S_, .f32⟩
  | .hbm, ⟨24, _⟩ => ⟨S32x1024x1024, .f32⟩
  | .hbm, ⟨25, _⟩ => ⟨S32x1024x1024, .f32⟩
  | .hbm, ⟨26, _⟩ => ⟨S32x1024x1024, .f32⟩
  | .hbm, ⟨27, _⟩ => ⟨S32x1024x1024, .f32⟩
  | .hbm, ⟨28, _⟩ => ⟨S32x1x1024, .f32⟩
  | .hbm, ⟨29, _⟩ => ⟨S32x1024x1024, .f32⟩
  | .hbm, ⟨30, _⟩ => ⟨S32x1024x1024, .f32⟩
  | .hbm, ⟨31, _⟩ => ⟨S32x1024x1024, .f32⟩
  | .hbm, ⟨32, _⟩ => ⟨S32x1024x40, .f32⟩
  | .hbm, ⟨33, _⟩ => ⟨S32x1024x40, .i32⟩
  | .hbm, ⟨34, _⟩ => ⟨S32x1024x32, .f32⟩
  | .hbm, ⟨35, _⟩ => ⟨S_, .i32⟩
  | .hbm, ⟨36, _⟩ => ⟨S32x1024x40, .i32⟩
  | .hbm, ⟨37, _⟩ => ⟨S32x1024x40, .i1⟩
  | .hbm, ⟨38, _⟩ => ⟨S_, .i32⟩
  | .hbm, ⟨39, _⟩ => ⟨S32x1024x40, .i32⟩
  | .hbm, ⟨40, _⟩ => ⟨S32x1024x40, .i32⟩
  | .hbm, ⟨41, _⟩ => ⟨S32x1024x40, .i32⟩
  | .hbm, ⟨42, _⟩ => ⟨S32x1024x40x1, .i32⟩
  | .hbm, ⟨43, _⟩ => ⟨S32x1024x40x32, .f32⟩
  | .hbm, ⟨44, _⟩ => ⟨S32x1024x1x32, .f32⟩
  | .hbm, ⟨45, _⟩ => ⟨S32x1024x40x32, .f32⟩
  | .hbm, ⟨46, _⟩ => ⟨S32x1024x40x32, .f32⟩
  | .hbm, ⟨47, _⟩ => ⟨S32x1024x40x64, .f32⟩
  | .hbm, ⟨48, _⟩ => ⟨S32x64x1024x40, .f32⟩
  | .hbm, ⟨49, _⟩ => ⟨S32x1024x40x32, .f32⟩
  | .hbm, ⟨50, _⟩ => ⟨S32x32x1024x40, .f32⟩
  | .hbm, ⟨51, _⟩ => ⟨S_, .f32⟩
  | .hbm, ⟨52, _⟩ => ⟨S32x32x1024, .f32⟩
  | .hbm, ⟨53, _⟩ => ⟨S_, .f32⟩
  | .hbm, ⟨54, _⟩ => ⟨S32, .f32⟩
  | .hbm, ⟨55, _⟩ => ⟨S1x32, .f32⟩
  | .hbm, ⟨56, _⟩ => ⟨S32x32x1024x40, .f32⟩
  | .hbm, ⟨57, _⟩ => ⟨S_, .f32⟩
  | .hbm, ⟨58, _⟩ => ⟨S32, .f32⟩
  | .hbm, ⟨59, _⟩ => ⟨S1x32, .f32⟩
  | _, _ => ⟨S32x32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_values : Ref sig .tc := ⟨.hbm, 32, rfl⟩
abbrev main_indices : Ref sig .tc := ⟨.hbm, 33, rfl⟩
abbrev main_v24 : Ref sig .tc := ⟨.hbm, 34, rfl⟩
abbrev main_c : Ref sig .tc := ⟨.hbm, 35, rfl⟩
abbrev main_v25 : Ref sig .tc := ⟨.hbm, 36, rfl⟩
abbrev main_v26 : Ref sig .tc := ⟨.hbm, 37, rfl⟩
abbrev main_c_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_4 : Ref sig .tc := ⟨.hbm, 51, rfl⟩
abbrev main_v39 : Ref sig .tc := ⟨.hbm, 52, rfl⟩
abbrev main_cst_5 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_6 : Ref sig .tc := ⟨.hbm, 57, rfl⟩
abbrev main_v43 : Ref sig .tc := ⟨.hbm, 58, rfl⟩
abbrev main_v44 : Ref sig .tc := ⟨.hbm, 59, rfl⟩

abbrev nD : Nat := 1
abbrev τ : Topo := Topo.v7x

variable {F : FTy → Type} [FloatOps F]
-- ==== Last.lean ====
abbrev S32x32x1024 : Shape := ⟨3, ![32, 32, 1024]⟩
abbrev S32x1 : Shape := ⟨2, ![32, 1]⟩
abbrev S128x128 : Shape := ⟨2, ![128, 128]⟩
abbrev S32x128x1024 : Shape := ⟨3, ![32, 128, 1024]⟩
abbrev S1x32x1024 : Shape := ⟨3, ![1, 32, 1024]⟩
abbrev S1x128x1024 : Shape := ⟨3, ![1, 128, 1024]⟩
abbrev S32x1024 : Shape := ⟨2, ![32, 1024]⟩
abbrev S128x1024 : Shape := ⟨2, ![128, 1024]⟩

abbrev nBuf : Space → Nat
  | .hbm => 9
  | .vmem => 13
  | .smem => 0
  | _ => 0

abbrev bufTy : (tb : Table) → Fin (tcTables nBuf tb) → BufTy
  | .hbm, ⟨0, _⟩ => ⟨S32x32x1024, .f32⟩
  | .hbm, ⟨1, _⟩ => ⟨S32x1, .f32⟩
  | .hbm, ⟨2, _⟩ => ⟨S32x1, .f32⟩
  | .hbm, ⟨3, _⟩ => ⟨S32x32x1024, .f32⟩
  | .hbm, ⟨4, _⟩ => ⟨S32x32x1024, .f32⟩
  | .hbm, ⟨5, _⟩ => ⟨S32x32x1024, .f32⟩
  | .hbm, ⟨6, _⟩ => ⟨S128x128, .f32⟩
  | .hbm, ⟨7, _⟩ => ⟨S128x128, .bf16⟩
  | .hbm, ⟨8, _⟩ => ⟨S32x128x1024, .f32⟩
  | .local _ .vmem, ⟨0, _⟩ => ⟨S1x32x1024, .f32⟩
  | .local _ .vmem, ⟨1, _⟩ => ⟨S1x32x1024, .f32⟩
  | .local _ .vmem, ⟨2, _⟩ => ⟨S32x1, .f32⟩
  | .local _ .vmem, ⟨3, _⟩ => ⟨S32x1, .f32⟩
  | .local _ .vmem, ⟨4, _⟩ => ⟨S1x32x1024, .f32⟩
  | .local _ .vmem, ⟨5, _⟩ => ⟨S1x32x1024, .f32⟩
  | .local _ .vmem, ⟨6, _⟩ => ⟨S1x32x1024, .f32⟩
  | .local _ .vmem, ⟨7, _⟩ => ⟨S1x32x1024, .f32⟩
  | .local _ .vmem, ⟨8, _⟩ => ⟨S1x32x1024, .f32⟩
  | .local _ .vmem, ⟨9, _⟩ => ⟨S1x32x1024, .f32⟩
  | .local _ .vmem, ⟨10, _⟩ => ⟨S128x128, .bf16⟩
  | .local _ .vmem, ⟨11, _⟩ => ⟨S1x128x1024, .f32⟩
  | .local _ .vmem, ⟨12, _⟩ => ⟨S1x128x1024, .f32⟩
  | _, _ => ⟨S32x32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceLastIdeal.lean ====
abbrev S32x32x1024 : Shape := ⟨3, ![32, 32, 1024]⟩
abbrev S32x1 : Shape := ⟨2, ![32, 1]⟩
abbrev S128x128 : Shape := ⟨2, ![128, 128]⟩
abbrev S1x32x1 : Shape := ⟨3, ![1, 32, 1]⟩
abbrev S_ : Shape := ⟨0, ![]⟩
abbrev S32x128x1024 : Shape := ⟨3, ![32, 128, 1024]⟩
abbrev S32x1024x128 : Shape := ⟨3, ![32, 1024, 128]⟩

abbrev nBuf : Space → Nat
  | .hbm => 24
  | .vmem => 0
  | .smem => 0
  | _ => 0

abbrev bufTy : (tb : Table) → Fin (tcTables nBuf tb) → BufTy
  | .hbm, ⟨0, _⟩ => ⟨S32x32x1024, .f32⟩
  | .hbm, ⟨1, _⟩ => ⟨S32x1, .f32⟩
  | .hbm, ⟨2, _⟩ => ⟨S32x1, .f32⟩
  | .hbm, ⟨3, _⟩ => ⟨S32x32x1024, .f32⟩
  | .hbm, ⟨4, _⟩ => ⟨S32x32x1024, .f32⟩
  | .hbm, ⟨5, _⟩ => ⟨S32x32x1024, .f32⟩
  | .hbm, ⟨6, _⟩ => ⟨S128x128, .f32⟩
  | .hbm, ⟨7, _⟩ => ⟨S1x32x1, .f32⟩
  | .hbm, ⟨8, _⟩ => ⟨S32x32x1024, .f32⟩
  | .hbm, ⟨9, _⟩ => ⟨S32x32x1024, .f32⟩
  | .hbm, ⟨10, _⟩ => ⟨S1x32x1, .f32⟩
  | .hbm, ⟨11, _⟩ => ⟨S32x32x1024, .f32⟩
  | .hbm, ⟨12, _⟩ => ⟨S32x32x1024, .f32⟩
  | .hbm, ⟨13, _⟩ => ⟨S_, .f32⟩
  | .hbm, ⟨14, _⟩ => ⟨S32x32x1024, .f32⟩
  | .hbm, ⟨15, _⟩ => ⟨S32x32x1024, .i1⟩
  | .hbm, ⟨16, _⟩ => ⟨S_, .f32⟩
  | .hbm, ⟨17, _⟩ => ⟨S32x32x1024, .f32⟩
  | .hbm, ⟨18, _⟩ => ⟨S32x32x1024, .f32⟩
  | .hbm, ⟨19, _⟩ => ⟨S32x32x1024, .f32⟩
  | .hbm, ⟨20, _⟩ => ⟨S32x32x1024, .f32⟩
  | .hbm, ⟨21, _⟩ => ⟨S32x128x1024, .f32⟩
  | .hbm, ⟨22, _⟩ => ⟨S32x1024x128, .f32⟩
  | .hbm, ⟨23, _⟩ => ⟨S32x128x1024, .f32⟩
  | _, _ => ⟨S32x32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== Kernel1.lean ====
abbrev S32x9x1024 : Shape := ⟨3, ![32, 9, 1024]⟩
abbrev S32x18 : Shape := ⟨2, ![32, 18]⟩
abbrev S_ : Shape := ⟨0, ![]⟩
abbrev S128x72 : Shape := ⟨2, ![128, 72]⟩
abbrev S1 : Shape := ⟨1, ![1]⟩
abbrev S2 : Shape := ⟨1, ![2]⟩
abbrev S32x32x1024 : Shape := ⟨3, ![32, 32, 1024]⟩
abbrev S1x32 : Shape := ⟨2, ![1, 32]⟩
abbrev S1x9x1024 : Shape := ⟨3, ![1, 9, 1024]⟩
abbrev S1x32x1024 : Shape := ⟨3, ![1, 32, 1024]⟩
abbrev S9x1024 : Shape := ⟨2, ![9, 1024]⟩
abbrev S1024x1024 : Shape := ⟨2, ![1024, 1024]⟩
abbrev S32x1024 : Shape := ⟨2, ![32, 1024]⟩
abbrev S1024 : Shape := ⟨1, ![1024]⟩
abbrev S1x1024 : Shape := ⟨2, ![1, 1024]⟩
abbrev S1024x1 : Shape := ⟨2, ![1024, 1]⟩
abbrev S9x8192 : Shape := ⟨2, ![9, 8192]⟩
abbrev S9x128 : Shape := ⟨2, ![9, 128]⟩
abbrev S9x1 : Shape := ⟨2, ![9, 1]⟩
abbrev S18x8192 : Shape := ⟨2, ![18, 8192]⟩
abbrev S72x8192 : Shape := ⟨2, ![72, 8192]⟩
abbrev S128x8192 : Shape := ⟨2, ![128, 8192]⟩
abbrev S32x8192 : Shape := ⟨2, ![32, 8192]⟩
abbrev S8x1024 : Shape := ⟨2, ![8, 1024]⟩
abbrev S32 : Shape := ⟨1, ![32]⟩

abbrev nBuf : Space → Nat
  | .hbm => 32
  | .vmem => 11
  | .smem => 0
  | _ => 0

abbrev bufTy : (tb : Table) → Fin (tcTables nBuf tb) → BufTy
  | .hbm, ⟨0, _⟩ => ⟨S32x9x1024, .f32⟩
  | .hbm, ⟨1, _⟩ => ⟨S32x18, .f32⟩
  | .hbm, ⟨2, _⟩ => ⟨S_, .f32⟩
  | .hbm, ⟨3, _⟩ => ⟨S128x72, .f32⟩
  | .hbm, ⟨4, _⟩ => ⟨S_, .i32⟩
  | .hbm, ⟨5, _⟩ => ⟨S1, .i32⟩
  | .hbm, ⟨6, _⟩ => ⟨S_, .i32⟩
  | .hbm, ⟨7, _⟩ => ⟨S1, .i32⟩
  | .hbm, ⟨8, _⟩ => ⟨S2, .i32⟩
  | .hbm, ⟨9, _⟩ => ⟨S128x72, .f32⟩
  | .hbm, ⟨10, _⟩ => ⟨S_, .i32⟩
  | .hbm, ⟨11, _⟩ => ⟨S1, .i32⟩
  | .hbm, ⟨12, _⟩ => ⟨S_, .i32⟩
  | .hbm, ⟨13, _⟩ => ⟨S1, .i32⟩
  | .hbm, ⟨14, _⟩ => ⟨S2, .i32⟩
  | .hbm, ⟨15, _⟩ => ⟨S128x72, .f32⟩
  | .hbm, ⟨16, _⟩ => ⟨S_, .i32⟩
  | .hbm, ⟨17, _⟩ => ⟨S1, .i32⟩
  | .hbm, ⟨18, _⟩ => ⟨S_, .i32⟩
  | .hbm, ⟨19, _⟩ => ⟨S1, .i32⟩
  | .hbm, ⟨20, _⟩ => ⟨S2, .i32⟩
  | .hbm, ⟨21, _⟩ => ⟨S128x72, .f32⟩
  | .hbm, ⟨22, _⟩ => ⟨S_, .i32⟩
  | .hbm, ⟨23, _⟩ => ⟨S1, .i32⟩
  | .hbm, ⟨24, _⟩ => ⟨S_, .i32⟩
  | .hbm, ⟨25, _⟩ => ⟨S1, .i32⟩
  | .hbm, ⟨26, _⟩ => ⟨S2, .i32⟩
  | .hbm, ⟨27, _⟩ => ⟨S128x72, .f32⟩
  | .hbm, ⟨28, _⟩ => ⟨S128x72, .bf16⟩
  | .hbm, ⟨29, _⟩ => ⟨S32x32x1024, .f32⟩
  | .hbm, ⟨30, _⟩ => ⟨S1x32, .f32⟩
  | .hbm, ⟨31, _⟩ => ⟨S1x32, .f32⟩
  | .local _ .vmem, ⟨0, _⟩ => ⟨S1x9x1024, .f32⟩
  | .local _ .vmem, ⟨1, _⟩ => ⟨S1x9x1024, .f32⟩
  | .local _ .vmem, ⟨2, _⟩ => ⟨S128x72, .bf16⟩
  | .local _ .vmem, ⟨3, _⟩ => ⟨S1x32x1024, .f32⟩
  | .local _ .vmem, ⟨4, _⟩ => ⟨S1x32x1024, .f32⟩
  | .local _ .vmem, ⟨5, _⟩ => ⟨S1x32, .f32⟩
  | .local _ .vmem, ⟨6, _⟩ => ⟨S1x32, .f32⟩
  | .local _ .vmem, ⟨7, _⟩ => ⟨S9x1024, .f32⟩
  | .local _ .vmem, ⟨8, _⟩ => ⟨S1024x1024, .f32⟩
  | .local _ .vmem, ⟨9, _⟩ => ⟨S32x1024, .f32⟩
  | .local _ .vmem, ⟨10, _⟩ => ⟨S32x1024, .f32⟩
  | _, _ => ⟨S32x9x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_1 : Ref sig .tc := ⟨.hbm, 10, rfl⟩
abbrev main_v5 : Ref sig .tc := ⟨.hbm, 11, rfl⟩
abbrev main_c_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_3 : Ref sig .tc := ⟨.hbm, 16, rfl⟩
abbrev main_v9 : Ref sig .tc := ⟨.hbm, 17, rfl⟩
abbrev main_c_4 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_5 : Ref sig .tc := ⟨.hbm, 22, rfl⟩
abbrev main_v13 : Ref sig .tc := ⟨.hbm, 23, rfl⟩
abbrev main_c_6 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18_0 : Ref sig .tc := ⟨.hbm, 29, rfl⟩
abbrev main_v18_1 : Ref sig .tc := ⟨.hbm, 30, rfl⟩
abbrev main_v18_2 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32_8 : BitVec 32 := 0#32
  let c1024_i32 : BitVec 32 := 1024#32
  let v21 : BitVec 32 := Scalar.addi c0_i32_8 c1024_i32
  let c1_i32 : BitVec 32 := 1#32
  ⟨c0_i32_8, v21, c1_i32⟩
def k0_off1 (k0_t1 : Fin k0_t1_loop.trips) : Fin 2 → Nat :=
  let c0_i32_8 : BitVec 32 := 0#32
  let c1_i32 : BitVec 32 := 1#32
  let arg10 : BitVec 32 := Scf.iv c0_i32_8 c1_i32 k0_t1
  let v405 : Index := Scalar.indexCast arg10
  let c0_99 : Index := 0#32
  ![v405.toNat, 0]
@[reducible] def k0_t2_loop : Scf.Loop 32 :=
  let c0_i32_82 : BitVec 32 := 0#32
  let c8_i32 : BitVec 32 := 8#32
  let v386 : BitVec 32 := Scalar.addi c0_i32_82 c8_i32
  let c1_i32_83 : BitVec 32 := 1#32
  ⟨c0_i32_82, v386, c1_i32_83⟩
def k0_mult1 (k0_t2 : Fin k0_t2_loop.trips) : BitVec 32 :=
  let c128_i32_99 : BitVec 32 := 128#32
  let c0_i32_82 : BitVec 32 := 0#32
  let c1_i32_83 : BitVec 32 := 1#32
  let arg10 : BitVec 32 := Scf.iv c0_i32_82 c1_i32_83 k0_t2
  let v405 : BitVec 32 := Scalar.muli c128_i32_99 arg10
  v405
def k0_off2 (k0_t2 : Fin k0_t2_loop.trips) : Fin 2 → Nat :=
  let c0_100 : Index := 0#32
  let c128_i32_99 : BitVec 32 := 128#32
  let c0_i32_82 : BitVec 32 := 0#32
  let c1_i32_83 : BitVec 32 := 1#32
  let arg10 : BitVec 32 := Scf.iv c0_i32_82 c1_i32_83 k0_t2
  let v405 : BitVec 32 := Scalar.muli c128_i32_99 arg10
  let v406 : BitVec 32 := v405
  let v407 : Index := Scalar.indexCast v406
  ![0, v407.toNat]
def k0_mult2 (k0_t2 : Fin k0_t2_loop.trips) : BitVec 32 :=
  let c128_i32_111 : BitVec 32 := 128#32
  let c0_i32_82 : BitVec 32 := 0#32
  let c1_i32_83 : BitVec 32 := 1#32
  let arg10 : BitVec 32 := Scf.iv c0_i32_82 c1_i32_83 k0_t2
  let v530 : BitVec 32 := Scalar.muli c128_i32_111 arg10
  let c0_i32_112 : BitVec 32 := 0#32
  let v531 : BitVec 32 := Scalar.addi v530 c0_i32_112
  let c0_i32_113 : BitVec 32 := 0#32
  let v532 : BitVec 32 := Scalar.addi v531 c0_i32_113
  v532
def k0_off3 (k0_t2 : Fin k0_t2_loop.trips) (c0_i32_112 : BitVec 32) (c0_i32_113 : BitVec 32) : Fin 2 → Nat :=
  let c128_i32_111 : BitVec 32 := 128#32
  let c0_i32_82 : BitVec 32 := 0#32
  let c1_i32_83 : BitVec 32 := 1#32
  let arg10 : BitVec 32 := Scf.iv c0_i32_82 c1_i32_83 k0_t2
  let v530 : BitVec 32 := Scalar.muli c128_i32_111 arg10
  let v531 : BitVec 32 := Scalar.addi v530 c0_i32_112
  let v532 : BitVec 32 := Scalar.addi v531 c0_i32_113
  let v533 : BitVec 32 := v532
  let v534 : Index := Scalar.indexCast v533
  let c0_114 : Index := 0#32
  ![v534.toNat, 0]
def k0_mult3 (k0_t2 : Fin k0_t2_loop.trips) : BitVec 32 :=
  let c128_i32_139 : BitVec 32 := 128#32
  let c0_i32_82 : BitVec 32 := 0#32
  let c1_i32_83 : BitVec 32 := 1#32
  let arg10 : BitVec 32 := Scf.iv c0_i32_82 c1_i32_83 k0_t2
  let v665 : BitVec 32 := Scalar.muli c128_i32_139 arg10
  let c0_i32_140 : BitVec 32 := 0#32
  let v666 : BitVec 32 := Scalar.addi v665 c0_i32_140
  let c8_i32_141 : BitVec 32 := 8#32
  let v667 : BitVec 32 := Scalar.addi v666 c8_i32_141
  v667
def k0_mult4 (k0_t2 : Fin k0_t2_loop.trips) : BitVec 32 :=
  let c128_i32_167 : BitVec 32 := 128#32
  let c0_i32_82 : BitVec 32 := 0#32
  let c1_i32_83 : BitVec 32 := 1#32
  let arg10 : BitVec 32 := Scf.iv c0_i32_82 c1_i32_83 k0_t2
  let v800 : BitVec 32 := Scalar.muli c128_i32_167 arg10
  let c0_i32_168 : BitVec 32 := 0#32
  let v801 : BitVec 32 := Scalar.addi v800 c0_i32_168
  let c16_i32_169 : BitVec 32 := 16#32
  let v802 : BitVec 32 := Scalar.addi v801 c16_i32_169
  v802
def k0_mult5 (k0_t2 : Fin k0_t2_loop.trips) : BitVec 32 :=
  let c128_i32_195 : BitVec 32 := 128#32
  let c0_i32_82 : BitVec 32 := 0#32
  let c1_i32_83 : BitVec 32 := 1#32
  let arg10 : BitVec 32 := Scf.iv c0_i32_82 c1_i32_83 k0_t2
  let v935 : BitVec 32 := Scalar.muli c128_i32_195 arg10
  let c0_i32_196 : BitVec 32 := 0#32
  let v936 : BitVec 32 := Scalar.addi v935 c0_i32_196
  let c24_i32 : BitVec 32 := 24#32
  let v937 : BitVec 32 := Scalar.addi v936 c24_i32
  v937
def k0_mult6 (k0_t2 : Fin k0_t2_loop.trips) : BitVec 32 :=
  let c128_i32_225 : BitVec 32 := 128#32
  let c0_i32_82 : BitVec 32 := 0#32
  let c1_i32_83 : BitVec 32 := 1#32
  let arg10 : BitVec 32 := Scf.iv c0_i32_82 c1_i32_83 k0_t2
  let v1186 : BitVec 32 := Scalar.muli c128_i32_225 arg10
  let c32_i32_226 : BitVec 32 := 32#32
  let v1187 : BitVec 32 := Scalar.addi v1186 c32_i32_226
  let c0_i32_227 : BitVec 32 := 0#32
  let v1188 : BitVec 32 := Scalar.addi v1187 c0_i32_227
  v1188
def k0_mult7 (k0_t2 : Fin k0_t2_loop.trips) : BitVec 32 :=
  let c128_i32_253 : BitVec 32 := 128#32
  let c0_i32_82 : BitVec 32 := 0#32
  let c1_i32_83 : BitVec 32 := 1#32
  let arg10 : BitVec 32 := Scf.iv c0_i32_82 c1_i32_83 k0_t2
  let v1321 : BitVec 32 := Scalar.muli c128_i32_253 arg10
  let c32_i32_254 : BitVec 32 := 32#32
  let v1322 : BitVec 32 := Scalar.addi v1321 c32_i32_254
  let c8_i32_255 : BitVec 32 := 8#32
  let v1323 : BitVec 32 := Scalar.addi v1322 c8_i32_255
  v1323
def k0_mult8 (k0_t2 : Fin k0_t2_loop.trips) : BitVec 32 :=
  let c128_i32_281 : BitVec 32 := 128#32
  let c0_i32_82 : BitVec 32 := 0#32
  let c1_i32_83 : BitVec 32 := 1#32
  let arg10 : BitVec 32 := Scf.iv c0_i32_82 c1_i32_83 k0_t2
  let v1456 : BitVec 32 := Scalar.muli c128_i32_281 arg10
  let c32_i32_282 : BitVec 32 := 32#32
  let v1457 : BitVec 32 := Scalar.addi v1456 c32_i32_282
  let c16_i32_283 : BitVec 32 := 16#32
  let v1458 : BitVec 32 := Scalar.addi v1457 c16_i32_283
  v1458
def k0_mult9 (k0_t2 : Fin k0_t2_loop.trips) : BitVec 32 :=
  let c128_i32_309 : BitVec 32 := 128#32
  let c0_i32_82 : BitVec 32 := 0#32
  let c1_i32_83 : BitVec 32 := 1#32
  let arg10 : BitVec 32 := Scf.iv c0_i32_82 c1_i32_83 k0_t2
  let v1591 : BitVec 32 := Scalar.muli c128_i32_309 arg10
  let c32_i32_310 : BitVec 32 := 32#32
  let v1592 : BitVec 32 := Scalar.addi v1591 c32_i32_310
  let c24_i32_311 : BitVec 32 := 24#32
  let v1593 : BitVec 32 := Scalar.addi v1592 c24_i32_311
  v1593
def k0_mult10 (k0_t2 : Fin k0_t2_loop.trips) : BitVec 32 :=
  let c128_i32_340 : BitVec 32 := 128#32
  let c0_i32_82 : BitVec 32 := 0#32
  let c1_i32_83 : BitVec 32 := 1#32
  let arg10 : BitVec 32 := Scf.iv c0_i32_82 c1_i32_83 k0_t2
  let v1842 : BitVec 32 := Scalar.muli c128_i32_340 arg10
  let c64_i32_341 : BitVec 32 := 64#32
  let v1843 : BitVec 32 := Scalar.addi v1842 c64_i32_341
  let c0_i32_342 : BitVec 32 := 0#32
  let v1844 : BitVec 32 := Scalar.addi v1843 c0_i32_342
  v1844
def k0_mult11 (k0_t2 : Fin k0_t2_loop.trips) : BitVec 32 :=
  let c128_i32_368 : BitVec 32 := 128#32
  let c0_i32_82 : BitVec 32 := 0#32
  let c1_i32_83 : BitVec 32 := 1#32
  let arg10 : BitVec 32 := Scf.iv c0_i32_82 c1_i32_83 k0_t2
  let v1977 : BitVec 32 := Scalar.muli c128_i32_368 arg10
  let c64_i32_369 : BitVec 32 := 64#32
  let v1978 : BitVec 32 := Scalar.addi v1977 c64_i32_369
  let c8_i32_370 : BitVec 32 := 8#32
  let v1979 : BitVec 32 := Scalar.addi v1978 c8_i32_370
  v1979
def k0_mult12 (k0_t2 : Fin k0_t2_loop.trips) : BitVec 32 :=
  let c128_i32_396 : BitVec 32 := 128#32
  let c0_i32_82 : BitVec 32 := 0#32
  let c1_i32_83 : BitVec 32 := 1#32
  let arg10 : BitVec 32 := Scf.iv c0_i32_82 c1_i32_83 k0_t2
  let v2112 : BitVec 32 := Scalar.muli c128_i32_396 arg10
  let c64_i32_397 : BitVec 32 := 64#32
  let v2113 : BitVec 32 := Scalar.addi v2112 c64_i32_397
  let c16_i32_398 : BitVec 32 := 16#32
  let v2114 : BitVec 32 := Scalar.addi v2113 c16_i32_398
  v2114
def k0_mult13 (k0_t2 : Fin k0_t2_loop.trips) : BitVec 32 :=
  let c128_i32_424 : BitVec 32 := 128#32
  let c0_i32_82 : BitVec 32 := 0#32
  let c1_i32_83 : BitVec 32 := 1#32
  let arg10 : BitVec 32 := Scf.iv c0_i32_82 c1_i32_83 k0_t2
  let v2247 : BitVec 32 := Scalar.muli c128_i32_424 arg10
  let c64_i32_425 : BitVec 32 := 64#32
  let v2248 : BitVec 32 := Scalar.addi v2247 c64_i32_425
  let c24_i32_426 : BitVec 32 := 24#32
  let v2249 : BitVec 32 := Scalar.addi v2248 c24_i32_426
  v2249
def k0_mult14 (k0_t2 : Fin k0_t2_loop.trips) : BitVec 32 :=
  let c128_i32_455 : BitVec 32 := 128#32
  let c0_i32_82 : BitVec 32 := 0#32
  let c1_i32_83 : BitVec 32 := 1#32
  let arg10 : BitVec 32 := Scf.iv c0_i32_82 c1_i32_83 k0_t2
  let v2498 : BitVec 32 := Scalar.muli c128_i32_455 arg10
  let c96_i32 : BitVec 32 := 96#32
  let v2499 : BitVec 32 := Scalar.addi v2498 c96_i32
  let c0_i32_456 : BitVec 32 := 0#32
  let v2500 : BitVec 32 := Scalar.addi v2499 c0_i32_456
  v2500
def k0_mult15 (k0_t2 : Fin k0_t2_loop.trips) : BitVec 32 :=
  let c128_i32_482 : BitVec 32 := 128#32
  let c0_i32_82 : BitVec 32 := 0#32
  let c1_i32_83 : BitVec 32 := 1#32
  let arg10 : BitVec 32 := Scf.iv c0_i32_82 c1_i32_83 k0_t2
  let v2633 : BitVec 32 := Scalar.muli c128_i32_482 arg10
  let c96_i32_483 : BitVec 32 := 96#32
  let v2634 : BitVec 32 := Scalar.addi v2633 c96_i32_483
  let c8_i32_484 : BitVec 32 := 8#32
  let v2635 : BitVec 32 := Scalar.addi v2634 c8_i32_484
  v2635
def k0_mult16 (k0_t2 : Fin k0_t2_loop.trips) : BitVec 32 :=
  let c128_i32_510 : BitVec 32 := 128#32
  let c0_i32_82 : BitVec 32 := 0#32
  let c1_i32_83 : BitVec 32 := 1#32
  let arg10 : BitVec 32 := Scf.iv c0_i32_82 c1_i32_83 k0_t2
  let v2768 : BitVec 32 := Scalar.muli c128_i32_510 arg10
  let c96_i32_511 : BitVec 32 := 96#32
  let v2769 : BitVec 32 := Scalar.addi v2768 c96_i32_511
  let c16_i32_512 : BitVec 32 := 16#32
  let v2770 : BitVec 32 := Scalar.addi v2769 c16_i32_512
  v2770
def k0_mult17 (k0_t2 : Fin k0_t2_loop.trips) : BitVec 32 :=
  let c128_i32_538 : BitVec 32 := 128#32
  let c0_i32_82 : BitVec 32 := 0#32
  let c1_i32_83 : BitVec 32 := 1#32
  let arg10 : BitVec 32 := Scf.iv c0_i32_82 c1_i32_83 k0_t2
  let v2903 : BitVec 32 := Scalar.muli c128_i32_538 arg10
  let c96_i32_539 : BitVec 32 := 96#32
  let v2904 : BitVec 32 := Scalar.addi v2903 c96_i32_539
  let c24_i32_540 : BitVec 32 := 24#32
  let v2905 : BitVec 32 := Scalar.addi v2904 c24_i32_540
  v2905
def k0_cond1 (i : grid0.Coords) : BitVec 1 :=
  let arg0 : BitVec 32 := BitVec.ofNat 32 (i 0).val
  let c0_i32_91 : BitVec 32 := 0#32
  let v392 : BitVec 1 := Scalar.cmpi .eq arg0 c0_i32_91
  let v393 : BitVec 32 := Scalar.extui v392
  let c0_i32_92 : BitVec 32 := 0#32
  let v394 : BitVec 1 := Scalar.cmpi .ne v393 c0_i32_92
  v394

def k0_cond2 (i : grid0.Coords) : BitVec 1 :=
  let arg0 : BitVec 32 := BitVec.ofNat 32 (i 0).val
  let c0_i32_93 : BitVec 32 := 0#32
  let v395 : BitVec 1 := Scalar.cmpi .ne arg0 c0_i32_93
  let v396 : BitVec 32 := Scalar.extui v395
  let c0_i32_94 : BitVec 32 := 0#32
  let v397 : BitVec 1 := Scalar.cmpi .ne v396 c0_i32_94
  v397

def k0_cond3 (i : grid0.Coords) : BitVec 1 :=
  let arg0 : BitVec 32 := BitVec.ofNat 32 (i 0).val
  let c0_i32_95 : BitVec 32 := 0#32
  let v399 : BitVec 1 := Scalar.cmpi .eq arg0 c0_i32_95
  let v400 : BitVec 32 := Scalar.extui v399
  let c0_i32_96 : BitVec 32 := 0#32
  let v401 : BitVec 1 := Scalar.cmpi .ne v400 c0_i32_96
  v401

def k0_cond4 (i : grid0.Coords) : BitVec 1 :=
  let arg0 : BitVec 32 := BitVec.ofNat 32 (i 0).val
  let c0_i32_97 : BitVec 32 := 0#32
  let v402 : BitVec 1 := Scalar.cmpi .ne arg0 c0_i32_97
  let v403 : BitVec 32 := Scalar.extui v402
  let c0_i32_98 : BitVec 32 := 0#32
  let v404 : BitVec 1 := Scalar.cmpi .ne v403 c0_i32_98
  v404

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x9x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x72 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Kernel1Ideal.lean ====
variable {F : FTy → Type} [FloatOps F] [Named F]
def κ : String → Option EReal := fun
  | "neg" => some ⊥
  | _ => none
-- ==== Reference1Ideal.lean ====
abbrev S32x9x1024 : Shape := ⟨3, ![32, 9, 1024]⟩
abbrev S32x18 : Shape := ⟨2, ![32, 18]⟩
abbrev S32x1024x9 : Shape := ⟨3, ![32, 1024, 9]⟩
abbrev S_ : Shape := ⟨0, ![]⟩
abbrev S32x1024 : Shape := ⟨2, ![32, 1024]⟩
abbrev S32x1024x1024 : Shape := ⟨3, ![32, 1024, 1024]⟩
abbrev S32x1024x1 : Shape := ⟨3, ![32, 1024, 1]⟩
abbrev S32x1x1024 : Shape := ⟨3, ![32, 1, 1024]⟩
abbrev S32x1024x40 : Shape := ⟨3, ![32, 1024, 40]⟩
abbrev S32x1024x40x1 : Shape := ⟨4, ![32, 1024, 40, 1]⟩
abbrev S32x1024x40x9 : Shape := ⟨4, ![32, 1024, 40, 9]⟩
abbrev S32x1024x1x9 : Shape := ⟨4, ![32, 1024, 1, 9]⟩
abbrev S32x1024x40x18 : Shape := ⟨4, ![32, 1024, 40, 18]⟩
abbrev S32x18x1024x40 : Shape := ⟨4, ![32, 18, 1024, 40]⟩
abbrev S32x1024x40x32 : Shape := ⟨4, ![32, 1024, 40, 32]⟩
abbrev S32x32x1024x40 : Shape := ⟨4, ![32, 32, 1024, 40]⟩
abbrev S32x32x1024 : Shape := ⟨3, ![32, 32, 1024]⟩
abbrev S32 : Shape := ⟨1, ![32]⟩
abbrev S1x32 : Shape := ⟨2, ![1, 32]⟩

abbrev nBuf : Space → Nat
  | .hbm => 45
  | .vmem => 0
  | .smem => 0
  | _ => 0

abbrev bufTy : (tb : Table) → Fin (tcTables nBuf tb) → BufTy
  | .hbm, ⟨0, _⟩ => ⟨S32x9x1024, .f32⟩
  | .hbm, ⟨1, _⟩ => ⟨S32x18, .f32⟩
  | .hbm, ⟨2, _⟩ => ⟨S32x1024x9, .f32⟩
  | .hbm, ⟨3, _⟩ => ⟨S32x1024x9, .f32⟩
  | .hbm, ⟨4, _⟩ => ⟨S_, .f32⟩
  | .hbm, ⟨5, _⟩ => ⟨S32x1024, .f32⟩
  | .hbm, ⟨6, _⟩ => ⟨S32x1024x1024, .f32⟩
  | .hbm, ⟨7, _⟩ => ⟨S32x1024x1, .f32⟩
  | .hbm, ⟨8, _⟩ => ⟨S_, .f32⟩
  | .hbm, ⟨9, _⟩ => ⟨S32x1024x1024, .f32⟩
  | .hbm, ⟨10, _⟩ => ⟨S32x1024x1024, .f32⟩
  | .hbm, ⟨11, _⟩ => ⟨S32x1024x1024, .f32⟩
  | .hbm, ⟨12, _⟩ => ⟨S32x1024x1024, .f32⟩
  | .hbm, ⟨13, _⟩ => ⟨S32x1x1024, .f32⟩
  | .hbm, ⟨14, _⟩ => ⟨S32x1024x1024, .f32⟩
  | .hbm, ⟨15, _⟩ => ⟨S32x1024x1024, .f32⟩
  | .hbm, ⟨16, _⟩ => ⟨S32x1024x1024, .f32⟩
  | .hbm, ⟨17, _⟩ => ⟨S32x1024x40, .f32⟩
  | .hbm, ⟨18, _⟩ => ⟨S32x1024x40, .i32⟩
  | .hbm, ⟨19, _⟩ => ⟨S32x1024x9, .f32⟩
  | .hbm, ⟨20, _⟩ => ⟨S_, .i32⟩
  | .hbm, ⟨21, _⟩ => ⟨S32x1024x40, .i32⟩
  | .hbm, ⟨22, _⟩ => ⟨S32x1024x40, .i1⟩
  | .hbm, ⟨23, _⟩ => ⟨S_, .i32⟩
  | .hbm, ⟨24, _⟩ => ⟨S32x1024x40, .i32⟩
  | .hbm, ⟨25, _⟩ => ⟨S32x1024x40, .i32⟩
  | .hbm, ⟨26, _⟩ => ⟨S32x1024x40, .i32⟩
  | .hbm, ⟨27, _⟩ => ⟨S32x1024x40x1, .i32⟩
  | .hbm, ⟨28, _⟩ => ⟨S32x1024x40x9, .f32⟩
  | .hbm, ⟨29, _⟩ => ⟨S32x1024x1x9, .f32⟩
  | .hbm, ⟨30, _⟩ => ⟨S32x1024x40x9, .f32⟩
  | .hbm, ⟨31, _⟩ => ⟨S32x1024x40x9, .f32⟩
  | .hbm, ⟨32, _⟩ => ⟨S32x1024x40x18, .f32⟩
  | .hbm, ⟨33, _⟩ => ⟨S32x18x1024x40, .f32⟩
  | .hbm, ⟨34, _⟩ => ⟨S32x1024x40x32, .f32⟩
  | .hbm, ⟨35, _⟩ => ⟨S32x32x1024x40, .f32⟩
  | .hbm, ⟨36, _⟩ => ⟨S_, .f32⟩
  | .hbm, ⟨37, _⟩ => ⟨S32x32x1024, .f32⟩
  | .hbm, ⟨38, _⟩ => ⟨S_, .f32⟩
  | .hbm, ⟨39, _⟩ => ⟨S32, .f32⟩
  | .hbm, ⟨40, _⟩ => ⟨S1x32, .f32⟩
  | .hbm, ⟨41, _⟩ => ⟨S32x32x1024x40, .f32⟩
  | .hbm, ⟨42, _⟩ => ⟨S_, .f32⟩
  | .hbm, ⟨43, _⟩ => ⟨S32, .f32⟩
  | .hbm, ⟨44, _⟩ => ⟨S1x32, .f32⟩
  | _, _ => ⟨S32x9x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_values : Ref sig .tc := ⟨.hbm, 17, rfl⟩
abbrev main_indices : Ref sig .tc := ⟨.hbm, 18, rfl⟩
abbrev main_v13 : Ref sig .tc := ⟨.hbm, 19, rfl⟩
abbrev main_c : Ref sig .tc := ⟨.hbm, 20, rfl⟩
abbrev main_v14 : Ref sig .tc := ⟨.hbm, 21, rfl⟩
abbrev main_v15 : Ref sig .tc := ⟨.hbm, 22, rfl⟩
abbrev main_c_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_2 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_4 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]
-- ==== Proof.Vocab.lean ====
module

public import proofs.«01_k».proof.Proof.Gen.KernelIdeal.Loops
import Idealize.ShloMosaic.Lib.Tactic.RunNames

@[expose] public section

/-! What one trip of the neighbour loop computes, spelled once per operation: the eight columns of a
band, the four bands of a group, the product with the block-diagonal weights, and one accumulation
step per neighbour row. -/

noncomputable section

namespace Cert.KernelIdeal.Layer

open Cert.KernelIdeal Cert.KernelIdeal.Gen Idealize.ShloMosaic Idealize.ShloMosaic.TcCoe Idealize.SL.Sem

variable {F : FTy → Type} [FloatOps F] [Named F]

/-- Column `o` of a 32 × 128 slice is a legal slice. -/
theorem col_slices (o : Fin 128) : S32x128.Slices ![0, o.val] S32x1 := by revert o; decide +kernel
/-- Rows `32 b … 32 b + 31` of the product are a legal slice. -/
theorem band_slices (b : Fin 4) : S128x8192.Slices ![32 * b.val, 0] S32x8192 := by revert b; decide +kernel
/-- Columns `1024 t … 1024 t + 1023` of a band are a legal slice. -/
theorem seg_slices (t : Fin 8) : S32x8192.Slices ![0, 1024 * t.val] S32x1024 := by revert t; decide +kernel
/-- Row `t` of eight mask rows is a legal slice. -/
theorem row_slices (t : Fin 8) : S8x1024.Slices ![t.val, 0] S1x1024 := by revert t; decide +kernel

/-- Neighbour `o`'s features, repeated over all points. -/
def neighCol (xsl : Vec F S32x128 .f32) (o : Fin 128) : FVec F S32x1024 .f32 :=
  broadcastTo S32x1024 (shapeCast S32x1 (extractStridedSlice S32x1 ![0, o.val] xsl (col_slices o))
    shapeCasts_S32x1_S32x1) broadcasts_S32x1_S32x1024

/-- Eight arrays side by side. -/
def beside (f : Fin 8 → FVec F S32x1024 .f32) : FVec F S32x8192 .f32 :=
  concatenate S32x8192 1 [⟨S32x1024, f 0⟩, ⟨S32x1024, f 1⟩, ⟨S32x1024, f 2⟩, ⟨S32x1024, f 3⟩,
    ⟨S32x1024, f 4⟩, ⟨S32x1024, f 5⟩, ⟨S32x1024, f 6⟩, ⟨S32x1024, f 7⟩]
    concatenates_S32x1024_S32x1024_S32x1024_S32x1024_S32x1024_S32x1024_S32x1024_S32x1024_S32x8192_d1

/-- The index of neighbour `t` of band `b` of group `s` within a trip. -/
def nb (s b : Fin 4) (t : Fin 8) : Fin 128 := ⟨32 * s.val + 8 * b.val + t.val, by omega⟩

/-- One band's features: differences over the points' own features. -/
def band (xsl : Vec F S32x128 .f32) (x : Vec F S32x1024 .f32) (s b : Fin 4) : FVec F S64x8192 .bf16 :=
  concatenate S64x8192 0
    [⟨S32x8192, truncf .bf16 (subf (beside fun t => neighCol xsl (nb s b t)) (beside fun _ => x)) bitsLt_bf16_f32⟩,
      ⟨S32x8192, truncf .bf16 (beside fun _ => x) bitsLt_bf16_f32⟩]
    concatenates_S32x8192_S32x8192_S64x8192_d0

/-- The four bands of a group, one above the other. -/
def quad (xsl : Vec F S32x128 .f32) (x : Vec F S32x1024 .f32) (s : Fin 4) : FVec F S256x8192 .bf16 :=
  concatenate S256x8192 0
    [⟨S64x8192, band xsl x s 0⟩, ⟨S64x8192, band xsl x s 1⟩, ⟨S64x8192, band xsl x s 2⟩, ⟨S64x8192, band xsl x s 3⟩]
    concatenates_S64x8192_S64x8192_S64x8192_S64x8192_S256x8192_d0

/-- The block-diagonal weights applied to a group. -/
def conv (w : Vec F S128x256 .bf16) (xsl : Vec F S32x128 .f32) (x : Vec F S32x1024 .f32) (s : Fin 4) :
    FVec F S128x8192 .f32 :=
  matmul dot_S128x256_S256x8192_S128x8192_1_0_0_1_n_n none (shapeCast S128x256 w shapeCasts_S128x256_S128x256)
    (quad xsl x s) (constant S128x8192 .f32 0x00000000#32)

/-- The output channels of neighbour `t` of band `b`. -/
def seg (y : FVec F S128x8192 .f32) (b : Fin 4) (t : Fin 8) : FVec F S32x1024 .f32 :=
  extractStridedSlice S32x1024 ![0, 1024 * t.val]
    (extractStridedSlice S32x8192 ![32 * b.val, 0] y (band_slices b)) (seg_slices t)

/-- Whether neighbour `t` of eight is selected, per point, repeated over the channels. -/
def chosen (m : Vec F S8x1024 .f32) (t : Fin 8) : IVec S32x1024 1 :=
  broadcastTo S32x1024 (shapeCast S1x1024 (cmpf .ogt (extractStridedSlice S1x1024 ![t.val, 0] m (row_slices t))
    (broadcast S1x1024 (Scalar.ofBits .f32 0x00000000#32))) shapeCasts_S1x1024_S1x1024)
    broadcasts_S1x1024_S32x1024

/-- A selected value, zero otherwise. -/
def kept (m : IVec S32x1024 1) (y : FVec F S32x1024 .f32) : FVec F S32x1024 .f32 :=
  select m y (broadcast S32x1024 (Scalar.ofBits .f32 0x00000000#32))

/-- One step of the running maximum. -/
def stepMax (m : IVec S32x1024 1) (y a : FVec F S32x1024 .f32) : FVec F S32x1024 .f32 :=
  maximumf a (select m y (broadcast S32x1024 (Named.named κ "neg" 0xFF61B1E6#32)))

/-- One step of the running sum. -/
def stepSum (m : IVec S32x1024 1) (y a : FVec F S32x1024 .f32) : FVec F S32x1024 .f32 :=
  addf a (kept m y)

/-- One step of the running sum of squares. -/
def stepSq (m : IVec S32x1024 1) (y a : FVec F S32x1024 .f32) : FVec F S32x1024 .f32 :=
  addf a (mulf (kept m y) y)

/-- Eight steps in order. -/
def eight {α : Type} (f : Fin 8 → α → α) (a : α) : α :=
  f 7 (f 6 (f 5 (f 4 (f 3 (f 2 (f 1 (f 0 a)))))))

/-- Four steps in order. -/
def four {α : Type} (f : Fin 4 → α → α) (a : α) : α := f 3 (f 2 (f 1 (f 0 a)))

/-- A trip's 128 steps in order. -/
def trip (step : IVec S32x1024 1 → FVec F S32x1024 .f32 → FVec F S32x1024 .f32 → FVec F S32x1024 .f32)
    (w : Vec F S128x256 .bf16) (xsl : Vec F S32x128 .f32) (x : Vec F S32x1024 .f32)
    (m : Fin 4 → Fin 4 → Vec F S8x1024 .f32) (a : FVec F S32x1024 .f32) : FVec F S32x1024 .f32 :=
  four (fun s => four fun b => eight fun t => step (chosen (m s b) t) (seg (conv w xsl x s) b t)) a

variable (c : Dev nD) (i : grid0.Coords) (arg1 : Memref sig .tc .vmem S1x32x1024 .f32) (harg1 : arg1.IsWhole) (arg2 : Memref sig .tc .vmem S32x1 .f32) (harg2 : arg2.IsWhole) (arg3 : Memref sig .tc .vmem S32x1 .f32) (harg3 : arg3.IsWhole) (arg4 : Memref sig .tc .vmem S1x32x1024 .f32) (harg4 : arg4.IsWhole) (arg5 : Memref sig .tc .vmem S128x256 .bf16) (harg5 : arg5.IsWhole) (arg6 : Memref sig .tc .vmem S1x32x1024 .f32) (harg6 : arg6.IsWhole) (arg7 : Memref sig .tc .vmem S1x32x1024 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S32x1024 .f32) (harg10 : arg10.IsWhole) (arg11 : Memref sig .tc .vmem S1024x1024 .f32) (harg11 : arg11.IsWhole) (arg12 : Memref sig .tc .vmem S32x1024 .f32) (harg12 : arg12.IsWhole) (arg13 : Memref sig .tc .vmem S32x1024 .f32) (harg13 : arg13.IsWhole)

/-- The weights as the loop loads them. -/
def ldW (X : BufTy.Contents (Elt F) arg5.view.ty) : Vec F S128x256 .bf16 :=
  View.readAt (Elt F) arg5.view (Rect.unit (s := S128x256) ![0, 0] S128x256.size inb_S128x256_S128x256_0_0).toLoadRect X

/-- A trip's 128 neighbours' features as the loop loads them. -/
def ldX (X : BufTy.Contents (Elt F) arg10.view.ty) (k : Fin k0_t2_loop.trips) : Vec F S32x128 .f32 :=
  View.readAt (Elt F) arg10.view (Rect.unit (s := S32x1024) (k0_off2 k) S32x128.size (k0_off2_inb k)).toLoadRect X

/-- Eight mask rows as the loop loads them. -/
def ldM (X : BufTy.Contents (Elt F) arg11.view.ty) (k : Fin k0_t2_loop.trips) (s b : Fin 4) : Vec F S8x1024 .f32 :=
  View.readAt (Elt F) arg11.view (Rect.unit (s := S1024x1024)
    (k0_off3 k (BitVec.ofNat 32 (32 * s.val)) (BitVec.ofNat 32 (8 * b.val))) S8x1024.size (k0_off3_inb k s b)).toLoadRect X

/-- A 32 × 1024 scratch buffer as the loop loads it. -/
def ldA (m : Memref sig .tc .vmem S32x1024 .f32) (X : BufTy.Contents (Elt F) m.view.ty) : Vec F S32x1024 .f32 :=
  View.readAt (Elt F) m.view (Rect.unit (s := S32x1024) ![0, 0] S32x1024.size inb_S32x1024_S32x1024_0_0).toLoadRect X

/-- The maximum buffer as the loop loads it. -/
def ldP (X : BufTy.Contents (Elt F) arg7.view.ty) : Vec F S1x32x1024 .f32 :=
  View.readAt (Elt F) arg7.view (Rect.unit (s := S1x32x1024) ![0, 0, 0] S1x32x1024.size inb_S1x32x1024_S1x32x1024_0_0_0).toLoadRect X

set_option maxRecDepth 65536 in
set_option maxHeartbeats 4000000 in
/-- What a trip stores: its 128 steps folded over what the three accumulators held. -/
theorem trip_eq (arg0 : BitVec 32) (v388 : Vec F S32x1024 .f32) (X_arg5 : BufTy.Contents (Elt F) arg5.view.ty) (X_arg10 : BufTy.Contents (Elt F) arg10.view.ty) (X_arg11 : BufTy.Contents (Elt F) arg11.view.ty) (k : Fin k0_t2_loop.trips) (f_arg7 : BufTy.Contents (Elt F) arg7.view.ty) (f_arg12 : BufTy.Contents (Elt F) arg12.view.ty) (f_arg13 : BufTy.Contents (Elt F) arg13.view.ty) :
    tripL_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg0 v388 X_arg5 X_arg10 X_arg11 k f_arg7 f_arg12 f_arg13 =
     ([⟨Rect.unit ![0, 0, 0] ![1, 32, 1024] inb_S1x32x1024_S1x32x1024_0_0_0,
        shapeCast S1x32x1024 (trip stepMax (ldW arg5 X_arg5) (ldX arg10 X_arg10 k) v388 (ldM arg11 X_arg11 k)
          (shapeCast S32x1024 (ldP arg7 f_arg7) shapeCasts_S1x32x1024_S32x1024)) shapeCasts_S32x1024_S1x32x1024⟩],
      [⟨Rect.unit ![0, 0] ![32, 1024] inb_S32x1024_S32x1024_0_0,
        shapeCast S32x1024 (trip stepSum (ldW arg5 X_arg5) (ldX arg10 X_arg10 k) v388 (ldM arg11 X_arg11 k) (ldA arg12 f_arg12)) shapeCasts_S32x1024_S32x1024⟩],
      [⟨Rect.unit ![0, 0] ![32, 1024] inb_S32x1024_S32x1024_0_0,
        shapeCast S32x1024 (trip stepSq (ldW arg5 X_arg5) (ldX arg10 X_arg10 k) v388 (ldM arg11 X_arg11 k) (ldA arg13 f_arg13)) shapeCasts_S32x1024_S32x1024⟩]) := by
  unfold tripL_k0_t2 trip_k0_t2
  dsimp only
  rfl

end Cert.KernelIdeal.Layer

end
-- ==== Proof.Loop.lean ====
module

public import proofs.«01_k».proof.Proof.Vocab
public import Idealize.ShloMosaic.Lib.VecWindow
public import Idealize.ShloMosaic.Lib.Pipeline.Value

@[expose] public section

/-! The two counted loops as recursions on values: the rank loop over the rows of the distance matrix, and the neighbour
loop over eight groups of 128 neighbours. -/

noncomputable section

namespace Cert.KernelIdeal.Layer

open Cert.KernelIdeal Cert.KernelIdeal.Gen Idealize.ShloMosaic Idealize.ShloMosaic.TcCoe Idealize.SL.Sem

variable {F : FTy → Type} [FloatOps F] [Named F]

/-- The rank loop runs 1024 times. -/
theorem trips1 : k0_t1_loop.trips = 1024 := by decide +kernel

/-- The neighbour loop runs eight times. -/
theorem trips2 : k0_t2_loop.trips = 8 := by decide +kernel

/-- Row `k` of a square matrix. -/
def rowAt (D : Vec F S1024x1024 .f32) (k : Fin k0_t1_loop.trips) : Vec F S1x1024 .f32 :=
  VecWindow.window D (k0_off1 k) S1x1024.size (k0_off1_inb k)

/-- One trip of the rank loop: one more where row `k` lies below. -/
def rankStep (D v : Vec F S1024x1024 .f32) (k : Fin k0_t1_loop.trips) (acc : IVec S1024x1024 32) : IVec S1024x1024 32 :=
  addi acc (extui 32 (cmpf .olt (broadcastTo S1024x1024 (rowAt D k) broadcasts_S1x1024_S1024x1024) v) natLt_1_32)

/-- The ranks after `k` trips. -/
def rankAfter (D v : Vec F S1024x1024 .f32) (acc : IVec S1024x1024 32) : ℕ → IVec S1024x1024 32
  | 0 => acc
  | k + 1 => if h : k < k0_t1_loop.trips then rankStep D v ⟨k, h⟩ (rankAfter D v acc k) else rankAfter D v acc k

/-- The 128 neighbours' features of trip `k`. -/
def colsAt (X : Vec F S32x1024 .f32) (k : Fin k0_t2_loop.trips) : Vec F S32x128 .f32 :=
  VecWindow.window X (k0_off2 k) S32x128.size (k0_off2_inb k)

/-- Eight mask rows of trip `k`. -/
def rowsAt (M : Vec F S1024x1024 .f32) (k : Fin k0_t2_loop.trips) (s b : Fin 4) : Vec F S8x1024 .f32 :=
  VecWindow.window M (k0_off3 k (BitVec.ofNat 32 (32 * s.val)) (BitVec.ofNat 32 (8 * b.val))) S8x1024.size (k0_off3_inb k s b)

/-- An accumulator after `k` trips of the neighbour loop. -/
def accAfter (step : IVec S32x1024 1 → FVec F S32x1024 .f32 → FVec F S32x1024 .f32 → FVec F S32x1024 .f32)
    (w : Vec F S128x256 .bf16) (X x : Vec F S32x1024 .f32) (M : Vec F S1024x1024 .f32) (a : FVec F S32x1024 .f32) :
    ℕ → FVec F S32x1024 .f32
  | 0 => a
  | k + 1 => if h : k < k0_t2_loop.trips then
      trip step w (colsAt X ⟨k, h⟩) x (rowsAt M ⟨k, h⟩) (accAfter step w X x M a k)
    else accAfter step w X x M a k

variable (c : Dev nD) (i : grid0.Coords) (arg1 : Memref sig .tc .vmem S1x32x1024 .f32) (harg1 : arg1.IsWhole) (arg2 : Memref sig .tc .vmem S32x1 .f32) (harg2 : arg2.IsWhole) (arg3 : Memref sig .tc .vmem S32x1 .f32) (harg3 : arg3.IsWhole) (arg4 : Memref sig .tc .vmem S1x32x1024 .f32) (harg4 : arg4.IsWhole) (arg5 : Memref sig .tc .vmem S128x256 .bf16) (harg5 : arg5.IsWhole) (arg6 : Memref sig .tc .vmem S1x32x1024 .f32) (harg6 : arg6.IsWhole) (arg7 : Memref sig .tc .vmem S1x32x1024 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S32x1024 .f32) (harg10 : arg10.IsWhole) (arg11 : Memref sig .tc .vmem S1024x1024 .f32) (harg11 : arg11.IsWhole) (arg12 : Memref sig .tc .vmem S32x1024 .f32) (harg12 : arg12.IsWhole) (arg13 : Memref sig .tc .vmem S32x1024 .f32) (harg13 : arg13.IsWhole)

set_option maxRecDepth 65536 in
/-- The rank loop's carried value is the recursion at the contents of the matrix. -/
theorem st_eq (v33 : FVec F S1024x1024 .f32) (v34 : IVec S1024x1024 32) (X_arg11 : BufTy.Contents (Elt F) arg11.view.ty)
    (init : IVec S1024x1024 32) (k : ℕ) (hk : k ≤ k0_t1_loop.trips) :
    st_k0_t1 (F := F) Variants.none c none i arg1 harg1 arg2 harg2 arg3 harg3 arg4 harg4 arg5 harg5 arg6 harg6 arg7 harg7 arg8 harg8 arg9 harg9 arg10 harg10 arg11 harg11 arg12 harg12 arg13 harg13 v33 v34 X_arg11 init k = rankAfter (arg11.view.read (Elt F) X_arg11) v33 init k := by
  induction k with
  | zero => rfl
  | succ k ih =>
    have h := st_k0_t1_succ (F := F) Variants.none c none i arg1 harg1 arg2 harg2 arg3 harg3 arg4 harg4 arg5 harg5 arg6 harg6 arg7 harg7 arg8 harg8 arg9 harg9 arg10 harg10 arg11 harg11 arg12 harg12 arg13 harg13 v33 v34 X_arg11 init ⟨k, hk⟩
    refine h.trans ?_
    rw [show rankAfter (arg11.view.read (Elt F) X_arg11) v33 init (k + 1)
      = rankStep (arg11.view.read (Elt F) X_arg11) v33 ⟨k, hk⟩ (rankAfter (arg11.view.read (Elt F) X_arg11) v33 init k) from dif_pos hk]
    rw [ih (by omega)]
    unfold tripR_k0_t1 trip_k0_t1
    rfl

/-- The trip's stores, read back. -/
theorem pb_read (arg0 : BitVec 32) (v388 : Vec F S32x1024 .f32) (X_arg5 : BufTy.Contents (Elt F) arg5.view.ty) (X_arg10 : BufTy.Contents (Elt F) arg10.view.ty) (X_arg11 : BufTy.Contents (Elt F) arg11.view.ty) (G_arg7 : BufTy.Contents (Elt F) arg7.view.ty) (G_arg12 : BufTy.Contents (Elt F) arg12.view.ty) (G_arg13 : BufTy.Contents (Elt F) arg13.view.ty)
    (k : ℕ) (hk : k ≤ k0_t2_loop.trips) :
    (shapeCast S32x1024 (arg7.view.read (Elt F) (arg7.view.writes (Elt F) G_arg7
        (pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg0 v388 X_arg5 X_arg10 X_arg11 G_arg7 G_arg12 G_arg13 k).1)) shapeCasts_S1x32x1024_S32x1024
      = accAfter stepMax (arg5.view.read (Elt F) X_arg5) (arg10.view.read (Elt F) X_arg10) v388 (arg11.view.read (Elt F) X_arg11)
          (shapeCast S32x1024 (arg7.view.read (Elt F) G_arg7) shapeCasts_S1x32x1024_S32x1024) k)
    ∧ (arg12.view.read (Elt F) (arg12.view.writes (Elt F) G_arg12
        (pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg0 v388 X_arg5 X_arg10 X_arg11 G_arg7 G_arg12 G_arg13 k).2.1)
      = accAfter stepSum (arg5.view.read (Elt F) X_arg5) (arg10.view.read (Elt F) X_arg10) v388 (arg11.view.read (Elt F) X_arg11)
          (arg12.view.read (Elt F) G_arg12) k)
    ∧ (arg13.view.read (Elt F) (arg13.view.writes (Elt F) G_arg13
        (pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg0 v388 X_arg5 X_arg10 X_arg11 G_arg7 G_arg12 G_arg13 k).2.2)
      = accAfter stepSq (arg5.view.read (Elt F) X_arg5) (arg10.view.read (Elt F) X_arg10) v388 (arg11.view.read (Elt F) X_arg11)
          (arg13.view.read (Elt F) G_arg13) k) := by
  induction k with
  | zero => exact ⟨rfl, rfl, rfl⟩
  | succ k ih =>
    obtain ⟨ih1, ih2, ih3⟩ := ih (by omega)
    have e : ∀ step a, accAfter (F := F) step (arg5.view.read (Elt F) X_arg5) (arg10.view.read (Elt F) X_arg10) v388 (arg11.view.read (Elt F) X_arg11) a (k + 1)
      = trip step (arg5.view.read (Elt F) X_arg5) (colsAt (arg10.view.read (Elt F) X_arg10) ⟨k, hk⟩) v388 (rowsAt (arg11.view.read (Elt F) X_arg11) ⟨k, hk⟩)
        (accAfter step (arg5.view.read (Elt F) X_arg5) (arg10.view.read (Elt F) X_arg10) v388 (arg11.view.read (Elt F) X_arg11) a k) :=
      fun step a => dif_pos hk
    have hw : ldW arg5 X_arg5 = arg5.view.read (Elt F) X_arg5 := View.readAt_full _ _ _
    have hx : ldX arg10 X_arg10 ⟨k, hk⟩ = colsAt (arg10.view.read (Elt F) X_arg10) ⟨k, hk⟩ := rfl
    have hm : ldM arg11 X_arg11 ⟨k, hk⟩ = rowsAt (arg11.view.read (Elt F) X_arg11) ⟨k, hk⟩ := rfl
    have h := pb_k0_t2_succ (F := F) Variants.none c none i arg1 harg1 arg2 harg2 arg3 harg3 arg4 harg4 arg5 harg5 arg6 harg6 arg7 harg7 arg8 harg8 arg9 harg9 arg10 harg10 arg11 harg11 arg12 harg12 arg13 harg13 arg0 v388 X_arg5 X_arg10 X_arg11 G_arg7 G_arg12 G_arg13 ⟨k, hk⟩
    rw [trip_eq] at h
    simp only [e]
    rw [show k + 1 = (⟨k, hk⟩ : Fin k0_t2_loop.trips).val + 1 from rfl, h]
    dsimp only [List.singleton_append]
    refine ⟨?_, ?_, ?_⟩
    · refine (congrArg (fun z => shapeCast S32x1024 z shapeCasts_S1x32x1024_S32x1024) (View.read_writes_full _ _ _ _ _)).trans ?_
      refine (shapeCast_shapeCast _ _ _).trans ?_
      rw [hw, hx, hm]
      congr 1
      rw [← ih1]
      congr 1
      exact View.readAt_full _ _ _
    · refine (View.read_writes_full _ _ _ _ _).trans ?_
      refine (shapeCast_self _ _).trans ?_
      rw [hw, hx, hm]
      congr 1
      rw [← ih2]
      exact View.readAt_full _ _ _
    · refine (View.read_writes_full _ _ _ _ _).trans ?_
      refine (shapeCast_self _ _).trans ?_
      rw [hw, hx, hm]
      congr 1
      rw [← ih3]
      exact View.readAt_full _ _ _

end Cert.KernelIdeal.Layer

end
-- ==== Proof.Bisect.lean ====
module

public import proofs.«01_k».proof.Proof.Loop
public import Idealize.ShloMosaic.Lib.Pointwise
import Idealize.ShloMosaic.Lib.IndicatorCount
import Idealize.ShloMosaic.Lib.Tactic.RunNames

@[expose] public section

/-! The selection of each point's forty nearest neighbours: a bisection on the words, bit by bit, and the mask it leaves. -/

noncomputable section

namespace Cert.KernelIdeal.Layer

open Cert.KernelIdeal Cert.KernelIdeal.Gen Idealize.ShloMosaic Idealize.ShloMosaic.TcCoe Idealize.SL.Sem
open Idealize.ShloMosaic.Pointwise

variable {F : FTy → Type} [FloatOps F] [Named F]

/-- Which entries of a column lie at or below the column's bound. -/
def below (u : IVec S1024x1024 32) (t : IVec S1x1024 32) : IVec S1024x1024 32 :=
  extui 32 (cmpi .ule u (broadcastTo S1024x1024 t broadcasts_S1x1024_S1024x1024)) natLt_1_32

/-- How many entries of each column lie at or below its bound. -/
def count (u : IVec S1024x1024 32) (t : IVec S1x1024 32) : IVec S1024 32 :=
  multiReductionI .add [0] S1024 (below u t) 0#32 reduces_S1024x1024_S1024 rfl

/-- One bit of the bisection: kept clear where forty entries already lie at or below. -/
def bitStep (u : IVec S1024x1024 32) (p : IVec S1x1024 32) (j : ℕ) : IVec S1x1024 32 :=
  select (shapeCast S1x1024 (cmpi .sge (count u (ori p (broadcast S1x1024 (BitVec.ofNat 32 (2 ^ j - 1))))) (broadcast S1024 40#32))
    shapeCasts_S1024_S1x1024) p (ori p (broadcast S1x1024 (BitVec.ofNat 32 (2 ^ j))))

/-- The bisection after `k` bits, from the highest. -/
def bitsAfter (u : IVec S1024x1024 32) : ℕ → IVec S1x1024 32
  | 0 => broadcast S1x1024 0#32
  | k + 1 => bitStep u (bitsAfter u k) (31 - k)

/-- The mask as the kernel computes it from the ranks. -/
def maskOf (v39 : IVec S1024x1024 32) : FVec F S1024x1024 .f32 :=
  let r1 := k0_pay617 v39
  let r2 := k0_pay618 v39
  let r3 := k0_pay619 v39
  let r4 := k0_pay620 r1 r2 r3
  let r5 := k0_pay621 r1 r2 r3
  let r6 := k0_pay622 r1 r4 r5
  let r7 := k0_pay623 r1 r4 r5
  let r8 := k0_pay624 r1 r6 r7
  let r9 := k0_pay625 r1 r8
  let r10 := k0_pay626 r1 r8
  let r11 := k0_pay627 r1 r9 r10
  let r12 := k0_pay628 r1 r9 r10
  k0_pay631 r1 (k0_pay629 r1 r11 r12) (k0_pay630 r1 r11 r12)

set_option maxRecDepth 65536 in
set_option maxHeartbeats 4000000 in
/-- The mask is the indicator of the words at or below the bound the bisection finds. -/
theorem maskOf_eq (v39 : IVec S1024x1024 32) :
    maskOf (F := F) v39 = shapeCast S1024x1024 (sitofp .f32 (below (k0_pay617 v39) (ori (bitsAfter (k0_pay617 v39) 28) (broadcast S1x1024 15#32)))) shapeCasts_S1024x1024_S1024x1024 := by
  unfold maskOf k0_pay631 k0_pay630 k0_pay629 k0_pay628 k0_pay627 k0_pay626 k0_pay625 k0_pay624 k0_pay623 k0_pay622 k0_pay621 k0_pay620 k0_pay619 k0_pay618
  dsimp only
  rfl

/-- A column's count at an index. -/
theorem count_apply (u : IVec S1024x1024 32) (t : IVec S1x1024 32) (n : Fin 1024) :
    count u t (ix1 n) = BitVec.ofNat 32 (Finset.univ.filter fun i : Fin 1024 => u (ix2 i n) ≤ t (ix2 0 n)).card := by
  pointwise [count, below]
  refine (IndicatorCount.fold_addi_setWidth_eq_card _ _).trans (congrArg _ (congrArg _ (Finset.filter_congr fun i _ => ?_)))
  show BitVec.ofBool ((u (ix2 i n)).ule (t (ix2 0 n))) = 1#1 ↔ _
  by_cases h : u (ix2 i n) ≤ t (ix2 0 n)
  · exact ⟨fun _ => h, fun _ => by rw [show (u (ix2 i n)).ule (t (ix2 0 n)) = true from decide_eq_true h]; rfl⟩
  · exact ⟨fun e => by rw [show (u (ix2 i n)).ule (t (ix2 0 n)) = false from decide_eq_false h] at e; exact absurd e (by decide), fun e => absurd e h⟩

/-- How many words of a column lie at or below a bound. -/
def tally (u : Fin 1024 → BitVec 32) (t : ℕ) : ℕ := (Finset.univ.filter fun i => (u i).toNat ≤ t).card

/-- A tally is at most 1024. -/
theorem tally_le (u : Fin 1024 → BitVec 32) (t : ℕ) : tally u t ≤ 1024 :=
  (Finset.card_le_univ _).trans (by simp)

/-- One bit of the bisection at a column. -/
theorem bitStep_apply (u : IVec S1024x1024 32) (p : IVec S1x1024 32) (j : ℕ) (n : Fin 1024) :
    bitStep u p j (ix2 0 n) = if 40 ≤ tally (fun i => u (ix2 i n)) (p (ix2 0 n) ||| BitVec.ofNat 32 (2 ^ j - 1)).toNat
      then p (ix2 0 n) else p (ix2 0 n) ||| BitVec.ofNat 32 (2 ^ j) := by
  have hc := count_apply u (ori p (broadcast S1x1024 (BitVec.ofNat 32 (2 ^ j - 1)))) n
  pointwise [bitStep]
  rw [hc]
  show (if BitVec.ofBool (BitVec.sle 40#32 (BitVec.ofNat 32 (tally (fun i => u (ix2 i n)) (p (ix2 0 n) ||| BitVec.ofNat 32 (2 ^ j - 1)).toNat))) = 1#1 then _ else _) = _
  have hle := tally_le (fun i => u (ix2 i n)) (p (ix2 0 n) ||| BitVec.ofNat 32 (2 ^ j - 1)).toNat
  generalize tally (fun i => u (ix2 i n)) (p (ix2 0 n) ||| BitVec.ofNat 32 (2 ^ j - 1)).toNat = N at hle
  have e : BitVec.sle 40#32 (BitVec.ofNat 32 N) = decide (40 ≤ N) := by
    rw [BitVec.sle_eq_decide, BitVec.toInt_eq_toNat_of_lt, BitVec.toInt_eq_toNat_of_lt]
    · simp only [BitVec.toNat_ofNat]
      rw [Nat.mod_eq_of_lt (by omega : N < 2 ^ 32)]
      simp
    · simp only [BitVec.toNat_ofNat]; omega
    · simp
  rw [e]
  by_cases h : 40 ≤ N
  · rw [if_pos h, decide_eq_true h]; rfl
  · rw [if_neg h, decide_eq_false h]; rfl

/-- Setting bits below a multiple adds them. -/
theorem or_low (q : BitVec 32) (J a : ℕ) (hJ : J ≤ 32) (hq : 2 ^ J ∣ q.toNat) (ha : a < 2 ^ J) (hb : a < 2 ^ 32) :
    (q ||| BitVec.ofNat 32 a).toNat = q.toNat + a := by
  obtain ⟨m, hm⟩ := hq
  rw [BitVec.toNat_or, BitVec.toNat_ofNat, Nat.mod_eq_of_lt hb, hm, Nat.two_pow_add_eq_or_of_lt ha]

/-- What the bisection keeps after `k` bits. -/
theorem bits_inv (u : IVec S1024x1024 32) (n : Fin 1024) (k : ℕ) (hk : k ≤ 28) :
    2 ^ (32 - k) ∣ (bitsAfter u k (ix2 0 n)).toNat
    ∧ (Finset.univ.filter fun i : Fin 1024 => (u (ix2 i n)).toNat < (bitsAfter u k (ix2 0 n)).toNat).card < 40
    ∧ 40 ≤ tally (fun i => u (ix2 i n)) ((bitsAfter u k (ix2 0 n)).toNat + (2 ^ (32 - k) - 1)) := by
  induction k with
  | zero =>
    have e : bitsAfter u 0 (ix2 0 n) = 0#32 := rfl
    rw [e]
    refine ⟨by simp, by simp, ?_⟩
    unfold tally
    rw [Finset.filter_true_of_mem]
    · simp
    · intro i _
      have := (u (ix2 i n)).isLt
      simp
      omega
  | succ k ih =>
    obtain ⟨h1, h2, h3⟩ := ih (by omega)
    have e : bitsAfter u (k + 1) (ix2 0 n) = _ := bitStep_apply u (bitsAfter u k) (31 - k) n
    rw [e]
    generalize bitsAfter u k (ix2 0 n) = q at h1 h2 h3
    have hJ : 32 - k = (31 - k) + 1 := by omega
    have hj : 32 - (k + 1) = 31 - k := by omega
    rw [hj]
    have hpow : 2 ^ (32 - k) = 2 * 2 ^ (31 - k) := by rw [hJ, pow_succ, Nat.mul_comm]
    have hpos : 0 < 2 ^ (31 - k) := Nat.two_pow_pos _
    have hlt : 2 ^ (31 - k) < 2 ^ 32 := Nat.pow_lt_pow_right (by omega) (by omega)
    rw [or_low q (32 - k) (2 ^ (31 - k) - 1) (by omega) h1 (by omega) (by omega)]
    have h2' : (q ||| BitVec.ofNat 32 (2 ^ (31 - k))).toNat = q.toNat + 2 ^ (31 - k) := or_low q (32 - k) _ (by omega) h1 (by omega) hlt
    have hd : 2 ^ (31 - k) ∣ q.toNat := (Nat.pow_dvd_pow 2 (by omega)).trans h1
    split_ifs with h
    · exact ⟨hd, h2, h⟩
    · rw [h2']
      refine ⟨(Nat.dvd_add_right hd).2 (dvd_refl _), ?_, ?_⟩
      · refine lt_of_le_of_lt (Finset.card_le_card fun i hi => ?_) (not_le.1 h)
        simp only [Finset.mem_filter, Finset.mem_univ, true_and] at hi ⊢
        omega
      · rw [show q.toNat + 2 ^ (31 - k) + (2 ^ (31 - k) - 1) = q.toNat + (2 ^ (32 - k) - 1) by omega]
        exact h3

/-- Words that are sixteen times a rank, forty of rank at most 39 and the others above: the bound selects the forty. -/
theorem selects (u : IVec S1024x1024 32) (n : Fin 1024) (T : Finset (Fin 1024)) (hT : T.card = 40)
    (hin : ∀ i ∈ T, (u (ix2 i n)).toNat ≤ 624) (hout : ∀ i ∉ T, 640 ≤ (u (ix2 i n)).toNat) (i : Fin 1024) :
    u (ix2 i n) ≤ bitsAfter u 28 (ix2 0 n) ||| 15#32 ↔ i ∈ T := by
  obtain ⟨h1, h2, h3⟩ := bits_inv u n 28 le_rfl
  have ho := or_low (bitsAfter u 28 (ix2 0 n)) 4 15 (by omega) h1 (by norm_num) (by norm_num)
  rw [BitVec.le_def, ho]
  generalize (bitsAfter u 28 (ix2 0 n)).toNat = q at *
  have h1' : 16 ∣ q := h1
  have hq : q < 640 := by
    by_contra hq
    have : T.card < 40 := lt_of_le_of_lt (Finset.card_le_card fun i hi => by
      simp only [Finset.mem_filter, Finset.mem_univ, true_and]
      have := hin i hi
      omega) h2
    omega
  have hsub : (Finset.univ.filter fun i : Fin 1024 => (u (ix2 i n)).toNat ≤ q + 15) ⊆ T := by
    intro i hi
    simp only [Finset.mem_filter, Finset.mem_univ, true_and] at hi
    by_contra hi'
    have := hout i hi'
    omega
  have heq := Finset.eq_of_subset_of_card_le hsub (by rw [hT]; exact h3)
  rw [← heq]
  simp

end Cert.KernelIdeal.Layer

end
-- ==== Proof.Mask.lean ====
module

public import proofs.«01_k».proof.Proof.Bisect
import Idealize.ShloMosaic.Lib.Pointwise

@[expose] public section

/-! The rank loop counts, for every entry of the distance matrix, the smaller entries of its column; the mask selects a
column's forty smallest entries. -/

noncomputable section

namespace Cert.KernelIdeal.Layer

open Cert.KernelIdeal Cert.KernelIdeal.Gen Idealize.ShloMosaic Idealize.ShloMosaic.TcCoe Idealize.SL.Sem
open Idealize.ShloMosaic.Pointwise

/-- A row of the matrix at an index. -/
theorem rowAt_apply (D : Vec Ideal S1024x1024 .f32) (k : Fin k0_t1_loop.trips) (h : k.val < 1024) (n : Fin 1024) :
    rowAt D k (ix2 0 n) = D (ix2 ⟨k.val, h⟩ n) := by
  refine congrArg D (funext fun d => ?_)
  have e := k0_off1_eq k
  refine Fin.ext ?_
  fin_cases d
  · simp [e]
  · simp [e]

/-- One trip of the rank loop at an index. -/
theorem rankStep_apply (D v : Vec Ideal S1024x1024 .f32) (k : Fin k0_t1_loop.trips) (k' : Fin 1024) (h : k'.val = k.val)
    (acc : IVec S1024x1024 32) (i n : Fin 1024) :
    rankStep D v k acc (ix2 i n) = acc (ix2 i n) + BitVec.ofNat 32 (if D (ix2 k' n) < v (ix2 i n) then 1 else 0) := by
  have hr : rowAt D k (ix2 0 n) = D (ix2 k' n) := by
    rw [rowAt_apply D k (by omega) n]
    exact congrArg D (congrArg (fun z => ix2 z n) (Fin.ext h.symm))
  generalize hd' : D (ix2 k' n) = d at hr ⊢
  pointwise [rankStep]
  rw [hr]
  refine congrArg (acc (ix2 i n) + ·) ?_
  by_cases hd : d < v (ix2 i n)
  · rw [if_pos hd, decide_eq_true hd]; rfl
  · rw [if_neg hd, decide_eq_false hd]; rfl

/-- The rank of an entry in its column after `k` trips. -/
theorem rankAfter_apply (D v : Vec Ideal S1024x1024 .f32) (i n : Fin 1024) (k : ℕ) (hk : k ≤ k0_t1_loop.trips) :
    rankAfter D v k0_pay614 k (ix2 i n)
      = BitVec.ofNat 32 (Finset.univ.filter fun j : Fin 1024 => j.val < k ∧ D (ix2 j n) < v (ix2 i n)).card := by
  induction k with
  | zero =>
    rw [Finset.filter_false_of_mem (by simp)]
    rfl
  | succ k ih =>
    have hk' : k < 1024 := by have := trips1; omega
    rw [show rankAfter D v k0_pay614 (k + 1) = rankStep D v ⟨k, hk⟩ (rankAfter D v k0_pay614 k) from dif_pos hk]
    rw [rankStep_apply D v ⟨k, hk⟩ ⟨k, hk'⟩ rfl, ih (by omega), ← BitVec.ofNat_add]
    congr 1
    have e : (Finset.univ.filter fun j : Fin 1024 => j.val < k + 1 ∧ D (ix2 j n) < v (ix2 i n))
      = (Finset.univ.filter fun j : Fin 1024 => j.val < k ∧ D (ix2 j n) < v (ix2 i n))
        ∪ (if D (ix2 (⟨k, hk'⟩ : Fin 1024) n) < v (ix2 i n) then {⟨k, hk'⟩} else ∅) := by
      ext j
      split_ifs with h
      · simp only [Finset.mem_filter, Finset.mem_univ, true_and, Finset.mem_union, Finset.mem_singleton]
        constructor
        · rintro ⟨h1, h2⟩
          rcases Nat.lt_succ_iff_lt_or_eq.1 h1 with h3 | h3
          · exact Or.inl ⟨h3, h2⟩
          · exact Or.inr (Fin.ext h3)
        · rintro (⟨h1, h2⟩ | rfl)
          · exact ⟨by omega, h2⟩
          · exact ⟨by simp, h⟩
      · simp only [Finset.mem_filter, Finset.mem_univ, true_and, Finset.union_empty]
        constructor
        · rintro ⟨h1, h2⟩
          rcases Nat.lt_succ_iff_lt_or_eq.1 h1 with h3 | h3
          · exact ⟨h3, h2⟩
          · exact absurd (by rwa [show j = ⟨k, hk'⟩ from Fin.ext h3] at h2) h
        · rintro ⟨h1, h2⟩
          exact ⟨by omega, h2⟩
    rw [e, Finset.card_union_of_disjoint]
    · split_ifs <;> rfl
    · split_ifs
      · rw [Finset.disjoint_singleton_right]
        simp
      · exact Finset.disjoint_empty_right _

/-- The ranks shifted left by four bits. -/
theorem shifted_apply (r : IVec S1024x1024 32) (i n : Fin 1024) (N : ℕ) (hN : N ≤ 1024) (h : r (ix2 i n) = BitVec.ofNat 32 N) :
    (k0_pay617 r (ix2 i n)).toNat = 16 * N := by
  have e : k0_pay617 r (ix2 i n) = r (ix2 i n) <<< (4 : ℕ) := by
    pointwise [k0_pay617]
    rfl
  rw [e, h, BitVec.toNat_shiftLeft, BitVec.toNat_ofNat]
  rw [Nat.mod_eq_of_lt (by omega : N < 2 ^ 32), Nat.shiftLeft_eq, Nat.mod_eq_of_lt (by omega)]
  omega

/-- The mask selects the forty entries of a column that lie below all others. -/
theorem mask_apply (D : Vec Ideal S1024x1024 .f32) (n : Fin 1024) (T : Finset (Fin 1024)) (hT : T.card = 40)
    (hlt : ∀ i ∈ T, ∀ j ∉ T, D (ix2 i n) < D (ix2 j n)) (i : Fin 1024) :
    0 < maskOf (F := Ideal) (rankAfter D D k0_pay614 k0_t1_loop.trips) (ix2 i n) ↔ i ∈ T := by
  have hr : ∀ i, rankAfter D D k0_pay614 k0_t1_loop.trips (ix2 i n)
      = BitVec.ofNat 32 (Finset.univ.filter fun j : Fin 1024 => D (ix2 j n) < D (ix2 i n)).card := by
    intro i
    rw [rankAfter_apply D D i n _ le_rfl]
    congr 2
    refine Finset.filter_congr fun j _ => ?_
    rw [trips1]
    simp
  generalize rankAfter D D k0_pay614 k0_t1_loop.trips = r at hr
  have hle : ∀ i, (Finset.univ.filter fun j : Fin 1024 => D (ix2 j n) < D (ix2 i n)).card ≤ 1024 :=
    fun i => (Finset.card_le_univ _).trans (by simp)
  have hs := selects (k0_pay617 r) n T hT (fun i hi => by
    rw [shifted_apply r i n _ (hle i) (hr i)]
    have : (Finset.univ.filter fun j : Fin 1024 => D (ix2 j n) < D (ix2 i n)).card < T.card := by
      refine Finset.card_lt_card ⟨fun j hj => ?_, fun h => ?_⟩
      · by_contra hj'
        exact absurd (lt_trans (Finset.mem_filter.1 hj).2 (hlt i hi j hj')) (lt_irrefl _)
      · exact absurd (Finset.mem_filter.1 (h hi)).2 (lt_irrefl _)
    omega) (fun i hi => by
    rw [shifted_apply r i n _ (hle i) (hr i)]
    have : T.card ≤ (Finset.univ.filter fun j : Fin 1024 => D (ix2 j n) < D (ix2 i n)).card :=
      Finset.card_le_card fun j hj => Finset.mem_filter.2 ⟨Finset.mem_univ _, hlt j hj i hi⟩
    omega) i
  rw [← hs, maskOf_eq]
  generalize k0_pay617 r = u
  generalize bitsAfter u 28 = p
  pointwise [below]
  by_cases h : u (ix2 i n) ≤ p (ix2 0 n) ||| 15#32
  · refine iff_of_true ?_ h
    rw [show IntOp.cmpi CmpIPredicate.ule (u (ix2 i n)) (IntOp.ori (p (ix2 0 n)) 15#32) = 1#1 from congrArg BitVec.ofBool (decide_eq_true h)]
    show (0 : EReal) < (((BitVec.setWidth 32 1#1).toInt : ℝ) : EReal)
    rw [show (BitVec.setWidth 32 1#1).toInt = 1 by decide]
    simp
  · refine iff_of_false ?_ h
    rw [show IntOp.cmpi CmpIPredicate.ule (u (ix2 i n)) (IntOp.ori (p (ix2 0 n)) 15#32) = 0#1 from congrArg BitVec.ofBool (decide_eq_false h)]
    show ¬ (0 : EReal) < (((BitVec.setWidth 32 0#1).toInt : ℝ) : EReal)
    rw [show (BitVec.setWidth 32 0#1).toInt = 0 by decide]
    simp

end Cert.KernelIdeal.Layer

end
-- ==== Proof.CaseA.lean ====
module

public import proofs.«01_k».proof.Proof.Mask
public import proofs.«01_k».proof.Proof.Gen.KernelIdeal.Frame
import Idealize.ShloMosaic.Lib.Tactic.RunNames

@[expose] public section

/-! What one grid point leaves in each output's buffer, in terms of the loops' recursions. -/

noncomputable section

namespace Cert.KernelIdeal.Layer

open Cert.KernelIdeal Cert.KernelIdeal.Gen Idealize.ShloMosaic Idealize.ShloMosaic.TcCoe Idealize.SL.Sem

variable {F : FTy → Type} [FloatOps F] [Named F]

/-- A block's points: the activated layer input. -/
abbrev blkX (x0 : Vec F S1x32x1024 .f32) (x1 x2 : Vec F S32x1 .f32) (x3 : Vec F S1x32x1024 .f32) : FVec F S32x1024 .f32 := k0_pay610 x0 x1 x2 x3

/-- A block's mask of neighbours. -/
def blkM (x0 : Vec F S1x32x1024 .f32) (x1 x2 : Vec F S32x1 .f32) (x3 : Vec F S1x32x1024 .f32) : FVec F S1024x1024 .f32 :=
  maskOf (rankAfter (k0_pay613 x0 x1 x2 x3) (k0_pay613 x0 x1 x2 x3) k0_pay614 k0_t1_loop.trips)

/-- A block's accumulator after the neighbour loop. -/
def blkAcc (step : IVec S32x1024 1 → FVec F S32x1024 .f32 → FVec F S32x1024 .f32 → FVec F S32x1024 .f32)
    (x0 : Vec F S1x32x1024 .f32) (x1 x2 : Vec F S32x1 .f32) (x3 : Vec F S1x32x1024 .f32) (x4 : Vec F S128x256 .bf16) (a : FVec F S32x1024 .f32) : FVec F S32x1024 .f32 :=
  accAfter step x4 (blkX x0 x1 x2 x3) (blkX x0 x1 x2 x3) (blkM x0 x1 x2 x3) a k0_t2_loop.trips

variable (c : Dev nD) (i : grid0.Coords) (arg1 : Memref sig .tc .vmem S1x32x1024 .f32) (harg1 : arg1.IsWhole) (arg2 : Memref sig .tc .vmem S32x1 .f32) (harg2 : arg2.IsWhole) (arg3 : Memref sig .tc .vmem S32x1 .f32) (harg3 : arg3.IsWhole) (arg4 : Memref sig .tc .vmem S1x32x1024 .f32) (harg4 : arg4.IsWhole) (arg5 : Memref sig .tc .vmem S128x256 .bf16) (harg5 : arg5.IsWhole) (arg6 : Memref sig .tc .vmem S1x32x1024 .f32) (harg6 : arg6.IsWhole) (arg7 : Memref sig .tc .vmem S1x32x1024 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S32x1024 .f32) (harg10 : arg10.IsWhole) (arg11 : Memref sig .tc .vmem S1024x1024 .f32) (harg11 : arg11.IsWhole) (arg12 : Memref sig .tc .vmem S32x1024 .f32) (harg12 : arg12.IsWhole) (arg13 : Memref sig .tc .vmem S32x1024 .f32) (harg13 : arg13.IsWhole)
    (x0 : Vec F S1x32x1024 .f32) (x1 x2 : Vec F S32x1 .f32) (x3 : Vec F S1x32x1024 .f32) (x4 : Vec F S128x256 .bf16) (xo7 xo8 : Vec F S1x32 .f32)

/-- The block's points as case A's loop loads them. -/
theorem vA : kernelRun0_A.sl.v c arg1 harg1 arg2 harg2 arg3 harg3 arg4 harg4 arg10 x0 x1 x2 x3 = blkX x0 x1 x2 x3 := by
  unfold kernelRun0_A.sl.v kernelRun0_A.sl.HS0_1
  rw [View.readCov_full]
  unfold k0_pay612
  dsimp only
  refine (shapeCast_self _ _).trans ?_
  rw [View.readAt_full, View.readAt_full, View.readAt_full, View.readAt_full, harg1.read_unread, harg2.read_unread, harg3.read_unread, harg4.read_unread]

/-- The distance matrix as case A computes it. -/
theorem rA : kernelRun0_A.sl.r c arg1 harg1 arg2 harg2 arg3 harg3 arg4 harg4 x0 x1 x2 x3 = k0_pay613 x0 x1 x2 x3 := by
  unfold kernelRun0_A.sl.r
  rw [View.readAt_full, View.readAt_full, View.readAt_full, View.readAt_full, harg1.read_unread, harg2.read_unread, harg3.read_unread, harg4.read_unread]

/-- The distance matrix as case A's rank loop reads it. -/
theorem dA : arg11.view.read (Elt F) (arg11.view.writes (Elt F) arg11.view.junk (kernelRun0_A.sl.HS1_1 c arg1 harg1 arg2 harg2 arg3 harg3 arg4 harg4 x0 x1 x2 x3))
    = k0_pay613 x0 x1 x2 x3 := by
  unfold kernelRun0_A.sl.HS1_1
  rw [View.read_writes_full, rA]
  unfold k0_pay615
  exact shapeCast_self _ _

set_option maxRecDepth 65536 in
/-- The mask as case A stores it. -/
theorem mA : k0_pay631 (kernelRun0_A.sl.r_1 c i arg1 harg1 arg2 harg2 arg3 harg3 arg4 harg4 arg5 harg5 arg6 harg6 arg7 harg7 arg8 harg8 arg9 harg9 arg10 harg10 arg11 harg11 arg12 harg12 arg13 harg13 x0 x1 x2 x3) (kernelRun0_A.sl.r_13 c i arg1 harg1 arg2 harg2 arg3 harg3 arg4 harg4 arg5 harg5 arg6 harg6 arg7 harg7 arg8 harg8 arg9 harg9 arg10 harg10 arg11 harg11 arg12 harg12 arg13 harg13 x0 x1 x2 x3) (kernelRun0_A.sl.r_14 c i arg1 harg1 arg2 harg2 arg3 harg3 arg4 harg4 arg5 harg5 arg6 harg6 arg7 harg7 arg8 harg8 arg9 harg9 arg10 harg10 arg11 harg11 arg12 harg12 arg13 harg13 x0 x1 x2 x3)
    = blkM (F := F) x0 x1 x2 x3 := by
  have h := st_eq c i arg1 harg1 arg2 harg2 arg3 harg3 arg4 harg4 arg5 harg5 arg6 harg6 arg7 harg7 arg8 harg8 arg9 harg9 arg10 harg10 arg11 harg11 arg12 harg12 arg13 harg13 (kernelRun0_A.sl.r c arg1 harg1 arg2 harg2 arg3 harg3 arg4 harg4 x0 x1 x2 x3) k0_pay614
    (arg11.view.writes (Elt F) arg11.view.junk (kernelRun0_A.sl.HS1_1 c arg1 harg1 arg2 harg2 arg3 harg3 arg4 harg4 x0 x1 x2 x3)) k0_pay614 k0_t1_loop.trips le_rfl
  rw [dA, rA] at h
  unfold blkM
  rw [← h, ← rA c arg1 harg1 arg2 harg2 arg3 harg3 arg4 harg4 x0 x1 x2 x3]
  rfl

/-- The neighbour loop's three accumulators in case A. -/
theorem accA (arg0 : BitVec 32) (G_arg7 : BufTy.Contents (Elt F) arg7.view.ty) (G_arg12 : BufTy.Contents (Elt F) arg12.view.ty) (G_arg13 : BufTy.Contents (Elt F) arg13.view.ty) :
    let L := pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg0
      (kernelRun0_A.sl.v c arg1 harg1 arg2 harg2 arg3 harg3 arg4 harg4 arg10 x0 x1 x2 x3) (harg5.unread x4)
      (arg10.view.writes (Elt F) arg10.view.junk (kernelRun0_A.sl.HS0_1 c arg1 harg1 arg2 harg2 arg3 harg3 arg4 harg4 x0 x1 x2 x3))
      (arg11.view.writes (Elt F) arg11.view.junk (⟨Rect.unit ![0, 0] ![1024, 1024] inb_S1024x1024_S1024x1024_0_0,
        k0_pay631 (kernelRun0_A.sl.r_1 c i arg1 harg1 arg2 harg2 arg3 harg3 arg4 harg4 arg5 harg5 arg6 harg6 arg7 harg7 arg8 harg8 arg9 harg9 arg10 harg10 arg11 harg11 arg12 harg12 arg13 harg13 x0 x1 x2 x3) (kernelRun0_A.sl.r_13 c i arg1 harg1 arg2 harg2 arg3 harg3 arg4 harg4 arg5 harg5 arg6 harg6 arg7 harg7 arg8 harg8 arg9 harg9 arg10 harg10 arg11 harg11 arg12 harg12 arg13 harg13 x0 x1 x2 x3) (kernelRun0_A.sl.r_14 c i arg1 harg1 arg2 harg2 arg3 harg3 arg4 harg4 arg5 harg5 arg6 harg6 arg7 harg7 arg8 harg8 arg9 harg9 arg10 harg10 arg11 harg11 arg12 harg12 arg13 harg13 x0 x1 x2 x3)⟩ ::
          kernelRun0_A.sl.HS1_1 c arg1 harg1 arg2 harg2 arg3 harg3 arg4 harg4 x0 x1 x2 x3))
      G_arg7 G_arg12 G_arg13 k0_t2_loop.trips
    (shapeCast S32x1024 (arg7.view.read (Elt F) (arg7.view.writes (Elt F) G_arg7 L.1)) shapeCasts_S1x32x1024_S32x1024
        = blkAcc stepMax x0 x1 x2 x3 x4 (shapeCast S32x1024 (arg7.view.read (Elt F) G_arg7) shapeCasts_S1x32x1024_S32x1024))
    ∧ (arg12.view.read (Elt F) (arg12.view.writes (Elt F) G_arg12 L.2.1) = blkAcc stepSum x0 x1 x2 x3 x4 (arg12.view.read (Elt F) G_arg12))
    ∧ (arg13.view.read (Elt F) (arg13.view.writes (Elt F) G_arg13 L.2.2) = blkAcc stepSq x0 x1 x2 x3 x4 (arg13.view.read (Elt F) G_arg13)) := by
  intro L
  have h := pb_read c i arg1 harg1 arg2 harg2 arg3 harg3 arg4 harg4 arg5 harg5 arg6 harg6 arg7 harg7 arg8 harg8 arg9 harg9 arg10 harg10 arg11 harg11 arg12 harg12 arg13 harg13 arg0 (kernelRun0_A.sl.v c arg1 harg1 arg2 harg2 arg3 harg3 arg4 harg4 arg10 x0 x1 x2 x3) (harg5.unread x4)
      (arg10.view.writes (Elt F) arg10.view.junk (kernelRun0_A.sl.HS0_1 c arg1 harg1 arg2 harg2 arg3 harg3 arg4 harg4 x0 x1 x2 x3))
      (arg11.view.writes (Elt F) arg11.view.junk (⟨Rect.unit ![0, 0] ![1024, 1024] inb_S1024x1024_S1024x1024_0_0,
        k0_pay631 (kernelRun0_A.sl.r_1 c i arg1 harg1 arg2 harg2 arg3 harg3 arg4 harg4 arg5 harg5 arg6 harg6 arg7 harg7 arg8 harg8 arg9 harg9 arg10 harg10 arg11 harg11 arg12 harg12 arg13 harg13 x0 x1 x2 x3) (kernelRun0_A.sl.r_13 c i arg1 harg1 arg2 harg2 arg3 harg3 arg4 harg4 arg5 harg5 arg6 harg6 arg7 harg7 arg8 harg8 arg9 harg9 arg10 harg10 arg11 harg11 arg12 harg12 arg13 harg13 x0 x1 x2 x3) (kernelRun0_A.sl.r_14 c i arg1 harg1 arg2 harg2 arg3 harg3 arg4 harg4 arg5 harg5 arg6 harg6 arg7 harg7 arg8 harg8 arg9 harg9 arg10 harg10 arg11 harg11 arg12 harg12 arg13 harg13 x0 x1 x2 x3)⟩ ::
          kernelRun0_A.sl.HS1_1 c arg1 harg1 arg2 harg2 arg3 harg3 arg4 harg4 x0 x1 x2 x3))
      G_arg7 G_arg12 G_arg13 k0_t2_loop.trips le_rfl
  have hm : arg11.view.read (Elt F) (arg11.view.writes (Elt F) arg11.view.junk (⟨Rect.unit ![0, 0] ![1024, 1024] inb_S1024x1024_S1024x1024_0_0,
        k0_pay631 (kernelRun0_A.sl.r_1 c i arg1 harg1 arg2 harg2 arg3 harg3 arg4 harg4 arg5 harg5 arg6 harg6 arg7 harg7 arg8 harg8 arg9 harg9 arg10 harg10 arg11 harg11 arg12 harg12 arg13 harg13 x0 x1 x2 x3) (kernelRun0_A.sl.r_13 c i arg1 harg1 arg2 harg2 arg3 harg3 arg4 harg4 arg5 harg5 arg6 harg6 arg7 harg7 arg8 harg8 arg9 harg9 arg10 harg10 arg11 harg11 arg12 harg12 arg13 harg13 x0 x1 x2 x3) (kernelRun0_A.sl.r_14 c i arg1 harg1 arg2 harg2 arg3 harg3 arg4 harg4 arg5 harg5 arg6 harg6 arg7 harg7 arg8 harg8 arg9 harg9 arg10 harg10 arg11 harg11 arg12 harg12 arg13 harg13 x0 x1 x2 x3)⟩ ::
          kernelRun0_A.sl.HS1_1 c arg1 harg1 arg2 harg2 arg3 harg3 arg4 harg4 x0 x1 x2 x3)) = blkM x0 x1 x2 x3 :=
    (View.read_writes_full _ _ _ _ _).trans (mA c i arg1 harg1 arg2 harg2 arg3 harg3 arg4 harg4 arg5 harg5 arg6 harg6 arg7 harg7 arg8 harg8 arg9 harg9 arg10 harg10 arg11 harg11 arg12 harg12 arg13 harg13 x0 x1 x2 x3)
  have hx : arg10.view.read (Elt F) (arg10.view.writes (Elt F) arg10.view.junk (kernelRun0_A.sl.HS0_1 c arg1 harg1 arg2 harg2 arg3 harg3 arg4 harg4 x0 x1 x2 x3)) = blkX x0 x1 x2 x3 := by
    refine Eq.trans ?_ (vA c arg1 harg1 arg2 harg2 arg3 harg3 arg4 harg4 arg10 x0 x1 x2 x3)
    exact (View.readAt_full _ _ _).symm
  have hv := vA c arg1 harg1 arg2 harg2 arg3 harg3 arg4 harg4 arg10 x0 x1 x2 x3
  rw [hm, hx, hv, harg5.read_unread] at h
  rw [← hv] at h
  unfold blkAcc
  rw [← hv]
  exact h

/-- Output 5: the block's points. -/
theorem out5_A (hc0 : cond0_0 i) (hc1 : ¬cond0_1 i) (hc2 : cond0_2 i) (hc3 : ¬cond0_3 i) : out0_A_5 c i arg1 harg1 arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 = shapeCast S1x32x1024 (blkX x0 x1 x2 x3) shapeCasts_S32x1024_S1x32x1024 := by
  unfold out0_A_5
  rw [View.read_writes_junk_eq_canon, ← View.read_writes_junk_eq_canon arg6.view]
  unfold kernelRun0_A
  dsimp only
  unfold kernelRun0_A.sl.H5_1
  rw [View.read_writes_full]
  unfold k0_pay611
  dsimp only
  rw [View.readAt_full, View.readAt_full, View.readAt_full, View.readAt_full, harg1.read_unread, harg2.read_unread, harg3.read_unread, harg4.read_unread]

/-- Output 6: the maximum over the selected neighbours. -/
theorem out6_A (hc0 : cond0_0 i) (hc1 : ¬cond0_1 i) (hc2 : cond0_2 i) (hc3 : ¬cond0_3 i) : shapeCast S32x1024 (out0_A_6 c i arg1 harg1 arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4) shapeCasts_S1x32x1024_S32x1024
    = blkAcc stepMax x0 x1 x2 x3 x4 (shapeCast S32x1024 k0_pay634 shapeCasts_S1x32x1024_S32x1024) := by
  unfold out0_A_6
  rw [View.read_writes_junk_eq_canon, ← View.read_writes_junk_eq_canon arg7.view]
  unfold kernelRun0_A
  dsimp only
  rw [View.writes_append]
  refine (accA c i arg1 harg1 arg2 harg2 arg3 harg3 arg4 harg4 arg5 harg5 arg6 harg6 arg7 harg7 arg8 harg8 arg9 harg9 arg10 harg10 arg11 harg11 arg12 harg12 arg13 harg13 x0 x1 x2 x3 x4 _ _ _ _).1.trans ?_
  unfold kernelRun0_A.sl.H6_1
  rw [View.read_writes_full]

/-- The sums as case A loads them after the loop. -/
theorem v404A : kernelRun0_A.sl.v404 c i arg1 harg1 arg2 harg2 arg3 harg3 arg4 harg4 arg5 harg5 arg6 harg6 arg7 harg7 arg8 harg8 arg9 harg9 arg10 harg10 arg11 harg11 arg12 harg12 arg13 harg13 x0 x1 x2 x3 x4 = blkAcc stepSum x0 x1 x2 x3 x4 k0_pay635 := by
  unfold kernelRun0_A.sl.v404
  refine (View.readAt_full _ _ _).trans ?_
  rw [View.writes_append]
  refine (accA c i arg1 harg1 arg2 harg2 arg3 harg3 arg4 harg4 arg5 harg5 arg6 harg6 arg7 harg7 arg8 harg8 arg9 harg9 arg10 harg10 arg11 harg11 arg12 harg12 arg13 harg13 x0 x1 x2 x3 x4 _ _ _ _).2.1.trans ?_
  unfold kernelRun0_A.sl.HS2_1
  rw [View.read_writes_full]

/-- The sums of squares as case A loads them after the loop. -/
theorem v406A : kernelRun0_A.sl.v406 c i arg1 harg1 arg2 harg2 arg3 harg3 arg4 harg4 arg5 harg5 arg6 harg6 arg7 harg7 arg8 harg8 arg9 harg9 arg10 harg10 arg11 harg11 arg12 harg12 arg13 harg13 x0 x1 x2 x3 x4 = blkAcc stepSq x0 x1 x2 x3 x4 k0_pay636 := by
  unfold kernelRun0_A.sl.v406
  refine (View.readAt_full _ _ _).trans ?_
  rw [View.writes_append]
  refine (accA c i arg1 harg1 arg2 harg2 arg3 harg3 arg4 harg4 arg5 harg5 arg6 harg6 arg7 harg7 arg8 harg8 arg9 harg9 arg10 harg10 arg11 harg11 arg12 harg12 arg13 harg13 x0 x1 x2 x3 x4 _ _ _ _).2.2.trans ?_
  unfold kernelRun0_A.sl.HS3_1
  rw [View.read_writes_full]

/-- Output 7: the sums, added to what the point before left. -/
theorem out7_A (hc0 : cond0_0 i) (hc1 : ¬cond0_1 i) (hc2 : cond0_2 i) (hc3 : ¬cond0_3 i) : out0_A_7 c i arg1 harg1 arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 = k0_pay637 (blkAcc stepSum x0 x1 x2 x3 x4 k0_pay635) := by
  unfold out0_A_7
  rw [View.read_writes_junk_eq_canon, ← View.read_writes_junk_eq_canon arg8.view]
  unfold kernelRun0_A
  dsimp only
  rw [View.read_writes_full, v404A]

/-- Output 8: the sums of squares, added to what the point before left. -/
theorem out8_A (hc0 : cond0_0 i) (hc1 : ¬cond0_1 i) (hc2 : cond0_2 i) (hc3 : ¬cond0_3 i) : out0_A_8 c i arg1 harg1 arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 = k0_pay639 (blkAcc stepSq x0 x1 x2 x3 x4 k0_pay636) := by
  unfold out0_A_8
  rw [View.read_writes_junk_eq_canon, ← View.read_writes_junk_eq_canon arg9.view]
  unfold kernelRun0_A
  dsimp only
  rw [View.read_writes_full]
  unfold kernelRun0_A.sl.r_15
  rw [v406A]

end Cert.KernelIdeal.Layer

end
-- ==== Proof.CaseB.lean ====
module

public import proofs.«01_k».proof.Proof.CaseA
public import proofs.«01_k».proof.Proof.Gen.KernelIdeal.Frame
import Idealize.ShloMosaic.Lib.Tactic.RunNames

@[expose] public section

/-! What one grid point leaves in each output's buffer, in terms of the loops' recursions. -/

noncomputable section

namespace Cert.KernelIdeal.Layer

open Cert.KernelIdeal Cert.KernelIdeal.Gen Idealize.ShloMosaic Idealize.ShloMosaic.TcCoe Idealize.SL.Sem

variable {F : FTy → Type} [FloatOps F] [Named F]

variable (c : Dev nD) (i : grid0.Coords) (arg1 : Memref sig .tc .vmem S1x32x1024 .f32) (harg1 : arg1.IsWhole) (arg2 : Memref sig .tc .vmem S32x1 .f32) (harg2 : arg2.IsWhole) (arg3 : Memref sig .tc .vmem S32x1 .f32) (harg3 : arg3.IsWhole) (arg4 : Memref sig .tc .vmem S1x32x1024 .f32) (harg4 : arg4.IsWhole) (arg5 : Memref sig .tc .vmem S128x256 .bf16) (harg5 : arg5.IsWhole) (arg6 : Memref sig .tc .vmem S1x32x1024 .f32) (harg6 : arg6.IsWhole) (arg7 : Memref sig .tc .vmem S1x32x1024 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S32x1024 .f32) (harg10 : arg10.IsWhole) (arg11 : Memref sig .tc .vmem S1024x1024 .f32) (harg11 : arg11.IsWhole) (arg12 : Memref sig .tc .vmem S32x1024 .f32) (harg12 : arg12.IsWhole) (arg13 : Memref sig .tc .vmem S32x1024 .f32) (harg13 : arg13.IsWhole)
    (x0 : Vec F S1x32x1024 .f32) (x1 x2 : Vec F S32x1 .f32) (x3 : Vec F S1x32x1024 .f32) (x4 : Vec F S128x256 .bf16) (xo7 xo8 : Vec F S1x32 .f32)

/-- The block's points as case B's loop loads them. -/
theorem vB : kernelRun0_B.sl.v c arg1 harg1 arg2 harg2 arg3 harg3 arg4 harg4 arg10 x0 x1 x2 x3 = blkX x0 x1 x2 x3 := by
  unfold kernelRun0_B.sl.v kernelRun0_B.sl.HS0_1
  rw [View.readCov_full]
  unfold k0_pay612
  dsimp only
  refine (shapeCast_self _ _).trans ?_
  rw [View.readAt_full, View.readAt_full, View.readAt_full, View.readAt_full, harg1.read_unread, harg2.read_unread, harg3.read_unread, harg4.read_unread]

/-- The distance matrix as case B computes it. -/
theorem rB : kernelRun0_B.sl.r c arg1 harg1 arg2 harg2 arg3 harg3 arg4 harg4 x0 x1 x2 x3 = k0_pay613 x0 x1 x2 x3 := by
  unfold kernelRun0_B.sl.r
  rw [View.readAt_full, View.readAt_full, View.readAt_full, View.readAt_full, harg1.read_unread, harg2.read_unread, harg3.read_unread, harg4.read_unread]

/-- The distance matrix as case B's rank loop reads it. -/
theorem dB : arg11.view.read (Elt F) (arg11.view.writes (Elt F) arg11.view.junk (kernelRun0_B.sl.HS1_1 c arg1 harg1 arg2 harg2 arg3 harg3 arg4 harg4 x0 x1 x2 x3))
    = k0_pay613 x0 x1 x2 x3 := by
  unfold kernelRun0_B.sl.HS1_1
  rw [View.read_writes_full, rB]
  unfold k0_pay615
  exact shapeCast_self _ _

set_option maxRecDepth 65536 in
/-- The mask as case B stores it. -/
theorem mB : k0_pay631 (kernelRun0_B.sl.r_1 c i arg1 harg1 arg2 harg2 arg3 harg3 arg4 harg4 arg5 harg5 arg6 harg6 arg7 harg7 arg8 harg8 arg9 harg9 arg10 harg10 arg11 harg11 arg12 harg12 arg13 harg13 x0 x1 x2 x3) (kernelRun0_B.sl.r_13 c i arg1 harg1 arg2 harg2 arg3 harg3 arg4 harg4 arg5 harg5 arg6 harg6 arg7 harg7 arg8 harg8 arg9 harg9 arg10 harg10 arg11 harg11 arg12 harg12 arg13 harg13 x0 x1 x2 x3) (kernelRun0_B.sl.r_14 c i arg1 harg1 arg2 harg2 arg3 harg3 arg4 harg4 arg5 harg5 arg6 harg6 arg7 harg7 arg8 harg8 arg9 harg9 arg10 harg10 arg11 harg11 arg12 harg12 arg13 harg13 x0 x1 x2 x3)
    = blkM (F := F) x0 x1 x2 x3 := by
  have h := st_eq c i arg1 harg1 arg2 harg2 arg3 harg3 arg4 harg4 arg5 harg5 arg6 harg6 arg7 harg7 arg8 harg8 arg9 harg9 arg10 harg10 arg11 harg11 arg12 harg12 arg13 harg13 (kernelRun0_B.sl.r c arg1 harg1 arg2 harg2 arg3 harg3 arg4 harg4 x0 x1 x2 x3) k0_pay614
    (arg11.view.writes (Elt F) arg11.view.junk (kernelRun0_B.sl.HS1_1 c arg1 harg1 arg2 harg2 arg3 harg3 arg4 harg4 x0 x1 x2 x3)) k0_pay614 k0_t1_loop.trips le_rfl
  rw [dB, rB] at h
  unfold blkM
  rw [← h, ← rB c arg1 harg1 arg2 harg2 arg3 harg3 arg4 harg4 x0 x1 x2 x3]
  rfl

/-- The neighbour loop's three accumulators in case B. -/
theorem accB (arg0 : BitVec 32) (G_arg7 : BufTy.Contents (Elt F) arg7.view.ty) (G_arg12 : BufTy.Contents (Elt F) arg12.view.ty) (G_arg13 : BufTy.Contents (Elt F) arg13.view.ty) :
    let L := pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg0
      (kernelRun0_B.sl.v c arg1 harg1 arg2 harg2 arg3 harg3 arg4 harg4 arg10 x0 x1 x2 x3) (harg5.unread x4)
      (arg10.view.writes (Elt F) arg10.view.junk (kernelRun0_B.sl.HS0_1 c arg1 harg1 arg2 harg2 arg3 harg3 arg4 harg4 x0 x1 x2 x3))
      (arg11.view.writes (Elt F) arg11.view.junk (⟨Rect.unit ![0, 0] ![1024, 1024] inb_S1024x1024_S1024x1024_0_0,
        k0_pay631 (kernelRun0_B.sl.r_1 c i arg1 harg1 arg2 harg2 arg3 harg3 arg4 harg4 arg5 harg5 arg6 harg6 arg7 harg7 arg8 harg8 arg9 harg9 arg10 harg10 arg11 harg11 arg12 harg12 arg13 harg13 x0 x1 x2 x3) (kernelRun0_B.sl.r_13 c i arg1 harg1 arg2 harg2 arg3 harg3 arg4 harg4 arg5 harg5 arg6 harg6 arg7 harg7 arg8 harg8 arg9 harg9 arg10 harg10 arg11 harg11 arg12 harg12 arg13 harg13 x0 x1 x2 x3) (kernelRun0_B.sl.r_14 c i arg1 harg1 arg2 harg2 arg3 harg3 arg4 harg4 arg5 harg5 arg6 harg6 arg7 harg7 arg8 harg8 arg9 harg9 arg10 harg10 arg11 harg11 arg12 harg12 arg13 harg13 x0 x1 x2 x3)⟩ ::
          kernelRun0_B.sl.HS1_1 c arg1 harg1 arg2 harg2 arg3 harg3 arg4 harg4 x0 x1 x2 x3))
      G_arg7 G_arg12 G_arg13 k0_t2_loop.trips
    (shapeCast S32x1024 (arg7.view.read (Elt F) (arg7.view.writes (Elt F) G_arg7 L.1)) shapeCasts_S1x32x1024_S32x1024
        = blkAcc stepMax x0 x1 x2 x3 x4 (shapeCast S32x1024 (arg7.view.read (Elt F) G_arg7) shapeCasts_S1x32x1024_S32x1024))
    ∧ (arg12.view.read (Elt F) (arg12.view.writes (Elt F) G_arg12 L.2.1) = blkAcc stepSum x0 x1 x2 x3 x4 (arg12.view.read (Elt F) G_arg12))
    ∧ (arg13.view.read (Elt F) (arg13.view.writes (Elt F) G_arg13 L.2.2) = blkAcc stepSq x0 x1 x2 x3 x4 (arg13.view.read (Elt F) G_arg13)) := by
  intro L
  have h := pb_read c i arg1 harg1 arg2 harg2 arg3 harg3 arg4 harg4 arg5 harg5 arg6 harg6 arg7 harg7 arg8 harg8 arg9 harg9 arg10 harg10 arg11 harg11 arg12 harg12 arg13 harg13 arg0 (kernelRun0_B.sl.v c arg1 harg1 arg2 harg2 arg3 harg3 arg4 harg4 arg10 x0 x1 x2 x3) (harg5.unread x4)
      (arg10.view.writes (Elt F) arg10.view.junk (kernelRun0_B.sl.HS0_1 c arg1 harg1 arg2 harg2 arg3 harg3 arg4 harg4 x0 x1 x2 x3))
      (arg11.view.writes (Elt F) arg11.view.junk (⟨Rect.unit ![0, 0] ![1024, 1024] inb_S1024x1024_S1024x1024_0_0,
        k0_pay631 (kernelRun0_B.sl.r_1 c i arg1 harg1 arg2 harg2 arg3 harg3 arg4 harg4 arg5 harg5 arg6 harg6 arg7 harg7 arg8 harg8 arg9 harg9 arg10 harg10 arg11 harg11 arg12 harg12 arg13 harg13 x0 x1 x2 x3) (kernelRun0_B.sl.r_13 c i arg1 harg1 arg2 harg2 arg3 harg3 arg4 harg4 arg5 harg5 arg6 harg6 arg7 harg7 arg8 harg8 arg9 harg9 arg10 harg10 arg11 harg11 arg12 harg12 arg13 harg13 x0 x1 x2 x3) (kernelRun0_B.sl.r_14 c i arg1 harg1 arg2 harg2 arg3 harg3 arg4 harg4 arg5 harg5 arg6 harg6 arg7 harg7 arg8 harg8 arg9 harg9 arg10 harg10 arg11 harg11 arg12 harg12 arg13 harg13 x0 x1 x2 x3)⟩ ::
          kernelRun0_B.sl.HS1_1 c arg1 harg1 arg2 harg2 arg3 harg3 arg4 harg4 x0 x1 x2 x3))
      G_arg7 G_arg12 G_arg13 k0_t2_loop.trips le_rfl
  have hm : arg11.view.read (Elt F) (arg11.view.writes (Elt F) arg11.view.junk (⟨Rect.unit ![0, 0] ![1024, 1024] inb_S1024x1024_S1024x1024_0_0,
        k0_pay631 (kernelRun0_B.sl.r_1 c i arg1 harg1 arg2 harg2 arg3 harg3 arg4 harg4 arg5 harg5 arg6 harg6 arg7 harg7 arg8 harg8 arg9 harg9 arg10 harg10 arg11 harg11 arg12 harg12 arg13 harg13 x0 x1 x2 x3) (kernelRun0_B.sl.r_13 c i arg1 harg1 arg2 harg2 arg3 harg3 arg4 harg4 arg5 harg5 arg6 harg6 arg7 harg7 arg8 harg8 arg9 harg9 arg10 harg10 arg11 harg11 arg12 harg12 arg13 harg13 x0 x1 x2 x3) (kernelRun0_B.sl.r_14 c i arg1 harg1 arg2 harg2 arg3 harg3 arg4 harg4 arg5 harg5 arg6 harg6 arg7 harg7 arg8 harg8 arg9 harg9 arg10 harg10 arg11 harg11 arg12 harg12 arg13 harg13 x0 x1 x2 x3)⟩ ::
          kernelRun0_B.sl.HS1_1 c arg1 harg1 arg2 harg2 arg3 harg3 arg4 harg4 x0 x1 x2 x3)) = blkM x0 x1 x2 x3 :=
    (View.read_writes_full _ _ _ _ _).trans (mB c i arg1 harg1 arg2 harg2 arg3 harg3 arg4 harg4 arg5 harg5 arg6 harg6 arg7 harg7 arg8 harg8 arg9 harg9 arg10 harg10 arg11 harg11 arg12 harg12 arg13 harg13 x0 x1 x2 x3)
  have hx : arg10.view.read (Elt F) (arg10.view.writes (Elt F) arg10.view.junk (kernelRun0_B.sl.HS0_1 c arg1 harg1 arg2 harg2 arg3 harg3 arg4 harg4 x0 x1 x2 x3)) = blkX x0 x1 x2 x3 := by
    refine Eq.trans ?_ (vB c arg1 harg1 arg2 harg2 arg3 harg3 arg4 harg4 arg10 x0 x1 x2 x3)
    exact (View.readAt_full _ _ _).symm
  have hv := vB c arg1 harg1 arg2 harg2 arg3 harg3 arg4 harg4 arg10 x0 x1 x2 x3
  rw [hm, hx, hv, harg5.read_unread] at h
  rw [← hv] at h
  unfold blkAcc
  rw [← hv]
  exact h

/-- Output 5: the block's points. -/
theorem out5_B (hc0 : ¬cond0_0 i) (hc1 : cond0_1 i) (hc2 : ¬cond0_2 i) (hc3 : cond0_3 i) : out0_B_5 c i arg1 harg1 arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 xo7 xo8 = shapeCast S1x32x1024 (blkX x0 x1 x2 x3) shapeCasts_S32x1024_S1x32x1024 := by
  unfold out0_B_5
  rw [View.read_writes_junk_eq_canon, ← View.read_writes_junk_eq_canon arg6.view]
  unfold kernelRun0_B
  dsimp only
  unfold kernelRun0_B.sl.H5_1
  rw [View.read_writes_full]
  unfold k0_pay611
  dsimp only
  rw [View.readAt_full, View.readAt_full, View.readAt_full, View.readAt_full, harg1.read_unread, harg2.read_unread, harg3.read_unread, harg4.read_unread]

/-- Output 6: the maximum over the selected neighbours. -/
theorem out6_B (hc0 : ¬cond0_0 i) (hc1 : cond0_1 i) (hc2 : ¬cond0_2 i) (hc3 : cond0_3 i) : shapeCast S32x1024 (out0_B_6 c i arg1 harg1 arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 xo7 xo8) shapeCasts_S1x32x1024_S32x1024
    = blkAcc stepMax x0 x1 x2 x3 x4 (shapeCast S32x1024 k0_pay634 shapeCasts_S1x32x1024_S32x1024) := by
  unfold out0_B_6
  rw [View.read_writes_junk_eq_canon, ← View.read_writes_junk_eq_canon arg7.view]
  unfold kernelRun0_B
  dsimp only
  rw [View.writes_append]
  refine (accB c i arg1 harg1 arg2 harg2 arg3 harg3 arg4 harg4 arg5 harg5 arg6 harg6 arg7 harg7 arg8 harg8 arg9 harg9 arg10 harg10 arg11 harg11 arg12 harg12 arg13 harg13 x0 x1 x2 x3 x4 _ _ _ _).1.trans ?_
  unfold kernelRun0_B.sl.H6_1
  rw [View.read_writes_full]

/-- The sums as case B loads them after the loop. -/
theorem v404B : kernelRun0_B.sl.v404 c i arg1 harg1 arg2 harg2 arg3 harg3 arg4 harg4 arg5 harg5 arg6 harg6 arg7 harg7 arg8 harg8 arg9 harg9 arg10 harg10 arg11 harg11 arg12 harg12 arg13 harg13 x0 x1 x2 x3 x4 = blkAcc stepSum x0 x1 x2 x3 x4 k0_pay635 := by
  unfold kernelRun0_B.sl.v404
  refine (View.readAt_full _ _ _).trans ?_
  rw [View.writes_append]
  refine (accB c i arg1 harg1 arg2 harg2 arg3 harg3 arg4 harg4 arg5 harg5 arg6 harg6 arg7 harg7 arg8 harg8 arg9 harg9 arg10 harg10 arg11 harg11 arg12 harg12 arg13 harg13 x0 x1 x2 x3 x4 _ _ _ _).2.1.trans ?_
  unfold kernelRun0_B.sl.HS2_1
  rw [View.read_writes_full]

/-- The sums of squares as case B loads them after the loop. -/
theorem v406B : kernelRun0_B.sl.v406 c i arg1 harg1 arg2 harg2 arg3 harg3 arg4 harg4 arg5 harg5 arg6 harg6 arg7 harg7 arg8 harg8 arg9 harg9 arg10 harg10 arg11 harg11 arg12 harg12 arg13 harg13 x0 x1 x2 x3 x4 = blkAcc stepSq x0 x1 x2 x3 x4 k0_pay636 := by
  unfold kernelRun0_B.sl.v406
  refine (View.readAt_full _ _ _).trans ?_
  rw [View.writes_append]
  refine (accB c i arg1 harg1 arg2 harg2 arg3 harg3 arg4 harg4 arg5 harg5 arg6 harg6 arg7 harg7 arg8 harg8 arg9 harg9 arg10 harg10 arg11 harg11 arg12 harg12 arg13 harg13 x0 x1 x2 x3 x4 _ _ _ _).2.2.trans ?_
  unfold kernelRun0_B.sl.HS3_1
  rw [View.read_writes_full]

/-- Output 7: the sums, added to what the point before left. -/
theorem out7_B (hc0 : ¬cond0_0 i) (hc1 : cond0_1 i) (hc2 : ¬cond0_2 i) (hc3 : cond0_3 i) : out0_B_7 c i arg1 harg1 arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 xo7 xo8 = k0_pay638 (blkAcc stepSum x0 x1 x2 x3 x4 k0_pay635) xo7 := by
  unfold out0_B_7
  rw [View.read_writes_junk_eq_canon, ← View.read_writes_junk_eq_canon arg8.view]
  unfold kernelRun0_B
  dsimp only
  rw [View.read_writes_full, v404B]
  refine congrArg _ ((View.readAt_full _ _ _).trans (harg8.read_unread _))

/-- Output 8: the sums of squares, added to what the point before left. -/
theorem out8_B (hc0 : ¬cond0_0 i) (hc1 : cond0_1 i) (hc2 : ¬cond0_2 i) (hc3 : cond0_3 i) : out0_B_8 c i arg1 harg1 arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 xo7 xo8 = k0_pay1 (k0_pay639 (blkAcc stepSq x0 x1 x2 x3 x4 k0_pay636)) xo8 := by
  unfold out0_B_8
  rw [View.read_writes_junk_eq_canon, ← View.read_writes_junk_eq_canon arg9.view]
  unfold kernelRun0_B
  dsimp only
  rw [View.read_writes_full]
  unfold kernelRun0_B.sl.r_15
  rw [v406B]
  refine congrArg _ ((View.readAt_full _ _ _).trans (harg9.read_unread _))

end Cert.KernelIdeal.Layer

end
-- ==== Proof.Weights.lean ====
module

public import proofs.«01_k».proof.Proof.Gen.KernelIdeal.Frame.Runs
public import Idealize.ShloMosaic.Lib.Pointwise
import Idealize.ShloMosaic.Lib.Routing.OpsOne
import Idealize.ShloMosaic.Lib.StableHlo.RunRead

@[expose] public section

/-! The weights the host lays down: four copies of the layer's matrix along the diagonal, zero elsewhere. -/

noncomputable section

namespace Cert.KernelIdeal.Layer

open Cert.KernelIdeal Cert.KernelIdeal.Gen Idealize.ShloMosaic Idealize.ShloMosaic.TcCoe Idealize.SL.Sem
open Idealize.ShloMosaic.Pointwise

/-- A corner of a block as the two index words the host makes. -/
def corner (r k : BitVec 32) : IVec S2 32 :=
  concatenate S2 0 [⟨S1, broadcastInDim S1 ![] bcast_S_S1 (constantI S_ 32 r)⟩,
    ⟨S1, broadcastInDim S1 ![] bcast_S_S1 (constantI S_ 32 k)⟩] concatenates_S1_S1_S2_d0

/-- The first index word is the row. -/
theorem corner_zero (r k : BitVec 32) : corner r k (ix1 (0 : Fin 2)) = r := by
  pointwise [corner]

/-- The second index word is the column. -/
theorem corner_one (r k : BitVec 32) : corner r k (ix1 (1 : Fin 2)) = k := by
  pointwise [corner]

/-- The scatter's place of an entry of the copied block. -/
theorem lands_block (r k : BitVec 32) (R K : ℕ) (hr : r.toInt = (R : Int)) (hk : k.toInt = (K : Int)) (p : Fin 32) (q : Fin 64)
    (a : Fin 128) (b : Fin 256) :
    scatter_S128x256_S2_S32x64_01_n_01_0.resultIdx? (ix2 p q) (corner r k) = some (ix2 a b) ↔ R + p.val = a.val ∧ K + q.val = b.val := by
  have h0 : scatter_S128x256_S2_S32x64_01_n_01_0.window (ix2 p q) 0 = p.val := by
    rfl
  have h1 : scatter_S128x256_S2_S32x64_01_n_01_0.window (ix2 p q) 1 = q.val := by
    rfl
  have s0 : scatter_S128x256_S2_S32x64_01_n_01_0.start (ix2 p q) (corner r k) 0 = (R : Int) := by
    rw [← hr, ← corner_zero r k]
    exact congrArg (fun t => (corner r k t).toInt) (by funext x; obtain rfl : x = 0 := Subsingleton.elim _ _; rfl)
  have s1 : scatter_S128x256_S2_S32x64_01_n_01_0.start (ix2 p q) (corner r k) 1 = (K : Int) := by
    rw [← hk, ← corner_one r k]
    exact congrArg (fun t => (corner r k t).toInt) (by funext x; obtain rfl : x = 0 := Subsingleton.elim _ _; rfl)
  refine (Routing.resultIdx?_ix2 _ (ix2 p q) (corner r k) a b).trans ?_
  rw [s0, h0, s1, h1]
  omega

/-- One scatter: the block replaced, everything else kept. -/
theorem scatter_block {α : Type} (r k : BitVec 32) (R K : ℕ) (hr : r.toInt = (R : Int)) (hk : k.toInt = (K : Int))
    (x : S128x256.Idx → α) (u : S32x64.Idx → α) (a : Fin 128) (b : Fin 256) :
    Host.scatter scatter_S128x256_S2_S32x64_01_n_01_0 (fun _ v => v) x (corner r k) u (ix2 a b)
      = if h : (R ≤ a.val ∧ a.val - R < 32) ∧ (K ≤ b.val ∧ b.val - K < 64)
        then u (ix2 ⟨a.val - R, h.1.2⟩ ⟨b.val - K, h.2.2⟩) else x (ix2 a b) := by
  have lands : ∀ j : S32x64.Idx, scatter_S128x256_S2_S32x64_01_n_01_0.resultIdx? j (corner r k) = some (ix2 a b) →
      R + (j 0).val = a.val ∧ K + (j 1).val = b.val := fun j hj =>
    (lands_block r k R K hr hk (j 0) (j 1) a b).1 (by rw [ix2_eta]; exact hj)
  by_cases h : (R ≤ a.val ∧ a.val - R < 32) ∧ (K ≤ b.val ∧ b.val - K < 64)
  · rw [dif_pos h]
    refine Routing.scatter_set_hit _ x (corner r k) u _ _ (fun j hj => ?_) (ix2 ⟨a.val - R, h.1.2⟩ ⟨b.val - K, h.2.2⟩)
      ((lands_block r k R K hr hk _ _ a b).2 ⟨by show R + (a.val - R) = a.val; omega, by show K + (b.val - K) = b.val; omega⟩)
    obtain ⟨e0, e1⟩ := lands j hj
    rw [← ix2_eta j]
    have q0 : j 0 = ⟨a.val - R, h.1.2⟩ := Fin.ext (by show (j 0).val = a.val - R; omega)
    have q1 : j 1 = ⟨b.val - K, h.2.2⟩ := Fin.ext (by show (j 1).val = b.val - K; omega)
    rw [q0, q1]
    rfl
  · rw [dif_neg h]
    refine Routing.scatter_set_miss _ x (corner r k) u _ fun j hj => h ?_
    obtain ⟨e0, e1⟩ := lands j hj
    have := (j 0).isLt
    have := (j 1).isLt
    have l0 : (j 0).val < 32 := (j 0).isLt
    have l1 : (j 1).val < 64 := (j 1).isLt
    omega

/-- The four copies, laid one after the other. -/
def fourCopies (u : FVec Ideal S32x64 .f32) : FVec Ideal S128x256 .f32 :=
  let put := fun (r k : BitVec 32) (x : FVec Ideal S128x256 .f32) =>
    Host.scatter scatter_S128x256_S2_S32x64_01_n_01_0 (fun _ v => v) x (corner r k) u
  put 96#32 192#32 (put 64#32 128#32 (put 32#32 64#32 (put 0#32 0#32
    (broadcastInDim S128x256 ![] bcast_S_S128x256 (constant (F := Ideal) S_ .f32 0x00000000#32)))))

/-- The copies read at an entry: block `(t, t')` is the matrix where `t = t'` and zero elsewhere. -/
theorem fourCopies_apply (u : FVec Ideal S32x64 .f32) (t t' : Fin 4) (o : Fin 32) (q : Fin 64) :
    fourCopies u (ix2 ⟨32 * t.val + o.val, by omega⟩ ⟨64 * t'.val + q.val, by omega⟩) = if t = t' then u (ix2 o q) else (0 : EReal) := by
  have hz : ∀ i, (broadcastInDim S128x256 ![] bcast_S_S128x256 (constant (F := Ideal) S_ .f32 0x00000000#32)) i = (0 : EReal) := by
    intro i
    obtain ⟨a, b, rfl⟩ : ∃ a b, i = ix2 a b := ⟨_, _, (ix2_eta i).symm⟩
    pointwise
  unfold fourCopies
  dsimp only
  rw [scatter_block 96#32 192#32 96 192 rfl rfl, scatter_block 64#32 128#32 64 128 rfl rfl, scatter_block 32#32 64#32 32 64 rfl rfl,
    scatter_block 0#32 0#32 0 0 rfl rfl, hz]
  have ho := o.isLt
  have hq := q.isLt
  fin_cases t <;> fin_cases t' <;> dsimp only
  all_goals
    repeat (first | rw [dif_neg (by omega)] | rw [dif_pos (by omega)])
    simp
  done

variable (m : (ℓ : Loc nD τ sig) → Buf (Elt Ideal) ℓ)

/-- The array of weights at the kernel's call. -/
theorem V_weights (c : Dev nD) :
    V m c main_v17 = truncf .bf16 (fourCopies (m ((c : Thread nD τ).loc main_arg4))) bitsLt_bf16_f32 := by
  unfold V hostOps0
  after_reads_simp
  rfl

/-- The weights at the call, entry by entry. -/
theorem weights_apply' (c : Dev nD) (t t' : Fin 4) (o : Fin 32) (q : Fin 64) :
    V m c main_v17 (ix2 ⟨32 * t.val + o.val, by omega⟩ ⟨64 * t'.val + q.val, by omega⟩)
      = if t = t' then m ((c : Thread nD τ).loc main_arg4) (ix2 o q) else (0 : EReal) := by
  rw [V_weights]
  exact fourCopies_apply _ t t' o q

/-- The weights at the call, at a row and a column told by their blocks. -/
theorem weights_apply (c : Dev nD) (t t' : Fin 4) (o : Fin 32) (q : Fin 64) (r : Fin 128) (k : Fin 256)
    (hr : r.val = 32 * t.val + o.val) (hk : k.val = 64 * t'.val + q.val) :
    V m c main_v17 (ix2 r k) = if t = t' then m ((c : Thread nD τ).loc main_arg4) (ix2 o q) else (0 : EReal) := by
  have h1 : 32 * t.val + o.val < 128 := by clear hr; omega
  have h2 : 64 * t'.val + q.val < 256 := by clear hk; omega
  obtain rfl : r = ⟨32 * t.val + o.val, h1⟩ := Fin.ext hr
  obtain rfl : k = ⟨64 * t'.val + q.val, h2⟩ := Fin.ext hk
  exact weights_apply' m c t t' o q

end Cert.KernelIdeal.Layer
-- ==== Proof.Point.lean ====
module

public import proofs.«01_k».proof.Proof.Loop
public import Idealize.ShloMosaic.Lib.Pointwise

@[expose] public section

/-! The neighbour loop's operations read at an index, over the extended reals. -/

noncomputable section

namespace Cert.KernelIdeal.Layer

open Cert.KernelIdeal Cert.KernelIdeal.Gen Idealize.ShloMosaic Idealize.ShloMosaic.TcCoe Idealize.SL.Sem
open Idealize.ShloMosaic.Pointwise

/-- Column `1024 t + n` of eight arrays side by side. -/
def wide (t : Fin 8) (n : Fin 1024) : Fin 8192 := ⟨1024 * t.val + n.val, by omega⟩

/-- A neighbour's features over all points, at an index. -/
theorem neighCol_apply (xsl : Vec Ideal S32x128 .f32) (o : Fin 128) (c : Fin 32) (n : Fin 1024) :
    neighCol xsl o (ix2 c n) = xsl (ix2 c o) := by
  pointwise [neighCol]

/-- A band's segment, at an index of the product. -/
theorem seg_apply (y : FVec Ideal S128x8192 .f32) (b : Fin 4) (t : Fin 8) (o : Fin 32) (n : Fin 1024) :
    seg y b t (ix2 o n) = y (ix2 (⟨32 * b.val + o.val, by omega⟩ : Fin 128) (wide t n)) := by
  pointwise [seg]
  rfl

/-- A mask row, at an index: whether its entry is positive. -/
theorem chosen_apply (m : Vec Ideal S8x1024 .f32) (t : Fin 8) (o : Fin 32) (n : Fin 1024) :
    chosen m t (ix2 o n) = BitVec.ofBool (decide (0 < m (ix2 t n))) := by
  pointwise [chosen]

/-- Eight arrays side by side, at a column of the `t`-th. -/
theorem beside_apply (f : Fin 8 → FVec Ideal S32x1024 .f32) (t : Fin 8) (c : Fin 32) (n : Fin 1024) :
    beside f (ix2 c (wide t n)) = f t (ix2 c n) := by
  pointwise [beside]
  have hn := n.isLt
  have hv : (wide t n).val = 1024 * t.val + n.val := rfl
  generalize wide t n = p at hv ⊢
  obtain ⟨p, hp⟩ := p
  dsimp only at hv ⊢
  simp only [hv]
  fin_cases t
  · rw [dif_pos (by dsimp only; omega)]; exact congrArg (fun k => f 0 (ix2 c k)) (Fin.ext (by dsimp only; omega))
  · rw [dif_neg (by dsimp only; omega)]; rw [dif_pos (by dsimp only; omega)]; exact congrArg (fun k => f 1 (ix2 c k)) (Fin.ext (by dsimp only; omega))
  · rw [dif_neg (by dsimp only; omega)]; rw [dif_neg (by dsimp only; omega)]; rw [dif_pos (by dsimp only; omega)]; exact congrArg (fun k => f 2 (ix2 c k)) (Fin.ext (by dsimp only; omega))
  · rw [dif_neg (by dsimp only; omega)]; rw [dif_neg (by dsimp only; omega)]; rw [dif_neg (by dsimp only; omega)]; rw [dif_pos (by dsimp only; omega)]; exact congrArg (fun k => f 3 (ix2 c k)) (Fin.ext (by dsimp only; omega))
  · rw [dif_neg (by dsimp only; omega)]; rw [dif_neg (by dsimp only; omega)]; rw [dif_neg (by dsimp only; omega)]; rw [dif_neg (by dsimp only; omega)]; rw [dif_pos (by dsimp only; omega)]; exact congrArg (fun k => f 4 (ix2 c k)) (Fin.ext (by dsimp only; omega))
  · rw [dif_neg (by dsimp only; omega)]; rw [dif_neg (by dsimp only; omega)]; rw [dif_neg (by dsimp only; omega)]; rw [dif_neg (by dsimp only; omega)]; rw [dif_neg (by dsimp only; omega)]; rw [dif_pos (by dsimp only; omega)]; exact congrArg (fun k => f 5 (ix2 c k)) (Fin.ext (by dsimp only; omega))
  · rw [dif_neg (by dsimp only; omega)]; rw [dif_neg (by dsimp only; omega)]; rw [dif_neg (by dsimp only; omega)]; rw [dif_neg (by dsimp only; omega)]; rw [dif_neg (by dsimp only; omega)]; rw [dif_neg (by dsimp only; omega)]; rw [dif_pos (by dsimp only; omega)]; exact congrArg (fun k => f 6 (ix2 c k)) (Fin.ext (by dsimp only; omega))
  · rw [dif_neg (by dsimp only; omega)]; rw [dif_neg (by dsimp only; omega)]; rw [dif_neg (by dsimp only; omega)]; rw [dif_neg (by dsimp only; omega)]; rw [dif_neg (by dsimp only; omega)]; rw [dif_neg (by dsimp only; omega)]; rw [dif_neg (by dsimp only; omega)]; exact congrArg (fun k => f 7 (ix2 c k)) (Fin.ext (by dsimp only; omega))

/-- The product with the weights, at an index. -/
theorem conv_apply (w : Vec Ideal S128x256 .bf16) (xsl : Vec Ideal S32x128 .f32) (x : Vec Ideal S32x1024 .f32) (s : Fin 4) (r : Fin 128) (p : Fin 8192) :
    conv w xsl x s (ix2 r p) = ∑ u : Fin 256, w (ix2 r u) * quad xsl x s (ix2 u p) := by
  pointwise [conv]

/-- A group's features at a row of its `a`-th band. -/
theorem quad_apply (xsl : Vec Ideal S32x128 .f32) (x : Vec Ideal S32x1024 .f32) (s a : Fin 4) (q : Fin 64) (p : Fin 8192) :
    quad xsl x s (ix2 (⟨64 * a.val + q.val, by omega⟩ : Fin 256) p) = band xsl x s a (ix2 q p) := by
  pointwise [quad]
  have hq := q.isLt
  fin_cases a <;> simp [Nat.add_sub_cancel_left] <;> split_ifs <;> first | omega | (congr 3; omega) | (congr 2)

/-- An edge's 64 features: the neighbour's less the point's, then the point's. -/
def edge (u v : Fin 32 → EReal) (q : Fin 64) : EReal :=
  if h : q.val < 32 then u ⟨q.val, h⟩ - v ⟨q.val, h⟩ else v ⟨q.val - 32, by omega⟩

/-- One output channel of an edge. -/
def outCh (W : Fin 64 → EReal) (u v : Fin 32 → EReal) : EReal := ∑ q : Fin 64, W q * edge u v q

/-- A band's features at an index. -/
theorem band_apply (xsl : Vec Ideal S32x128 .f32) (x : Vec Ideal S32x1024 .f32) (s b : Fin 4) (q : Fin 64) (t : Fin 8) (n : Fin 1024) :
    band xsl x s b (ix2 q (wide t n)) = edge (fun c => xsl (ix2 c (nb s b t))) (fun c => x (ix2 c n)) q := by
  pointwise [band]
  unfold edge
  by_cases h : q.val < 32
  · simp only [dif_pos h]
    rw [beside_apply, beside_apply, neighCol_apply]
  · simp only [dif_neg h]
    rw [beside_apply]

/-- A sum over `m n` indices, by blocks of `n`. -/
theorem sum_blocks {M : Type*} [AddCommMonoid M] {N : ℕ} (m n : ℕ) (h : N = m * n) (f : Fin N → M) :
    ∑ u, f u = ∑ a : Fin m, ∑ q : Fin n, f ⟨n * a.val + q.val, by
      subst h
      calc n * a.val + q.val < n * a.val + n := by omega
        _ = n * (a.val + 1) := by ring
        _ ≤ n * m := Nat.mul_le_mul_left _ a.isLt
        _ = m * n := Nat.mul_comm _ _⟩ := by
  subst h
  rw [← Fintype.sum_prod_type', ← finProdFinEquiv.sum_comp]
  refine Finset.sum_congr rfl fun p _ => congrArg f (Fin.ext ?_)
  simp [finProdFinEquiv, Nat.add_comm]

/-- With block-diagonal weights a segment holds the output channels of its own band's edges. -/
theorem seg_conv (w : Vec Ideal S128x256 .bf16) (W : Fin 32 → Fin 64 → EReal)
    (hw : ∀ (a a' : Fin 4) (o : Fin 32) (q : Fin 64),
      w (ix2 (⟨32 * a.val + o.val, by omega⟩ : Fin 128) (⟨64 * a'.val + q.val, by omega⟩ : Fin 256)) = if a = a' then W o q else 0)
    (xsl : Vec Ideal S32x128 .f32) (x : Vec Ideal S32x1024 .f32) (s b : Fin 4) (t : Fin 8) (o : Fin 32) (n : Fin 1024) :
    seg (conv w xsl x s) b t (ix2 o n) = outCh (W o) (fun c => xsl (ix2 c (nb s b t))) (fun c => x (ix2 c n)) := by
  rw [seg_apply, conv_apply, sum_blocks 4 64 rfl]
  unfold outCh
  rw [Finset.sum_eq_single b]
  · refine Finset.sum_congr rfl fun q _ => ?_
    rw [hw b b o q, quad_apply, band_apply, if_pos rfl]
  · intro a _ ha
    refine Finset.sum_eq_zero fun q _ => ?_
    rw [hw b a o q, if_neg (Ne.symm ha)]
    exact zero_mul _
  · intro h; exact absurd (Finset.mem_univ _) h

/-- Eight additions in order are one sum. -/
theorem eight_sum (f : Fin 8 → EReal) (g : Fin 8 → EReal → EReal) (hg : ∀ t a, g t a = a + f t) (a : EReal) :
    eight g a = a + ∑ t, f t := by
  simp only [eight, hg, Fin.sum_univ_eight, add_assoc]

/-- Four additions in order are one sum. -/
theorem four_sum (f : Fin 4 → EReal) (g : Fin 4 → EReal → EReal) (hg : ∀ t a, g t a = a + f t) (a : EReal) :
    four g a = a + ∑ t, f t := by
  simp only [four, hg, Fin.sum_univ_four, add_assoc]

/-- Eight steps read at an index are eight steps on the entries. -/
theorem eight_apply {ι α : Type} (f : Fin 8 → (ι → α) → (ι → α)) (g : Fin 8 → α → α) (i : ι)
    (h : ∀ t a, f t a i = g t (a i)) (a : ι → α) : eight f a i = eight g (a i) := by
  simp only [eight, h]

/-- Four steps read at an index are four steps on the entries. -/
theorem four_apply {ι α : Type} (f : Fin 4 → (ι → α) → (ι → α)) (g : Fin 4 → α → α) (i : ι)
    (h : ∀ t a, f t a i = g t (a i)) (a : ι → α) : four f a i = four g (a i) := by
  simp only [four, h]

/-- A trip whose step acts on entries acts on entries. -/
theorem trip_apply (step : IVec S32x1024 1 → FVec Ideal S32x1024 .f32 → FVec Ideal S32x1024 .f32 → FVec Ideal S32x1024 .f32)
    (g : BitVec 1 → EReal → EReal → EReal) (hg : ∀ m y a i, step m y a i = g (m i) (y i) (a i))
    (w : Vec Ideal S128x256 .bf16) (xsl : Vec Ideal S32x128 .f32) (x : Vec Ideal S32x1024 .f32)
    (m : Fin 4 → Fin 4 → Vec Ideal S8x1024 .f32) (a : FVec Ideal S32x1024 .f32) (i : S32x1024.Idx) :
    trip step w xsl x m a i
      = four (fun s => four fun b => eight fun t => g (chosen (m s b) t i) (seg (conv w xsl x s) b t i)) (a i) := by
  unfold trip
  refine four_apply _ _ i (fun s a => ?_) a
  refine four_apply _ _ i (fun b a => ?_) a
  refine eight_apply _ _ i (fun t a => ?_) a
  exact hg _ _ _ _

end Cert.KernelIdeal.Layer

end
-- ==== Proof.Sums.lean ====
module

public import proofs.«01_k».proof.Proof.Point
public import proofs.«01_k».proof.Proof.Loop
import Idealize.ShloMosaic.Lib.Pointwise

@[expose] public section

/-! The neighbour loop's accumulators at an index: a sum, a sum of squares and a maximum over all 1024 neighbours. -/

noncomputable section

namespace Cert.KernelIdeal.Layer

open Cert.KernelIdeal Cert.KernelIdeal.Gen Idealize.ShloMosaic Idealize.ShloMosaic.TcCoe Idealize.SL.Sem
open Idealize.ShloMosaic.Pointwise

/-- A maximum step at an index. -/
theorem stepMax_apply (m : IVec S32x1024 1) (y a : FVec Ideal S32x1024 .f32) (i : S32x1024.Idx) :
    stepMax m y a i = max (a i) (if m i = 1#1 then y i else (⊥ : EReal)) := by
  rfl

/-- A sum step at an index. -/
theorem stepSum_apply (m : IVec S32x1024 1) (y a : FVec Ideal S32x1024 .f32) (i : S32x1024.Idx) :
    stepSum m y a i = a i + (if m i = 1#1 then y i else (0 : EReal)) := by
  obtain ⟨o, n, rfl⟩ : ∃ o n, i = ix2 o n := ⟨_, _, (ix2_eta i).symm⟩
  pointwise [stepSum, kept]
  rfl

/-- A sum-of-squares step at an index. -/
theorem stepSq_apply (m : IVec S32x1024 1) (y a : FVec Ideal S32x1024 .f32) (i : S32x1024.Idx) :
    stepSq m y a i = a i + (if m i = 1#1 then y i * y i else (0 : EReal)) := by
  obtain ⟨o, n, rfl⟩ : ∃ o n, i = ix2 o n := ⟨_, _, (ix2_eta i).symm⟩
  pointwise [stepSq, kept]
  refine congrArg (a (ix2 o n) + ·) ?_
  by_cases h : m (ix2 o n) = 1#1
  · rw [if_pos h]
    exact if_pos h
  · rw [if_neg h]
    exact if_neg h

/-- A column of the neighbours' features a trip loads. -/
theorem colsAt_apply (X : Vec Ideal S32x1024 .f32) (k : Fin k0_t2_loop.trips) (c : Fin 32) (j : Fin 128) (h : 128 * k.val + j.val < 1024) :
    colsAt X k (ix2 c j) = X (ix2 c ⟨128 * k.val + j.val, h⟩) := by
  refine congrArg X (funext fun d => ?_)
  have e := k0_off2_eq k
  refine Fin.ext ?_
  fin_cases d
  · simp [e]
  · simp [e]

/-- An entry of the mask rows a trip loads. -/
theorem rowsAt_apply (M : Vec Ideal S1024x1024 .f32) (k : Fin k0_t2_loop.trips) (s b : Fin 4) (t : Fin 8) (n : Fin 1024)
    (h : 128 * k.val + (nb s b t).val < 1024) :
    rowsAt M k s b (ix2 t n) = M (ix2 ⟨128 * k.val + (nb s b t).val, h⟩ n) := by
  refine congrArg M (funext fun d => ?_)
  have e := k0_off3_eq k s b
  refine Fin.ext ?_
  fin_cases d
  · simp [e, nb]
    omega
  · simp [e]

variable (w : Vec Ideal S128x256 .bf16) (W : Fin 32 → Fin 64 → EReal)
    (hw : ∀ (a a' : Fin 4) (o : Fin 32) (q : Fin 64),
      w (ix2 (⟨32 * a.val + o.val, by omega⟩ : Fin 128) (⟨64 * a'.val + q.val, by omega⟩ : Fin 256)) = if a = a' then W o q else 0)

/-- A neighbour's contribution: a function of its output channel where the mask selects it, a default elsewhere. -/
def term (g : EReal → EReal) (z : EReal) (W : Fin 32 → Fin 64 → EReal) (X x : Vec Ideal S32x1024 .f32) (M : Vec Ideal S1024x1024 .f32)
    (o : Fin 32) (n : Fin 1024) (m : Fin 1024) : EReal :=
  if 0 < M (ix2 m n) then g (outCh (W o) (fun c => X (ix2 c m)) (fun c => x (ix2 c n))) else z

include hw

/-- A step's masked value in a trip is the neighbour's contribution. -/
theorem term_eq (g : EReal → EReal) (z : EReal) (X x : Vec Ideal S32x1024 .f32) (M : Vec Ideal S1024x1024 .f32)
    (k : Fin k0_t2_loop.trips) (s b : Fin 4) (t : Fin 8) (o : Fin 32) (n : Fin 1024) (h : 128 * k.val + (nb s b t).val < 1024) :
    (if chosen (rowsAt M k s b) t (ix2 o n) = 1#1 then g (seg (conv w (colsAt X k) x s) b t (ix2 o n)) else z)
      = term g z W X x M o n ⟨128 * k.val + (nb s b t).val, h⟩ := by
  rw [chosen_apply, seg_conv w W hw, rowsAt_apply M k s b t n h]
  unfold term
  simp only [colsAt_apply X k _ _ h]
  by_cases hp : 0 < M (ix2 ⟨128 * k.val + (nb s b t).val, h⟩ n)
  · rw [if_pos hp, if_pos (by rw [decide_eq_true hp]; rfl)]
  · rw [if_neg hp, if_neg (by rw [decide_eq_false hp]; decide)]

omit hw in
/-- A trip's neighbours are within range. -/
theorem nb_lt (k : ℕ) (hk : k < k0_t2_loop.trips) (j : Fin 128) : 128 * k + j.val < 1024 := by
  have := trips2; omega

omit hw in
/-- A sum over a trip's 128 neighbours, in its three digits. -/
theorem sum_nb (f : Fin 128 → EReal) : ∑ s : Fin 4, ∑ b : Fin 4, ∑ t : Fin 8, f (nb s b t) = ∑ j, f j := by
  rw [sum_blocks 4 32 rfl f]
  refine Finset.sum_congr rfl fun s _ => ?_
  rw [sum_blocks 4 8 rfl]
  refine Finset.sum_congr rfl fun b _ => Finset.sum_congr rfl fun t _ => congrArg f (Fin.ext ?_)
  simp [nb]; omega

/-- An additive accumulator after `k` trips. -/
theorem accAfter_sum (step : IVec S32x1024 1 → FVec Ideal S32x1024 .f32 → FVec Ideal S32x1024 .f32 → FVec Ideal S32x1024 .f32)
    (g : EReal → EReal) (hg : ∀ m y a i, step m y a i = a i + (if m i = 1#1 then g (y i) else (0 : EReal)))
    (X x : Vec Ideal S32x1024 .f32) (M : Vec Ideal S1024x1024 .f32) (a : FVec Ideal S32x1024 .f32) (o : Fin 32) (n : Fin 1024)
    (k : ℕ) (hk : k ≤ k0_t2_loop.trips) :
    accAfter step w X x M a k (ix2 o n)
      = a (ix2 o n) + ∑ u : Fin k, ∑ j : Fin 128, term g 0 W X x M o n ⟨128 * u.val + j.val, nb_lt u.val (by omega) j⟩ := by
  induction k with
  | zero => simp [accAfter]
  | succ k ih =>
    rw [show accAfter step w X x M a (k + 1) = trip step w (colsAt X ⟨k, hk⟩) x (rowsAt M ⟨k, hk⟩) (accAfter step w X x M a k) from dif_pos hk]
    rw [trip_apply step (fun m y a => a + (if m = 1#1 then g y else (0 : EReal))) hg, ih (by omega)]
    rw [Fin.sum_univ_castSucc, ← add_assoc]
    rw [four_sum (fun s => ∑ b : Fin 4, ∑ t : Fin 8, term g 0 W X x M o n ⟨128 * k + (nb s b t).val, nb_lt k hk _⟩)]
    · refine congrArg₂ (· + ·) rfl ?_
      exact sum_nb (fun j => term g 0 W X x M o n ⟨128 * k + j.val, nb_lt k hk _⟩)
    · intro s a
      refine four_sum _ _ (fun b a => ?_) a
      refine eight_sum _ _ (fun t a => ?_) a
      exact congrArg (a + ·) (term_eq w W hw g 0 X x M ⟨k, hk⟩ s b t o n (nb_lt k hk _))

omit hw in
/-- Eight maxima in order are below a bound when each is. -/
theorem eight_max (f : Fin 8 → EReal) (c : EReal) (g : Fin 8 → EReal → EReal) (hg : ∀ t a, g t a ≤ c ↔ a ≤ c ∧ f t ≤ c) (a : EReal) :
    eight g a ≤ c ↔ a ≤ c ∧ ∀ t, f t ≤ c := by
  simp only [eight, hg]
  constructor
  · rintro ⟨⟨⟨⟨⟨⟨⟨⟨h, h0⟩, h1⟩, h2⟩, h3⟩, h4⟩, h5⟩, h6⟩, h7⟩
    refine ⟨h, fun t => ?_⟩
    fin_cases t <;> assumption
  · rintro ⟨h, hf⟩
    exact ⟨⟨⟨⟨⟨⟨⟨⟨h, hf 0⟩, hf 1⟩, hf 2⟩, hf 3⟩, hf 4⟩, hf 5⟩, hf 6⟩, hf 7⟩

omit hw in
/-- Four maxima in order are below a bound when each is. -/
theorem four_max (p : Fin 4 → Prop) (c : EReal) (g : Fin 4 → EReal → EReal) (hg : ∀ t a, g t a ≤ c ↔ a ≤ c ∧ p t) (a : EReal) :
    four g a ≤ c ↔ a ≤ c ∧ ∀ t, p t := by
  simp only [four, hg]
  constructor
  · rintro ⟨⟨⟨⟨h, h0⟩, h1⟩, h2⟩, h3⟩
    refine ⟨h, fun t => ?_⟩
    fin_cases t <;> assumption
  · rintro ⟨h, hf⟩
    exact ⟨⟨⟨⟨h, hf 0⟩, hf 1⟩, hf 2⟩, hf 3⟩

/-- The maximum accumulator after `k` trips is below a bound when every contribution is. -/
theorem accAfter_max (X x : Vec Ideal S32x1024 .f32) (M : Vec Ideal S1024x1024 .f32) (a : FVec Ideal S32x1024 .f32) (o : Fin 32) (n : Fin 1024)
    (c : EReal) (k : ℕ) (hk : k ≤ k0_t2_loop.trips) :
    accAfter stepMax w X x M a k (ix2 o n) ≤ c
      ↔ a (ix2 o n) ≤ c ∧ ∀ (u : Fin k) (j : Fin 128), term id ⊥ W X x M o n ⟨128 * u.val + j.val, nb_lt u.val (by omega) j⟩ ≤ c := by
  induction k with
  | zero => simp [accAfter]
  | succ k ih =>
    rw [show accAfter stepMax w X x M a (k + 1) = trip stepMax w (colsAt X ⟨k, hk⟩) x (rowsAt M ⟨k, hk⟩) (accAfter stepMax w X x M a k) from dif_pos hk]
    rw [trip_apply stepMax (fun m y a => max a (if m = 1#1 then id y else (⊥ : EReal))) stepMax_apply]
    rw [four_max (fun s => ∀ (b : Fin 4) (t : Fin 8), term id ⊥ W X x M o n ⟨128 * k + (nb s b t).val, nb_lt k hk _⟩ ≤ c), ih (by omega), and_assoc]
    · refine and_congr Iff.rfl ⟨fun h u j => ?_, fun h => ⟨fun u j => h ⟨u.val, by omega⟩ j, fun s b t => h ⟨k, by omega⟩ (nb s b t)⟩⟩
      rcases Nat.lt_or_ge u.val k with hu | hu
      · exact h.1 ⟨u.val, hu⟩ j
      · have hu' : u.val = k := by omega
        have hj : j = nb ⟨j.val / 32, by omega⟩ ⟨j.val % 32 / 8, by omega⟩ ⟨j.val % 8, by omega⟩ := by
          refine Fin.ext ?_
          simp only [nb]; omega
        have := h.2 ⟨j.val / 32, by omega⟩ ⟨j.val % 32 / 8, by omega⟩ ⟨j.val % 8, by omega⟩
        rw [← hj] at this
        simp only [hu']
        exact this
    · intro s a
      refine four_max _ _ _ (fun b a => ?_) a
      refine eight_max _ _ _ (fun t a => ?_) a
      rw [term_eq w W hw id ⊥ X x M ⟨k, hk⟩ s b t o n (nb_lt k hk _), max_le_iff]

/-- The weights are copies of one matrix along the diagonal. -/
def Diagonal (w : Vec Ideal S128x256 .bf16) (W : Fin 32 → Fin 64 → EReal) : Prop :=
  ∀ (a a' : Fin 4) (o : Fin 32) (q : Fin 64) (r : Fin 128) (k : Fin 256), r.val = 32 * a.val + o.val → k.val = 64 * a'.val + q.val →
    w (ix2 r k) = if a = a' then W o q else (0 : EReal)

omit hw in
/-- An additive accumulator after all trips is a sum over all neighbours. -/
theorem accAfter_sum_all (hd : Diagonal w W) (step : IVec S32x1024 1 → FVec Ideal S32x1024 .f32 → FVec Ideal S32x1024 .f32 → FVec Ideal S32x1024 .f32)
    (g : EReal → EReal) (hg : ∀ m y a i, step m y a i = a i + (if m i = 1#1 then g (y i) else (0 : EReal)))
    (X x : Vec Ideal S32x1024 .f32) (M : Vec Ideal S1024x1024 .f32) (a : FVec Ideal S32x1024 .f32) (o : Fin 32) (n : Fin 1024) :
    accAfter step w X x M a k0_t2_loop.trips (ix2 o n) = a (ix2 o n) + ∑ m, term g 0 W X x M o n m := by
  rw [accAfter_sum w W (fun a a' o q => hd a a' o q _ _ rfl rfl) step g hg X x M a o n _ le_rfl, sum_blocks k0_t2_loop.trips 128 (by rw [trips2]) (term g 0 W X x M o n)]

omit hw in
/-- The maximum accumulator after all trips is below a bound when every neighbour's contribution is. -/
theorem accAfter_max_all (hd : Diagonal w W) (X x : Vec Ideal S32x1024 .f32) (M : Vec Ideal S1024x1024 .f32) (a : FVec Ideal S32x1024 .f32) (o : Fin 32) (n : Fin 1024)
    (c : EReal) :
    accAfter stepMax w X x M a k0_t2_loop.trips (ix2 o n) ≤ c ↔ a (ix2 o n) ≤ c ∧ ∀ m, term id ⊥ W X x M o n m ≤ c := by
  rw [accAfter_max w W (fun a a' o q => hd a a' o q _ _ rfl rfl) X x M a o n c _ le_rfl]
  refine and_congr Iff.rfl ⟨fun h m => ?_, fun h u j => h _⟩
  have := h ⟨m.val / 128, by have := trips2; omega⟩ ⟨m.val % 128, by omega⟩
  simpa only [Nat.div_add_mod] using this

end Cert.KernelIdeal.Layer

end
-- ==== Proof.Block.lean ====
module

public import proofs.«01_k».proof.Proof.CaseB
public import proofs.«01_k».proof.Proof.Weights
public import proofs.«01_k».proof.Proof.Sums
public import proofs.«01_k».proof.Proof.Mask
public import Idealize.ShloMosaic.Lib.Pipeline.ValueKit
import Idealize.ShloMosaic.Lib.Pointwise

@[expose] public section

/-! The block of one grid point: its inputs read off the arrays, its points and its distances. -/

noncomputable section

namespace Cert.KernelIdeal.Layer

open Cert.KernelIdeal Cert.KernelIdeal.Gen Idealize.ShloMosaic Idealize.ShloMosaic.TcCoe Idealize.SL.Sem
open Idealize.ShloMosaic.Pointwise

/-- One coordinate of a point: the scaled and shifted value through the leaky unit, plus the residual. -/
def act (y s b r : EReal) : EReal :=
  (if 0 ≤ y * s + b then y * s + b else Ideal.ofBits FTy.f32 1045220557#32 * (y * s + b)) + r

/-- The distance of point `i` from point `n`, as the kernel writes it down. -/
def far (U : Fin 32 → Fin 1024 → EReal) (i n : Fin 1024) : EReal :=
  ((∑ c, U c n * U c n) - (FloatOps.ofBits (F := Ideal) .f32 0x40000000#32 : EReal) * ∑ c, U c i * U c n) + ∑ c, U c i * U c i

variable (x0 : Vec Ideal S1x32x1024 .f32) (x1 x2 : Vec Ideal S32x1 .f32) (x3 : Vec Ideal S1x32x1024 .f32)

/-- The points of a block at a coordinate. -/
theorem blkX_apply (p : Fin 32) (n : Fin 1024) :
    blkX x0 x1 x2 x3 (ix2 p n) = act (x0 (ix3 0 p n)) (x1 (ix2 p 0)) (x2 (ix2 p 0)) (x3 (ix3 0 p n)) := by
  pointwise [blkX, k0_pay610]
  rfl

/-- The distance matrix of a block at an entry. -/
theorem dist_apply (i n : Fin 1024) :
    k0_pay613 x0 x1 x2 x3 (ix2 i n) = far (fun p k => blkX x0 x1 x2 x3 (ix2 p k)) i n := by
  unfold blkX
  generalize hX : k0_pay610 x0 x1 x2 x3 = X
  pointwise [k0_pay613]
  rw [hX]
  unfold far
  simp

variable (m : (ℓ : Loc nD τ sig) → Buf (Elt Ideal) ℓ) (d : Dev nD) (t : Fin cfg0.N)

/-- The batch a grid point works on. -/
abbrev bat : Fin 32 := ⟨t.val, Nat.lt_of_lt_of_eq t.isLt N_0⟩

/-- The first input's block at a coordinate. -/
theorem in0_apply (p : Fin 32) (n : Fin 1024) :
    (iblk m d 0 t : Vec Ideal S1x32x1024 .f32) (ix3 0 p n) = m ((d : Thread nD τ).loc main_arg0) (ix3 (bat t) p n) := by
  have e : ∀ t : Fin grid0.N, win0_0.index t = ![t.val, 0, 0] := by decide +kernel
  blk_ext [iblk, V_main_arg0, e t]

/-- The scales, at every point the whole array. -/
theorem in1_apply (p : Fin 32) :
    (iblk m d 1 t : Vec Ideal S32x1 .f32) (ix2 p 0) = m ((d : Thread nD τ).loc main_arg1) (ix2 p 0) := by
  have e : ∀ t : Fin grid0.N, win0_1.index t = ![0, 0] := by decide +kernel
  blk_ext [iblk, V_main_arg1, e t]

/-- The shifts, at every point the whole array. -/
theorem in2_apply (p : Fin 32) :
    (iblk m d 2 t : Vec Ideal S32x1 .f32) (ix2 p 0) = m ((d : Thread nD τ).loc main_arg2) (ix2 p 0) := by
  have e : ∀ t : Fin grid0.N, win0_2.index t = ![0, 0] := by decide +kernel
  blk_ext [iblk, V_main_arg2, e t]

/-- The residual's block at a coordinate. -/
theorem in3_apply (p : Fin 32) (n : Fin 1024) :
    (iblk m d 3 t : Vec Ideal S1x32x1024 .f32) (ix3 0 p n) = m ((d : Thread nD τ).loc main_arg3) (ix3 (bat t) p n) := by
  have e : ∀ t : Fin grid0.N, win0_3.index t = ![t.val, 0, 0] := by decide +kernel
  blk_ext [iblk, V_main_arg3, e t]

/-- The weights, at every point the whole array. -/
theorem in4_apply (p : Fin 128) (n : Fin 256) :
    (iblk m d 4 t : Vec Ideal S128x256 .bf16) (ix2 p n) = V m d main_v17 (ix2 p n) := by
  have e : ∀ t : Fin grid0.N, win0_4.index t = ![0, 0] := by decide +kernel
  blk_ext [iblk, e t]

/-- The points of every batch, off the argument arrays. -/
def pts (b p : Fin 32) (n : Fin 1024) : EReal :=
  act (m ((d : Thread nD τ).loc main_arg0) (ix3 b p n)) (m ((d : Thread nD τ).loc main_arg1) (ix2 p 0))
    (m ((d : Thread nD τ).loc main_arg2) (ix2 p 0)) (m ((d : Thread nD τ).loc main_arg3) (ix3 b p n))

/-- The weights, off their argument array. -/
def wts (o : Fin 32) (q : Fin 64) : EReal := m ((d : Thread nD τ).loc main_arg4) (ix2 o q)

/-- The convolution's output for point `n` and its neighbour `k`. -/
def edgeVal (b o : Fin 32) (n k : Fin 1024) : EReal :=
  outCh (wts m d o) (fun p => pts m d b p k) (fun p => pts m d b p n)

/-- The block's points are the batch's. -/
theorem points_apply (p : Fin 32) (n : Fin 1024) :
    blkX (iblk m d 0 t : Vec Ideal S1x32x1024 .f32) (iblk m d 1 t) (iblk m d 2 t) (iblk m d 3 t) (ix2 p n) = pts m d (bat t) p n := by
  rw [blkX_apply, in0_apply, in1_apply, in2_apply, in3_apply]
  rfl

/-- The block's weights are four copies along the diagonal. -/
theorem diagonal : Diagonal (iblk m d 4 t) (wts m d) := fun a a' o q r k hr hk =>
  (in4_apply m d t r k).trans (weights_apply m d a a' o q r k hr hk)

/-- Each point's forty neighbours, told apart by distance. -/
structure Nearest (U : Fin 32 → Fin 1024 → EReal) (T : Fin 1024 → Finset (Fin 1024)) : Prop where
  /-- there are forty of them -/
  card : ∀ n, (T n).card = 40
  /-- every other point is farther -/
  far : ∀ n, ∀ i ∈ T n, ∀ j, j ∉ T n → far U i n < far U j n

variable {T : Fin 1024 → Finset (Fin 1024)} (hT : Nearest (pts m d (bat t)) T)
include hT

/-- The mask of the block marks the neighbours. -/
theorem mask_marks (i n : Fin 1024) :
    0 < blkM (F := Ideal) (iblk m d 0 t) (iblk m d 1 t) (iblk m d 2 t) (iblk m d 3 t) (ix2 i n) ↔ i ∈ T n := by
  refine mask_apply _ n (T n) (hT.card n) (fun i hi j hj => ?_) i
  have e : (fun p k => blkX (iblk m d 0 t : Vec Ideal S1x32x1024 .f32) (iblk m d 1 t) (iblk m d 2 t) (iblk m d 3 t) (ix2 p k))
      = pts m d (bat t) := by
    funext p k
    exact points_apply m d t p k
  rw [dist_apply, dist_apply, e]
  exact hT.far n i hi j hj

/-- One neighbour's term. -/
theorem term_near (g : EReal → EReal) (z : EReal) (o : Fin 32) (n k : Fin 1024) :
    term g z (wts m d) (blkX (F := Ideal) (iblk m d 0 t) (iblk m d 1 t) (iblk m d 2 t) (iblk m d 3 t))
      (blkX (F := Ideal) (iblk m d 0 t) (iblk m d 1 t) (iblk m d 2 t) (iblk m d 3 t))
      (blkM (F := Ideal) (iblk m d 0 t) (iblk m d 1 t) (iblk m d 2 t) (iblk m d 3 t)) o n k
      = if k ∈ T n then g (edgeVal m d (bat t) o n k) else z := by
  unfold term edgeVal
  rw [funext fun p => points_apply m d t p k, funext fun p => points_apply m d t p n]
  exact if_congr (mask_marks m d t hT k n) rfl rfl

/-- The block's sum over the neighbours. -/
theorem sum_block (step : IVec S32x1024 1 → FVec Ideal S32x1024 .f32 → FVec Ideal S32x1024 .f32 → FVec Ideal S32x1024 .f32)
    (g : EReal → EReal) (hg : ∀ m y a i, step m y a i = a i + (if m i = 1#1 then g (y i) else (0 : EReal)))
    (a : FVec Ideal S32x1024 .f32) (o : Fin 32) (n : Fin 1024) (ha : a (ix2 o n) = (0 : EReal)) :
    blkAcc (F := Ideal) step (iblk m d 0 t) (iblk m d 1 t) (iblk m d 2 t) (iblk m d 3 t) (iblk m d 4 t) a (ix2 o n)
      = ∑ k ∈ T n, g (edgeVal m d (bat t) o n k) := by
  unfold blkAcc
  rw [accAfter_sum_all _ (wts m d) (diagonal m d t) step g hg, ha, zero_add, Finset.sum_congr rfl fun k _ => term_near m d t hT g 0 o n k,
    ← Finset.sum_filter]
  congr 1
  ext k
  simp

/-- The block's maximum over the neighbours. -/
theorem max_block (a : FVec Ideal S32x1024 .f32) (o : Fin 32) (n : Fin 1024) (ha : a (ix2 o n) = (⊥ : EReal)) :
    blkAcc (F := Ideal) stepMax (iblk m d 0 t) (iblk m d 1 t) (iblk m d 2 t) (iblk m d 3 t) (iblk m d 4 t) a (ix2 o n)
      = (T n).sup fun k => edgeVal m d (bat t) o n k := by
  unfold blkAcc
  refine eq_of_forall_ge_iff fun c => ?_
  rw [accAfter_max_all _ (wts m d) (diagonal m d t), ha, Finset.sup_le_iff]
  constructor
  · intro h k hk
    have := h.2 k
    rw [term_near m d t hT id ⊥ o n k, if_pos hk] at this
    exact this
  · intro h
    refine ⟨bot_le, fun k => ?_⟩
    rw [term_near m d t hT id ⊥ o n k]
    by_cases hk : k ∈ T n
    · rw [if_pos hk]
      exact h k hk
    · rw [if_neg hk]
      exact bot_le

end Cert.KernelIdeal.Layer
-- ==== Proof.Order.lean ====
module

public import Idealize.ShloMosaic.PureOps
public import Idealize.ShloMosaic.Lib.SortFacts
public import Idealize.ShloMosaic.Lib.Pointwise
public import Idealize.ShloMosaic.Lib.ValueIdx

/-! The reference takes the points nearest to a point by a descending sort of a row of values: which places of the row the sort puts
    first, in what order their values stand, and that the two results of the operation read those places. -/

@[expose] public section

noncomputable section

namespace Cert.KernelIdeal.Layer

open Idealize.ShloMosaic Idealize.ShloMosaic.Pointwise

/-- The place of the row `f` whose value the descending sort puts at position `k`. -/
def pick (f : Fin 1024 → EReal) (k : Fin 1024) : Fin 1024 :=
  sortedFrom (fun a b => (FloatOps.cmpfTotal (F := Ideal) (φ := .f32) .gt (f a) (f b)) == 1#1) k

/-- The comparison of the sort is the strict order of the values. -/
theorem greater_iff (x y : EReal) : ((FloatOps.cmpfTotal (F := Ideal) (φ := .f32) .gt x y) == 1#1) = decide (y < x) := by
  rw [Ideal.cmpfTotal_def]
  by_cases h : y < x <;> simp [Ideal.cmp, CmpDirection.ordered, h]

/-- Different positions of the sorted row come from different places. -/
theorem pick_injective (f : Fin 1024 → EReal) : Function.Injective (pick f) := sortedFrom_injective _

/-- Every place of the row stands at some position of the sorted row. -/
theorem pick_surjective (f : Fin 1024 → EReal) : Function.Surjective (pick f) := sortedFrom_surjective _

/-- The values of the sorted row descend. -/
theorem pick_descends (f : Fin 1024 → EReal) (a b : Fin 1024) (h : a ≤ b) : f (pick f b) ≤ f (pick f a) := by
  rcases h.lt_or_eq with h | rfl
  · have e := sortedFrom_noInversion (fun a b => decide (f b < f a))
      (fun a b => (FloatOps.cmpfTotal (F := Ideal) (φ := .f32) .gt (f a) (f b)) == 1#1)
      (fun a b hab => by rw [greater_iff] at hab; simpa using (of_decide_eq_true hab).le)
      (fun a b hab => by rw [greater_iff]; exact hab)
      (fun a b c hab hbc => by
        simp only [decide_eq_false_iff_not, not_lt] at hab hbc ⊢
        exact hab.trans hbc) a b h
    exact not_lt.1 (of_decide_eq_false e)
  · exact le_rfl

/-- The places of the first forty positions. -/
def first40 (f : Fin 1024 → EReal) : Finset (Fin 1024) :=
  Finset.univ.image fun k : Fin 40 => pick f (Fin.castLE (by decide) k)

/-- The first forty positions come from different places. -/
theorem first_injective (f : Fin 1024 → EReal) :
    Function.Injective fun k : Fin 40 => pick f (Fin.castLE (by decide) k) :=
  fun _ _ h => Fin.castLE_injective _ (pick_injective f h)

/-- There are forty of them. -/
theorem first40_card (f : Fin 1024 → EReal) : (first40 f).card = 40 := by
  unfold first40
  rw [Finset.card_image_of_injective _ (first_injective f)]
  simp

/-- Where the value at position 39 is above the value at position 40, a chosen place has a greater value than any other. -/
theorem first40_greater (f : Fin 1024 → EReal) (p q : Fin 1024) (hp : p.val = 39) (hq : q.val = 40)
    (h : f (pick f q) < f (pick f p)) (i j : Fin 1024) (hi : i ∈ first40 f) (hj : j ∉ first40 f) : f j < f i := by
  unfold first40 at hi hj
  obtain ⟨a, -, rfl⟩ := Finset.mem_image.1 hi
  obtain ⟨b, rfl⟩ := pick_surjective f j
  have hb : 40 ≤ b.val := by
    by_contra hb
    exact hj (Finset.mem_image.2 ⟨⟨b.val, by omega⟩, Finset.mem_univ _, rfl⟩)
  have ha := a.isLt
  have h1 : f (pick f b) ≤ f (pick f q) := pick_descends f q b (by rw [Fin.le_def]; omega)
  have h2 : f (pick f p) ≤ f (pick f (Fin.castLE (by decide) a)) :=
    pick_descends f _ p (by rw [Fin.le_def, Fin.val_castLE]; omega)
  exact h1.trans_lt (h.trans_le h2)

/-- A row of a `[32, 1024, 1024]` array. -/
def row (x : FVec Ideal (⟨3, ![32, 1024, 1024]⟩ : Shape) .f32) (b : Fin 32) (n : Fin 1024) (k : Fin 1024) : EReal := x (ix3 b n k)

/-- An index of the array with its last coordinate changed. -/
theorem along_last (b : Fin 32) (n k k' : Fin 1024) :
    (ix3 b n k : (⟨3, ![32, 1024, 1024]⟩ : Shape).Idx).along (2 : Fin 3) k' = ix3 b n k' := by
  funext a
  match a with
  | ⟨0, _⟩ => rfl
  | ⟨1, _⟩ => rfl
  | ⟨2, _⟩ => rfl

/-- Reading the array along its last axis through an index reads the row. -/
theorem along_row (x : FVec Ideal (⟨3, ![32, 1024, 1024]⟩ : Shape) .f32) (b : Fin 32) (n k : Fin 1024) :
    (fun l : Fin 1024 => x ((ix3 b n k : (⟨3, ![32, 1024, 1024]⟩ : Shape).Idx).along (2 : Fin 3) l)) = row x b n :=
  funext fun l => congrArg x (along_last b n k l)

/-- The values of the `K` greatest of each row, at position `k`: the value of the picked place. -/
theorem greatest_value (K : ℕ) (x : FVec Ideal (⟨3, ![32, 1024, 1024]⟩ : Shape) .f32)
    (h : (⟨3, ![32, 1024, 1024]⟩ : Shape).Slices (fun _ => 0) (⟨3, ![32, 1024, K]⟩ : Shape))
    (b : Fin 32) (n : Fin 1024) (k : Fin K) (k' : Fin 1024) (e : k'.val = k.val) :
    (Host.topK (⟨3, ![32, 1024, K]⟩ : Shape) 2 (FloatOps.cmpfTotal (F := Ideal) (φ := .f32) .gt) x h).1 (ix3 b n k)
      = row x b n (pick (row x b n) k') := by
  unfold Host.topK extractStridedSlice
  dsimp only
  have hi : ∀ i : (⟨3, ![32, 1024, 1024]⟩ : Shape).Idx, i = ix3 b n k' →
      (Host.sort2 (⟨3, ![32, 1024, 1024]⟩ : Shape) 2 (fun l r => FloatOps.cmpfTotal (F := Ideal) (φ := .f32) .gt l.1 r.1) x
        (fun i => if hd : 2 < (⟨3, ![32, 1024, 1024]⟩ : Shape).rank then iotaInDim (⟨3, ![32, 1024, 1024]⟩ : Shape) 32 ⟨2, hd⟩ i else 0#32)).1 i
        = row x b n (pick (row x b n) k') := by
    rintro _ rfl
    unfold Host.sort2
    rw [dif_pos (by decide)]
    have h1 : (fun l : Fin 1024 => x ((ix3 b n k' : (⟨3, ![32, 1024, 1024]⟩ : Shape).Idx).along (2 : Fin 3) l)) (pick (fun l : Fin 1024 => x ((ix3 b n k' : (⟨3, ![32, 1024, 1024]⟩ : Shape).Idx).along (2 : Fin 3) l)) k') = row x b n (pick (row x b n) k') := by rw [along_row]
    exact h1
  refine hi _ ?_
  funext a
  match a with
  | ⟨0, _⟩ => exact Fin.ext (by show 0 + b.val = b.val; omega)
  | ⟨1, _⟩ => exact Fin.ext (by show 0 + n.val = n.val; omega)
  | ⟨2, _⟩ => exact Fin.ext (by show 0 + k.val = k'.val; omega)

/-- Their positions, at position `k`: the word of the picked place. -/
theorem greatest_place (K : ℕ) (x : FVec Ideal (⟨3, ![32, 1024, 1024]⟩ : Shape) .f32)
    (h : (⟨3, ![32, 1024, 1024]⟩ : Shape).Slices (fun _ => 0) (⟨3, ![32, 1024, K]⟩ : Shape))
    (b : Fin 32) (n : Fin 1024) (k : Fin K) (k' : Fin 1024) (e : k'.val = k.val) :
    (Host.topK (⟨3, ![32, 1024, K]⟩ : Shape) 2 (FloatOps.cmpfTotal (F := Ideal) (φ := .f32) .gt) x h).2 (ix3 b n k)
      = BitVec.ofNat 32 (pick (row x b n) k').val := by
  unfold Host.topK extractStridedSlice
  dsimp only
  have hi : ∀ i : (⟨3, ![32, 1024, 1024]⟩ : Shape).Idx, i = ix3 b n k' →
      (Host.sort2 (⟨3, ![32, 1024, 1024]⟩ : Shape) 2 (fun l r => FloatOps.cmpfTotal (F := Ideal) (φ := .f32) .gt l.1 r.1) x
        (fun i => if hd : 2 < (⟨3, ![32, 1024, 1024]⟩ : Shape).rank then iotaInDim (⟨3, ![32, 1024, 1024]⟩ : Shape) 32 ⟨2, hd⟩ i else 0#32)).2 i
        = BitVec.ofNat 32 (pick (row x b n) k').val := by
    rintro _ rfl
    unfold Host.sort2
    rw [dif_pos (by decide)]
    have h1 : BitVec.ofNat 32 (pick (fun l : Fin 1024 => x ((ix3 b n k' : (⟨3, ![32, 1024, 1024]⟩ : Shape).Idx).along (2 : Fin 3) l)) k').val = BitVec.ofNat 32 (pick (row x b n) k').val := by rw [along_row]
    refine Eq.trans ?_ h1
    unfold Shape.Idx.along pick
    exact congrArg (fun v : Fin 1024 => BitVec.ofNat 32 v.val) (Function.update_self _ _ _)
  refine hi _ ?_
  funext a
  match a with
  | ⟨0, _⟩ => exact Fin.ext (by show 0 + b.val = b.val; omega)
  | ⟨1, _⟩ => exact Fin.ext (by show 0 + n.val = n.val; omega)
  | ⟨2, _⟩ => exact Fin.ext (by show 0 + k.val = k'.val; omega)

end Cert.KernelIdeal.Layer

end
-- ==== Proof.Ref.lean ====
module

public import proofs.«01_k».proof.Proof.Gen.ReferenceIdeal.Read
public import proofs.«01_k».proof.Proof.Block
public import proofs.«01_k».proof.Proof.Order
public import Idealize.ShloMosaic.Lib.Pointwise
import Idealize.ShloMosaic.Lib.StableHlo.Predicate

/-! What the reference's operations hold at an index: the points, their squared distances, the chosen neighbours, the gathered
    features and the edge values. -/

@[expose] public section

noncomputable section

namespace Cert.KernelIdeal.Layer

open Cert.ReferenceIdeal Cert.ReferenceIdeal.Gen Cert.ReferenceIdeal.Read Idealize.ShloMosaic Idealize.ShloMosaic.Pointwise

variable (x0 : FVec Ideal S32x32x1024 .f32) (x1 x2 : FVec Ideal S32x1 .f32) (x3 : FVec Ideal S32x32x1024 .f32) (x4 : FVec Ideal S32x64 .f32)

/-- The coordinate `p` of point `n` of batch `b`. -/
def pt (b p : Fin 32) (n : Fin 1024) : EReal := act (x0 (ix3 b p n)) (x1 (ix2 p 0)) (x2 (ix2 p 0)) (x3 (ix3 b p n))

/-- The reference's points. -/
theorem ref_points (b p : Fin 32) (n : Fin 1024) : val_main_v11 (F := Ideal) x0 x1 x2 x3 (ix3 b p n) = pt x0 x1 x2 x3 b p n := by
  unfold pt act
  pointwise [val_main_v11, val_main_v10, val_main_v9, val_main_v8, val_main_v7, val_main_v6, val_main_v5, val_main_v4, val_main_v3,
    val_main_v2, val_main_v1, val_main_v0, val_main_cst, val_main_cst_0]

/-- The reference's points with the coordinate last. -/
theorem ref_turned (b p : Fin 32) (n : Fin 1024) : val_main_v12 (F := Ideal) x0 x1 x2 x3 (ix3 b n p) = pt x0 x1 x2 x3 b p n := by
  rw [← ref_points]
  unfold val_main_v12
  generalize val_main_v11 (F := Ideal) x0 x1 x2 x3 = y
  pointwise

/-- The other turned copy of the points. -/
theorem ref_turned' (b p : Fin 32) (n : Fin 1024) : val_main_v25 (F := Ideal) x0 x1 x2 x3 (ix3 b n p) = pt x0 x1 x2 x3 b p n := by
  rw [← ref_points]
  unfold val_main_v25
  generalize val_main_v11 (F := Ideal) x0 x1 x2 x3 = y
  pointwise

/-- The squared lengths. -/
theorem ref_square (b : Fin 32) (n : Fin 1024) :
    val_main_v14 (F := Ideal) x0 x1 x2 x3 (ix2 b n) = ∑ p, pt x0 x1 x2 x3 b p n * pt x0 x1 x2 x3 b p n := by
  simp only [← ref_turned]
  unfold val_main_v14 val_main_v13
  generalize val_main_v12 (F := Ideal) x0 x1 x2 x3 = y
  pointwise [val_main_cst_1]

/-- The inner products. -/
theorem ref_inner (b : Fin 32) (n k : Fin 1024) :
    val_main_v15 (F := Ideal) x0 x1 x2 x3 (ix3 b n k) = ∑ p, pt x0 x1 x2 x3 b p n * pt x0 x1 x2 x3 b p k := by
  simp only [← ref_turned]
  rw [val_main_v15_apply]
  generalize val_main_v12 (F := Ideal) x0 x1 x2 x3 = y
  refine Finset.sum_congr rfl fun p _ => ?_
  refine congrArg₂ (· * ·) (congrArg y ?_) (congrArg y ?_) <;> funext a <;> match a with
    | ⟨0, _⟩ => rfl
    | ⟨1, _⟩ => rfl
    | ⟨2, _⟩ => rfl

/-- The row the reference sorts for a point: minus its squared distances from the points. -/
theorem ref_row (b : Fin 32) (n k : Fin 1024) :
    row (val_main_v24 (F := Ideal) x0 x1 x2 x3) b n k = -(far (pt x0 x1 x2 x3 b) k n) := by
  have h1 := ref_square x0 x1 x2 x3 b n
  have h2 := ref_square x0 x1 x2 x3 b k
  have h3 := ref_inner x0 x1 x2 x3 b n k
  unfold row far
  simp only [mul_comm (pt x0 x1 x2 x3 b _ k) (pt x0 x1 x2 x3 b _ n)]
  rw [← h1, ← h2, ← h3]
  unfold val_main_v24 val_main_v23 val_main_v22 val_main_v21 val_main_v20 val_main_v19 val_main_v18 val_main_v17 val_main_v16 val_main_cst_2
  generalize val_main_v14 (F := Ideal) x0 x1 x2 x3 = y
  generalize val_main_v15 (F := Ideal) x0 x1 x2 x3 = z
  pointwise

/-- The neighbours of a point: the places of the first forty of its sorted row. -/
def near (b : Fin 32) (n : Fin 1024) : Finset (Fin 1024) := first40 (row (val_main_v24 (F := Ideal) x0 x1 x2 x3) b n)

/-- The place of the `k`-th neighbour. -/
def nth (b : Fin 32) (n : Fin 1024) (k : Fin 40) : Fin 1024 :=
  pick (row (val_main_v24 (F := Ideal) x0 x1 x2 x3) b n) (Fin.castLE (by decide) k)

/-- The positions the reference's sort returns. -/
theorem ref_place (b : Fin 32) (n : Fin 1024) (k : Fin 40) :
    val_main_indices (F := Ideal) x0 x1 x2 x3 (ix3 b n k) = BitVec.ofNat 32 (nth x0 x1 x2 x3 b n k).val :=
  greatest_place 40 _ _ b n k _ rfl

/-- None of them is below zero, so the reference's wrapping of negative positions leaves them. -/
theorem ref_place' (b : Fin 32) (n : Fin 1024) (k : Fin 40) (z : Fin 1) :
    val_main_v31 (F := Ideal) x0 x1 x2 x3 (ix4 b n k z) = BitVec.ofNat 32 (nth x0 x1 x2 x3 b n k).val := by
  have h := ref_place x0 x1 x2 x3 b n k
  generalize nth x0 x1 x2 x3 b n k = w at h ⊢
  rw [val_main_v31_apply, val_main_v30_apply, val_main_v27_apply, val_main_v26_apply, val_main_c_apply]
  have hi : idx_main_v31 (ix4 b n k z) = ix3 b n k := by
    funext a
    match a with
    | ⟨0, _⟩ => rfl
    | ⟨1, _⟩ => rfl
    | ⟨2, _⟩ => rfl
  rw [hi, h]
  have hw := w.isLt
  have hc : IntOp.cmpi .slt (BitVec.ofNat 32 w.val) 0x00000000#32 = 0#1 := by
    have : (BitVec.ofNat 32 w.val).slt 0x00000000#32 = false := by
      rw [BitVec.slt_eq_decide, StableHlo.Predicate.toInt_ofNat_small _ (by omega)]
      simp
    unfold IntOp.cmpi
    simp [this]
  rw [hc]
  rfl

end Cert.KernelIdeal.Layer

end
-- ==== Proof.RefEdge.lean ====
module

public import proofs.«01_k».proof.Proof.Ref
import Idealize.ShloMosaic.Lib.StableHlo.Predicate
import Idealize.ShloMosaic.Lib.Pipeline.Value

/-! The reference's gathered features, its edge values, and what it takes of them over the neighbours. -/

@[expose] public section

noncomputable section

namespace Cert.KernelIdeal.Layer

open Cert.ReferenceIdeal Cert.ReferenceIdeal.Gen Cert.ReferenceIdeal.Read Idealize.ShloMosaic Idealize.ShloMosaic.Pointwise

/-- The gather reads, for a point and a position, the row the word at that position names. -/
theorem gather_named (x : FVec Ideal S32x1024x32 .f32) (p : IVec S32x1024x40x1 32) (b : Fin 32) (n : Fin 1024) (k : Fin 40) (c : Fin 32)
    (w : Fin 1024) (h : p (ix4 b n k 0) = BitVec.ofNat 32 w.val) :
    Host.gather gather_S32x1024x32_S32x1024x40x1_S32x1024x40x32_3_1_0_0_1_3_1132 x p (ix4 b n k c) = x (ix3 b w c) := by
  unfold Host.gather
  refine congrArg x (funext fun a => Fin.ext ?_)
  have hw := w.isLt
  match a with
  | ⟨0, _⟩ =>
    show GatherDims.start _ (ix4 b n k c) p 0 + GatherDims.batchCoord _ (ix4 b n k c) 0 + GatherDims.offCoord _ (ix4 b n k c) 0 = b.val
    rw [GatherDims.offCoord_eq_zero _ _ _ (by decide)]
    unfold GatherDims.start GatherDims.batchCoord
    rw [dif_neg (by decide), dif_pos (by decide)]
    unfold GatherDims.siCoord
    simp only [Nat.add_zero, Nat.zero_add]
    rfl
  | ⟨1, _⟩ =>
    show GatherDims.start _ (ix4 b n k c) p 1 + GatherDims.batchCoord _ (ix4 b n k c) 1 + GatherDims.offCoord _ (ix4 b n k c) 1 = w.val
    rw [GatherDims.offCoord_eq_zero _ _ _ (by decide), GatherDims.batchCoord_eq_zero _ _ _ (by decide)]
    unfold GatherDims.start
    rw [dif_pos (by decide)]
    have hi : ∀ i : S32x1024x40x1.Idx, i = ix4 b n k 0 → min (p i).toInt.toNat 1023 = w.val := by
      rintro _ rfl
      rw [h, StableHlo.Predicate.toInt_ofNat_small _ (by omega)]
      omega
    refine hi _ ?_
    funext a'
    match a' with
    | ⟨0, _⟩ => rfl
    | ⟨1, _⟩ => rfl
    | ⟨2, _⟩ => rfl
    | ⟨3, _⟩ => rfl
  | ⟨2, _⟩ =>
    show GatherDims.start _ (ix4 b n k c) p 2 + GatherDims.batchCoord _ (ix4 b n k c) 2 + GatherDims.offCoord _ (ix4 b n k c) 2 = c.val
    rw [GatherDims.batchCoord_eq_zero _ _ _ (by decide)]
    unfold GatherDims.start GatherDims.offCoord
    rw [dif_neg (by decide), dif_pos (by decide)]
    simp only [Nat.add_zero, Nat.zero_add]
    rfl

variable (x0 : FVec Ideal S32x32x1024 .f32) (x1 x2 : FVec Ideal S32x1 .f32) (x3 : FVec Ideal S32x32x1024 .f32) (x4 : FVec Ideal S32x64 .f32)

/-- The gathered points are the neighbours. -/
theorem ref_gathered (b : Fin 32) (n : Fin 1024) (k : Fin 40) (c : Fin 32) :
    val_main_v32 (F := Ideal) x0 x1 x2 x3 (ix4 b n k c) = pt x0 x1 x2 x3 b c (nth x0 x1 x2 x3 b n k) := by
  unfold val_main_v32
  rw [gather_named _ _ b n k c _ (ref_place' x0 x1 x2 x3 b n k 0), ref_turned']

/-- The point itself, repeated for each neighbour. -/
theorem ref_repeated (b : Fin 32) (n : Fin 1024) (k : Fin 40) (c : Fin 32) :
    val_main_v34 (F := Ideal) x0 x1 x2 x3 (ix4 b n k c) = pt x0 x1 x2 x3 b c n := by
  rw [← ref_turned']
  unfold val_main_v34 val_main_v33
  generalize val_main_v25 (F := Ideal) x0 x1 x2 x3 = y
  pointwise

/-- The features of an edge: differences first, the point itself after. -/
theorem ref_features (b : Fin 32) (n : Fin 1024) (k : Fin 40) (q : Fin 64) :
    val_main_v36 (F := Ideal) x0 x1 x2 x3 (ix4 b n k q)
      = edge (fun c => pt x0 x1 x2 x3 b c (nth x0 x1 x2 x3 b n k)) (fun c => pt x0 x1 x2 x3 b c n) q := by
  unfold val_main_v36 edge
  by_cases h : q.val < 32
  · rw [dif_pos h]
    refine (concatenate_pair_apply_left (s₁ := S32x1024x40x32) (s₂ := S32x1024x40x32) (t := S32x1024x40x64) 3 _ _ _ (ix4 b n k q) rfl
      (ix4 b n k ⟨q.val, h⟩) (fun a => by
        match a with
        | ⟨0, _⟩ => rfl
        | ⟨1, _⟩ => rfl
        | ⟨2, _⟩ => rfl
        | ⟨3, _⟩ => rfl)).trans ?_
    rw [val_main_v35_apply, ref_gathered, ref_repeated]
    rfl
  · have hq := q.isLt
    have hr : q.val - 32 < 32 := by omega
    rw [dif_neg h]
    refine (concatenate_pair_apply_right (s₁ := S32x1024x40x32) (s₂ := S32x1024x40x32) (t := S32x1024x40x64) 3 _ _ _ (ix4 b n k q) rfl rfl
      (ix4 b n k ⟨q.val - 32, hr⟩) (fun a ha => by
        match a with
        | ⟨0, _⟩ => rfl
        | ⟨1, _⟩ => rfl
        | ⟨2, _⟩ => rfl
        | ⟨3, _⟩ => exact absurd rfl ha) (by show q.val - 32 + 32 = q.val; omega)).trans ?_
    rw [ref_repeated]

/-- The value of an output channel on an edge. -/
def val (b o : Fin 32) (n k : Fin 1024) : EReal :=
  outCh (fun q => x4 (ix2 o q)) (fun c => pt x0 x1 x2 x3 b c k) (fun c => pt x0 x1 x2 x3 b c n)

/-- The reference's edge values. -/
theorem ref_edge (b o : Fin 32) (n : Fin 1024) (k : Fin 40) :
    val_main_v39 (F := Ideal) x0 x1 x2 x3 x4 (ix4 b o n k) = val x0 x1 x2 x3 x4 b o n (nth x0 x1 x2 x3 b n k) := by
  rw [val_main_v39_apply, val_main_v38_apply]
  unfold val outCh
  refine Finset.sum_congr rfl fun q _ => ?_
  rw [val_main_v37_apply, ← ref_features, mul_comm]
  refine congrArg₂ (· * ·) (congrArg x4 ?_) (congrArg _ ?_) <;> funext a
  · match a with
    | ⟨0, _⟩ => rfl
    | ⟨1, _⟩ => rfl
  · match a with
    | ⟨0, _⟩ => rfl
    | ⟨1, _⟩ => rfl
    | ⟨2, _⟩ => rfl
    | ⟨3, _⟩ => rfl

/-- A maximum over the neighbours' positions is one over the neighbours. -/
theorem near_sup (b : Fin 32) (n : Fin 1024) (f : Fin 1024 → EReal) :
    (Finset.univ.sup fun k : Fin 40 => f (nth x0 x1 x2 x3 b n k)) = (near x0 x1 x2 x3 b n).sup f := by
  unfold near first40
  rw [Finset.sup_image]
  rfl

/-- A sum over the neighbours' positions is one over the neighbours. -/
theorem near_sum (b : Fin 32) (n : Fin 1024) (f : Fin 1024 → EReal) :
    (∑ k : Fin 40, f (nth x0 x1 x2 x3 b n k)) = ∑ k ∈ near x0 x1 x2 x3 b n, f k := by
  unfold near first40
  rw [Finset.sum_image fun _ _ _ _ h => first_injective _ h]
  rfl

/-- The reference's maximum over the neighbours. -/
theorem ref_max (b o : Fin 32) (n : Fin 1024) :
    val_main_v40 (F := Ideal) x0 x1 x2 x3 x4 (ix3 b o n) = (near x0 x1 x2 x3 b n).sup fun k => val x0 x1 x2 x3 x4 b o n k := by
  rw [← near_sup]
  simp only [← ref_edge]
  unfold val_main_v40
  generalize val_main_v39 (F := Ideal) x0 x1 x2 x3 x4 = y
  pointwise [val_main_cst_4]
  have hb : Ideal.ofBits FTy.f32 4286578688#32 = (⊥ : EReal) := by simp [Ideal.ofBits, Ideal.ieee]
  rw [hb]
  rfl

/-- The indices that a sum over every axis but the second brings to a channel are those with that channel. -/
theorem fiber_channel (h : S32x32x1024x40.ReducesTo [0, 2, 3] S32) (o : Fin 32) (i : S32x32x1024x40.Idx) :
    h.drop i = ix1 o ↔ ∃ k : Fin 32 × Fin 1024 × Fin 40, (ix4 k.1 o k.2.1 k.2.2 : S32x32x1024x40.Idx) = i := by
  constructor
  · intro e
    refine ⟨(i 0, i 2, i 3), ?_⟩
    funext a; apply Fin.ext
    match a with
    | ⟨0, _⟩ => rfl
    | ⟨1, _⟩ => exact (congrArg Fin.val (congrFun e (0 : Fin 1))).symm
    | ⟨2, _⟩ => rfl
    | ⟨3, _⟩ => rfl
  · rintro ⟨k, rfl⟩
    funext a; apply Fin.ext
    match a with
    | ⟨0, _⟩ => rfl

/-- A sum over every axis but the second. -/
theorem total_channel (h : S32x32x1024x40.ReducesTo [0, 2, 3] S32) (y : S32x32x1024x40.Idx → EReal) (o : Fin 32) :
    Ideal.hostReduceAdd h y 0 (ix1 o) = ∑ b : Fin 32, ∑ n : Fin 1024, ∑ k : Fin 40, y (ix4 b o n k) := by
  unfold Ideal.hostReduceAdd
  rw [zero_add, Finset.sum_filter_eq_sum_of_fiber _ (fun k : Fin 32 × Fin 1024 × Fin 40 => (ix4 k.1 o k.2.1 k.2.2 : S32x32x1024x40.Idx))
    (fun _ _ e => Prod.ext (congrFun e (0 : Fin 4)) (Prod.ext (congrFun e (2 : Fin 4)) (congrFun e (3 : Fin 4)))) (fiber_channel h o) y]
  simp only [Fintype.sum_prod_type]

/-- The reference's sum over everything but the channel. -/
theorem ref_sum (z : Fin 1) (o : Fin 32) :
    val_main_v42 (F := Ideal) x0 x1 x2 x3 x4 (ix2 z o)
      = ∑ b, ∑ n, ∑ k ∈ near x0 x1 x2 x3 b n, val x0 x1 x2 x3 x4 b o n k := by
  simp only [← near_sum, ← ref_edge]
  unfold val_main_v42 val_main_v41
  generalize val_main_v39 (F := Ideal) x0 x1 x2 x3 x4 = y
  pointwise [val_main_cst_5]
  exact total_channel _ y o

/-- The reference's sum of squares over everything but the channel. -/
theorem ref_squares (z : Fin 1) (o : Fin 32) :
    val_main_v45 (F := Ideal) x0 x1 x2 x3 x4 (ix2 z o)
      = ∑ b, ∑ n, ∑ k ∈ near x0 x1 x2 x3 b n, val x0 x1 x2 x3 x4 b o n k * val x0 x1 x2 x3 x4 b o n k := by
  simp only [← near_sum x0 x1 x2 x3 _ _ fun k => val x0 x1 x2 x3 x4 _ o _ k * val x0 x1 x2 x3 x4 _ o _ k, ← ref_edge]
  unfold val_main_v45 val_main_v44 val_main_v43
  generalize val_main_v39 (F := Ideal) x0 x1 x2 x3 x4 = y
  pointwise [val_main_cst_6]
  exact total_channel _ _ o

end Cert.KernelIdeal.Layer

end
-- ==== Proof.NoTie.lean ====
module

public import proofs.«01_k».proof.Pre_no_tie
public import proofs.«01_k».proof.Proof.RefEdge
import Idealize.ShloMosaic.Lib.StableHlo.Predicate

/-! What the precondition says: each point's fortieth neighbour is strictly nearer than its forty-first. -/

@[expose] public section

noncomputable section

namespace Cert.KernelIdeal.Layer

open Cert.ReferenceIdeal Cert.ReferenceIdeal.Gen Cert.ReferenceIdeal.Read Idealize.ShloMosaic Idealize.ShloMosaic.Pointwise

/-- The side conditions of the precondition's operations. -/
instance preFacts : Cert.Pre_no_tie.Facts where
  bcast_S32x1_S32x32x1024_1_2 := by decide
  bcast_S_S32x32x1024 := by decide
  transposes_S32x32x1024_S32x1024x32_0_2_1 := by decide
  reducesTo_S32x1024x32_S32x1024_d2 := by decide
  h_S_ := by decide
  bcast_S32x1024_S32x1024x1_0_1 := by decide
  bcast_S_S32x1024x1024 := by decide
  bcast_S32x1024x1_S32x1024x1024_0_1_2 := by decide
  bcast_S32x1024_S32x1x1024_0_2 := by decide
  bcast_S32x1x1024_S32x1024x1024_0_1_2 := by decide
  sliceFits_S32x1024x1024_S32x1024x41 := by decide
  slices_S32x1024x41_S32x1024x1_0_0_39 := by decide
  slices_S32x1024x41_S32x1024x1_0_0_40 := by decide
  dot_S32x1024x32_S32x1024x32_S32x1024x1024_2_2_1_1_0_0_wf := by decide

variable (x0 : FVec Ideal S32x32x1024 .f32) (x1 x2 : FVec Ideal S32x1 .f32) (x3 : FVec Ideal S32x32x1024 .f32) (x4 : FVec Ideal S32x64 .f32)

/-- The precondition's scaled and shifted array, before the leaky step. -/
def shifted : FVec Ideal S32x32x1024 .f32 :=
  addf (mulf x0 (broadcastInDim S32x32x1024 ![1, 2] preFacts.bcast_S32x1_S32x32x1024_1_2 x1))
    (broadcastInDim S32x32x1024 ![1, 2] preFacts.bcast_S32x1_S32x32x1024_1_2 x2)

/-- It is the reference's. -/
theorem shifted_eq : shifted x0 x1 x2 = val_main_v5 (F := Ideal) x0 x1 x2 := by
  funext i
  obtain ⟨b, p, n, rfl⟩ : ∃ b p n, i = ix3 b p n := ⟨i 0, i 1, i 2, by funext a; match a with | ⟨0, _⟩ => rfl | ⟨1, _⟩ => rfl | ⟨2, _⟩ => rfl⟩
  pointwise [shifted, val_main_v5, val_main_v4, val_main_v3, val_main_v2, val_main_v1, val_main_v0]

/-- The precondition compares the values at positions 39 and 40 of the reference's sorted negated distances. -/
theorem pre_eq (b : Fin 32) (n : Fin 1024) (h : Cert.Pre_no_tie.fn (F := Ideal) x0 x1 x2 x3 x4 = fun _ => 1#1) :
    cmpf (F := Ideal) .ogt
      (extractStridedSlice Cert.Pre_no_tie.S32x1024x1 ![0, 0, 39]
        (Host.topK Cert.Pre_no_tie.S32x1024x41 2 (FloatOps.cmpfTotal (F := Ideal) (φ := .f32) .gt) (val_main_v24 (F := Ideal) x0 x1 x2 x3)
          preFacts.sliceFits_S32x1024x1024_S32x1024x41).1 preFacts.slices_S32x1024x41_S32x1024x1_0_0_39)
      (extractStridedSlice Cert.Pre_no_tie.S32x1024x1 ![0, 0, 40]
        (Host.topK Cert.Pre_no_tie.S32x1024x41 2 (FloatOps.cmpfTotal (F := Ideal) (φ := .f32) .gt) (val_main_v24 (F := Ideal) x0 x1 x2 x3)
          preFacts.sliceFits_S32x1024x1024_S32x1024x41).1 preFacts.slices_S32x1024x41_S32x1024x1_0_0_40) (ix3 b n 0) = 1#1 := by
  refine Eq.trans (congrFun ?_ _) (congrFun h (ix3 b n 0))
  unfold Cert.Pre_no_tie.fn Cert.Pre_no_tie.fn_part1
  dsimp only
  have e : addf (mulf x0 (broadcastInDim S32x32x1024 ![1, 2] preFacts.bcast_S32x1_S32x32x1024_1_2 x1))
    (broadcastInDim S32x32x1024 ![1, 2] preFacts.bcast_S32x1_S32x32x1024_1_2 x2) = _ := shifted_eq x0 x1 x2
  rw [e]
  rfl

/-- Read at a point, the values at positions 39 and 40 of its sorted row. -/
theorem apart (b : Fin 32) (n : Fin 1024) (h : Cert.Pre_no_tie.fn (F := Ideal) x0 x1 x2 x3 x4 = fun _ => 1#1) :
    row (val_main_v24 (F := Ideal) x0 x1 x2 x3) b n (pick (row (val_main_v24 (F := Ideal) x0 x1 x2 x3) b n) 40)
      < row (val_main_v24 (F := Ideal) x0 x1 x2 x3) b n (pick (row (val_main_v24 (F := Ideal) x0 x1 x2 x3) b n) 39) := by
  have hc := pre_eq x0 x1 x2 x3 x4 b n h
  generalize val_main_v24 (F := Ideal) x0 x1 x2 x3 = y at hc ⊢
  rw [← greatest_value 41 y preFacts.sliceFits_S32x1024x1024_S32x1024x41 b n 40 40 rfl,
    ← greatest_value 41 y preFacts.sliceFits_S32x1024x1024_S32x1024x41 b n 39 39 rfl]
  generalize (Host.topK Cert.Pre_no_tie.S32x1024x41 2 (FloatOps.cmpfTotal (F := Ideal) (φ := .f32) .gt) y
          preFacts.sliceFits_S32x1024x1024_S32x1024x41).1 = z at hc ⊢
  pointwise at hc
  by_contra hn
  rw [decide_eq_false hn] at hc
  exact absurd hc (by decide)

/-- The points' forty neighbours in the reference are told apart by distance. -/
theorem nearest (h : Cert.Pre_no_tie.fn (F := Ideal) x0 x1 x2 x3 x4 = fun _ => 1#1) (b : Fin 32) :
    Nearest (pt x0 x1 x2 x3 b) (near x0 x1 x2 x3 b) where
  card n := first40_card _
  far n i hi j hj := by
    have hf := first40_greater _ 39 40 rfl rfl (apart x0 x1 x2 x3 x4 b n h) i j hi hj
    rw [ref_row, ref_row] at hf
    exact EReal.neg_lt_neg_iff.1 hf

end Cert.KernelIdeal.Layer

end
-- ==== Proof.Arrays.lean ====
module

public import proofs.«01_k».proof.Proof.Block
import Idealize.ShloMosaic.Lib.Pointwise

@[expose] public section

/-! What the four result arrays hold after the call. -/

noncomputable section

namespace Cert.KernelIdeal.Layer

open Cert.KernelIdeal Cert.KernelIdeal.Gen Idealize.ShloMosaic Idealize.ShloMosaic.TcCoe Idealize.SL.Sem
open Idealize.ShloMosaic.Pointwise

/-- A row's total. -/
theorem rowTotal_apply (v : Vec Ideal S32x1024 .f32) (z : Fin 1) (o : Fin 32) : k0_pay637 v (ix2 z o) = ∑ n, (v (ix2 o n) : EReal) := by
  pointwise [k0_pay637]

/-- The other row total. -/
theorem rowTotal'_apply (v : Vec Ideal S32x1024 .f32) (z : Fin 1) (o : Fin 32) : k0_pay639 v (ix2 z o) = ∑ n, (v (ix2 o n) : EReal) := by
  pointwise [k0_pay639]

/-- The running total takes the row totals in. -/
theorem grown_apply (v : Vec Ideal S32x1024 .f32) (a : Vec Ideal S1x32 .f32) (z : Fin 1) (o : Fin 32) :
    k0_pay638 v a (ix2 z o) = (a (ix2 z o) : EReal) + k0_pay637 v (ix2 z o) := by
  generalize hT : k0_pay637 v = T
  pointwise [k0_pay638]
  rw [hT]

/-- The running total of squares takes the row totals in. -/
theorem grown'_apply (v : FVec Ideal S1x32 .f32) (a : Vec Ideal S1x32 .f32) (z : Fin 1) (o : Fin 32) :
    k0_pay1 v a (ix2 z o) = (a (ix2 z o) : EReal) + v (ix2 z o) := by
  pointwise [k0_pay1]

/-- The sum's first value is zero. -/
theorem start_sum (o : Fin 32) (n : Fin 1024) : k0_pay635 (F := Ideal) (ix2 o n) = (0 : EReal) := by
  pointwise [k0_pay635]

/-- The sum of squares' first value is zero. -/
theorem start_sq (o : Fin 32) (n : Fin 1024) : k0_pay636 (F := Ideal) (ix2 o n) = (0 : EReal) := by
  pointwise [k0_pay636]

/-- The maximum's first value is least. -/
theorem start_max (o : Fin 32) (n : Fin 1024) :
    shapeCast S32x1024 (k0_pay634 (F := Ideal)) shapeCasts_S1x32x1024_S32x1024 (ix2 o n) = (⊥ : EReal) := by
  pointwise [k0_pay634]
  rfl

variable (m : (ℓ : Loc nD τ sig) → Buf (Elt Ideal) ℓ) (d : Dev nD)

/-- What a point leaves in the first output's buffer. -/
theorem left5 (t : Fin cfg0.N) (z : Fin 1) (p : Fin 32) (n : Fin 1024) :
    (outsAt0 m d t.val t.isLt).1 (ix3 z p n) = pts m d (bat t) p n := by
  rw [← points_apply m d t p n]
  have hN : cfg0.N = 32 := N_0
  have ht := t.isLt
  by_cases h : t.val % 32 = 0
  · rw [outsAt0_A m d t h (by omega) h (by omega)]
    dsimp only
    rw [out5_A]
    generalize blkX (F := Ideal) (iblk m d 0 t) (iblk m d 1 t) (iblk m d 2 t) (iblk m d 3 t) = X
    pointwise
  · rw [outsAt0_B m d t h (by omega) h (by omega)]
    dsimp only
    rw [out5_B]
    generalize blkX (F := Ideal) (iblk m d 0 t) (iblk m d 1 t) (iblk m d 2 t) (iblk m d 3 t) = X
    pointwise

variable {T : Fin 32 → Fin 1024 → Finset (Fin 1024)} (hT : ∀ b, Nearest (pts m d b) (T b))

/-- An array with one leading row, at an index. -/
theorem one_row (y : Vec Ideal S1x32x1024 .f32) (z : Fin 1) (o : Fin 32) (n : Fin 1024) :
    y (ix3 z o n) = shapeCast S32x1024 y shapeCasts_S1x32x1024_S32x1024 (ix2 o n) := by
  obtain rfl : z = 0 := Subsingleton.elim _ _
  pointwise

include hT

/-- What a point leaves in the second output's buffer. -/
theorem left6 (t : Fin cfg0.N) (z : Fin 1) (o : Fin 32) (n : Fin 1024) :
    (outsAt0 m d t.val t.isLt).2.1 (ix3 z o n) = (T (bat t) n).sup fun k => edgeVal m d (bat t) o n k := by
  refine (one_row _ z o n).trans ?_
  have hN : cfg0.N = 32 := N_0
  have ht := t.isLt
  by_cases h : t.val % 32 = 0
  · rw [outsAt0_A m d t h (by omega) h (by omega)]
    dsimp only
    rw [out6_A]
    exact max_block m d t (hT _) _ o n (start_max o n)
  · rw [outsAt0_B m d t h (by omega) h (by omega)]
    dsimp only
    rw [out6_B]
    exact max_block m d t (hT _) _ o n (start_max o n)

/-- One point's share of a total. -/
def share (T : Fin 32 → Fin 1024 → Finset (Fin 1024)) (g : EReal → EReal) (b o : Fin 32) : EReal :=
  ∑ n, ∑ k ∈ T b n, g (edgeVal m d b o n k)

/-- The total after the last point is the sum of the shares. -/
theorem left7 (t : Fin cfg0.N) (ht : t.val + 1 = cfg0.N) (j : S1x32.Idx) :
    (outsAt0 m d t.val t.isLt).2.2.1 j = 0 + ∑ p : Fin cfg0.N, share m d T id (bat p) (j 1) := by
  have hb : ∀ (p : Fin cfg0.N) (z : Fin 1) (o : Fin 32), k0_pay637 (F := Ideal) (blkAcc (F := Ideal) stepSum (iblk m d 0 p) (iblk m d 1 p) (iblk m d 2 p) (iblk m d 3 p)
      (iblk m d 4 p) k0_pay635) (ix2 z o) = share m d T id (bat p) o := fun p z o => by
    rw [rowTotal_apply]
    exact Finset.sum_congr rfl fun n _ => sum_block m d p (hT _) stepSum id stepSum_apply _ o n (start_sum o n)
  have hN : cfg0.N = 32 := N_0
  rw [Pipeline.eq_sum_fin_of_reset_step_apply_last (fun n h => (outsAt0 m d n h).2.2.1) 32 (fun _ => (0 : EReal))
    (fun p j => share m d T id (bat p) (j 1)) (fun p h j => ?_) (fun p h j => ?_) (le_of_eq N_0) t ht j]
  · obtain ⟨z, o, rfl⟩ : ∃ z o, j = ix2 z o := ⟨_, _, (ix2_eta j).symm⟩
    have := p.isLt
    rw [outsAt0_A m d p h (by omega) h (by omega)]
    dsimp only
    rw [out7_A, hb, zero_add]
    rfl
  · obtain ⟨z, o, rfl⟩ : ∃ z o, j = ix2 z o := ⟨_, _, (ix2_eta j).symm⟩
    have := p.isLt
    rw [outsAt0_B m d p h (by omega) h (by omega)]
    dsimp only
    rw [out7_B, grown_apply, hb]
    rfl

/-- The total of squares after the last point is the sum of the shares. -/
theorem left8 (t : Fin cfg0.N) (ht : t.val + 1 = cfg0.N) (j : S1x32.Idx) :
    (outsAt0 m d t.val t.isLt).2.2.2 j = 0 + ∑ p : Fin cfg0.N, share m d T (fun y => y * y) (bat p) (j 1) := by
  have hb : ∀ (p : Fin cfg0.N) (z : Fin 1) (o : Fin 32), k0_pay639 (F := Ideal) (blkAcc (F := Ideal) stepSq (iblk m d 0 p) (iblk m d 1 p) (iblk m d 2 p) (iblk m d 3 p)
      (iblk m d 4 p) k0_pay636) (ix2 z o) = share m d T (fun y => y * y) (bat p) o := fun p z o => by
    rw [rowTotal'_apply]
    exact Finset.sum_congr rfl fun n _ => sum_block m d p (hT _) stepSq (fun y => y * y) stepSq_apply _ o n (start_sq o n)
  have hN : cfg0.N = 32 := N_0
  rw [Pipeline.eq_sum_fin_of_reset_step_apply_last (fun n h => (outsAt0 m d n h).2.2.2) 32 (fun _ => (0 : EReal))
    (fun p j => share m d T (fun y => y * y) (bat p) (j 1)) (fun p h j => ?_) (fun p h j => ?_) (le_of_eq N_0) t ht j]
  · obtain ⟨z, o, rfl⟩ : ∃ z o, j = ix2 z o := ⟨_, _, (ix2_eta j).symm⟩
    have := p.isLt
    rw [outsAt0_A m d p h (by omega) h (by omega)]
    dsimp only
    rw [out8_A, hb, zero_add]
    rfl
  · obtain ⟨z, o, rfl⟩ : ∃ z o, j = ix2 z o := ⟨_, _, (ix2_eta j).symm⟩
    have := p.isLt
    rw [outsAt0_B m d p h (by omega) h (by omega)]
    dsimp only
    rw [out8_B, grown'_apply, hb]
    rfl

omit hT in
/-- The first result array: every batch's points. -/
theorem array5 : (dats m 0 d).arrAt 5 cfg0.N = fun i : S32x32x1024.Idx => pts m d (i 0) (i 1) (i 2) := by
  have e : ∀ t : Fin grid0.N, win0_5.index t = ![t.val, 0, 0] := by decide +kernel
  refine (dats m 0 d).arrAt_eq_of_covers 5 _ (by decide +kernel) fun t hf y => ?_
  rw [after0_5]
  have hy : (cfg0.win 5).xinj (cfg0.grid.coords t) y = (ix3 (y 0) (y 1) (y 2) : S1x32x1024.Idx) := by
    funext a
    match a with
    | ⟨0, _⟩ => rfl
    | ⟨1, _⟩ => rfl
    | ⟨2, _⟩ => rfl
  refine (cast_eq _ _).trans ?_
  rw [hy]
  refine (left5 m d t (y 0) (y 1) (y 2)).trans ?_
  have h0 : ((cfg0.win 5).blk t).view.emb y 0 = bat t := Fin.ext (by blk_simp [e t])
  have h1 : ((cfg0.win 5).blk t).view.emb y 1 = y 1 := Fin.ext (by blk_simp [e t])
  have h2 : ((cfg0.win 5).blk t).view.emb y 2 = y 2 := Fin.ext (by blk_simp [e t])
  rw [h0, h1, h2]

/-- The second result array: the greatest convolution value over the neighbours. -/
theorem array6 : (dats m 0 d).arrAt 6 cfg0.N
    = fun i : S32x32x1024.Idx => (T (i 0) (i 2)).sup fun k => edgeVal m d (i 0) (i 1) (i 2) k := by
  have e : ∀ t : Fin grid0.N, win0_6.index t = ![t.val, 0, 0] := by decide +kernel
  refine (dats m 0 d).arrAt_eq_of_covers 6 _ (by decide +kernel) fun t hf y => ?_
  rw [after0_6]
  have hy : (cfg0.win 6).xinj (cfg0.grid.coords t) y = (ix3 (y 0) (y 1) (y 2) : S1x32x1024.Idx) := by
    funext a
    match a with
    | ⟨0, _⟩ => rfl
    | ⟨1, _⟩ => rfl
    | ⟨2, _⟩ => rfl
  refine (cast_eq _ _).trans ?_
  rw [hy]
  refine (left6 m d hT t (y 0) (y 1) (y 2)).trans ?_
  have h0 : ((cfg0.win 6).blk t).view.emb y 0 = bat t := Fin.ext (by blk_simp [e t])
  have h1 : ((cfg0.win 6).blk t).view.emb y 1 = y 1 := Fin.ext (by blk_simp [e t])
  have h2 : ((cfg0.win 6).blk t).view.emb y 2 = y 2 := Fin.ext (by blk_simp [e t])
  rw [h0, h1, h2]

/-- The third result array: the total over all batches, points and neighbours. -/
theorem array7 : (dats m 0 d).arrAt 7 cfg0.N = fun i : S1x32.Idx => ∑ b, share m d T id b (i 1) := by
  refine (dats m 0 d).arrAt_eq_of_after_last 7 ⟨31, by decide⟩ (by decide +kernel) _ fun j => ?_
  rw [after0_7]
  refine (left7 m d hT ⟨31, by decide⟩ rfl j).trans ?_
  rw [zero_add]
  rfl

/-- The fourth result array: the total of the squares. -/
theorem array8 : (dats m 0 d).arrAt 8 cfg0.N = fun i : S1x32.Idx => ∑ b, share m d T (fun y => y * y) b (i 1) := by
  refine (dats m 0 d).arrAt_eq_of_after_last 8 ⟨31, by decide⟩ (by decide +kernel) _ fun j => ?_
  rw [after0_8]
  refine (left8 m d hT ⟨31, by decide⟩ rfl j).trans ?_
  rw [zero_add]
  rfl

end Cert.KernelIdeal.Layer
-- ==== Proof.Equation.lean ====
module

public import proofs.«01_k».proof.Proof.NoTie
public import proofs.«01_k».proof.Proof.Arrays

/-! Array by array, what the kernel leaves is what the reference computes of the same arguments. -/

@[expose] public section

noncomputable section

namespace Cert.KernelIdeal.Layer

open Cert.KernelIdeal Cert.KernelIdeal.Gen Idealize.ShloMosaic Idealize.ShloMosaic.TcCoe Idealize.SL.Sem
open Idealize.ShloMosaic.Pointwise
open Cert.ReferenceIdeal.Read (val_main_v11 val_main_v40 val_main_v42 val_main_v45)

variable (m : (ℓ : Loc nD τ sig) → Buf (Elt Ideal) ℓ) (d : Dev nD)

/-- The previous layer's values. -/
abbrev a0 : FVec Ideal S32x32x1024 .f32 := m ((d : Thread nD τ).loc main_arg0)
/-- The scales. -/
abbrev a1 : FVec Ideal S32x1 .f32 := m ((d : Thread nD τ).loc main_arg1)
/-- The shifts. -/
abbrev a2 : FVec Ideal S32x1 .f32 := m ((d : Thread nD τ).loc main_arg2)
/-- The previous layer's input. -/
abbrev a3 : FVec Ideal S32x32x1024 .f32 := m ((d : Thread nD τ).loc main_arg3)
/-- The weights. -/
abbrev a4 : FVec Ideal S32x64 .f32 := m ((d : Thread nD τ).loc main_arg4)

/-- The reference's neighbours of each point, of the kernel's arguments. -/
abbrev kin (b : Fin 32) (n : Fin 1024) : Finset (Fin 1024) := near (a0 m d) (a1 m d) (a2 m d) (a3 m d) b n

/-- The precondition, of the kernel's arguments. -/
abbrev Apart : Prop := Cert.Pre_no_tie.fn (F := Ideal) (a0 m d) (a1 m d) (a2 m d) (a3 m d) (a4 m d) = fun _ => 1#1

/-- Under the precondition they are the nearest. -/
theorem kin_nearest (h : Apart m d) (b : Fin 32) : Nearest (pts m d b) (kin m d b) :=
  nearest (a0 m d) (a1 m d) (a2 m d) (a3 m d) (a4 m d) h b

/-- An index of a three-axis array from its coordinates. -/
theorem coords3 (i : S32x32x1024.Idx) : i = ix3 (i 0) (i 1) (i 2) := by
  funext a
  match a with
  | ⟨0, _⟩ => rfl
  | ⟨1, _⟩ => rfl
  | ⟨2, _⟩ => rfl

/-- An index of a one-row array from its coordinates. -/
theorem coords2 (i : S1x32.Idx) : i = ix2 (i 0) (i 1) := by
  funext a
  match a with
  | ⟨0, _⟩ => rfl
  | ⟨1, _⟩ => rfl

/-- The layer's input: the activated previous layer. -/
theorem equal5 : (dats m 0 d).arrAt 5 cfg0.N = val_main_v11 (F := Ideal) (a0 m d) (a1 m d) (a2 m d) (a3 m d) := by
  rw [array5]
  funext i
  rw [coords3 i]
  exact (ref_points (a0 m d) (a1 m d) (a2 m d) (a3 m d) (i 0) (i 1) (i 2)).symm

/-- The greatest edge value of each point. -/
theorem equal6 (h : Apart m d) :
    (dats m 0 d).arrAt 6 cfg0.N = val_main_v40 (F := Ideal) (a0 m d) (a1 m d) (a2 m d) (a3 m d) (a4 m d) := by
  rw [array6 m d (kin_nearest m d h)]
  funext i
  rw [coords3 i]
  exact (ref_max (a0 m d) (a1 m d) (a2 m d) (a3 m d) (a4 m d) (i 0) (i 1) (i 2)).symm

/-- The sums of the edge values. -/
theorem equal7 (h : Apart m d) :
    (dats m 0 d).arrAt 7 cfg0.N = val_main_v42 (F := Ideal) (a0 m d) (a1 m d) (a2 m d) (a3 m d) (a4 m d) := by
  rw [array7 m d (kin_nearest m d h)]
  funext i
  rw [coords2 i]
  exact (ref_sum (a0 m d) (a1 m d) (a2 m d) (a3 m d) (a4 m d) (i 0) (i 1)).symm

/-- The sums of their squares. -/
theorem equal8 (h : Apart m d) :
    (dats m 0 d).arrAt 8 cfg0.N = val_main_v45 (F := Ideal) (a0 m d) (a1 m d) (a2 m d) (a3 m d) (a4 m d) := by
  rw [array8 m d (kin_nearest m d h)]
  funext i
  rw [coords2 i]
  exact (ref_squares (a0 m d) (a1 m d) (a2 m d) (a3 m d) (a4 m d) (i 0) (i 1)).symm

end Cert.KernelIdeal.Layer

end
-- ==== Proof.Vocab2.lean ====
module

public import proofs.«01_k».proof.Proof.Gen.Kernel2Ideal.Loops
import Idealize.ShloMosaic.Lib.Tactic.RunNames

@[expose] public section

/-! What one trip of the neighbour loop computes, spelled once per operation: the eight columns of a
band, the four bands of a group, the product with the block-diagonal weights, and one accumulation
step per neighbour row. -/

noncomputable section

namespace Cert.Kernel2Ideal.Layer

open Cert.Kernel2Ideal Cert.Kernel2Ideal.Gen Idealize.ShloMosaic Idealize.ShloMosaic.TcCoe Idealize.SL.Sem

variable {F : FTy → Type} [FloatOps F] [Named F]

/-- Column `o` of a 32 × 128 slice is a legal slice. -/
theorem col_slices (o : Fin 128) : S32x128.Slices ![0, o.val] S32x1 := by revert o; decide +kernel
/-- Rows `32 b … 32 b + 31` of the product are a legal slice. -/
theorem band_slices (b : Fin 4) : S128x8192.Slices ![32 * b.val, 0] S32x8192 := by revert b; decide +kernel
/-- Columns `1024 t … 1024 t + 1023` of a band are a legal slice. -/
theorem seg_slices (t : Fin 8) : S32x8192.Slices ![0, 1024 * t.val] S32x1024 := by revert t; decide +kernel
/-- Row `t` of eight mask rows is a legal slice. -/
theorem row_slices (t : Fin 8) : S8x1024.Slices ![t.val, 0] S1x1024 := by revert t; decide +kernel

/-- Neighbour `o`'s features, repeated over all points. -/
def neighCol (xsl : Vec F S32x128 .f32) (o : Fin 128) : FVec F S32x1024 .f32 :=
  broadcastTo S32x1024 (shapeCast S32x1 (extractStridedSlice S32x1 ![0, o.val] xsl (col_slices o))
    shapeCasts_S32x1_S32x1) broadcasts_S32x1_S32x1024

/-- Eight arrays side by side. -/
def beside (f : Fin 8 → FVec F S32x1024 .f32) : FVec F S32x8192 .f32 :=
  concatenate S32x8192 1 [⟨S32x1024, f 0⟩, ⟨S32x1024, f 1⟩, ⟨S32x1024, f 2⟩, ⟨S32x1024, f 3⟩,
    ⟨S32x1024, f 4⟩, ⟨S32x1024, f 5⟩, ⟨S32x1024, f 6⟩, ⟨S32x1024, f 7⟩]
    concatenates_S32x1024_S32x1024_S32x1024_S32x1024_S32x1024_S32x1024_S32x1024_S32x1024_S32x8192_d1

/-- The index of neighbour `t` of band `b` of group `s` within a trip. -/
def nb (s b : Fin 4) (t : Fin 8) : Fin 128 := ⟨32 * s.val + 8 * b.val + t.val, by omega⟩

/-- One band's features: differences over the points' own features. -/
def band (xsl : Vec F S32x128 .f32) (x : Vec F S32x1024 .f32) (s b : Fin 4) : FVec F S64x8192 .bf16 :=
  concatenate S64x8192 0
    [⟨S32x8192, truncf .bf16 (subf (beside fun t => neighCol xsl (nb s b t)) (beside fun _ => x)) bitsLt_bf16_f32⟩,
      ⟨S32x8192, truncf .bf16 (beside fun _ => x) bitsLt_bf16_f32⟩]
    concatenates_S32x8192_S32x8192_S64x8192_d0

/-- The four bands of a group, one above the other. -/
def quad (xsl : Vec F S32x128 .f32) (x : Vec F S32x1024 .f32) (s : Fin 4) : FVec F S256x8192 .bf16 :=
  concatenate S256x8192 0
    [⟨S64x8192, band xsl x s 0⟩, ⟨S64x8192, band xsl x s 1⟩, ⟨S64x8192, band xsl x s 2⟩, ⟨S64x8192, band xsl x s 3⟩]
    concatenates_S64x8192_S64x8192_S64x8192_S64x8192_S256x8192_d0

/-- The block-diagonal weights applied to a group. -/
def conv (w : Vec F S128x256 .bf16) (xsl : Vec F S32x128 .f32) (x : Vec F S32x1024 .f32) (s : Fin 4) :
    FVec F S128x8192 .f32 :=
  matmul dot_S128x256_S256x8192_S128x8192_1_0_0_1_n_n none (shapeCast S128x256 w shapeCasts_S128x256_S128x256)
    (quad xsl x s) (constant S128x8192 .f32 0x00000000#32)

/-- The output channels of neighbour `t` of band `b`. -/
def seg (y : FVec F S128x8192 .f32) (b : Fin 4) (t : Fin 8) : FVec F S32x1024 .f32 :=
  extractStridedSlice S32x1024 ![0, 1024 * t.val]
    (extractStridedSlice S32x8192 ![32 * b.val, 0] y (band_slices b)) (seg_slices t)

/-- Whether neighbour `t` of eight is selected, per point, repeated over the channels. -/
def chosen (m : Vec F S8x1024 .f32) (t : Fin 8) : IVec S32x1024 1 :=
  broadcastTo S32x1024 (shapeCast S1x1024 (cmpf .ogt (extractStridedSlice S1x1024 ![t.val, 0] m (row_slices t))
    (broadcast S1x1024 (Scalar.ofBits .f32 0x00000000#32))) shapeCasts_S1x1024_S1x1024)
    broadcasts_S1x1024_S32x1024

/-- A selected value, zero otherwise. -/
def kept (m : IVec S32x1024 1) (y : FVec F S32x1024 .f32) : FVec F S32x1024 .f32 :=
  select m y (broadcast S32x1024 (Scalar.ofBits .f32 0x00000000#32))

/-- One step of the running maximum. -/
def stepMax (m : IVec S32x1024 1) (y a : FVec F S32x1024 .f32) : FVec F S32x1024 .f32 :=
  maximumf a (select m y (broadcast S32x1024 (Named.named κ "neg" 0xFF61B1E6#32)))

/-- One step of the running sum. -/
def stepSum (m : IVec S32x1024 1) (y a : FVec F S32x1024 .f32) : FVec F S32x1024 .f32 :=
  addf a (kept m y)

/-- One step of the running sum of squares. -/
def stepSq (m : IVec S32x1024 1) (y a : FVec F S32x1024 .f32) : FVec F S32x1024 .f32 :=
  addf a (mulf (kept m y) y)

/-- Eight steps in order. -/
def eight {α : Type} (f : Fin 8 → α → α) (a : α) : α :=
  f 7 (f 6 (f 5 (f 4 (f 3 (f 2 (f 1 (f 0 a)))))))

/-- Four steps in order. -/
def four {α : Type} (f : Fin 4 → α → α) (a : α) : α := f 3 (f 2 (f 1 (f 0 a)))

/-- A trip's 128 steps in order. -/
def trip (step : IVec S32x1024 1 → FVec F S32x1024 .f32 → FVec F S32x1024 .f32 → FVec F S32x1024 .f32)
    (w : Vec F S128x256 .bf16) (xsl : Vec F S32x128 .f32) (x : Vec F S32x1024 .f32)
    (m : Fin 4 → Fin 4 → Vec F S8x1024 .f32) (a : FVec F S32x1024 .f32) : FVec F S32x1024 .f32 :=
  four (fun s => four fun b => eight fun t => step (chosen (m s b) t) (seg (conv w xsl x s) b t)) a

variable (c : Dev nD) (i : grid0.Coords) (arg1 : Memref sig .tc .vmem S1x32x1024 .f32) (harg1 : arg1.IsWhole) (arg2 : Memref sig .tc .vmem S32x1 .f32) (harg2 : arg2.IsWhole) (arg3 : Memref sig .tc .vmem S32x1 .f32) (harg3 : arg3.IsWhole) (arg4 : Memref sig .tc .vmem S128x256 .bf16) (harg4 : arg4.IsWhole) (arg5 : Memref sig .tc .vmem S1x32x1024 .f32) (harg5 : arg5.IsWhole) (arg6 : Memref sig .tc .vmem S1x32x1024 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S32x1024 .f32) (harg9 : arg9.IsWhole) (arg10 : Memref sig .tc .vmem S1024x1024 .f32) (harg10 : arg10.IsWhole) (arg11 : Memref sig .tc .vmem S32x1024 .f32) (harg11 : arg11.IsWhole) (arg12 : Memref sig .tc .vmem S32x1024 .f32) (harg12 : arg12.IsWhole)

/-- The weights as the loop loads them. -/
def ldW (X : BufTy.Contents (Elt F) arg4.view.ty) : Vec F S128x256 .bf16 :=
  View.readAt (Elt F) arg4.view (Rect.unit (s := S128x256) ![0, 0] S128x256.size inb_S128x256_S128x256_0_0).toLoadRect X

/-- A trip's 128 neighbours' features as the loop loads them. -/
def ldX (X : BufTy.Contents (Elt F) arg9.view.ty) (k : Fin k0_t2_loop.trips) : Vec F S32x128 .f32 :=
  View.readAt (Elt F) arg9.view (Rect.unit (s := S32x1024) (k0_off2 k) S32x128.size (k0_off2_inb k)).toLoadRect X

/-- Eight mask rows as the loop loads them. -/
def ldM (X : BufTy.Contents (Elt F) arg10.view.ty) (k : Fin k0_t2_loop.trips) (s b : Fin 4) : Vec F S8x1024 .f32 :=
  View.readAt (Elt F) arg10.view (Rect.unit (s := S1024x1024)
    (k0_off3 k (BitVec.ofNat 32 (32 * s.val)) (BitVec.ofNat 32 (8 * b.val))) S8x1024.size (k0_off3_inb k s b)).toLoadRect X

/-- A 32 × 1024 scratch buffer as the loop loads it. -/
def ldA (m : Memref sig .tc .vmem S32x1024 .f32) (X : BufTy.Contents (Elt F) m.view.ty) : Vec F S32x1024 .f32 :=
  View.readAt (Elt F) m.view (Rect.unit (s := S32x1024) ![0, 0] S32x1024.size inb_S32x1024_S32x1024_0_0).toLoadRect X

/-- The maximum buffer as the loop loads it. -/
def ldP (X : BufTy.Contents (Elt F) arg6.view.ty) : Vec F S1x32x1024 .f32 :=
  View.readAt (Elt F) arg6.view (Rect.unit (s := S1x32x1024) ![0, 0, 0] S1x32x1024.size inb_S1x32x1024_S1x32x1024_0_0_0).toLoadRect X

set_option maxRecDepth 65536 in
set_option maxHeartbeats 4000000 in
/-- What a trip stores: its 128 steps folded over what the three accumulators held. -/
theorem trip_eq (arg0 : BitVec 32) (v388 : Vec F S32x1024 .f32) (X_arg4 : BufTy.Contents (Elt F) arg4.view.ty) (X_arg9 : BufTy.Contents (Elt F) arg9.view.ty) (X_arg10 : BufTy.Contents (Elt F) arg10.view.ty) (k : Fin k0_t2_loop.trips) (f_arg6 : BufTy.Contents (Elt F) arg6.view.ty) (f_arg11 : BufTy.Contents (Elt F) arg11.view.ty) (f_arg12 : BufTy.Contents (Elt F) arg12.view.ty) :
    tripL_k0_t2 (F := F) Variants.none c none i arg1 harg1 arg2 harg2 arg3 harg3 arg4 harg4 arg5 harg5 arg6 harg6 arg7 harg7 arg8 harg8 arg9 harg9 arg10 harg10 arg11 harg11 arg12 harg12 arg0 (k0_pay637 v388) (k0_pay638 v388) k0_pay639 X_arg4 X_arg9 X_arg10 k f_arg6 f_arg11 f_arg12 =
     ([⟨Rect.unit ![0, 0, 0] ![1, 32, 1024] inb_S1x32x1024_S1x32x1024_0_0_0,
        shapeCast S1x32x1024 (trip stepMax (ldW arg4 X_arg4) (ldX arg9 X_arg9 k) v388 (ldM arg10 X_arg10 k)
          (shapeCast S32x1024 (ldP arg6 f_arg6) shapeCasts_S1x32x1024_S32x1024)) shapeCasts_S32x1024_S1x32x1024⟩],
      [⟨Rect.unit ![0, 0] ![32, 1024] inb_S32x1024_S32x1024_0_0,
        shapeCast S32x1024 (trip stepSum (ldW arg4 X_arg4) (ldX arg9 X_arg9 k) v388 (ldM arg10 X_arg10 k) (ldA arg11 f_arg11)) shapeCasts_S32x1024_S32x1024⟩],
      [⟨Rect.unit ![0, 0] ![32, 1024] inb_S32x1024_S32x1024_0_0,
        shapeCast S32x1024 (trip stepSq (ldW arg4 X_arg4) (ldX arg9 X_arg9 k) v388 (ldM arg10 X_arg10 k) (ldA arg12 f_arg12)) shapeCasts_S32x1024_S32x1024⟩]) := by
  unfold tripL_k0_t2 trip_k0_t2
  dsimp only
  rfl

end Cert.Kernel2Ideal.Layer

end
-- ==== Proof.Loop2.lean ====
module

public import proofs.«01_k».proof.Proof.Vocab2
public import Idealize.ShloMosaic.Lib.VecWindow
public import Idealize.ShloMosaic.Lib.Pipeline.Value

@[expose] public section

/-! The two counted loops as recursions on values: the rank loop over the rows of the distance matrix, and the neighbour
loop over eight groups of 128 neighbours. -/

noncomputable section

namespace Cert.Kernel2Ideal.Layer

open Cert.Kernel2Ideal Cert.Kernel2Ideal.Gen Idealize.ShloMosaic Idealize.ShloMosaic.TcCoe Idealize.SL.Sem

variable {F : FTy → Type} [FloatOps F] [Named F]

/-- The rank loop runs 1024 times. -/
theorem trips1 : k0_t1_loop.trips = 1024 := by decide +kernel

/-- The neighbour loop runs eight times. -/
theorem trips2 : k0_t2_loop.trips = 8 := by decide +kernel

/-- Row `k` of a square matrix. -/
def rowAt (D : Vec F S1024x1024 .f32) (k : Fin k0_t1_loop.trips) : Vec F S1x1024 .f32 :=
  VecWindow.window D (k0_off1 k) S1x1024.size (k0_off1_inb k)

/-- One trip of the rank loop: one more where row `k` lies below. -/
def rankStep (D v : Vec F S1024x1024 .f32) (k : Fin k0_t1_loop.trips) (acc : IVec S1024x1024 32) : IVec S1024x1024 32 :=
  addi acc (extui 32 (cmpf .olt (broadcastTo S1024x1024 (rowAt D k) broadcasts_S1x1024_S1024x1024) v) natLt_1_32)

/-- The ranks after `k` trips. -/
def rankAfter (D v : Vec F S1024x1024 .f32) (acc : IVec S1024x1024 32) : ℕ → IVec S1024x1024 32
  | 0 => acc
  | k + 1 => if h : k < k0_t1_loop.trips then rankStep D v ⟨k, h⟩ (rankAfter D v acc k) else rankAfter D v acc k

/-- The 128 neighbours' features of trip `k`. -/
def colsAt (X : Vec F S32x1024 .f32) (k : Fin k0_t2_loop.trips) : Vec F S32x128 .f32 :=
  VecWindow.window X (k0_off2 k) S32x128.size (k0_off2_inb k)

/-- Eight mask rows of trip `k`. -/
def rowsAt (M : Vec F S1024x1024 .f32) (k : Fin k0_t2_loop.trips) (s b : Fin 4) : Vec F S8x1024 .f32 :=
  VecWindow.window M (k0_off3 k (BitVec.ofNat 32 (32 * s.val)) (BitVec.ofNat 32 (8 * b.val))) S8x1024.size (k0_off3_inb k s b)

/-- An accumulator after `k` trips of the neighbour loop. -/
def accAfter (step : IVec S32x1024 1 → FVec F S32x1024 .f32 → FVec F S32x1024 .f32 → FVec F S32x1024 .f32)
    (w : Vec F S128x256 .bf16) (X x : Vec F S32x1024 .f32) (M : Vec F S1024x1024 .f32) (a : FVec F S32x1024 .f32) :
    ℕ → FVec F S32x1024 .f32
  | 0 => a
  | k + 1 => if h : k < k0_t2_loop.trips then
      trip step w (colsAt X ⟨k, h⟩) x (rowsAt M ⟨k, h⟩) (accAfter step w X x M a k)
    else accAfter step w X x M a k

variable (c : Dev nD) (i : grid0.Coords) (arg1 : Memref sig .tc .vmem S1x32x1024 .f32) (harg1 : arg1.IsWhole) (arg2 : Memref sig .tc .vmem S32x1 .f32) (harg2 : arg2.IsWhole) (arg3 : Memref sig .tc .vmem S32x1 .f32) (harg3 : arg3.IsWhole) (arg4 : Memref sig .tc .vmem S128x256 .bf16) (harg4 : arg4.IsWhole) (arg5 : Memref sig .tc .vmem S1x32x1024 .f32) (harg5 : arg5.IsWhole) (arg6 : Memref sig .tc .vmem S1x32x1024 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S32x1024 .f32) (harg9 : arg9.IsWhole) (arg10 : Memref sig .tc .vmem S1024x1024 .f32) (harg10 : arg10.IsWhole) (arg11 : Memref sig .tc .vmem S32x1024 .f32) (harg11 : arg11.IsWhole) (arg12 : Memref sig .tc .vmem S32x1024 .f32) (harg12 : arg12.IsWhole)

set_option maxRecDepth 65536 in
/-- The rank loop's carried value is the recursion at the contents of the matrix. -/
theorem st_eq (v33 : FVec F S1024x1024 .f32) (v34 : IVec S1024x1024 32) (c0 : BitVec 32) (X_arg10 : BufTy.Contents (Elt F) arg10.view.ty)
    (init : IVec S1024x1024 32) (k : ℕ) (hk : k ≤ k0_t1_loop.trips) :
    st_k0_t1 (F := F) Variants.none c none i arg1 harg1 arg2 harg2 arg3 harg3 arg4 harg4 arg5 harg5 arg6 harg6 arg7 harg7 arg8 harg8 arg9 harg9 arg10 harg10 arg11 harg11 arg12 harg12 v33 v34 c0 X_arg10 init k = rankAfter (arg10.view.read (Elt F) X_arg10) v33 init k := by
  induction k with
  | zero => rfl
  | succ k ih =>
    have h := st_k0_t1_succ (F := F) Variants.none c none i arg1 harg1 arg2 harg2 arg3 harg3 arg4 harg4 arg5 harg5 arg6 harg6 arg7 harg7 arg8 harg8 arg9 harg9 arg10 harg10 arg11 harg11 arg12 harg12 v33 v34 c0 X_arg10 init ⟨k, hk⟩
    refine h.trans ?_
    rw [show rankAfter (arg10.view.read (Elt F) X_arg10) v33 init (k + 1)
      = rankStep (arg10.view.read (Elt F) X_arg10) v33 ⟨k, hk⟩ (rankAfter (arg10.view.read (Elt F) X_arg10) v33 init k) from dif_pos hk]
    rw [ih (by omega)]
    unfold tripR_k0_t1 trip_k0_t1
    rfl

/-- The trip's stores, read back. -/
theorem pb_read (arg0 : BitVec 32) (v388 : Vec F S32x1024 .f32) (X_arg4 : BufTy.Contents (Elt F) arg4.view.ty) (X_arg9 : BufTy.Contents (Elt F) arg9.view.ty) (X_arg10 : BufTy.Contents (Elt F) arg10.view.ty) (G_arg6 : BufTy.Contents (Elt F) arg6.view.ty) (G_arg11 : BufTy.Contents (Elt F) arg11.view.ty) (G_arg12 : BufTy.Contents (Elt F) arg12.view.ty)
    (k : ℕ) (hk : k ≤ k0_t2_loop.trips) :
    (shapeCast S32x1024 (arg6.view.read (Elt F) (arg6.view.writes (Elt F) G_arg6
        (pb_k0_t2 (F := F) Variants.none c none i arg1 harg1 arg2 harg2 arg3 harg3 arg4 harg4 arg5 harg5 arg6 harg6 arg7 harg7 arg8 harg8 arg9 harg9 arg10 harg10 arg11 harg11 arg12 harg12 arg0 (k0_pay637 v388) (k0_pay638 v388) k0_pay639 X_arg4 X_arg9 X_arg10 G_arg6 G_arg11 G_arg12 k).1)) shapeCasts_S1x32x1024_S32x1024
      = accAfter stepMax (arg4.view.read (Elt F) X_arg4) (arg9.view.read (Elt F) X_arg9) v388 (arg10.view.read (Elt F) X_arg10)
          (shapeCast S32x1024 (arg6.view.read (Elt F) G_arg6) shapeCasts_S1x32x1024_S32x1024) k)
    ∧ (arg11.view.read (Elt F) (arg11.view.writes (Elt F) G_arg11
        (pb_k0_t2 (F := F) Variants.none c none i arg1 harg1 arg2 harg2 arg3 harg3 arg4 harg4 arg5 harg5 arg6 harg6 arg7 harg7 arg8 harg8 arg9 harg9 arg10 harg10 arg11 harg11 arg12 harg12 arg0 (k0_pay637 v388) (k0_pay638 v388) k0_pay639 X_arg4 X_arg9 X_arg10 G_arg6 G_arg11 G_arg12 k).2.1)
      = accAfter stepSum (arg4.view.read (Elt F) X_arg4) (arg9.view.read (Elt F) X_arg9) v388 (arg10.view.read (Elt F) X_arg10)
          (arg11.view.read (Elt F) G_arg11) k)
    ∧ (arg12.view.read (Elt F) (arg12.view.writes (Elt F) G_arg12
        (pb_k0_t2 (F := F) Variants.none c none i arg1 harg1 arg2 harg2 arg3 harg3 arg4 harg4 arg5 harg5 arg6 harg6 arg7 harg7 arg8 harg8 arg9 harg9 arg10 harg10 arg11 harg11 arg12 harg12 arg0 (k0_pay637 v388) (k0_pay638 v388) k0_pay639 X_arg4 X_arg9 X_arg10 G_arg6 G_arg11 G_arg12 k).2.2)
      = accAfter stepSq (arg4.view.read (Elt F) X_arg4) (arg9.view.read (Elt F) X_arg9) v388 (arg10.view.read (Elt F) X_arg10)
          (arg12.view.read (Elt F) G_arg12) k) := by
  induction k with
  | zero => exact ⟨rfl, rfl, rfl⟩
  | succ k ih =>
    obtain ⟨ih1, ih2, ih3⟩ := ih (by omega)
    have e : ∀ step a, accAfter (F := F) step (arg4.view.read (Elt F) X_arg4) (arg9.view.read (Elt F) X_arg9) v388 (arg10.view.read (Elt F) X_arg10) a (k + 1)
      = trip step (arg4.view.read (Elt F) X_arg4) (colsAt (arg9.view.read (Elt F) X_arg9) ⟨k, hk⟩) v388 (rowsAt (arg10.view.read (Elt F) X_arg10) ⟨k, hk⟩)
        (accAfter step (arg4.view.read (Elt F) X_arg4) (arg9.view.read (Elt F) X_arg9) v388 (arg10.view.read (Elt F) X_arg10) a k) :=
      fun step a => dif_pos hk
    have hw : ldW arg4 X_arg4 = arg4.view.read (Elt F) X_arg4 := View.readAt_full _ _ _
    have hx : ldX arg9 X_arg9 ⟨k, hk⟩ = colsAt (arg9.view.read (Elt F) X_arg9) ⟨k, hk⟩ := rfl
    have hm : ldM arg10 X_arg10 ⟨k, hk⟩ = rowsAt (arg10.view.read (Elt F) X_arg10) ⟨k, hk⟩ := rfl
    have h := pb_k0_t2_succ (F := F) Variants.none c none i arg1 harg1 arg2 harg2 arg3 harg3 arg4 harg4 arg5 harg5 arg6 harg6 arg7 harg7 arg8 harg8 arg9 harg9 arg10 harg10 arg11 harg11 arg12 harg12 arg0 (k0_pay637 v388) (k0_pay638 v388) k0_pay639 X_arg4 X_arg9 X_arg10 G_arg6 G_arg11 G_arg12 ⟨k, hk⟩
    rw [trip_eq] at h
    simp only [e]
    rw [show k + 1 = (⟨k, hk⟩ : Fin k0_t2_loop.trips).val + 1 from rfl, h]
    dsimp only [List.singleton_append]
    refine ⟨?_, ?_, ?_⟩
    · refine (congrArg (fun z => shapeCast S32x1024 z shapeCasts_S1x32x1024_S32x1024) (View.read_writes_full _ _ _ _ _)).trans ?_
      refine (shapeCast_shapeCast _ _ _).trans ?_
      rw [hw, hx, hm]
      congr 1
      rw [← ih1]
      congr 1
      exact View.readAt_full _ _ _
    · refine (View.read_writes_full _ _ _ _ _).trans ?_
      refine (shapeCast_self _ _).trans ?_
      rw [hw, hx, hm]
      congr 1
      rw [← ih2]
      exact View.readAt_full _ _ _
    · refine (View.read_writes_full _ _ _ _ _).trans ?_
      refine (shapeCast_self _ _).trans ?_
      rw [hw, hx, hm]
      congr 1
      rw [← ih3]
      exact View.readAt_full _ _ _

end Cert.Kernel2Ideal.Layer

end
-- ==== Proof.Bisect2.lean ====
module

public import proofs.«01_k».proof.Proof.Loop2
public import Idealize.ShloMosaic.Lib.Pointwise
import Idealize.ShloMosaic.Lib.IndicatorCount
import Idealize.ShloMosaic.Lib.Tactic.RunNames

@[expose] public section

/-! The selection of each point's forty nearest neighbours: a bisection on the words, bit by bit, and the mask it leaves. -/

noncomputable section

namespace Cert.Kernel2Ideal.Layer

open Cert.Kernel2Ideal Cert.Kernel2Ideal.Gen Idealize.ShloMosaic Idealize.ShloMosaic.TcCoe Idealize.SL.Sem
open Idealize.ShloMosaic.Pointwise

variable {F : FTy → Type} [FloatOps F] [Named F]

/-- Which entries of a column lie at or below the column's bound. -/
def below (u : IVec S1024x1024 32) (t : IVec S1x1024 32) : IVec S1024x1024 32 :=
  extui 32 (cmpi .ule u (broadcastTo S1024x1024 t broadcasts_S1x1024_S1024x1024)) natLt_1_32

/-- How many entries of each column lie at or below its bound. -/
def count (u : IVec S1024x1024 32) (t : IVec S1x1024 32) : IVec S1024 32 :=
  multiReductionI .add [0] S1024 (below u t) 0#32 reduces_S1024x1024_S1024 rfl

/-- One bit of the bisection: kept clear where forty entries already lie at or below. -/
def bitStep (u : IVec S1024x1024 32) (p : IVec S1x1024 32) (j : ℕ) : IVec S1x1024 32 :=
  select (shapeCast S1x1024 (cmpi .sge (count u (ori p (broadcast S1x1024 (BitVec.ofNat 32 (2 ^ j - 1))))) (broadcast S1024 40#32))
    shapeCasts_S1024_S1x1024) p (ori p (broadcast S1x1024 (BitVec.ofNat 32 (2 ^ j))))

/-- The bisection after `k` bits, from the highest. -/
def bitsAfter (u : IVec S1024x1024 32) : ℕ → IVec S1x1024 32
  | 0 => broadcast S1x1024 0#32
  | k + 1 => bitStep u (bitsAfter u k) (31 - k)

/-- The mask as the kernel computes it from the ranks. -/
def maskOf (v39 : IVec S1024x1024 32) : FVec F S1024x1024 .f32 :=
  let r1 := k0_pay617 v39
  let r2 := k0_pay618 v39
  let r3 := k0_pay620 r1 r2 k0_pay619
  let r4 := k0_pay621 r1 r2 k0_pay619
  let r5 := k0_pay623 r1 r3 r4 k0_pay622
  let r6 := k0_pay624 r1 r3 r4 k0_pay622
  let r7 := k0_pay626 r1 r5 r6 k0_pay625
  let r8 := k0_pay627 r1 r5 r6 k0_pay625
  let r9 := k0_pay628 r1 r7 r8
  let r10 := k0_pay630 r1 r9 k0_pay629
  let r11 := k0_pay631 r1 r9 k0_pay629
  let r12 := k0_pay633 r1 r10 r11 k0_pay632
  let r13 := k0_pay634 r1 r10 r11 k0_pay632
  k0_pay636 r1 r12 r13 k0_pay635

set_option maxRecDepth 65536 in
set_option maxHeartbeats 4000000 in
/-- The mask is the indicator of the words at or below the bound the bisection finds. -/
theorem maskOf_eq (v39 : IVec S1024x1024 32) :
    maskOf (F := F) v39 = shapeCast S1024x1024 (sitofp .f32 (below (k0_pay617 v39) (ori (bitsAfter (k0_pay617 v39) 28) (broadcast S1x1024 15#32)))) shapeCasts_S1024x1024_S1024x1024 := by
  unfold maskOf k0_pay636 k0_pay635 k0_pay634 k0_pay633 k0_pay632 k0_pay631 k0_pay630 k0_pay629 k0_pay628 k0_pay627 k0_pay626 k0_pay625 k0_pay624 k0_pay623 k0_pay622 k0_pay621 k0_pay620 k0_pay619 k0_pay618
  dsimp only
  rfl

/-- A column's count at an index. -/
theorem count_apply (u : IVec S1024x1024 32) (t : IVec S1x1024 32) (n : Fin 1024) :
    count u t (ix1 n) = BitVec.ofNat 32 (Finset.univ.filter fun i : Fin 1024 => u (ix2 i n) ≤ t (ix2 0 n)).card := by
  pointwise [count, below]
  refine (IndicatorCount.fold_addi_setWidth_eq_card _ _).trans (congrArg _ (congrArg _ (Finset.filter_congr fun i _ => ?_)))
  show BitVec.ofBool ((u (ix2 i n)).ule (t (ix2 0 n))) = 1#1 ↔ _
  by_cases h : u (ix2 i n) ≤ t (ix2 0 n)
  · exact ⟨fun _ => h, fun _ => by rw [show (u (ix2 i n)).ule (t (ix2 0 n)) = true from decide_eq_true h]; rfl⟩
  · exact ⟨fun e => by rw [show (u (ix2 i n)).ule (t (ix2 0 n)) = false from decide_eq_false h] at e; exact absurd e (by decide), fun e => absurd e h⟩

/-- How many words of a column lie at or below a bound. -/
def tally (u : Fin 1024 → BitVec 32) (t : ℕ) : ℕ := (Finset.univ.filter fun i => (u i).toNat ≤ t).card

/-- A tally is at most 1024. -/
theorem tally_le (u : Fin 1024 → BitVec 32) (t : ℕ) : tally u t ≤ 1024 :=
  (Finset.card_le_univ _).trans (by simp)

/-- One bit of the bisection at a column. -/
theorem bitStep_apply (u : IVec S1024x1024 32) (p : IVec S1x1024 32) (j : ℕ) (n : Fin 1024) :
    bitStep u p j (ix2 0 n) = if 40 ≤ tally (fun i => u (ix2 i n)) (p (ix2 0 n) ||| BitVec.ofNat 32 (2 ^ j - 1)).toNat
      then p (ix2 0 n) else p (ix2 0 n) ||| BitVec.ofNat 32 (2 ^ j) := by
  have hc := count_apply u (ori p (broadcast S1x1024 (BitVec.ofNat 32 (2 ^ j - 1)))) n
  pointwise [bitStep]
  rw [hc]
  show (if BitVec.ofBool (BitVec.sle 40#32 (BitVec.ofNat 32 (tally (fun i => u (ix2 i n)) (p (ix2 0 n) ||| BitVec.ofNat 32 (2 ^ j - 1)).toNat))) = 1#1 then _ else _) = _
  have hle := tally_le (fun i => u (ix2 i n)) (p (ix2 0 n) ||| BitVec.ofNat 32 (2 ^ j - 1)).toNat
  generalize tally (fun i => u (ix2 i n)) (p (ix2 0 n) ||| BitVec.ofNat 32 (2 ^ j - 1)).toNat = N at hle
  have e : BitVec.sle 40#32 (BitVec.ofNat 32 N) = decide (40 ≤ N) := by
    rw [BitVec.sle_eq_decide, BitVec.toInt_eq_toNat_of_lt, BitVec.toInt_eq_toNat_of_lt]
    · simp only [BitVec.toNat_ofNat]
      rw [Nat.mod_eq_of_lt (by omega : N < 2 ^ 32)]
      simp
    · simp only [BitVec.toNat_ofNat]; omega
    · simp
  rw [e]
  by_cases h : 40 ≤ N
  · rw [if_pos h, decide_eq_true h]; rfl
  · rw [if_neg h, decide_eq_false h]; rfl

/-- Setting bits below a multiple adds them. -/
theorem or_low (q : BitVec 32) (J a : ℕ) (hJ : J ≤ 32) (hq : 2 ^ J ∣ q.toNat) (ha : a < 2 ^ J) (hb : a < 2 ^ 32) :
    (q ||| BitVec.ofNat 32 a).toNat = q.toNat + a := by
  obtain ⟨m, hm⟩ := hq
  rw [BitVec.toNat_or, BitVec.toNat_ofNat, Nat.mod_eq_of_lt hb, hm, Nat.two_pow_add_eq_or_of_lt ha]

/-- What the bisection keeps after `k` bits. -/
theorem bits_inv (u : IVec S1024x1024 32) (n : Fin 1024) (k : ℕ) (hk : k ≤ 28) :
    2 ^ (32 - k) ∣ (bitsAfter u k (ix2 0 n)).toNat
    ∧ (Finset.univ.filter fun i : Fin 1024 => (u (ix2 i n)).toNat < (bitsAfter u k (ix2 0 n)).toNat).card < 40
    ∧ 40 ≤ tally (fun i => u (ix2 i n)) ((bitsAfter u k (ix2 0 n)).toNat + (2 ^ (32 - k) - 1)) := by
  induction k with
  | zero =>
    have e : bitsAfter u 0 (ix2 0 n) = 0#32 := rfl
    rw [e]
    refine ⟨by simp, by simp, ?_⟩
    unfold tally
    rw [Finset.filter_true_of_mem]
    · simp
    · intro i _
      have := (u (ix2 i n)).isLt
      simp
      omega
  | succ k ih =>
    obtain ⟨h1, h2, h3⟩ := ih (by omega)
    have e : bitsAfter u (k + 1) (ix2 0 n) = _ := bitStep_apply u (bitsAfter u k) (31 - k) n
    rw [e]
    generalize bitsAfter u k (ix2 0 n) = q at h1 h2 h3
    have hJ : 32 - k = (31 - k) + 1 := by omega
    have hj : 32 - (k + 1) = 31 - k := by omega
    rw [hj]
    have hpow : 2 ^ (32 - k) = 2 * 2 ^ (31 - k) := by rw [hJ, pow_succ, Nat.mul_comm]
    have hpos : 0 < 2 ^ (31 - k) := Nat.two_pow_pos _
    have hlt : 2 ^ (31 - k) < 2 ^ 32 := Nat.pow_lt_pow_right (by omega) (by omega)
    rw [or_low q (32 - k) (2 ^ (31 - k) - 1) (by omega) h1 (by omega) (by omega)]
    have h2' : (q ||| BitVec.ofNat 32 (2 ^ (31 - k))).toNat = q.toNat + 2 ^ (31 - k) := or_low q (32 - k) _ (by omega) h1 (by omega) hlt
    have hd : 2 ^ (31 - k) ∣ q.toNat := (Nat.pow_dvd_pow 2 (by omega)).trans h1
    split_ifs with h
    · exact ⟨hd, h2, h⟩
    · rw [h2']
      refine ⟨(Nat.dvd_add_right hd).2 (dvd_refl _), ?_, ?_⟩
      · refine lt_of_le_of_lt (Finset.card_le_card fun i hi => ?_) (not_le.1 h)
        simp only [Finset.mem_filter, Finset.mem_univ, true_and] at hi ⊢
        omega
      · rw [show q.toNat + 2 ^ (31 - k) + (2 ^ (31 - k) - 1) = q.toNat + (2 ^ (32 - k) - 1) by omega]
        exact h3

/-- Words that are sixteen times a rank, forty of rank at most 39 and the others above: the bound selects the forty. -/
theorem selects (u : IVec S1024x1024 32) (n : Fin 1024) (T : Finset (Fin 1024)) (hT : T.card = 40)
    (hin : ∀ i ∈ T, (u (ix2 i n)).toNat ≤ 624) (hout : ∀ i ∉ T, 640 ≤ (u (ix2 i n)).toNat) (i : Fin 1024) :
    u (ix2 i n) ≤ bitsAfter u 28 (ix2 0 n) ||| 15#32 ↔ i ∈ T := by
  obtain ⟨h1, h2, h3⟩ := bits_inv u n 28 le_rfl
  have ho := or_low (bitsAfter u 28 (ix2 0 n)) 4 15 (by omega) h1 (by norm_num) (by norm_num)
  rw [BitVec.le_def, ho]
  generalize (bitsAfter u 28 (ix2 0 n)).toNat = q at *
  have h1' : 16 ∣ q := h1
  have hq : q < 640 := by
    by_contra hq
    have : T.card < 40 := lt_of_le_of_lt (Finset.card_le_card fun i hi => by
      simp only [Finset.mem_filter, Finset.mem_univ, true_and]
      have := hin i hi
      omega) h2
    omega
  have hsub : (Finset.univ.filter fun i : Fin 1024 => (u (ix2 i n)).toNat ≤ q + 15) ⊆ T := by
    intro i hi
    simp only [Finset.mem_filter, Finset.mem_univ, true_and] at hi
    by_contra hi'
    have := hout i hi'
    omega
  have heq := Finset.eq_of_subset_of_card_le hsub (by rw [hT]; exact h3)
  rw [← heq]
  simp

end Cert.Kernel2Ideal.Layer

end
-- ==== Proof.Mask2.lean ====
module

public import proofs.«01_k».proof.Proof.Bisect2
import Idealize.ShloMosaic.Lib.Pointwise

@[expose] public section

/-! The rank loop counts, for every entry of the distance matrix, the smaller entries of its column; the mask selects a
column's forty smallest entries. -/

noncomputable section

namespace Cert.Kernel2Ideal.Layer

open Cert.Kernel2Ideal Cert.Kernel2Ideal.Gen Idealize.ShloMosaic Idealize.ShloMosaic.TcCoe Idealize.SL.Sem
open Idealize.ShloMosaic.Pointwise

/-- A row of the matrix at an index. -/
theorem rowAt_apply (D : Vec Ideal S1024x1024 .f32) (k : Fin k0_t1_loop.trips) (h : k.val < 1024) (n : Fin 1024) :
    rowAt D k (ix2 0 n) = D (ix2 ⟨k.val, h⟩ n) := by
  refine congrArg D (funext fun d => ?_)
  have e := k0_off1_eq k
  refine Fin.ext ?_
  fin_cases d
  · simp [e]
  · simp [e]

/-- One trip of the rank loop at an index. -/
theorem rankStep_apply (D v : Vec Ideal S1024x1024 .f32) (k : Fin k0_t1_loop.trips) (k' : Fin 1024) (h : k'.val = k.val)
    (acc : IVec S1024x1024 32) (i n : Fin 1024) :
    rankStep D v k acc (ix2 i n) = acc (ix2 i n) + BitVec.ofNat 32 (if D (ix2 k' n) < v (ix2 i n) then 1 else 0) := by
  have hr : rowAt D k (ix2 0 n) = D (ix2 k' n) := by
    rw [rowAt_apply D k (by omega) n]
    exact congrArg D (congrArg (fun z => ix2 z n) (Fin.ext h.symm))
  generalize hd' : D (ix2 k' n) = d at hr ⊢
  pointwise [rankStep]
  rw [hr]
  refine congrArg (acc (ix2 i n) + ·) ?_
  by_cases hd : d < v (ix2 i n)
  · rw [if_pos hd, decide_eq_true hd]; rfl
  · rw [if_neg hd, decide_eq_false hd]; rfl

/-- The rank of an entry in its column after `k` trips. -/
theorem rankAfter_apply (D v : Vec Ideal S1024x1024 .f32) (i n : Fin 1024) (k : ℕ) (hk : k ≤ k0_t1_loop.trips) :
    rankAfter D v k0_pay614 k (ix2 i n)
      = BitVec.ofNat 32 (Finset.univ.filter fun j : Fin 1024 => j.val < k ∧ D (ix2 j n) < v (ix2 i n)).card := by
  induction k with
  | zero =>
    rw [Finset.filter_false_of_mem (by simp)]
    rfl
  | succ k ih =>
    have hk' : k < 1024 := by have := trips1; omega
    rw [show rankAfter D v k0_pay614 (k + 1) = rankStep D v ⟨k, hk⟩ (rankAfter D v k0_pay614 k) from dif_pos hk]
    rw [rankStep_apply D v ⟨k, hk⟩ ⟨k, hk'⟩ rfl, ih (by omega), ← BitVec.ofNat_add]
    congr 1
    have e : (Finset.univ.filter fun j : Fin 1024 => j.val < k + 1 ∧ D (ix2 j n) < v (ix2 i n))
      = (Finset.univ.filter fun j : Fin 1024 => j.val < k ∧ D (ix2 j n) < v (ix2 i n))
        ∪ (if D (ix2 (⟨k, hk'⟩ : Fin 1024) n) < v (ix2 i n) then {⟨k, hk'⟩} else ∅) := by
      ext j
      split_ifs with h
      · simp only [Finset.mem_filter, Finset.mem_univ, true_and, Finset.mem_union, Finset.mem_singleton]
        constructor
        · rintro ⟨h1, h2⟩
          rcases Nat.lt_succ_iff_lt_or_eq.1 h1 with h3 | h3
          · exact Or.inl ⟨h3, h2⟩
          · exact Or.inr (Fin.ext h3)
        · rintro (⟨h1, h2⟩ | rfl)
          · exact ⟨by omega, h2⟩
          · exact ⟨by simp, h⟩
      · simp only [Finset.mem_filter, Finset.mem_univ, true_and, Finset.union_empty]
        constructor
        · rintro ⟨h1, h2⟩
          rcases Nat.lt_succ_iff_lt_or_eq.1 h1 with h3 | h3
          · exact ⟨h3, h2⟩
          · exact absurd (by rwa [show j = ⟨k, hk'⟩ from Fin.ext h3] at h2) h
        · rintro ⟨h1, h2⟩
          exact ⟨by omega, h2⟩
    rw [e, Finset.card_union_of_disjoint]
    · split_ifs <;> rfl
    · split_ifs
      · rw [Finset.disjoint_singleton_right]
        simp
      · exact Finset.disjoint_empty_right _

/-- The ranks shifted left by four bits. -/
theorem shifted_apply (r : IVec S1024x1024 32) (i n : Fin 1024) (N : ℕ) (hN : N ≤ 1024) (h : r (ix2 i n) = BitVec.ofNat 32 N) :
    (k0_pay617 r (ix2 i n)).toNat = 16 * N := by
  have e : k0_pay617 r (ix2 i n) = r (ix2 i n) <<< (4 : ℕ) := by
    pointwise [k0_pay617]
    rfl
  rw [e, h, BitVec.toNat_shiftLeft, BitVec.toNat_ofNat]
  rw [Nat.mod_eq_of_lt (by omega : N < 2 ^ 32), Nat.shiftLeft_eq, Nat.mod_eq_of_lt (by omega)]
  omega

/-- The mask selects the forty entries of a column that lie below all others. -/
theorem mask_apply (D : Vec Ideal S1024x1024 .f32) (n : Fin 1024) (T : Finset (Fin 1024)) (hT : T.card = 40)
    (hlt : ∀ i ∈ T, ∀ j ∉ T, D (ix2 i n) < D (ix2 j n)) (i : Fin 1024) :
    0 < maskOf (F := Ideal) (rankAfter D D k0_pay614 k0_t1_loop.trips) (ix2 i n) ↔ i ∈ T := by
  have hr : ∀ i, rankAfter D D k0_pay614 k0_t1_loop.trips (ix2 i n)
      = BitVec.ofNat 32 (Finset.univ.filter fun j : Fin 1024 => D (ix2 j n) < D (ix2 i n)).card := by
    intro i
    rw [rankAfter_apply D D i n _ le_rfl]
    congr 2
    refine Finset.filter_congr fun j _ => ?_
    rw [trips1]
    simp
  generalize rankAfter D D k0_pay614 k0_t1_loop.trips = r at hr
  have hle : ∀ i, (Finset.univ.filter fun j : Fin 1024 => D (ix2 j n) < D (ix2 i n)).card ≤ 1024 :=
    fun i => (Finset.card_le_univ _).trans (by simp)
  have hs := selects (k0_pay617 r) n T hT (fun i hi => by
    rw [shifted_apply r i n _ (hle i) (hr i)]
    have : (Finset.univ.filter fun j : Fin 1024 => D (ix2 j n) < D (ix2 i n)).card < T.card := by
      refine Finset.card_lt_card ⟨fun j hj => ?_, fun h => ?_⟩
      · by_contra hj'
        exact absurd (lt_trans (Finset.mem_filter.1 hj).2 (hlt i hi j hj')) (lt_irrefl _)
      · exact absurd (Finset.mem_filter.1 (h hi)).2 (lt_irrefl _)
    omega) (fun i hi => by
    rw [shifted_apply r i n _ (hle i) (hr i)]
    have : T.card ≤ (Finset.univ.filter fun j : Fin 1024 => D (ix2 j n) < D (ix2 i n)).card :=
      Finset.card_le_card fun j hj => Finset.mem_filter.2 ⟨Finset.mem_univ _, hlt j hj i hi⟩
    omega) i
  rw [← hs, maskOf_eq]
  generalize k0_pay617 r = u
  generalize bitsAfter u 28 = p
  pointwise [below]
  by_cases h : u (ix2 i n) ≤ p (ix2 0 n) ||| 15#32
  · refine iff_of_true ?_ h
    rw [show IntOp.cmpi CmpIPredicate.ule (u (ix2 i n)) (IntOp.ori (p (ix2 0 n)) 15#32) = 1#1 from congrArg BitVec.ofBool (decide_eq_true h)]
    show (0 : EReal) < (((BitVec.setWidth 32 1#1).toInt : ℝ) : EReal)
    rw [show (BitVec.setWidth 32 1#1).toInt = 1 by decide]
    simp
  · refine iff_of_false ?_ h
    rw [show IntOp.cmpi CmpIPredicate.ule (u (ix2 i n)) (IntOp.ori (p (ix2 0 n)) 15#32) = 0#1 from congrArg BitVec.ofBool (decide_eq_false h)]
    show ¬ (0 : EReal) < (((BitVec.setWidth 32 0#1).toInt : ℝ) : EReal)
    rw [show (BitVec.setWidth 32 0#1).toInt = 0 by decide]
    simp

end Cert.Kernel2Ideal.Layer

end
-- ==== Proof.CaseA2.lean ====
module

public import proofs.«01_k».proof.Proof.Mask2
public import proofs.«01_k».proof.Proof.Gen.Kernel2Ideal.Frame
import Idealize.ShloMosaic.Lib.Tactic.RunNames

@[expose] public section

/-! What one grid point leaves in each output's buffer, in terms of the loops' recursions. -/

noncomputable section

namespace Cert.Kernel2Ideal.Layer

open Cert.Kernel2Ideal Cert.Kernel2Ideal.Gen Idealize.ShloMosaic Idealize.ShloMosaic.TcCoe Idealize.SL.Sem

variable {F : FTy → Type} [FloatOps F] [Named F]

/-- A block's points: the activated layer input. -/
abbrev blkX (x0 : Vec F S1x32x1024 .f32) (x1 x2 : Vec F S32x1 .f32) : FVec F S32x1024 .f32 := k0_pay610 x0 x1 x2

/-- A block's mask of neighbours. -/
def blkM (x0 : Vec F S1x32x1024 .f32) (x1 x2 : Vec F S32x1 .f32) : FVec F S1024x1024 .f32 :=
  maskOf (rankAfter (k0_pay613 x0 x1 x2) (k0_pay613 x0 x1 x2) k0_pay614 k0_t1_loop.trips)

/-- A block's accumulator after the neighbour loop. -/
def blkAcc (step : IVec S32x1024 1 → FVec F S32x1024 .f32 → FVec F S32x1024 .f32 → FVec F S32x1024 .f32)
    (x0 : Vec F S1x32x1024 .f32) (x1 x2 : Vec F S32x1 .f32) (x3 : Vec F S128x256 .bf16) (a : FVec F S32x1024 .f32) : FVec F S32x1024 .f32 :=
  accAfter step x3 (blkX x0 x1 x2) (blkX x0 x1 x2) (blkM x0 x1 x2) a k0_t2_loop.trips

variable (c : Dev nD) (i : grid0.Coords) (arg1 : Memref sig .tc .vmem S1x32x1024 .f32) (harg1 : arg1.IsWhole) (arg2 : Memref sig .tc .vmem S32x1 .f32) (harg2 : arg2.IsWhole) (arg3 : Memref sig .tc .vmem S32x1 .f32) (harg3 : arg3.IsWhole) (arg4 : Memref sig .tc .vmem S128x256 .bf16) (harg4 : arg4.IsWhole) (arg5 : Memref sig .tc .vmem S1x32x1024 .f32) (harg5 : arg5.IsWhole) (arg6 : Memref sig .tc .vmem S1x32x1024 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S32x1024 .f32) (harg9 : arg9.IsWhole) (arg10 : Memref sig .tc .vmem S1024x1024 .f32) (harg10 : arg10.IsWhole) (arg11 : Memref sig .tc .vmem S32x1024 .f32) (harg11 : arg11.IsWhole) (arg12 : Memref sig .tc .vmem S32x1024 .f32) (harg12 : arg12.IsWhole)
    (x0 : Vec F S1x32x1024 .f32) (x1 x2 : Vec F S32x1 .f32) (x3 : Vec F S128x256 .bf16) (xo7 xo8 : Vec F S1x32 .f32)

/-- The block's points as case A's loop loads them. -/
theorem vA : kernelRun0_A.sl.v385 c arg1 harg1 arg2 harg2 arg3 harg3 arg9 x0 x1 x2 = blkX x0 x1 x2 := by
  unfold kernelRun0_A.sl.v385 kernelRun0_A.sl.HS0_1
  rw [View.readCov_full]
  unfold k0_pay612
  dsimp only
  refine (shapeCast_self _ _).trans ?_
  rw [View.readAt_full, View.readAt_full, View.readAt_full, harg1.read_unread, harg2.read_unread, harg3.read_unread]

/-- The distance matrix as case A computes it. -/
theorem rA : kernelRun0_A.sl.r c arg1 harg1 arg2 harg2 arg3 harg3 x0 x1 x2 = k0_pay613 x0 x1 x2 := by
  unfold kernelRun0_A.sl.r
  rw [View.readAt_full, View.readAt_full, View.readAt_full, harg1.read_unread, harg2.read_unread, harg3.read_unread]

/-- The distance matrix as case A's rank loop reads it. -/
theorem dA : arg10.view.read (Elt F) (arg10.view.writes (Elt F) arg10.view.junk (kernelRun0_A.sl.HS1_1 c arg1 harg1 arg2 harg2 arg3 harg3 x0 x1 x2))
    = k0_pay613 x0 x1 x2 := by
  unfold kernelRun0_A.sl.HS1_1
  rw [View.read_writes_full, View.readAt_full, View.readAt_full, View.readAt_full, harg1.read_unread, harg2.read_unread, harg3.read_unread]
  unfold k0_pay615
  exact shapeCast_self _ _

set_option maxRecDepth 65536 in
/-- The mask as case A stores it. -/
theorem mA : k0_pay636 (kernelRun0_A.sl.r_1 c i arg1 harg1 arg2 harg2 arg3 harg3 arg4 harg4 arg5 harg5 arg6 harg6 arg7 harg7 arg8 harg8 arg9 harg9 arg10 harg10 arg11 harg11 arg12 harg12 x0 x1 x2) (kernelRun0_A.sl.r_12 c i arg1 harg1 arg2 harg2 arg3 harg3 arg4 harg4 arg5 harg5 arg6 harg6 arg7 harg7 arg8 harg8 arg9 harg9 arg10 harg10 arg11 harg11 arg12 harg12 x0 x1 x2) (kernelRun0_A.sl.r_13 c i arg1 harg1 arg2 harg2 arg3 harg3 arg4 harg4 arg5 harg5 arg6 harg6 arg7 harg7 arg8 harg8 arg9 harg9 arg10 harg10 arg11 harg11 arg12 harg12 x0 x1 x2) k0_pay635
    = blkM (F := F) x0 x1 x2 := by
  have h := st_eq c i arg1 harg1 arg2 harg2 arg3 harg3 arg4 harg4 arg5 harg5 arg6 harg6 arg7 harg7 arg8 harg8 arg9 harg9 arg10 harg10 arg11 harg11 arg12 harg12 (kernelRun0_A.sl.r c arg1 harg1 arg2 harg2 arg3 harg3 x0 x1 x2) k0_pay614 0#32
    (arg10.view.writes (Elt F) arg10.view.junk (kernelRun0_A.sl.HS1_1 c arg1 harg1 arg2 harg2 arg3 harg3 x0 x1 x2)) k0_pay614 k0_t1_loop.trips le_rfl
  rw [dA, rA] at h
  unfold blkM
  rw [← h, ← rA c arg1 harg1 arg2 harg2 arg3 harg3 x0 x1 x2]
  rfl

/-- The neighbour loop's three accumulators in case A. -/
theorem accA (arg0 : BitVec 32) (G_arg6 : BufTy.Contents (Elt F) arg6.view.ty) (G_arg11 : BufTy.Contents (Elt F) arg11.view.ty) (G_arg12 : BufTy.Contents (Elt F) arg12.view.ty) :
    let L := pb_k0_t2 (F := F) Variants.none c none i arg1 harg1 arg2 harg2 arg3 harg3 arg4 harg4 arg5 harg5 arg6 harg6 arg7 harg7 arg8 harg8 arg9 harg9 arg10 harg10 arg11 harg11 arg12 harg12 arg0
      (kernelRun0_A.sl.r_14 c arg1 harg1 arg2 harg2 arg3 harg3 arg9 x0 x1 x2) (kernelRun0_A.sl.r_15 c arg1 harg1 arg2 harg2 arg3 harg3 arg9 x0 x1 x2) k0_pay639 (harg4.unread x3)
      (arg9.view.writes (Elt F) arg9.view.junk (kernelRun0_A.sl.HS0_1 c arg1 harg1 arg2 harg2 arg3 harg3 x0 x1 x2))
      (arg10.view.writes (Elt F) arg10.view.junk (⟨Rect.unit ![0, 0] ![1024, 1024] inb_S1024x1024_S1024x1024_0_0,
        k0_pay636 (kernelRun0_A.sl.r_1 c i arg1 harg1 arg2 harg2 arg3 harg3 arg4 harg4 arg5 harg5 arg6 harg6 arg7 harg7 arg8 harg8 arg9 harg9 arg10 harg10 arg11 harg11 arg12 harg12 x0 x1 x2) (kernelRun0_A.sl.r_12 c i arg1 harg1 arg2 harg2 arg3 harg3 arg4 harg4 arg5 harg5 arg6 harg6 arg7 harg7 arg8 harg8 arg9 harg9 arg10 harg10 arg11 harg11 arg12 harg12 x0 x1 x2) (kernelRun0_A.sl.r_13 c i arg1 harg1 arg2 harg2 arg3 harg3 arg4 harg4 arg5 harg5 arg6 harg6 arg7 harg7 arg8 harg8 arg9 harg9 arg10 harg10 arg11 harg11 arg12 harg12 x0 x1 x2) k0_pay635⟩ ::
          kernelRun0_A.sl.HS1_1 c arg1 harg1 arg2 harg2 arg3 harg3 x0 x1 x2))
      G_arg6 G_arg11 G_arg12 k0_t2_loop.trips
    (shapeCast S32x1024 (arg6.view.read (Elt F) (arg6.view.writes (Elt F) G_arg6 L.1)) shapeCasts_S1x32x1024_S32x1024
        = blkAcc stepMax x0 x1 x2 x3 (shapeCast S32x1024 (arg6.view.read (Elt F) G_arg6) shapeCasts_S1x32x1024_S32x1024))
    ∧ (arg11.view.read (Elt F) (arg11.view.writes (Elt F) G_arg11 L.2.1) = blkAcc stepSum x0 x1 x2 x3 (arg11.view.read (Elt F) G_arg11))
    ∧ (arg12.view.read (Elt F) (arg12.view.writes (Elt F) G_arg12 L.2.2) = blkAcc stepSq x0 x1 x2 x3 (arg12.view.read (Elt F) G_arg12)) := by
  intro L
  have h := pb_read c i arg1 harg1 arg2 harg2 arg3 harg3 arg4 harg4 arg5 harg5 arg6 harg6 arg7 harg7 arg8 harg8 arg9 harg9 arg10 harg10 arg11 harg11 arg12 harg12 arg0 (kernelRun0_A.sl.v385 c arg1 harg1 arg2 harg2 arg3 harg3 arg9 x0 x1 x2) (harg4.unread x3)
      (arg9.view.writes (Elt F) arg9.view.junk (kernelRun0_A.sl.HS0_1 c arg1 harg1 arg2 harg2 arg3 harg3 x0 x1 x2))
      (arg10.view.writes (Elt F) arg10.view.junk (⟨Rect.unit ![0, 0] ![1024, 1024] inb_S1024x1024_S1024x1024_0_0,
        k0_pay636 (kernelRun0_A.sl.r_1 c i arg1 harg1 arg2 harg2 arg3 harg3 arg4 harg4 arg5 harg5 arg6 harg6 arg7 harg7 arg8 harg8 arg9 harg9 arg10 harg10 arg11 harg11 arg12 harg12 x0 x1 x2) (kernelRun0_A.sl.r_12 c i arg1 harg1 arg2 harg2 arg3 harg3 arg4 harg4 arg5 harg5 arg6 harg6 arg7 harg7 arg8 harg8 arg9 harg9 arg10 harg10 arg11 harg11 arg12 harg12 x0 x1 x2) (kernelRun0_A.sl.r_13 c i arg1 harg1 arg2 harg2 arg3 harg3 arg4 harg4 arg5 harg5 arg6 harg6 arg7 harg7 arg8 harg8 arg9 harg9 arg10 harg10 arg11 harg11 arg12 harg12 x0 x1 x2) k0_pay635⟩ ::
          kernelRun0_A.sl.HS1_1 c arg1 harg1 arg2 harg2 arg3 harg3 x0 x1 x2))
      G_arg6 G_arg11 G_arg12 k0_t2_loop.trips le_rfl
  have hm : arg10.view.read (Elt F) (arg10.view.writes (Elt F) arg10.view.junk (⟨Rect.unit ![0, 0] ![1024, 1024] inb_S1024x1024_S1024x1024_0_0,
        k0_pay636 (kernelRun0_A.sl.r_1 c i arg1 harg1 arg2 harg2 arg3 harg3 arg4 harg4 arg5 harg5 arg6 harg6 arg7 harg7 arg8 harg8 arg9 harg9 arg10 harg10 arg11 harg11 arg12 harg12 x0 x1 x2) (kernelRun0_A.sl.r_12 c i arg1 harg1 arg2 harg2 arg3 harg3 arg4 harg4 arg5 harg5 arg6 harg6 arg7 harg7 arg8 harg8 arg9 harg9 arg10 harg10 arg11 harg11 arg12 harg12 x0 x1 x2) (kernelRun0_A.sl.r_13 c i arg1 harg1 arg2 harg2 arg3 harg3 arg4 harg4 arg5 harg5 arg6 harg6 arg7 harg7 arg8 harg8 arg9 harg9 arg10 harg10 arg11 harg11 arg12 harg12 x0 x1 x2) k0_pay635⟩ ::
          kernelRun0_A.sl.HS1_1 c arg1 harg1 arg2 harg2 arg3 harg3 x0 x1 x2)) = blkM x0 x1 x2 :=
    (View.read_writes_full _ _ _ _ _).trans (mA c i arg1 harg1 arg2 harg2 arg3 harg3 arg4 harg4 arg5 harg5 arg6 harg6 arg7 harg7 arg8 harg8 arg9 harg9 arg10 harg10 arg11 harg11 arg12 harg12 x0 x1 x2)
  have hx : arg9.view.read (Elt F) (arg9.view.writes (Elt F) arg9.view.junk (kernelRun0_A.sl.HS0_1 c arg1 harg1 arg2 harg2 arg3 harg3 x0 x1 x2)) = blkX x0 x1 x2 := by
    refine Eq.trans ?_ (vA c arg1 harg1 arg2 harg2 arg3 harg3 arg9 x0 x1 x2)
    exact (View.readAt_full _ _ _).symm
  have hv := vA c arg1 harg1 arg2 harg2 arg3 harg3 arg9 x0 x1 x2
  rw [hm, hx, hv, harg4.read_unread] at h
  rw [← hv] at h
  unfold blkAcc
  rw [← hv]
  exact h

/-- Output 5: the block's points. -/
theorem out5_A (hc0 : cond0_0 i) (hc1 : ¬cond0_1 i) (hc2 : cond0_2 i) (hc3 : ¬cond0_3 i) : out0_A_4 c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 = shapeCast S1x32x1024 (blkX x0 x1 x2) shapeCasts_S32x1024_S1x32x1024 := by
  unfold out0_A_4
  rw [View.read_writes_junk_eq_canon, ← View.read_writes_junk_eq_canon arg5.view]
  unfold kernelRun0_A
  dsimp only
  unfold kernelRun0_A.sl.H4_1
  rw [View.read_writes_full]
  unfold k0_pay611
  dsimp only
  rw [View.readAt_full, View.readAt_full, View.readAt_full, harg1.read_unread, harg2.read_unread, harg3.read_unread]

/-- Output 6: the maximum over the selected neighbours. -/
theorem out6_A (hc0 : cond0_0 i) (hc1 : ¬cond0_1 i) (hc2 : cond0_2 i) (hc3 : ¬cond0_3 i) : shapeCast S32x1024 (out0_A_5 c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3) shapeCasts_S1x32x1024_S32x1024
    = blkAcc stepMax x0 x1 x2 x3 (shapeCast S32x1024 (k0_pay640 k0_pay639) shapeCasts_S1x32x1024_S32x1024) := by
  unfold out0_A_5
  rw [View.read_writes_junk_eq_canon, ← View.read_writes_junk_eq_canon arg6.view]
  unfold kernelRun0_A
  dsimp only
  rw [View.writes_append]
  refine (accA c i arg1 harg1 arg2 harg2 arg3 harg3 arg4 harg4 arg5 harg5 arg6 harg6 arg7 harg7 arg8 harg8 arg9 harg9 arg10 harg10 arg11 harg11 arg12 harg12 x0 x1 x2 x3 _ _ _ _).1.trans ?_
  unfold kernelRun0_A.sl.H5_1
  rw [View.read_writes_full]

/-- The sums as case A loads them after the loop. -/
theorem v401A : kernelRun0_A.sl.v401 c i arg1 harg1 arg2 harg2 arg3 harg3 arg4 harg4 arg5 harg5 arg6 harg6 arg7 harg7 arg8 harg8 arg9 harg9 arg10 harg10 arg11 harg11 arg12 harg12 x0 x1 x2 x3 = blkAcc stepSum x0 x1 x2 x3 k0_pay641 := by
  unfold kernelRun0_A.sl.v401
  refine (View.readAt_full _ _ _).trans ?_
  rw [View.writes_append]
  refine (accA c i arg1 harg1 arg2 harg2 arg3 harg3 arg4 harg4 arg5 harg5 arg6 harg6 arg7 harg7 arg8 harg8 arg9 harg9 arg10 harg10 arg11 harg11 arg12 harg12 x0 x1 x2 x3 _ _ _ _).2.1.trans ?_
  unfold kernelRun0_A.sl.HS2_1
  rw [View.read_writes_full]

/-- The sums of squares as case A loads them after the loop. -/
theorem v403A : kernelRun0_A.sl.v403 c i arg1 harg1 arg2 harg2 arg3 harg3 arg4 harg4 arg5 harg5 arg6 harg6 arg7 harg7 arg8 harg8 arg9 harg9 arg10 harg10 arg11 harg11 arg12 harg12 x0 x1 x2 x3 = blkAcc stepSq x0 x1 x2 x3 k0_pay642 := by
  unfold kernelRun0_A.sl.v403
  refine (View.readAt_full _ _ _).trans ?_
  rw [View.writes_append]
  refine (accA c i arg1 harg1 arg2 harg2 arg3 harg3 arg4 harg4 arg5 harg5 arg6 harg6 arg7 harg7 arg8 harg8 arg9 harg9 arg10 harg10 arg11 harg11 arg12 harg12 x0 x1 x2 x3 _ _ _ _).2.2.trans ?_
  unfold kernelRun0_A.sl.HS3_1
  rw [View.read_writes_full]

/-- Output 7: the sums, added to what the point before left. -/
theorem out7_A (hc0 : cond0_0 i) (hc1 : ¬cond0_1 i) (hc2 : cond0_2 i) (hc3 : ¬cond0_3 i) : out0_A_6 c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 = k0_pay643 (blkAcc stepSum x0 x1 x2 x3 k0_pay641) := by
  unfold out0_A_6
  rw [View.read_writes_junk_eq_canon, ← View.read_writes_junk_eq_canon arg7.view]
  unfold kernelRun0_A
  dsimp only
  rw [View.read_writes_full, v401A]

/-- Output 8: the sums of squares, added to what the point before left. -/
theorem out8_A (hc0 : cond0_0 i) (hc1 : ¬cond0_1 i) (hc2 : cond0_2 i) (hc3 : ¬cond0_3 i) : out0_A_7 c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 = k0_pay645 (blkAcc stepSq x0 x1 x2 x3 k0_pay642) := by
  unfold out0_A_7
  rw [View.read_writes_junk_eq_canon, ← View.read_writes_junk_eq_canon arg8.view]
  unfold kernelRun0_A
  dsimp only
  rw [View.read_writes_full]
  rw [v403A]

end Cert.Kernel2Ideal.Layer

end
-- ==== Proof.CaseB2.lean ====
module

public import proofs.«01_k».proof.Proof.CaseA2
public import proofs.«01_k».proof.Proof.Gen.Kernel2Ideal.Frame
import Idealize.ShloMosaic.Lib.Tactic.RunNames

@[expose] public section

/-! What one grid point leaves in each output's buffer, in terms of the loops' recursions. -/

noncomputable section

namespace Cert.Kernel2Ideal.Layer

open Cert.Kernel2Ideal Cert.Kernel2Ideal.Gen Idealize.ShloMosaic Idealize.ShloMosaic.TcCoe Idealize.SL.Sem

variable {F : FTy → Type} [FloatOps F] [Named F]

variable (c : Dev nD) (i : grid0.Coords) (arg1 : Memref sig .tc .vmem S1x32x1024 .f32) (harg1 : arg1.IsWhole) (arg2 : Memref sig .tc .vmem S32x1 .f32) (harg2 : arg2.IsWhole) (arg3 : Memref sig .tc .vmem S32x1 .f32) (harg3 : arg3.IsWhole) (arg4 : Memref sig .tc .vmem S128x256 .bf16) (harg4 : arg4.IsWhole) (arg5 : Memref sig .tc .vmem S1x32x1024 .f32) (harg5 : arg5.IsWhole) (arg6 : Memref sig .tc .vmem S1x32x1024 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S32x1024 .f32) (harg9 : arg9.IsWhole) (arg10 : Memref sig .tc .vmem S1024x1024 .f32) (harg10 : arg10.IsWhole) (arg11 : Memref sig .tc .vmem S32x1024 .f32) (harg11 : arg11.IsWhole) (arg12 : Memref sig .tc .vmem S32x1024 .f32) (harg12 : arg12.IsWhole)
    (x0 : Vec F S1x32x1024 .f32) (x1 x2 : Vec F S32x1 .f32) (x3 : Vec F S128x256 .bf16) (xo7 xo8 : Vec F S1x32 .f32)

/-- The block's points as case B's loop loads them. -/
theorem vB : kernelRun0_B.sl.v385 c arg1 harg1 arg2 harg2 arg3 harg3 arg9 x0 x1 x2 = blkX x0 x1 x2 := by
  unfold kernelRun0_B.sl.v385 kernelRun0_B.sl.HS0_1
  rw [View.readCov_full]
  unfold k0_pay612
  dsimp only
  refine (shapeCast_self _ _).trans ?_
  rw [View.readAt_full, View.readAt_full, View.readAt_full, harg1.read_unread, harg2.read_unread, harg3.read_unread]

/-- The distance matrix as case B computes it. -/
theorem rB : kernelRun0_B.sl.r c arg1 harg1 arg2 harg2 arg3 harg3 x0 x1 x2 = k0_pay613 x0 x1 x2 := by
  unfold kernelRun0_B.sl.r
  rw [View.readAt_full, View.readAt_full, View.readAt_full, harg1.read_unread, harg2.read_unread, harg3.read_unread]

/-- The distance matrix as case B's rank loop reads it. -/
theorem dB : arg10.view.read (Elt F) (arg10.view.writes (Elt F) arg10.view.junk (kernelRun0_B.sl.HS1_1 c arg1 harg1 arg2 harg2 arg3 harg3 x0 x1 x2))
    = k0_pay613 x0 x1 x2 := by
  unfold kernelRun0_B.sl.HS1_1
  rw [View.read_writes_full, View.readAt_full, View.readAt_full, View.readAt_full, harg1.read_unread, harg2.read_unread, harg3.read_unread]
  unfold k0_pay615
  exact shapeCast_self _ _

set_option maxRecDepth 65536 in
/-- The mask as case B stores it. -/
theorem mB : k0_pay636 (kernelRun0_B.sl.r_1 c i arg1 harg1 arg2 harg2 arg3 harg3 arg4 harg4 arg5 harg5 arg6 harg6 arg7 harg7 arg8 harg8 arg9 harg9 arg10 harg10 arg11 harg11 arg12 harg12 x0 x1 x2) (kernelRun0_B.sl.r_12 c i arg1 harg1 arg2 harg2 arg3 harg3 arg4 harg4 arg5 harg5 arg6 harg6 arg7 harg7 arg8 harg8 arg9 harg9 arg10 harg10 arg11 harg11 arg12 harg12 x0 x1 x2) (kernelRun0_B.sl.r_13 c i arg1 harg1 arg2 harg2 arg3 harg3 arg4 harg4 arg5 harg5 arg6 harg6 arg7 harg7 arg8 harg8 arg9 harg9 arg10 harg10 arg11 harg11 arg12 harg12 x0 x1 x2) k0_pay635
    = blkM (F := F) x0 x1 x2 := by
  have h := st_eq c i arg1 harg1 arg2 harg2 arg3 harg3 arg4 harg4 arg5 harg5 arg6 harg6 arg7 harg7 arg8 harg8 arg9 harg9 arg10 harg10 arg11 harg11 arg12 harg12 (kernelRun0_B.sl.r c arg1 harg1 arg2 harg2 arg3 harg3 x0 x1 x2) k0_pay614 0#32
    (arg10.view.writes (Elt F) arg10.view.junk (kernelRun0_B.sl.HS1_1 c arg1 harg1 arg2 harg2 arg3 harg3 x0 x1 x2)) k0_pay614 k0_t1_loop.trips le_rfl
  rw [dB, rB] at h
  unfold blkM
  rw [← h, ← rB c arg1 harg1 arg2 harg2 arg3 harg3 x0 x1 x2]
  rfl

/-- The neighbour loop's three accumulators in case B. -/
theorem accB (arg0 : BitVec 32) (G_arg6 : BufTy.Contents (Elt F) arg6.view.ty) (G_arg11 : BufTy.Contents (Elt F) arg11.view.ty) (G_arg12 : BufTy.Contents (Elt F) arg12.view.ty) :
    let L := pb_k0_t2 (F := F) Variants.none c none i arg1 harg1 arg2 harg2 arg3 harg3 arg4 harg4 arg5 harg5 arg6 harg6 arg7 harg7 arg8 harg8 arg9 harg9 arg10 harg10 arg11 harg11 arg12 harg12 arg0
      (kernelRun0_B.sl.r_14 c arg1 harg1 arg2 harg2 arg3 harg3 arg9 x0 x1 x2) (kernelRun0_B.sl.r_15 c arg1 harg1 arg2 harg2 arg3 harg3 arg9 x0 x1 x2) k0_pay639 (harg4.unread x3)
      (arg9.view.writes (Elt F) arg9.view.junk (kernelRun0_B.sl.HS0_1 c arg1 harg1 arg2 harg2 arg3 harg3 x0 x1 x2))
      (arg10.view.writes (Elt F) arg10.view.junk (⟨Rect.unit ![0, 0] ![1024, 1024] inb_S1024x1024_S1024x1024_0_0,
        k0_pay636 (kernelRun0_B.sl.r_1 c i arg1 harg1 arg2 harg2 arg3 harg3 arg4 harg4 arg5 harg5 arg6 harg6 arg7 harg7 arg8 harg8 arg9 harg9 arg10 harg10 arg11 harg11 arg12 harg12 x0 x1 x2) (kernelRun0_B.sl.r_12 c i arg1 harg1 arg2 harg2 arg3 harg3 arg4 harg4 arg5 harg5 arg6 harg6 arg7 harg7 arg8 harg8 arg9 harg9 arg10 harg10 arg11 harg11 arg12 harg12 x0 x1 x2) (kernelRun0_B.sl.r_13 c i arg1 harg1 arg2 harg2 arg3 harg3 arg4 harg4 arg5 harg5 arg6 harg6 arg7 harg7 arg8 harg8 arg9 harg9 arg10 harg10 arg11 harg11 arg12 harg12 x0 x1 x2) k0_pay635⟩ ::
          kernelRun0_B.sl.HS1_1 c arg1 harg1 arg2 harg2 arg3 harg3 x0 x1 x2))
      G_arg6 G_arg11 G_arg12 k0_t2_loop.trips
    (shapeCast S32x1024 (arg6.view.read (Elt F) (arg6.view.writes (Elt F) G_arg6 L.1)) shapeCasts_S1x32x1024_S32x1024
        = blkAcc stepMax x0 x1 x2 x3 (shapeCast S32x1024 (arg6.view.read (Elt F) G_arg6) shapeCasts_S1x32x1024_S32x1024))
    ∧ (arg11.view.read (Elt F) (arg11.view.writes (Elt F) G_arg11 L.2.1) = blkAcc stepSum x0 x1 x2 x3 (arg11.view.read (Elt F) G_arg11))
    ∧ (arg12.view.read (Elt F) (arg12.view.writes (Elt F) G_arg12 L.2.2) = blkAcc stepSq x0 x1 x2 x3 (arg12.view.read (Elt F) G_arg12)) := by
  intro L
  have h := pb_read c i arg1 harg1 arg2 harg2 arg3 harg3 arg4 harg4 arg5 harg5 arg6 harg6 arg7 harg7 arg8 harg8 arg9 harg9 arg10 harg10 arg11 harg11 arg12 harg12 arg0 (kernelRun0_B.sl.v385 c arg1 harg1 arg2 harg2 arg3 harg3 arg9 x0 x1 x2) (harg4.unread x3)
      (arg9.view.writes (Elt F) arg9.view.junk (kernelRun0_B.sl.HS0_1 c arg1 harg1 arg2 harg2 arg3 harg3 x0 x1 x2))
      (arg10.view.writes (Elt F) arg10.view.junk (⟨Rect.unit ![0, 0] ![1024, 1024] inb_S1024x1024_S1024x1024_0_0,
        k0_pay636 (kernelRun0_B.sl.r_1 c i arg1 harg1 arg2 harg2 arg3 harg3 arg4 harg4 arg5 harg5 arg6 harg6 arg7 harg7 arg8 harg8 arg9 harg9 arg10 harg10 arg11 harg11 arg12 harg12 x0 x1 x2) (kernelRun0_B.sl.r_12 c i arg1 harg1 arg2 harg2 arg3 harg3 arg4 harg4 arg5 harg5 arg6 harg6 arg7 harg7 arg8 harg8 arg9 harg9 arg10 harg10 arg11 harg11 arg12 harg12 x0 x1 x2) (kernelRun0_B.sl.r_13 c i arg1 harg1 arg2 harg2 arg3 harg3 arg4 harg4 arg5 harg5 arg6 harg6 arg7 harg7 arg8 harg8 arg9 harg9 arg10 harg10 arg11 harg11 arg12 harg12 x0 x1 x2) k0_pay635⟩ ::
          kernelRun0_B.sl.HS1_1 c arg1 harg1 arg2 harg2 arg3 harg3 x0 x1 x2))
      G_arg6 G_arg11 G_arg12 k0_t2_loop.trips le_rfl
  have hm : arg10.view.read (Elt F) (arg10.view.writes (Elt F) arg10.view.junk (⟨Rect.unit ![0, 0] ![1024, 1024] inb_S1024x1024_S1024x1024_0_0,
        k0_pay636 (kernelRun0_B.sl.r_1 c i arg1 harg1 arg2 harg2 arg3 harg3 arg4 harg4 arg5 harg5 arg6 harg6 arg7 harg7 arg8 harg8 arg9 harg9 arg10 harg10 arg11 harg11 arg12 harg12 x0 x1 x2) (kernelRun0_B.sl.r_12 c i arg1 harg1 arg2 harg2 arg3 harg3 arg4 harg4 arg5 harg5 arg6 harg6 arg7 harg7 arg8 harg8 arg9 harg9 arg10 harg10 arg11 harg11 arg12 harg12 x0 x1 x2) (kernelRun0_B.sl.r_13 c i arg1 harg1 arg2 harg2 arg3 harg3 arg4 harg4 arg5 harg5 arg6 harg6 arg7 harg7 arg8 harg8 arg9 harg9 arg10 harg10 arg11 harg11 arg12 harg12 x0 x1 x2) k0_pay635⟩ ::
          kernelRun0_B.sl.HS1_1 c arg1 harg1 arg2 harg2 arg3 harg3 x0 x1 x2)) = blkM x0 x1 x2 :=
    (View.read_writes_full _ _ _ _ _).trans (mB c i arg1 harg1 arg2 harg2 arg3 harg3 arg4 harg4 arg5 harg5 arg6 harg6 arg7 harg7 arg8 harg8 arg9 harg9 arg10 harg10 arg11 harg11 arg12 harg12 x0 x1 x2)
  have hx : arg9.view.read (Elt F) (arg9.view.writes (Elt F) arg9.view.junk (kernelRun0_B.sl.HS0_1 c arg1 harg1 arg2 harg2 arg3 harg3 x0 x1 x2)) = blkX x0 x1 x2 := by
    refine Eq.trans ?_ (vB c arg1 harg1 arg2 harg2 arg3 harg3 arg9 x0 x1 x2)
    exact (View.readAt_full _ _ _).symm
  have hv := vB c arg1 harg1 arg2 harg2 arg3 harg3 arg9 x0 x1 x2
  rw [hm, hx, hv, harg4.read_unread] at h
  rw [← hv] at h
  unfold blkAcc
  rw [← hv]
  exact h

/-- Output 5: the block's points. -/
theorem out5_B (hc0 : ¬cond0_0 i) (hc1 : cond0_1 i) (hc2 : ¬cond0_2 i) (hc3 : cond0_3 i) : out0_B_4 c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 xo7 xo8 = shapeCast S1x32x1024 (blkX x0 x1 x2) shapeCasts_S32x1024_S1x32x1024 := by
  unfold out0_B_4
  rw [View.read_writes_junk_eq_canon, ← View.read_writes_junk_eq_canon arg5.view]
  unfold kernelRun0_B
  dsimp only
  unfold kernelRun0_B.sl.H4_1
  rw [View.read_writes_full]
  unfold k0_pay611
  dsimp only
  rw [View.readAt_full, View.readAt_full, View.readAt_full, harg1.read_unread, harg2.read_unread, harg3.read_unread]

/-- Output 6: the maximum over the selected neighbours. -/
theorem out6_B (hc0 : ¬cond0_0 i) (hc1 : cond0_1 i) (hc2 : ¬cond0_2 i) (hc3 : cond0_3 i) : shapeCast S32x1024 (out0_B_5 c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 xo7 xo8) shapeCasts_S1x32x1024_S32x1024
    = blkAcc stepMax x0 x1 x2 x3 (shapeCast S32x1024 (k0_pay640 k0_pay639) shapeCasts_S1x32x1024_S32x1024) := by
  unfold out0_B_5
  rw [View.read_writes_junk_eq_canon, ← View.read_writes_junk_eq_canon arg6.view]
  unfold kernelRun0_B
  dsimp only
  rw [View.writes_append]
  refine (accB c i arg1 harg1 arg2 harg2 arg3 harg3 arg4 harg4 arg5 harg5 arg6 harg6 arg7 harg7 arg8 harg8 arg9 harg9 arg10 harg10 arg11 harg11 arg12 harg12 x0 x1 x2 x3 _ _ _ _).1.trans ?_
  unfold kernelRun0_B.sl.H5_1
  rw [View.read_writes_full]

/-- The sums as case B loads them after the loop. -/
theorem v401B : kernelRun0_B.sl.v401 c i arg1 harg1 arg2 harg2 arg3 harg3 arg4 harg4 arg5 harg5 arg6 harg6 arg7 harg7 arg8 harg8 arg9 harg9 arg10 harg10 arg11 harg11 arg12 harg12 x0 x1 x2 x3 = blkAcc stepSum x0 x1 x2 x3 k0_pay641 := by
  unfold kernelRun0_B.sl.v401
  refine (View.readAt_full _ _ _).trans ?_
  rw [View.writes_append]
  refine (accB c i arg1 harg1 arg2 harg2 arg3 harg3 arg4 harg4 arg5 harg5 arg6 harg6 arg7 harg7 arg8 harg8 arg9 harg9 arg10 harg10 arg11 harg11 arg12 harg12 x0 x1 x2 x3 _ _ _ _).2.1.trans ?_
  unfold kernelRun0_B.sl.HS2_1
  rw [View.read_writes_full]

/-- The sums of squares as case B loads them after the loop. -/
theorem v403B : kernelRun0_B.sl.v403 c i arg1 harg1 arg2 harg2 arg3 harg3 arg4 harg4 arg5 harg5 arg6 harg6 arg7 harg7 arg8 harg8 arg9 harg9 arg10 harg10 arg11 harg11 arg12 harg12 x0 x1 x2 x3 = blkAcc stepSq x0 x1 x2 x3 k0_pay642 := by
  unfold kernelRun0_B.sl.v403
  refine (View.readAt_full _ _ _).trans ?_
  rw [View.writes_append]
  refine (accB c i arg1 harg1 arg2 harg2 arg3 harg3 arg4 harg4 arg5 harg5 arg6 harg6 arg7 harg7 arg8 harg8 arg9 harg9 arg10 harg10 arg11 harg11 arg12 harg12 x0 x1 x2 x3 _ _ _ _).2.2.trans ?_
  unfold kernelRun0_B.sl.HS3_1
  rw [View.read_writes_full]

/-- Output 7: the sums, added to what the point before left. -/
theorem out7_B (hc0 : ¬cond0_0 i) (hc1 : cond0_1 i) (hc2 : ¬cond0_2 i) (hc3 : cond0_3 i) : out0_B_6 c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 xo7 xo8 = k0_pay644 (blkAcc stepSum x0 x1 x2 x3 k0_pay641) xo7 := by
  unfold out0_B_6
  rw [View.read_writes_junk_eq_canon, ← View.read_writes_junk_eq_canon arg7.view]
  unfold kernelRun0_B
  dsimp only
  rw [View.read_writes_full, v401B]
  refine congrArg _ ((View.readAt_full _ _ _).trans (harg7.read_unread _))

/-- Output 8: the sums of squares, added to what the point before left. -/
theorem out8_B (hc0 : ¬cond0_0 i) (hc1 : cond0_1 i) (hc2 : ¬cond0_2 i) (hc3 : cond0_3 i) : out0_B_7 c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 xo7 xo8 = k0_pay1 (k0_pay645 (blkAcc stepSq x0 x1 x2 x3 k0_pay642)) xo8 := by
  unfold out0_B_7
  rw [View.read_writes_junk_eq_canon, ← View.read_writes_junk_eq_canon arg8.view]
  unfold kernelRun0_B
  dsimp only
  rw [View.read_writes_full]
  unfold kernelRun0_B.sl.r_16
  rw [v403B]
  refine congrArg _ ((View.readAt_full _ _ _).trans (harg8.read_unread _))

end Cert.Kernel2Ideal.Layer

end
-- ==== Proof.Weights2.lean ====
module

public import proofs.«01_k».proof.Proof.Gen.Kernel2Ideal.Frame.Runs
public import Idealize.ShloMosaic.Lib.Pointwise
import Idealize.ShloMosaic.Lib.Routing.OpsOne
import Idealize.ShloMosaic.Lib.StableHlo.RunRead

@[expose] public section

/-! The weights the host lays down: four copies of the layer's matrix along the diagonal, zero elsewhere. -/

noncomputable section

namespace Cert.Kernel2Ideal.Layer

open Cert.Kernel2Ideal Cert.Kernel2Ideal.Gen Idealize.ShloMosaic Idealize.ShloMosaic.TcCoe Idealize.SL.Sem
open Idealize.ShloMosaic.Pointwise

/-- A corner of a block as the two index words the host makes. -/
def corner (r k : BitVec 32) : IVec S2 32 :=
  concatenate S2 0 [⟨S1, broadcastInDim S1 ![] bcast_S_S1 (constantI S_ 32 r)⟩,
    ⟨S1, broadcastInDim S1 ![] bcast_S_S1 (constantI S_ 32 k)⟩] concatenates_S1_S1_S2_d0

/-- The first index word is the row. -/
theorem corner_zero (r k : BitVec 32) : corner r k (ix1 (0 : Fin 2)) = r := by
  pointwise [corner]

/-- The second index word is the column. -/
theorem corner_one (r k : BitVec 32) : corner r k (ix1 (1 : Fin 2)) = k := by
  pointwise [corner]

/-- The scatter's place of an entry of the copied block. -/
theorem lands_block (r k : BitVec 32) (R K : ℕ) (hr : r.toInt = (R : Int)) (hk : k.toInt = (K : Int)) (p : Fin 32) (q : Fin 64)
    (a : Fin 128) (b : Fin 256) :
    scatter_S128x256_S2_S32x64_01_n_01_0.resultIdx? (ix2 p q) (corner r k) = some (ix2 a b) ↔ R + p.val = a.val ∧ K + q.val = b.val := by
  have h0 : scatter_S128x256_S2_S32x64_01_n_01_0.window (ix2 p q) 0 = p.val := by
    rfl
  have h1 : scatter_S128x256_S2_S32x64_01_n_01_0.window (ix2 p q) 1 = q.val := by
    rfl
  have s0 : scatter_S128x256_S2_S32x64_01_n_01_0.start (ix2 p q) (corner r k) 0 = (R : Int) := by
    rw [← hr, ← corner_zero r k]
    exact congrArg (fun t => (corner r k t).toInt) (by funext x; obtain rfl : x = 0 := Subsingleton.elim _ _; rfl)
  have s1 : scatter_S128x256_S2_S32x64_01_n_01_0.start (ix2 p q) (corner r k) 1 = (K : Int) := by
    rw [← hk, ← corner_one r k]
    exact congrArg (fun t => (corner r k t).toInt) (by funext x; obtain rfl : x = 0 := Subsingleton.elim _ _; rfl)
  refine (Routing.resultIdx?_ix2 _ (ix2 p q) (corner r k) a b).trans ?_
  rw [s0, h0, s1, h1]
  omega

/-- One scatter: the block replaced, everything else kept. -/
theorem scatter_block {α : Type} (r k : BitVec 32) (R K : ℕ) (hr : r.toInt = (R : Int)) (hk : k.toInt = (K : Int))
    (x : S128x256.Idx → α) (u : S32x64.Idx → α) (a : Fin 128) (b : Fin 256) :
    Host.scatter scatter_S128x256_S2_S32x64_01_n_01_0 (fun _ v => v) x (corner r k) u (ix2 a b)
      = if h : (R ≤ a.val ∧ a.val - R < 32) ∧ (K ≤ b.val ∧ b.val - K < 64)
        then u (ix2 ⟨a.val - R, h.1.2⟩ ⟨b.val - K, h.2.2⟩) else x (ix2 a b) := by
  have lands : ∀ j : S32x64.Idx, scatter_S128x256_S2_S32x64_01_n_01_0.resultIdx? j (corner r k) = some (ix2 a b) →
      R + (j 0).val = a.val ∧ K + (j 1).val = b.val := fun j hj =>
    (lands_block r k R K hr hk (j 0) (j 1) a b).1 (by rw [ix2_eta]; exact hj)
  by_cases h : (R ≤ a.val ∧ a.val - R < 32) ∧ (K ≤ b.val ∧ b.val - K < 64)
  · rw [dif_pos h]
    refine Routing.scatter_set_hit _ x (corner r k) u _ _ (fun j hj => ?_) (ix2 ⟨a.val - R, h.1.2⟩ ⟨b.val - K, h.2.2⟩)
      ((lands_block r k R K hr hk _ _ a b).2 ⟨by show R + (a.val - R) = a.val; omega, by show K + (b.val - K) = b.val; omega⟩)
    obtain ⟨e0, e1⟩ := lands j hj
    rw [← ix2_eta j]
    have q0 : j 0 = ⟨a.val - R, h.1.2⟩ := Fin.ext (by show (j 0).val = a.val - R; omega)
    have q1 : j 1 = ⟨b.val - K, h.2.2⟩ := Fin.ext (by show (j 1).val = b.val - K; omega)
    rw [q0, q1]
    rfl
  · rw [dif_neg h]
    refine Routing.scatter_set_miss _ x (corner r k) u _ fun j hj => h ?_
    obtain ⟨e0, e1⟩ := lands j hj
    have := (j 0).isLt
    have := (j 1).isLt
    have l0 : (j 0).val < 32 := (j 0).isLt
    have l1 : (j 1).val < 64 := (j 1).isLt
    omega

/-- The four copies, laid one after the other. -/
def fourCopies (u : FVec Ideal S32x64 .f32) : FVec Ideal S128x256 .f32 :=
  let put := fun (r k : BitVec 32) (x : FVec Ideal S128x256 .f32) =>
    Host.scatter scatter_S128x256_S2_S32x64_01_n_01_0 (fun _ v => v) x (corner r k) u
  put 96#32 192#32 (put 64#32 128#32 (put 32#32 64#32 (put 0#32 0#32
    (broadcastInDim S128x256 ![] bcast_S_S128x256 (constant (F := Ideal) S_ .f32 0x00000000#32)))))

/-- The copies read at an entry: block `(t, t')` is the matrix where `t = t'` and zero elsewhere. -/
theorem fourCopies_apply (u : FVec Ideal S32x64 .f32) (t t' : Fin 4) (o : Fin 32) (q : Fin 64) :
    fourCopies u (ix2 ⟨32 * t.val + o.val, by omega⟩ ⟨64 * t'.val + q.val, by omega⟩) = if t = t' then u (ix2 o q) else (0 : EReal) := by
  have hz : ∀ i, (broadcastInDim S128x256 ![] bcast_S_S128x256 (constant (F := Ideal) S_ .f32 0x00000000#32)) i = (0 : EReal) := by
    intro i
    obtain ⟨a, b, rfl⟩ : ∃ a b, i = ix2 a b := ⟨_, _, (ix2_eta i).symm⟩
    pointwise
  unfold fourCopies
  dsimp only
  rw [scatter_block 96#32 192#32 96 192 rfl rfl, scatter_block 64#32 128#32 64 128 rfl rfl, scatter_block 32#32 64#32 32 64 rfl rfl,
    scatter_block 0#32 0#32 0 0 rfl rfl, hz]
  have ho := o.isLt
  have hq := q.isLt
  fin_cases t <;> fin_cases t' <;> dsimp only
  all_goals
    repeat (first | rw [dif_neg (by omega)] | rw [dif_pos (by omega)])
    simp
  done

variable (m : (ℓ : Loc nD τ sig) → Buf (Elt Ideal) ℓ)

/-- The array of weights at the kernel's call. -/
theorem V_weights (c : Dev nD) :
    V m c main_v17 = truncf .bf16 (fourCopies (m ((c : Thread nD τ).loc main_arg3))) bitsLt_bf16_f32 := by
  unfold V hostOps0
  after_reads_simp
  rfl

/-- The weights at the call, entry by entry. -/
theorem weights_apply' (c : Dev nD) (t t' : Fin 4) (o : Fin 32) (q : Fin 64) :
    V m c main_v17 (ix2 ⟨32 * t.val + o.val, by omega⟩ ⟨64 * t'.val + q.val, by omega⟩)
      = if t = t' then m ((c : Thread nD τ).loc main_arg3) (ix2 o q) else (0 : EReal) := by
  rw [V_weights]
  exact fourCopies_apply _ t t' o q

/-- The weights at the call, at a row and a column told by their blocks. -/
theorem weights_apply (c : Dev nD) (t t' : Fin 4) (o : Fin 32) (q : Fin 64) (r : Fin 128) (k : Fin 256)
    (hr : r.val = 32 * t.val + o.val) (hk : k.val = 64 * t'.val + q.val) :
    V m c main_v17 (ix2 r k) = if t = t' then m ((c : Thread nD τ).loc main_arg3) (ix2 o q) else (0 : EReal) := by
  have h1 : 32 * t.val + o.val < 128 := by clear hr; omega
  have h2 : 64 * t'.val + q.val < 256 := by clear hk; omega
  obtain rfl : r = ⟨32 * t.val + o.val, h1⟩ := Fin.ext hr
  obtain rfl : k = ⟨64 * t'.val + q.val, h2⟩ := Fin.ext hk
  exact weights_apply' m c t t' o q

end Cert.Kernel2Ideal.Layer
-- ==== Proof.Point2.lean ====
module

public import proofs.«01_k».proof.Proof.Loop2
public import Idealize.ShloMosaic.Lib.Pointwise

@[expose] public section

/-! The neighbour loop's operations read at an index, over the extended reals. -/

noncomputable section

namespace Cert.Kernel2Ideal.Layer

open Cert.Kernel2Ideal Cert.Kernel2Ideal.Gen Idealize.ShloMosaic Idealize.ShloMosaic.TcCoe Idealize.SL.Sem
open Idealize.ShloMosaic.Pointwise

/-- Column `1024 t + n` of eight arrays side by side. -/
def wide (t : Fin 8) (n : Fin 1024) : Fin 8192 := ⟨1024 * t.val + n.val, by omega⟩

/-- A neighbour's features over all points, at an index. -/
theorem neighCol_apply (xsl : Vec Ideal S32x128 .f32) (o : Fin 128) (c : Fin 32) (n : Fin 1024) :
    neighCol xsl o (ix2 c n) = xsl (ix2 c o) := by
  pointwise [neighCol]

/-- A band's segment, at an index of the product. -/
theorem seg_apply (y : FVec Ideal S128x8192 .f32) (b : Fin 4) (t : Fin 8) (o : Fin 32) (n : Fin 1024) :
    seg y b t (ix2 o n) = y (ix2 (⟨32 * b.val + o.val, by omega⟩ : Fin 128) (wide t n)) := by
  pointwise [seg]
  rfl

/-- A mask row, at an index: whether its entry is positive. -/
theorem chosen_apply (m : Vec Ideal S8x1024 .f32) (t : Fin 8) (o : Fin 32) (n : Fin 1024) :
    chosen m t (ix2 o n) = BitVec.ofBool (decide (0 < m (ix2 t n))) := by
  pointwise [chosen]

/-- Eight arrays side by side, at a column of the `t`-th. -/
theorem beside_apply (f : Fin 8 → FVec Ideal S32x1024 .f32) (t : Fin 8) (c : Fin 32) (n : Fin 1024) :
    beside f (ix2 c (wide t n)) = f t (ix2 c n) := by
  pointwise [beside]
  have hn := n.isLt
  have hv : (wide t n).val = 1024 * t.val + n.val := rfl
  generalize wide t n = p at hv ⊢
  obtain ⟨p, hp⟩ := p
  dsimp only at hv ⊢
  simp only [hv]
  fin_cases t
  · rw [dif_pos (by dsimp only; omega)]; exact congrArg (fun k => f 0 (ix2 c k)) (Fin.ext (by dsimp only; omega))
  · rw [dif_neg (by dsimp only; omega)]; rw [dif_pos (by dsimp only; omega)]; exact congrArg (fun k => f 1 (ix2 c k)) (Fin.ext (by dsimp only; omega))
  · rw [dif_neg (by dsimp only; omega)]; rw [dif_neg (by dsimp only; omega)]; rw [dif_pos (by dsimp only; omega)]; exact congrArg (fun k => f 2 (ix2 c k)) (Fin.ext (by dsimp only; omega))
  · rw [dif_neg (by dsimp only; omega)]; rw [dif_neg (by dsimp only; omega)]; rw [dif_neg (by dsimp only; omega)]; rw [dif_pos (by dsimp only; omega)]; exact congrArg (fun k => f 3 (ix2 c k)) (Fin.ext (by dsimp only; omega))
  · rw [dif_neg (by dsimp only; omega)]; rw [dif_neg (by dsimp only; omega)]; rw [dif_neg (by dsimp only; omega)]; rw [dif_neg (by dsimp only; omega)]; rw [dif_pos (by dsimp only; omega)]; exact congrArg (fun k => f 4 (ix2 c k)) (Fin.ext (by dsimp only; omega))
  · rw [dif_neg (by dsimp only; omega)]; rw [dif_neg (by dsimp only; omega)]; rw [dif_neg (by dsimp only; omega)]; rw [dif_neg (by dsimp only; omega)]; rw [dif_neg (by dsimp only; omega)]; rw [dif_pos (by dsimp only; omega)]; exact congrArg (fun k => f 5 (ix2 c k)) (Fin.ext (by dsimp only; omega))
  · rw [dif_neg (by dsimp only; omega)]; rw [dif_neg (by dsimp only; omega)]; rw [dif_neg (by dsimp only; omega)]; rw [dif_neg (by dsimp only; omega)]; rw [dif_neg (by dsimp only; omega)]; rw [dif_neg (by dsimp only; omega)]; rw [dif_pos (by dsimp only; omega)]; exact congrArg (fun k => f 6 (ix2 c k)) (Fin.ext (by dsimp only; omega))
  · rw [dif_neg (by dsimp only; omega)]; rw [dif_neg (by dsimp only; omega)]; rw [dif_neg (by dsimp only; omega)]; rw [dif_neg (by dsimp only; omega)]; rw [dif_neg (by dsimp only; omega)]; rw [dif_neg (by dsimp only; omega)]; rw [dif_neg (by dsimp only; omega)]; exact congrArg (fun k => f 7 (ix2 c k)) (Fin.ext (by dsimp only; omega))

/-- The product with the weights, at an index. -/
theorem conv_apply (w : Vec Ideal S128x256 .bf16) (xsl : Vec Ideal S32x128 .f32) (x : Vec Ideal S32x1024 .f32) (s : Fin 4) (r : Fin 128) (p : Fin 8192) :
    conv w xsl x s (ix2 r p) = ∑ u : Fin 256, w (ix2 r u) * quad xsl x s (ix2 u p) := by
  pointwise [conv]

/-- A group's features at a row of its `a`-th band. -/
theorem quad_apply (xsl : Vec Ideal S32x128 .f32) (x : Vec Ideal S32x1024 .f32) (s a : Fin 4) (q : Fin 64) (p : Fin 8192) :
    quad xsl x s (ix2 (⟨64 * a.val + q.val, by omega⟩ : Fin 256) p) = band xsl x s a (ix2 q p) := by
  pointwise [quad]
  have hq := q.isLt
  fin_cases a <;> simp [Nat.add_sub_cancel_left] <;> split_ifs <;> first | omega | (congr 3; omega) | (congr 2)

/-- An edge's 64 features: the neighbour's less the point's, then the point's. -/
def edge (u v : Fin 32 → EReal) (q : Fin 64) : EReal :=
  if h : q.val < 32 then u ⟨q.val, h⟩ - v ⟨q.val, h⟩ else v ⟨q.val - 32, by omega⟩

/-- One output channel of an edge. -/
def outCh (W : Fin 64 → EReal) (u v : Fin 32 → EReal) : EReal := ∑ q : Fin 64, W q * edge u v q

/-- A band's features at an index. -/
theorem band_apply (xsl : Vec Ideal S32x128 .f32) (x : Vec Ideal S32x1024 .f32) (s b : Fin 4) (q : Fin 64) (t : Fin 8) (n : Fin 1024) :
    band xsl x s b (ix2 q (wide t n)) = edge (fun c => xsl (ix2 c (nb s b t))) (fun c => x (ix2 c n)) q := by
  pointwise [band]
  unfold edge
  by_cases h : q.val < 32
  · simp only [dif_pos h]
    rw [beside_apply, beside_apply, neighCol_apply]
  · simp only [dif_neg h]
    rw [beside_apply]

/-- A sum over `m n` indices, by blocks of `n`. -/
theorem sum_blocks {M : Type*} [AddCommMonoid M] {N : ℕ} (m n : ℕ) (h : N = m * n) (f : Fin N → M) :
    ∑ u, f u = ∑ a : Fin m, ∑ q : Fin n, f ⟨n * a.val + q.val, by
      subst h
      calc n * a.val + q.val < n * a.val + n := by omega
        _ = n * (a.val + 1) := by ring
        _ ≤ n * m := Nat.mul_le_mul_left _ a.isLt
        _ = m * n := Nat.mul_comm _ _⟩ := by
  subst h
  rw [← Fintype.sum_prod_type', ← finProdFinEquiv.sum_comp]
  refine Finset.sum_congr rfl fun p _ => congrArg f (Fin.ext ?_)
  simp [finProdFinEquiv, Nat.add_comm]

/-- With block-diagonal weights a segment holds the output channels of its own band's edges. -/
theorem seg_conv (w : Vec Ideal S128x256 .bf16) (W : Fin 32 → Fin 64 → EReal)
    (hw : ∀ (a a' : Fin 4) (o : Fin 32) (q : Fin 64),
      w (ix2 (⟨32 * a.val + o.val, by omega⟩ : Fin 128) (⟨64 * a'.val + q.val, by omega⟩ : Fin 256)) = if a = a' then W o q else 0)
    (xsl : Vec Ideal S32x128 .f32) (x : Vec Ideal S32x1024 .f32) (s b : Fin 4) (t : Fin 8) (o : Fin 32) (n : Fin 1024) :
    seg (conv w xsl x s) b t (ix2 o n) = outCh (W o) (fun c => xsl (ix2 c (nb s b t))) (fun c => x (ix2 c n)) := by
  rw [seg_apply, conv_apply, sum_blocks 4 64 rfl]
  unfold outCh
  rw [Finset.sum_eq_single b]
  · refine Finset.sum_congr rfl fun q _ => ?_
    rw [hw b b o q, quad_apply, band_apply, if_pos rfl]
  · intro a _ ha
    refine Finset.sum_eq_zero fun q _ => ?_
    rw [hw b a o q, if_neg (Ne.symm ha)]
    exact zero_mul _
  · intro h; exact absurd (Finset.mem_univ _) h

/-- Eight additions in order are one sum. -/
theorem eight_sum (f : Fin 8 → EReal) (g : Fin 8 → EReal → EReal) (hg : ∀ t a, g t a = a + f t) (a : EReal) :
    eight g a = a + ∑ t, f t := by
  simp only [eight, hg, Fin.sum_univ_eight, add_assoc]

/-- Four additions in order are one sum. -/
theorem four_sum (f : Fin 4 → EReal) (g : Fin 4 → EReal → EReal) (hg : ∀ t a, g t a = a + f t) (a : EReal) :
    four g a = a + ∑ t, f t := by
  simp only [four, hg, Fin.sum_univ_four, add_assoc]

/-- Eight steps read at an index are eight steps on the entries. -/
theorem eight_apply {ι α : Type} (f : Fin 8 → (ι → α) → (ι → α)) (g : Fin 8 → α → α) (i : ι)
    (h : ∀ t a, f t a i = g t (a i)) (a : ι → α) : eight f a i = eight g (a i) := by
  simp only [eight, h]

/-- Four steps read at an index are four steps on the entries. -/
theorem four_apply {ι α : Type} (f : Fin 4 → (ι → α) → (ι → α)) (g : Fin 4 → α → α) (i : ι)
    (h : ∀ t a, f t a i = g t (a i)) (a : ι → α) : four f a i = four g (a i) := by
  simp only [four, h]

/-- A trip whose step acts on entries acts on entries. -/
theorem trip_apply (step : IVec S32x1024 1 → FVec Ideal S32x1024 .f32 → FVec Ideal S32x1024 .f32 → FVec Ideal S32x1024 .f32)
    (g : BitVec 1 → EReal → EReal → EReal) (hg : ∀ m y a i, step m y a i = g (m i) (y i) (a i))
    (w : Vec Ideal S128x256 .bf16) (xsl : Vec Ideal S32x128 .f32) (x : Vec Ideal S32x1024 .f32)
    (m : Fin 4 → Fin 4 → Vec Ideal S8x1024 .f32) (a : FVec Ideal S32x1024 .f32) (i : S32x1024.Idx) :
    trip step w xsl x m a i
      = four (fun s => four fun b => eight fun t => g (chosen (m s b) t i) (seg (conv w xsl x s) b t i)) (a i) := by
  unfold trip
  refine four_apply _ _ i (fun s a => ?_) a
  refine four_apply _ _ i (fun b a => ?_) a
  refine eight_apply _ _ i (fun t a => ?_) a
  exact hg _ _ _ _

end Cert.Kernel2Ideal.Layer

end
-- ==== Proof.Sums2.lean ====
module

public import proofs.«01_k».proof.Proof.Point2
public import proofs.«01_k».proof.Proof.Loop2
import Idealize.ShloMosaic.Lib.Pointwise

@[expose] public section

/-! The neighbour loop's accumulators at an index: a sum, a sum of squares and a maximum over all 1024 neighbours. -/

noncomputable section

namespace Cert.Kernel2Ideal.Layer

open Cert.Kernel2Ideal Cert.Kernel2Ideal.Gen Idealize.ShloMosaic Idealize.ShloMosaic.TcCoe Idealize.SL.Sem
open Idealize.ShloMosaic.Pointwise

/-- A maximum step at an index. -/
theorem stepMax_apply (m : IVec S32x1024 1) (y a : FVec Ideal S32x1024 .f32) (i : S32x1024.Idx) :
    stepMax m y a i = max (a i) (if m i = 1#1 then y i else (⊥ : EReal)) := by
  rfl

/-- A sum step at an index. -/
theorem stepSum_apply (m : IVec S32x1024 1) (y a : FVec Ideal S32x1024 .f32) (i : S32x1024.Idx) :
    stepSum m y a i = a i + (if m i = 1#1 then y i else (0 : EReal)) := by
  obtain ⟨o, n, rfl⟩ : ∃ o n, i = ix2 o n := ⟨_, _, (ix2_eta i).symm⟩
  pointwise [stepSum, kept]
  rfl

/-- A sum-of-squares step at an index. -/
theorem stepSq_apply (m : IVec S32x1024 1) (y a : FVec Ideal S32x1024 .f32) (i : S32x1024.Idx) :
    stepSq m y a i = a i + (if m i = 1#1 then y i * y i else (0 : EReal)) := by
  obtain ⟨o, n, rfl⟩ : ∃ o n, i = ix2 o n := ⟨_, _, (ix2_eta i).symm⟩
  pointwise [stepSq, kept]
  refine congrArg (a (ix2 o n) + ·) ?_
  by_cases h : m (ix2 o n) = 1#1
  · rw [if_pos h]
    exact if_pos h
  · rw [if_neg h]
    exact if_neg h

/-- A column of the neighbours' features a trip loads. -/
theorem colsAt_apply (X : Vec Ideal S32x1024 .f32) (k : Fin k0_t2_loop.trips) (c : Fin 32) (j : Fin 128) (h : 128 * k.val + j.val < 1024) :
    colsAt X k (ix2 c j) = X (ix2 c ⟨128 * k.val + j.val, h⟩) := by
  refine congrArg X (funext fun d => ?_)
  have e := k0_off2_eq k
  refine Fin.ext ?_
  fin_cases d
  · simp [e]
  · simp [e]

/-- An entry of the mask rows a trip loads. -/
theorem rowsAt_apply (M : Vec Ideal S1024x1024 .f32) (k : Fin k0_t2_loop.trips) (s b : Fin 4) (t : Fin 8) (n : Fin 1024)
    (h : 128 * k.val + (nb s b t).val < 1024) :
    rowsAt M k s b (ix2 t n) = M (ix2 ⟨128 * k.val + (nb s b t).val, h⟩ n) := by
  refine congrArg M (funext fun d => ?_)
  have e := k0_off3_eq k s b
  refine Fin.ext ?_
  fin_cases d
  · simp [e, nb]
    omega
  · simp [e]

variable (w : Vec Ideal S128x256 .bf16) (W : Fin 32 → Fin 64 → EReal)
    (hw : ∀ (a a' : Fin 4) (o : Fin 32) (q : Fin 64),
      w (ix2 (⟨32 * a.val + o.val, by omega⟩ : Fin 128) (⟨64 * a'.val + q.val, by omega⟩ : Fin 256)) = if a = a' then W o q else 0)

/-- A neighbour's contribution: a function of its output channel where the mask selects it, a default elsewhere. -/
def term (g : EReal → EReal) (z : EReal) (W : Fin 32 → Fin 64 → EReal) (X x : Vec Ideal S32x1024 .f32) (M : Vec Ideal S1024x1024 .f32)
    (o : Fin 32) (n : Fin 1024) (m : Fin 1024) : EReal :=
  if 0 < M (ix2 m n) then g (outCh (W o) (fun c => X (ix2 c m)) (fun c => x (ix2 c n))) else z

include hw

/-- A step's masked value in a trip is the neighbour's contribution. -/
theorem term_eq (g : EReal → EReal) (z : EReal) (X x : Vec Ideal S32x1024 .f32) (M : Vec Ideal S1024x1024 .f32)
    (k : Fin k0_t2_loop.trips) (s b : Fin 4) (t : Fin 8) (o : Fin 32) (n : Fin 1024) (h : 128 * k.val + (nb s b t).val < 1024) :
    (if chosen (rowsAt M k s b) t (ix2 o n) = 1#1 then g (seg (conv w (colsAt X k) x s) b t (ix2 o n)) else z)
      = term g z W X x M o n ⟨128 * k.val + (nb s b t).val, h⟩ := by
  rw [chosen_apply, seg_conv w W hw, rowsAt_apply M k s b t n h]
  unfold term
  simp only [colsAt_apply X k _ _ h]
  by_cases hp : 0 < M (ix2 ⟨128 * k.val + (nb s b t).val, h⟩ n)
  · rw [if_pos hp, if_pos (by rw [decide_eq_true hp]; rfl)]
  · rw [if_neg hp, if_neg (by rw [decide_eq_false hp]; decide)]

omit hw in
/-- A trip's neighbours are within range. -/
theorem nb_lt (k : ℕ) (hk : k < k0_t2_loop.trips) (j : Fin 128) : 128 * k + j.val < 1024 := by
  have := trips2; omega

omit hw in
/-- A sum over a trip's 128 neighbours, in its three digits. -/
theorem sum_nb (f : Fin 128 → EReal) : ∑ s : Fin 4, ∑ b : Fin 4, ∑ t : Fin 8, f (nb s b t) = ∑ j, f j := by
  rw [sum_blocks 4 32 rfl f]
  refine Finset.sum_congr rfl fun s _ => ?_
  rw [sum_blocks 4 8 rfl]
  refine Finset.sum_congr rfl fun b _ => Finset.sum_congr rfl fun t _ => congrArg f (Fin.ext ?_)
  simp [nb]; omega

/-- An additive accumulator after `k` trips. -/
theorem accAfter_sum (step : IVec S32x1024 1 → FVec Ideal S32x1024 .f32 → FVec Ideal S32x1024 .f32 → FVec Ideal S32x1024 .f32)
    (g : EReal → EReal) (hg : ∀ m y a i, step m y a i = a i + (if m i = 1#1 then g (y i) else (0 : EReal)))
    (X x : Vec Ideal S32x1024 .f32) (M : Vec Ideal S1024x1024 .f32) (a : FVec Ideal S32x1024 .f32) (o : Fin 32) (n : Fin 1024)
    (k : ℕ) (hk : k ≤ k0_t2_loop.trips) :
    accAfter step w X x M a k (ix2 o n)
      = a (ix2 o n) + ∑ u : Fin k, ∑ j : Fin 128, term g 0 W X x M o n ⟨128 * u.val + j.val, nb_lt u.val (by omega) j⟩ := by
  induction k with
  | zero => simp [accAfter]
  | succ k ih =>
    rw [show accAfter step w X x M a (k + 1) = trip step w (colsAt X ⟨k, hk⟩) x (rowsAt M ⟨k, hk⟩) (accAfter step w X x M a k) from dif_pos hk]
    rw [trip_apply step (fun m y a => a + (if m = 1#1 then g y else (0 : EReal))) hg, ih (by omega)]
    rw [Fin.sum_univ_castSucc, ← add_assoc]
    rw [four_sum (fun s => ∑ b : Fin 4, ∑ t : Fin 8, term g 0 W X x M o n ⟨128 * k + (nb s b t).val, nb_lt k hk _⟩)]
    · refine congrArg₂ (· + ·) rfl ?_
      exact sum_nb (fun j => term g 0 W X x M o n ⟨128 * k + j.val, nb_lt k hk _⟩)
    · intro s a
      refine four_sum _ _ (fun b a => ?_) a
      refine eight_sum _ _ (fun t a => ?_) a
      exact congrArg (a + ·) (term_eq w W hw g 0 X x M ⟨k, hk⟩ s b t o n (nb_lt k hk _))

omit hw in
/-- Eight maxima in order are below a bound when each is. -/
theorem eight_max (f : Fin 8 → EReal) (c : EReal) (g : Fin 8 → EReal → EReal) (hg : ∀ t a, g t a ≤ c ↔ a ≤ c ∧ f t ≤ c) (a : EReal) :
    eight g a ≤ c ↔ a ≤ c ∧ ∀ t, f t ≤ c := by
  simp only [eight, hg]
  constructor
  · rintro ⟨⟨⟨⟨⟨⟨⟨⟨h, h0⟩, h1⟩, h2⟩, h3⟩, h4⟩, h5⟩, h6⟩, h7⟩
    refine ⟨h, fun t => ?_⟩
    fin_cases t <;> assumption
  · rintro ⟨h, hf⟩
    exact ⟨⟨⟨⟨⟨⟨⟨⟨h, hf 0⟩, hf 1⟩, hf 2⟩, hf 3⟩, hf 4⟩, hf 5⟩, hf 6⟩, hf 7⟩

omit hw in
/-- Four maxima in order are below a bound when each is. -/
theorem four_max (p : Fin 4 → Prop) (c : EReal) (g : Fin 4 → EReal → EReal) (hg : ∀ t a, g t a ≤ c ↔ a ≤ c ∧ p t) (a : EReal) :
    four g a ≤ c ↔ a ≤ c ∧ ∀ t, p t := by
  simp only [four, hg]
  constructor
  · rintro ⟨⟨⟨⟨h, h0⟩, h1⟩, h2⟩, h3⟩
    refine ⟨h, fun t => ?_⟩
    fin_cases t <;> assumption
  · rintro ⟨h, hf⟩
    exact ⟨⟨⟨⟨h, hf 0⟩, hf 1⟩, hf 2⟩, hf 3⟩

/-- The maximum accumulator after `k` trips is below a bound when every contribution is. -/
theorem accAfter_max (X x : Vec Ideal S32x1024 .f32) (M : Vec Ideal S1024x1024 .f32) (a : FVec Ideal S32x1024 .f32) (o : Fin 32) (n : Fin 1024)
    (c : EReal) (k : ℕ) (hk : k ≤ k0_t2_loop.trips) :
    accAfter stepMax w X x M a k (ix2 o n) ≤ c
      ↔ a (ix2 o n) ≤ c ∧ ∀ (u : Fin k) (j : Fin 128), term id ⊥ W X x M o n ⟨128 * u.val + j.val, nb_lt u.val (by omega) j⟩ ≤ c := by
  induction k with
  | zero => simp [accAfter]
  | succ k ih =>
    rw [show accAfter stepMax w X x M a (k + 1) = trip stepMax w (colsAt X ⟨k, hk⟩) x (rowsAt M ⟨k, hk⟩) (accAfter stepMax w X x M a k) from dif_pos hk]
    rw [trip_apply stepMax (fun m y a => max a (if m = 1#1 then id y else (⊥ : EReal))) stepMax_apply]
    rw [four_max (fun s => ∀ (b : Fin 4) (t : Fin 8), term id ⊥ W X x M o n ⟨128 * k + (nb s b t).val, nb_lt k hk _⟩ ≤ c), ih (by omega), and_assoc]
    · refine and_congr Iff.rfl ⟨fun h u j => ?_, fun h => ⟨fun u j => h ⟨u.val, by omega⟩ j, fun s b t => h ⟨k, by omega⟩ (nb s b t)⟩⟩
      rcases Nat.lt_or_ge u.val k with hu | hu
      · exact h.1 ⟨u.val, hu⟩ j
      · have hu' : u.val = k := by omega
        have hj : j = nb ⟨j.val / 32, by omega⟩ ⟨j.val % 32 / 8, by omega⟩ ⟨j.val % 8, by omega⟩ := by
          refine Fin.ext ?_
          simp only [nb]; omega
        have := h.2 ⟨j.val / 32, by omega⟩ ⟨j.val % 32 / 8, by omega⟩ ⟨j.val % 8, by omega⟩
        rw [← hj] at this
        simp only [hu']
        exact this
    · intro s a
      refine four_max _ _ _ (fun b a => ?_) a
      refine eight_max _ _ _ (fun t a => ?_) a
      rw [term_eq w W hw id ⊥ X x M ⟨k, hk⟩ s b t o n (nb_lt k hk _), max_le_iff]

/-- The weights are copies of one matrix along the diagonal. -/
def Diagonal (w : Vec Ideal S128x256 .bf16) (W : Fin 32 → Fin 64 → EReal) : Prop :=
  ∀ (a a' : Fin 4) (o : Fin 32) (q : Fin 64) (r : Fin 128) (k : Fin 256), r.val = 32 * a.val + o.val → k.val = 64 * a'.val + q.val →
    w (ix2 r k) = if a = a' then W o q else (0 : EReal)

omit hw in
/-- An additive accumulator after all trips is a sum over all neighbours. -/
theorem accAfter_sum_all (hd : Diagonal w W) (step : IVec S32x1024 1 → FVec Ideal S32x1024 .f32 → FVec Ideal S32x1024 .f32 → FVec Ideal S32x1024 .f32)
    (g : EReal → EReal) (hg : ∀ m y a i, step m y a i = a i + (if m i = 1#1 then g (y i) else (0 : EReal)))
    (X x : Vec Ideal S32x1024 .f32) (M : Vec Ideal S1024x1024 .f32) (a : FVec Ideal S32x1024 .f32) (o : Fin 32) (n : Fin 1024) :
    accAfter step w X x M a k0_t2_loop.trips (ix2 o n) = a (ix2 o n) + ∑ m, term g 0 W X x M o n m := by
  rw [accAfter_sum w W (fun a a' o q => hd a a' o q _ _ rfl rfl) step g hg X x M a o n _ le_rfl, sum_blocks k0_t2_loop.trips 128 (by rw [trips2]) (term g 0 W X x M o n)]

omit hw in
/-- The maximum accumulator after all trips is below a bound when every neighbour's contribution is. -/
theorem accAfter_max_all (hd : Diagonal w W) (X x : Vec Ideal S32x1024 .f32) (M : Vec Ideal S1024x1024 .f32) (a : FVec Ideal S32x1024 .f32) (o : Fin 32) (n : Fin 1024)
    (c : EReal) :
    accAfter stepMax w X x M a k0_t2_loop.trips (ix2 o n) ≤ c ↔ a (ix2 o n) ≤ c ∧ ∀ m, term id ⊥ W X x M o n m ≤ c := by
  rw [accAfter_max w W (fun a a' o q => hd a a' o q _ _ rfl rfl) X x M a o n c _ le_rfl]
  refine and_congr Iff.rfl ⟨fun h m => ?_, fun h u j => h _⟩
  have := h ⟨m.val / 128, by have := trips2; omega⟩ ⟨m.val % 128, by omega⟩
  simpa only [Nat.div_add_mod] using this

end Cert.Kernel2Ideal.Layer

end
-- ==== Proof.Block2.lean ====
module

public import proofs.«01_k».proof.Proof.CaseB2
public import proofs.«01_k».proof.Proof.Weights2
public import proofs.«01_k».proof.Proof.Sums2
public import proofs.«01_k».proof.Proof.Mask2
public import Idealize.ShloMosaic.Lib.Pipeline.ValueKit
import Idealize.ShloMosaic.Lib.Pointwise

@[expose] public section

/-! The block of one grid point: its inputs read off the arrays, its points and its distances. -/

noncomputable section

namespace Cert.Kernel2Ideal.Layer

open Cert.Kernel2Ideal Cert.Kernel2Ideal.Gen Idealize.ShloMosaic Idealize.ShloMosaic.TcCoe Idealize.SL.Sem
open Idealize.ShloMosaic.Pointwise

/-- One coordinate of a point: the scaled and shifted value through the leaky unit. -/
def act (y s b : EReal) : EReal :=
  if 0 ≤ y * s + b then y * s + b else Ideal.ofBits FTy.f32 1045220557#32 * (y * s + b)

/-- The distance of point `i` from point `n`, as the kernel writes it down. -/
def far (U : Fin 32 → Fin 1024 → EReal) (i n : Fin 1024) : EReal :=
  ((∑ c, U c n * U c n) - (FloatOps.ofBits (F := Ideal) .f32 0x40000000#32 : EReal) * ∑ c, U c i * U c n) + ∑ c, U c i * U c i

variable (x0 : Vec Ideal S1x32x1024 .f32) (x1 x2 : Vec Ideal S32x1 .f32)

/-- The points of a block at a coordinate. -/
theorem blkX_apply (p : Fin 32) (n : Fin 1024) :
    blkX x0 x1 x2 (ix2 p n) = act (x0 (ix3 0 p n)) (x1 (ix2 p 0)) (x2 (ix2 p 0)) := by
  pointwise [blkX, k0_pay610]
  rfl

/-- The distance matrix of a block at an entry. -/
theorem dist_apply (i n : Fin 1024) :
    k0_pay613 x0 x1 x2 (ix2 i n) = far (fun p k => blkX x0 x1 x2 (ix2 p k)) i n := by
  unfold blkX
  generalize hX : k0_pay610 x0 x1 x2 = X
  pointwise [k0_pay613]
  rw [hX]
  unfold far
  simp

variable (m : (ℓ : Loc nD τ sig) → Buf (Elt Ideal) ℓ) (d : Dev nD) (t : Fin cfg0.N)

/-- The batch a grid point works on. -/
abbrev bat : Fin 32 := ⟨t.val, Nat.lt_of_lt_of_eq t.isLt N_0⟩

/-- The first input's block at a coordinate. -/
theorem in0_apply (p : Fin 32) (n : Fin 1024) :
    (iblk m d 0 t : Vec Ideal S1x32x1024 .f32) (ix3 0 p n) = m ((d : Thread nD τ).loc main_arg0) (ix3 (bat t) p n) := by
  have e : ∀ t : Fin grid0.N, win0_0.index t = ![t.val, 0, 0] := by decide +kernel
  blk_ext [iblk, V_main_arg0, e t]

/-- The scales, at every point the whole array. -/
theorem in1_apply (p : Fin 32) :
    (iblk m d 1 t : Vec Ideal S32x1 .f32) (ix2 p 0) = m ((d : Thread nD τ).loc main_arg1) (ix2 p 0) := by
  have e : ∀ t : Fin grid0.N, win0_1.index t = ![0, 0] := by decide +kernel
  blk_ext [iblk, V_main_arg1, e t]

/-- The shifts, at every point the whole array. -/
theorem in2_apply (p : Fin 32) :
    (iblk m d 2 t : Vec Ideal S32x1 .f32) (ix2 p 0) = m ((d : Thread nD τ).loc main_arg2) (ix2 p 0) := by
  have e : ∀ t : Fin grid0.N, win0_2.index t = ![0, 0] := by decide +kernel
  blk_ext [iblk, V_main_arg2, e t]

/-- The weights, at every point the whole array. -/
theorem in3_apply (p : Fin 128) (n : Fin 256) :
    (iblk m d 3 t : Vec Ideal S128x256 .bf16) (ix2 p n) = V m d main_v17 (ix2 p n) := by
  have e : ∀ t : Fin grid0.N, win0_3.index t = ![0, 0] := by decide +kernel
  blk_ext [iblk, e t]

/-- The points of every batch, off the argument arrays. -/
def pts (b p : Fin 32) (n : Fin 1024) : EReal :=
  act (m ((d : Thread nD τ).loc main_arg0) (ix3 b p n)) (m ((d : Thread nD τ).loc main_arg1) (ix2 p 0))
    (m ((d : Thread nD τ).loc main_arg2) (ix2 p 0))

/-- The weights, off their argument array. -/
def wts (o : Fin 32) (q : Fin 64) : EReal := m ((d : Thread nD τ).loc main_arg3) (ix2 o q)

/-- The convolution's output for point `n` and its neighbour `k`. -/
def edgeVal (b o : Fin 32) (n k : Fin 1024) : EReal :=
  outCh (wts m d o) (fun p => pts m d b p k) (fun p => pts m d b p n)

/-- The block's points are the batch's. -/
theorem points_apply (p : Fin 32) (n : Fin 1024) :
    blkX (iblk m d 0 t : Vec Ideal S1x32x1024 .f32) (iblk m d 1 t) (iblk m d 2 t) (ix2 p n) = pts m d (bat t) p n := by
  rw [blkX_apply, in0_apply, in1_apply, in2_apply]
  rfl

/-- The block's weights are four copies along the diagonal. -/
theorem diagonal : Diagonal (iblk m d 3 t) (wts m d) := fun a a' o q r k hr hk =>
  (in3_apply m d t r k).trans (weights_apply m d a a' o q r k hr hk)

/-- Each point's forty neighbours, told apart by distance. -/
structure Nearest (U : Fin 32 → Fin 1024 → EReal) (T : Fin 1024 → Finset (Fin 1024)) : Prop where
  /-- there are forty of them -/
  card : ∀ n, (T n).card = 40
  /-- every other point is farther -/
  far : ∀ n, ∀ i ∈ T n, ∀ j, j ∉ T n → far U i n < far U j n

variable {T : Fin 1024 → Finset (Fin 1024)} (hT : Nearest (pts m d (bat t)) T)
include hT

/-- The mask of the block marks the neighbours. -/
theorem mask_marks (i n : Fin 1024) :
    0 < blkM (F := Ideal) (iblk m d 0 t) (iblk m d 1 t) (iblk m d 2 t) (ix2 i n) ↔ i ∈ T n := by
  refine mask_apply _ n (T n) (hT.card n) (fun i hi j hj => ?_) i
  have e : (fun p k => blkX (iblk m d 0 t : Vec Ideal S1x32x1024 .f32) (iblk m d 1 t) (iblk m d 2 t) (ix2 p k))
      = pts m d (bat t) := by
    funext p k
    exact points_apply m d t p k
  rw [dist_apply, dist_apply, e]
  exact hT.far n i hi j hj

/-- One neighbour's term. -/
theorem term_near (g : EReal → EReal) (z : EReal) (o : Fin 32) (n k : Fin 1024) :
    term g z (wts m d) (blkX (F := Ideal) (iblk m d 0 t) (iblk m d 1 t) (iblk m d 2 t))
      (blkX (F := Ideal) (iblk m d 0 t) (iblk m d 1 t) (iblk m d 2 t))
      (blkM (F := Ideal) (iblk m d 0 t) (iblk m d 1 t) (iblk m d 2 t)) o n k
      = if k ∈ T n then g (edgeVal m d (bat t) o n k) else z := by
  unfold term edgeVal
  rw [funext fun p => points_apply m d t p k, funext fun p => points_apply m d t p n]
  exact if_congr (mask_marks m d t hT k n) rfl rfl

/-- The block's sum over the neighbours. -/
theorem sum_block (step : IVec S32x1024 1 → FVec Ideal S32x1024 .f32 → FVec Ideal S32x1024 .f32 → FVec Ideal S32x1024 .f32)
    (g : EReal → EReal) (hg : ∀ m y a i, step m y a i = a i + (if m i = 1#1 then g (y i) else (0 : EReal)))
    (a : FVec Ideal S32x1024 .f32) (o : Fin 32) (n : Fin 1024) (ha : a (ix2 o n) = (0 : EReal)) :
    blkAcc (F := Ideal) step (iblk m d 0 t) (iblk m d 1 t) (iblk m d 2 t) (iblk m d 3 t) a (ix2 o n)
      = ∑ k ∈ T n, g (edgeVal m d (bat t) o n k) := by
  unfold blkAcc
  rw [accAfter_sum_all _ (wts m d) (diagonal m d t) step g hg, ha, zero_add, Finset.sum_congr rfl fun k _ => term_near m d t hT g 0 o n k,
    ← Finset.sum_filter]
  congr 1
  ext k
  simp

/-- The block's maximum over the neighbours. -/
theorem max_block (a : FVec Ideal S32x1024 .f32) (o : Fin 32) (n : Fin 1024) (ha : a (ix2 o n) = (⊥ : EReal)) :
    blkAcc (F := Ideal) stepMax (iblk m d 0 t) (iblk m d 1 t) (iblk m d 2 t) (iblk m d 3 t) a (ix2 o n)
      = (T n).sup fun k => edgeVal m d (bat t) o n k := by
  unfold blkAcc
  refine eq_of_forall_ge_iff fun c => ?_
  rw [accAfter_max_all _ (wts m d) (diagonal m d t), ha, Finset.sup_le_iff]
  constructor
  · intro h k hk
    have := h.2 k
    rw [term_near m d t hT id ⊥ o n k, if_pos hk] at this
    exact this
  · intro h
    refine ⟨bot_le, fun k => ?_⟩
    rw [term_near m d t hT id ⊥ o n k]
    by_cases hk : k ∈ T n
    · rw [if_pos hk]
      exact h k hk
    · rw [if_neg hk]
      exact bot_le

end Cert.Kernel2Ideal.Layer
-- ==== Proof.Ref2.lean ====
module

public import proofs.«01_k».proof.Proof.Gen.Reference2Ideal.Read
public import proofs.«01_k».proof.Proof.Block2
public import proofs.«01_k».proof.Proof.Order
public import Idealize.ShloMosaic.Lib.Pointwise
import Idealize.ShloMosaic.Lib.StableHlo.Predicate

/-! What the reference's operations hold at an index: the points, their squared distances, the chosen neighbours, the gathered
    features and the edge values. -/

@[expose] public section

noncomputable section

namespace Cert.Kernel2Ideal.Layer

open Cert.KernelIdeal.Layer (pick row first40 first40_card first40_greater greatest_place greatest_value first_injective)
open Cert.Reference2Ideal Cert.Reference2Ideal.Gen Cert.Reference2Ideal.Read Idealize.ShloMosaic Idealize.ShloMosaic.Pointwise

variable (x0 : FVec Ideal S32x32x1024 .f32) (x1 x2 : FVec Ideal S32x1 .f32) (x3 : FVec Ideal S32x64 .f32)

/-- The coordinate `p` of point `n` of batch `b`. -/
def pt (b p : Fin 32) (n : Fin 1024) : EReal := act (x0 (ix3 b p n)) (x1 (ix2 p 0)) (x2 (ix2 p 0))

/-- The reference's points. -/
theorem ref_points (b p : Fin 32) (n : Fin 1024) : val_main_v10 (F := Ideal) x0 x1 x2 (ix3 b p n) = pt x0 x1 x2 b p n := by
  unfold pt act
  pointwise [val_main_v10, val_main_v9, val_main_v8, val_main_v7, val_main_v6, val_main_v5, val_main_v4, val_main_v3,
    val_main_v2, val_main_v1, val_main_v0, val_main_cst, val_main_cst_0]

/-- The reference's points with the coordinate last. -/
theorem ref_turned (b p : Fin 32) (n : Fin 1024) : val_main_v11 (F := Ideal) x0 x1 x2 (ix3 b n p) = pt x0 x1 x2 b p n := by
  rw [← ref_points]
  unfold val_main_v11
  generalize val_main_v10 (F := Ideal) x0 x1 x2 = y
  pointwise

/-- The other turned copy of the points. -/
theorem ref_turned' (b p : Fin 32) (n : Fin 1024) : val_main_v24 (F := Ideal) x0 x1 x2 (ix3 b n p) = pt x0 x1 x2 b p n := by
  rw [← ref_points]
  unfold val_main_v24
  generalize val_main_v10 (F := Ideal) x0 x1 x2 = y
  pointwise

/-- The squared lengths. -/
theorem ref_square (b : Fin 32) (n : Fin 1024) :
    val_main_v13 (F := Ideal) x0 x1 x2 (ix2 b n) = ∑ p, pt x0 x1 x2 b p n * pt x0 x1 x2 b p n := by
  simp only [← ref_turned]
  unfold val_main_v13 val_main_v12
  generalize val_main_v11 (F := Ideal) x0 x1 x2 = y
  pointwise [val_main_cst_1]

/-- The inner products. -/
theorem ref_inner (b : Fin 32) (n k : Fin 1024) :
    val_main_v14 (F := Ideal) x0 x1 x2 (ix3 b n k) = ∑ p, pt x0 x1 x2 b p n * pt x0 x1 x2 b p k := by
  simp only [← ref_turned]
  rw [val_main_v14_apply]
  generalize val_main_v11 (F := Ideal) x0 x1 x2 = y
  refine Finset.sum_congr rfl fun p _ => ?_
  refine congrArg₂ (· * ·) (congrArg y ?_) (congrArg y ?_) <;> funext a <;> match a with
    | ⟨0, _⟩ => rfl
    | ⟨1, _⟩ => rfl
    | ⟨2, _⟩ => rfl

/-- The row the reference sorts for a point: minus its squared distances from the points. -/
theorem ref_row (b : Fin 32) (n k : Fin 1024) :
    row (val_main_v23 (F := Ideal) x0 x1 x2) b n k = -(far (pt x0 x1 x2 b) k n) := by
  have h1 := ref_square x0 x1 x2 b n
  have h2 := ref_square x0 x1 x2 b k
  have h3 := ref_inner x0 x1 x2 b n k
  unfold row far
  simp only [mul_comm (pt x0 x1 x2 b _ k) (pt x0 x1 x2 b _ n)]
  rw [← h1, ← h2, ← h3]
  unfold val_main_v23 val_main_v22 val_main_v21 val_main_v20 val_main_v19 val_main_v18 val_main_v17 val_main_v16 val_main_v15 val_main_cst_2
  generalize val_main_v13 (F := Ideal) x0 x1 x2 = y
  generalize val_main_v14 (F := Ideal) x0 x1 x2 = z
  pointwise

/-- The neighbours of a point: the places of the first forty of its sorted row. -/
def near (b : Fin 32) (n : Fin 1024) : Finset (Fin 1024) := first40 (row (val_main_v23 (F := Ideal) x0 x1 x2) b n)

/-- The place of the `k`-th neighbour. -/
def nth (b : Fin 32) (n : Fin 1024) (k : Fin 40) : Fin 1024 :=
  pick (row (val_main_v23 (F := Ideal) x0 x1 x2) b n) (Fin.castLE (by decide) k)

/-- The positions the reference's sort returns. -/
theorem ref_place (b : Fin 32) (n : Fin 1024) (k : Fin 40) :
    val_main_indices (F := Ideal) x0 x1 x2 (ix3 b n k) = BitVec.ofNat 32 (nth x0 x1 x2 b n k).val :=
  greatest_place 40 _ _ b n k _ rfl

/-- None of them is below zero, so the reference's wrapping of negative positions leaves them. -/
theorem ref_place' (b : Fin 32) (n : Fin 1024) (k : Fin 40) (z : Fin 1) :
    val_main_v30 (F := Ideal) x0 x1 x2 (ix4 b n k z) = BitVec.ofNat 32 (nth x0 x1 x2 b n k).val := by
  have h := ref_place x0 x1 x2 b n k
  generalize nth x0 x1 x2 b n k = w at h ⊢
  rw [val_main_v30_apply, val_main_v29_apply, val_main_v26_apply, val_main_v25_apply, val_main_c_apply]
  have hi : idx_main_v30 (ix4 b n k z) = ix3 b n k := by
    funext a
    match a with
    | ⟨0, _⟩ => rfl
    | ⟨1, _⟩ => rfl
    | ⟨2, _⟩ => rfl
  rw [hi, h]
  have hw := w.isLt
  have hc : IntOp.cmpi .slt (BitVec.ofNat 32 w.val) 0x00000000#32 = 0#1 := by
    have : (BitVec.ofNat 32 w.val).slt 0x00000000#32 = false := by
      rw [BitVec.slt_eq_decide, StableHlo.Predicate.toInt_ofNat_small _ (by omega)]
      simp
    unfold IntOp.cmpi
    simp [this]
  rw [hc]
  rfl

end Cert.Kernel2Ideal.Layer

end
-- ==== Proof.RefEdge2.lean ====
module

public import proofs.«01_k».proof.Proof.Ref2
import Idealize.ShloMosaic.Lib.StableHlo.Predicate
import Idealize.ShloMosaic.Lib.Pipeline.Value

/-! The reference's gathered features, its edge values, and what it takes of them over the neighbours. -/

@[expose] public section

noncomputable section

namespace Cert.Kernel2Ideal.Layer

open Cert.KernelIdeal.Layer (pick row first40 first40_card first40_greater greatest_place greatest_value first_injective)
open Cert.Reference2Ideal Cert.Reference2Ideal.Gen Cert.Reference2Ideal.Read Idealize.ShloMosaic Idealize.ShloMosaic.Pointwise

/-- The gather reads, for a point and a position, the row the word at that position names. -/
theorem gather_named (x : FVec Ideal S32x1024x32 .f32) (p : IVec S32x1024x40x1 32) (b : Fin 32) (n : Fin 1024) (k : Fin 40) (c : Fin 32)
    (w : Fin 1024) (h : p (ix4 b n k 0) = BitVec.ofNat 32 w.val) :
    Host.gather gather_S32x1024x32_S32x1024x40x1_S32x1024x40x32_3_1_0_0_1_3_1132 x p (ix4 b n k c) = x (ix3 b w c) := by
  unfold Host.gather
  refine congrArg x (funext fun a => Fin.ext ?_)
  have hw := w.isLt
  match a with
  | ⟨0, _⟩ =>
    show GatherDims.start _ (ix4 b n k c) p 0 + GatherDims.batchCoord _ (ix4 b n k c) 0 + GatherDims.offCoord _ (ix4 b n k c) 0 = b.val
    rw [GatherDims.offCoord_eq_zero _ _ _ (by decide)]
    unfold GatherDims.start GatherDims.batchCoord
    rw [dif_neg (by decide), dif_pos (by decide)]
    unfold GatherDims.siCoord
    simp only [Nat.add_zero, Nat.zero_add]
    rfl
  | ⟨1, _⟩ =>
    show GatherDims.start _ (ix4 b n k c) p 1 + GatherDims.batchCoord _ (ix4 b n k c) 1 + GatherDims.offCoord _ (ix4 b n k c) 1 = w.val
    rw [GatherDims.offCoord_eq_zero _ _ _ (by decide), GatherDims.batchCoord_eq_zero _ _ _ (by decide)]
    unfold GatherDims.start
    rw [dif_pos (by decide)]
    have hi : ∀ i : S32x1024x40x1.Idx, i = ix4 b n k 0 → min (p i).toInt.toNat 1023 = w.val := by
      rintro _ rfl
      rw [h, StableHlo.Predicate.toInt_ofNat_small _ (by omega)]
      omega
    refine hi _ ?_
    funext a'
    match a' with
    | ⟨0, _⟩ => rfl
    | ⟨1, _⟩ => rfl
    | ⟨2, _⟩ => rfl
    | ⟨3, _⟩ => rfl
  | ⟨2, _⟩ =>
    show GatherDims.start _ (ix4 b n k c) p 2 + GatherDims.batchCoord _ (ix4 b n k c) 2 + GatherDims.offCoord _ (ix4 b n k c) 2 = c.val
    rw [GatherDims.batchCoord_eq_zero _ _ _ (by decide)]
    unfold GatherDims.start GatherDims.offCoord
    rw [dif_neg (by decide), dif_pos (by decide)]
    simp only [Nat.add_zero, Nat.zero_add]
    rfl

variable (x0 : FVec Ideal S32x32x1024 .f32) (x1 x2 : FVec Ideal S32x1 .f32) (x3 : FVec Ideal S32x64 .f32)

/-- The gathered points are the neighbours. -/
theorem ref_gathered (b : Fin 32) (n : Fin 1024) (k : Fin 40) (c : Fin 32) :
    val_main_v31 (F := Ideal) x0 x1 x2 (ix4 b n k c) = pt x0 x1 x2 b c (nth x0 x1 x2 b n k) := by
  unfold val_main_v31
  rw [gather_named _ _ b n k c _ (ref_place' x0 x1 x2 b n k 0), ref_turned']

/-- The point itself, repeated for each neighbour. -/
theorem ref_repeated (b : Fin 32) (n : Fin 1024) (k : Fin 40) (c : Fin 32) :
    val_main_v33 (F := Ideal) x0 x1 x2 (ix4 b n k c) = pt x0 x1 x2 b c n := by
  rw [← ref_turned']
  unfold val_main_v33 val_main_v32
  generalize val_main_v24 (F := Ideal) x0 x1 x2 = y
  pointwise

/-- The features of an edge: differences first, the point itself after. -/
theorem ref_features (b : Fin 32) (n : Fin 1024) (k : Fin 40) (q : Fin 64) :
    val_main_v35 (F := Ideal) x0 x1 x2 (ix4 b n k q)
      = edge (fun c => pt x0 x1 x2 b c (nth x0 x1 x2 b n k)) (fun c => pt x0 x1 x2 b c n) q := by
  unfold val_main_v35 edge
  by_cases h : q.val < 32
  · rw [dif_pos h]
    refine (concatenate_pair_apply_left (s₁ := S32x1024x40x32) (s₂ := S32x1024x40x32) (t := S32x1024x40x64) 3 _ _ _ (ix4 b n k q) rfl
      (ix4 b n k ⟨q.val, h⟩) (fun a => by
        match a with
        | ⟨0, _⟩ => rfl
        | ⟨1, _⟩ => rfl
        | ⟨2, _⟩ => rfl
        | ⟨3, _⟩ => rfl)).trans ?_
    rw [val_main_v34_apply, ref_gathered, ref_repeated]
    rfl
  · have hq := q.isLt
    have hr : q.val - 32 < 32 := by omega
    rw [dif_neg h]
    refine (concatenate_pair_apply_right (s₁ := S32x1024x40x32) (s₂ := S32x1024x40x32) (t := S32x1024x40x64) 3 _ _ _ (ix4 b n k q) rfl rfl
      (ix4 b n k ⟨q.val - 32, hr⟩) (fun a ha => by
        match a with
        | ⟨0, _⟩ => rfl
        | ⟨1, _⟩ => rfl
        | ⟨2, _⟩ => rfl
        | ⟨3, _⟩ => exact absurd rfl ha) (by show q.val - 32 + 32 = q.val; omega)).trans ?_
    rw [ref_repeated]

/-- The value of an output channel on an edge. -/
def val (b o : Fin 32) (n k : Fin 1024) : EReal :=
  outCh (fun q => x3 (ix2 o q)) (fun c => pt x0 x1 x2 b c k) (fun c => pt x0 x1 x2 b c n)

/-- The reference's edge values. -/
theorem ref_edge (b o : Fin 32) (n : Fin 1024) (k : Fin 40) :
    val_main_v38 (F := Ideal) x0 x1 x2 x3 (ix4 b o n k) = val x0 x1 x2 x3 b o n (nth x0 x1 x2 b n k) := by
  rw [val_main_v38_apply, val_main_v37_apply]
  unfold val outCh
  refine Finset.sum_congr rfl fun q _ => ?_
  rw [val_main_v36_apply, ← ref_features, mul_comm]
  refine congrArg₂ (· * ·) (congrArg x3 ?_) (congrArg _ ?_) <;> funext a
  · match a with
    | ⟨0, _⟩ => rfl
    | ⟨1, _⟩ => rfl
  · match a with
    | ⟨0, _⟩ => rfl
    | ⟨1, _⟩ => rfl
    | ⟨2, _⟩ => rfl
    | ⟨3, _⟩ => rfl

/-- A maximum over the neighbours' positions is one over the neighbours. -/
theorem near_sup (b : Fin 32) (n : Fin 1024) (f : Fin 1024 → EReal) :
    (Finset.univ.sup fun k : Fin 40 => f (nth x0 x1 x2 b n k)) = (near x0 x1 x2 b n).sup f := by
  unfold near first40
  rw [Finset.sup_image]
  rfl

/-- A sum over the neighbours' positions is one over the neighbours. -/
theorem near_sum (b : Fin 32) (n : Fin 1024) (f : Fin 1024 → EReal) :
    (∑ k : Fin 40, f (nth x0 x1 x2 b n k)) = ∑ k ∈ near x0 x1 x2 b n, f k := by
  unfold near first40
  rw [Finset.sum_image fun _ _ _ _ h => first_injective _ h]
  rfl

/-- The reference's maximum over the neighbours. -/
theorem ref_max (b o : Fin 32) (n : Fin 1024) :
    val_main_v39 (F := Ideal) x0 x1 x2 x3 (ix3 b o n) = (near x0 x1 x2 b n).sup fun k => val x0 x1 x2 x3 b o n k := by
  rw [← near_sup]
  simp only [← ref_edge]
  unfold val_main_v39
  generalize val_main_v38 (F := Ideal) x0 x1 x2 x3 = y
  pointwise [val_main_cst_4]
  have hb : Ideal.ofBits FTy.f32 4286578688#32 = (⊥ : EReal) := by simp [Ideal.ofBits, Ideal.ieee]
  rw [hb]
  rfl

/-- The indices that a sum over every axis but the second brings to a channel are those with that channel. -/
theorem fiber_channel (h : S32x32x1024x40.ReducesTo [0, 2, 3] S32) (o : Fin 32) (i : S32x32x1024x40.Idx) :
    h.drop i = ix1 o ↔ ∃ k : Fin 32 × Fin 1024 × Fin 40, (ix4 k.1 o k.2.1 k.2.2 : S32x32x1024x40.Idx) = i := by
  constructor
  · intro e
    refine ⟨(i 0, i 2, i 3), ?_⟩
    funext a; apply Fin.ext
    match a with
    | ⟨0, _⟩ => rfl
    | ⟨1, _⟩ => exact (congrArg Fin.val (congrFun e (0 : Fin 1))).symm
    | ⟨2, _⟩ => rfl
    | ⟨3, _⟩ => rfl
  · rintro ⟨k, rfl⟩
    funext a; apply Fin.ext
    match a with
    | ⟨0, _⟩ => rfl

/-- A sum over every axis but the second. -/
theorem total_channel (h : S32x32x1024x40.ReducesTo [0, 2, 3] S32) (y : S32x32x1024x40.Idx → EReal) (o : Fin 32) :
    Ideal.hostReduceAdd h y 0 (ix1 o) = ∑ b : Fin 32, ∑ n : Fin 1024, ∑ k : Fin 40, y (ix4 b o n k) := by
  unfold Ideal.hostReduceAdd
  rw [zero_add, Finset.sum_filter_eq_sum_of_fiber _ (fun k : Fin 32 × Fin 1024 × Fin 40 => (ix4 k.1 o k.2.1 k.2.2 : S32x32x1024x40.Idx))
    (fun _ _ e => Prod.ext (congrFun e (0 : Fin 4)) (Prod.ext (congrFun e (2 : Fin 4)) (congrFun e (3 : Fin 4)))) (fiber_channel h o) y]
  simp only [Fintype.sum_prod_type]

/-- The reference's sum over everything but the channel. -/
theorem ref_sum (z : Fin 1) (o : Fin 32) :
    val_main_v41 (F := Ideal) x0 x1 x2 x3 (ix2 z o)
      = ∑ b, ∑ n, ∑ k ∈ near x0 x1 x2 b n, val x0 x1 x2 x3 b o n k := by
  simp only [← near_sum, ← ref_edge]
  unfold val_main_v41 val_main_v40
  generalize val_main_v38 (F := Ideal) x0 x1 x2 x3 = y
  pointwise [val_main_cst_5]
  exact total_channel _ y o

/-- The reference's sum of squares over everything but the channel. -/
theorem ref_squares (z : Fin 1) (o : Fin 32) :
    val_main_v44 (F := Ideal) x0 x1 x2 x3 (ix2 z o)
      = ∑ b, ∑ n, ∑ k ∈ near x0 x1 x2 b n, val x0 x1 x2 x3 b o n k * val x0 x1 x2 x3 b o n k := by
  simp only [← near_sum x0 x1 x2 _ _ fun k => val x0 x1 x2 x3 _ o _ k * val x0 x1 x2 x3 _ o _ k, ← ref_edge]
  unfold val_main_v44 val_main_v43 val_main_v42
  generalize val_main_v38 (F := Ideal) x0 x1 x2 x3 = y
  pointwise [val_main_cst_6]
  exact total_channel _ _ o

end Cert.Kernel2Ideal.Layer

end
-- ==== Proof.NoTie2.lean ====
module

public import proofs.«01_k».proof.Pre_no_tie2
public import proofs.«01_k».proof.Proof.RefEdge2
import Idealize.ShloMosaic.Lib.StableHlo.Predicate

/-! What the precondition says: each point's fortieth neighbour is strictly nearer than its forty-first. -/

@[expose] public section

noncomputable section

namespace Cert.Kernel2Ideal.Layer

open Cert.KernelIdeal.Layer (pick row first40 first40_card first40_greater greatest_place greatest_value first_injective)
open Cert.Reference2Ideal Cert.Reference2Ideal.Gen Cert.Reference2Ideal.Read Idealize.ShloMosaic Idealize.ShloMosaic.Pointwise

/-- The side conditions of the precondition's operations. -/
instance preFacts : Cert.Pre_no_tie2.Facts where
  bcast_S32x1_S32x32x1024_1_2 := by decide
  bcast_S_S32x32x1024 := by decide
  transposes_S32x32x1024_S32x1024x32_0_2_1 := by decide
  reducesTo_S32x1024x32_S32x1024_d2 := by decide
  h_S_ := by decide
  bcast_S32x1024_S32x1024x1_0_1 := by decide
  bcast_S_S32x1024x1024 := by decide
  bcast_S32x1024x1_S32x1024x1024_0_1_2 := by decide
  bcast_S32x1024_S32x1x1024_0_2 := by decide
  bcast_S32x1x1024_S32x1024x1024_0_1_2 := by decide
  sliceFits_S32x1024x1024_S32x1024x41 := by decide
  slices_S32x1024x41_S32x1024x1_0_0_39 := by decide
  slices_S32x1024x41_S32x1024x1_0_0_40 := by decide
  dot_S32x1024x32_S32x1024x32_S32x1024x1024_2_2_1_1_0_0_wf := by decide

variable (x0 : FVec Ideal S32x32x1024 .f32) (x1 x2 : FVec Ideal S32x1 .f32) (x3 : FVec Ideal S32x64 .f32)

/-- The precondition's scaled and shifted array, before the leaky step. -/
def shifted : FVec Ideal S32x32x1024 .f32 :=
  addf (mulf x0 (broadcastInDim S32x32x1024 ![1, 2] preFacts.bcast_S32x1_S32x32x1024_1_2 x1))
    (broadcastInDim S32x32x1024 ![1, 2] preFacts.bcast_S32x1_S32x32x1024_1_2 x2)

/-- It is the reference's. -/
theorem shifted_eq : shifted x0 x1 x2 = val_main_v5 (F := Ideal) x0 x1 x2 := by
  funext i
  obtain ⟨b, p, n, rfl⟩ : ∃ b p n, i = ix3 b p n := ⟨i 0, i 1, i 2, by funext a; match a with | ⟨0, _⟩ => rfl | ⟨1, _⟩ => rfl | ⟨2, _⟩ => rfl⟩
  pointwise [shifted, val_main_v5, val_main_v4, val_main_v3, val_main_v2, val_main_v1, val_main_v0]

/-- The precondition compares the values at positions 39 and 40 of the reference's sorted negated distances. -/
theorem pre_eq (b : Fin 32) (n : Fin 1024) (h : Cert.Pre_no_tie2.fn (F := Ideal) x0 x1 x2 x3 = fun _ => 1#1) :
    cmpf (F := Ideal) .ogt
      (extractStridedSlice Cert.Pre_no_tie2.S32x1024x1 ![0, 0, 39]
        (Host.topK Cert.Pre_no_tie2.S32x1024x41 2 (FloatOps.cmpfTotal (F := Ideal) (φ := .f32) .gt) (val_main_v23 (F := Ideal) x0 x1 x2)
          preFacts.sliceFits_S32x1024x1024_S32x1024x41).1 preFacts.slices_S32x1024x41_S32x1024x1_0_0_39)
      (extractStridedSlice Cert.Pre_no_tie2.S32x1024x1 ![0, 0, 40]
        (Host.topK Cert.Pre_no_tie2.S32x1024x41 2 (FloatOps.cmpfTotal (F := Ideal) (φ := .f32) .gt) (val_main_v23 (F := Ideal) x0 x1 x2)
          preFacts.sliceFits_S32x1024x1024_S32x1024x41).1 preFacts.slices_S32x1024x41_S32x1024x1_0_0_40) (ix3 b n 0) = 1#1 := by
  refine Eq.trans (congrFun ?_ _) (congrFun h (ix3 b n 0))
  unfold Cert.Pre_no_tie2.fn Cert.Pre_no_tie2.fn_part1
  dsimp only
  have e : addf (mulf x0 (broadcastInDim S32x32x1024 ![1, 2] preFacts.bcast_S32x1_S32x32x1024_1_2 x1))
    (broadcastInDim S32x32x1024 ![1, 2] preFacts.bcast_S32x1_S32x32x1024_1_2 x2) = _ := shifted_eq x0 x1 x2
  rw [e]
  rfl

/-- Read at a point, the values at positions 39 and 40 of its sorted row. -/
theorem apart (b : Fin 32) (n : Fin 1024) (h : Cert.Pre_no_tie2.fn (F := Ideal) x0 x1 x2 x3 = fun _ => 1#1) :
    row (val_main_v23 (F := Ideal) x0 x1 x2) b n (pick (row (val_main_v23 (F := Ideal) x0 x1 x2) b n) 40)
      < row (val_main_v23 (F := Ideal) x0 x1 x2) b n (pick (row (val_main_v23 (F := Ideal) x0 x1 x2) b n) 39) := by
  have hc := pre_eq x0 x1 x2 x3 b n h
  generalize val_main_v23 (F := Ideal) x0 x1 x2 = y at hc ⊢
  rw [← greatest_value 41 y preFacts.sliceFits_S32x1024x1024_S32x1024x41 b n 40 40 rfl,
    ← greatest_value 41 y preFacts.sliceFits_S32x1024x1024_S32x1024x41 b n 39 39 rfl]
  generalize (Host.topK Cert.Pre_no_tie2.S32x1024x41 2 (FloatOps.cmpfTotal (F := Ideal) (φ := .f32) .gt) y
          preFacts.sliceFits_S32x1024x1024_S32x1024x41).1 = z at hc ⊢
  pointwise at hc
  by_contra hn
  rw [decide_eq_false hn] at hc
  exact absurd hc (by decide)

/-- The points' forty neighbours in the reference are told apart by distance. -/
theorem nearest (h : Cert.Pre_no_tie2.fn (F := Ideal) x0 x1 x2 x3 = fun _ => 1#1) (b : Fin 32) :
    Nearest (pt x0 x1 x2 b) (near x0 x1 x2 b) where
  card n := first40_card _
  far n i hi j hj := by
    have hf := first40_greater _ 39 40 rfl rfl (apart x0 x1 x2 x3 b n h) i j hi hj
    rw [ref_row, ref_row] at hf
    exact EReal.neg_lt_neg_iff.1 hf

end Cert.Kernel2Ideal.Layer

end
-- ==== Proof.Arrays2.lean ====
module

public import proofs.«01_k».proof.Proof.Block2
import Idealize.ShloMosaic.Lib.Pointwise

@[expose] public section

/-! What the four result arrays hold after the call. -/

noncomputable section

namespace Cert.Kernel2Ideal.Layer

open Cert.Kernel2Ideal Cert.Kernel2Ideal.Gen Idealize.ShloMosaic Idealize.ShloMosaic.TcCoe Idealize.SL.Sem
open Idealize.ShloMosaic.Pointwise

/-- A row's total. -/
theorem rowTotal_apply (v : Vec Ideal S32x1024 .f32) (z : Fin 1) (o : Fin 32) : k0_pay643 v (ix2 z o) = ∑ n, (v (ix2 o n) : EReal) := by
  pointwise [k0_pay643]

/-- The other row total. -/
theorem rowTotal'_apply (v : Vec Ideal S32x1024 .f32) (z : Fin 1) (o : Fin 32) : k0_pay645 v (ix2 z o) = ∑ n, (v (ix2 o n) : EReal) := by
  pointwise [k0_pay645]

/-- The running total takes the row totals in. -/
theorem grown_apply (v : Vec Ideal S32x1024 .f32) (a : Vec Ideal S1x32 .f32) (z : Fin 1) (o : Fin 32) :
    k0_pay644 v a (ix2 z o) = (a (ix2 z o) : EReal) + k0_pay643 v (ix2 z o) := by
  generalize hT : k0_pay643 v = T
  pointwise [k0_pay644]
  rw [hT]

/-- The running total of squares takes the row totals in. -/
theorem grown'_apply (v : FVec Ideal S1x32 .f32) (a : Vec Ideal S1x32 .f32) (z : Fin 1) (o : Fin 32) :
    k0_pay1 v a (ix2 z o) = (a (ix2 z o) : EReal) + v (ix2 z o) := by
  pointwise [k0_pay1]

/-- The sum's first value is zero. -/
theorem start_sum (o : Fin 32) (n : Fin 1024) : k0_pay641 (F := Ideal) (ix2 o n) = (0 : EReal) := by
  pointwise [k0_pay641]

/-- The sum of squares' first value is zero. -/
theorem start_sq (o : Fin 32) (n : Fin 1024) : k0_pay642 (F := Ideal) (ix2 o n) = (0 : EReal) := by
  pointwise [k0_pay642]

/-- The maximum's first value is least. -/
theorem start_max (o : Fin 32) (n : Fin 1024) :
    shapeCast S32x1024 (k0_pay640 (k0_pay639 (F := Ideal))) shapeCasts_S1x32x1024_S32x1024 (ix2 o n) = (⊥ : EReal) := by
  pointwise [k0_pay640, k0_pay639]
  rfl

variable (m : (ℓ : Loc nD τ sig) → Buf (Elt Ideal) ℓ) (d : Dev nD)

/-- What a point leaves in the first output's buffer. -/
theorem left5 (t : Fin cfg0.N) (z : Fin 1) (p : Fin 32) (n : Fin 1024) :
    (outsAt0 m d t.val t.isLt).1 (ix3 z p n) = pts m d (bat t) p n := by
  rw [← points_apply m d t p n]
  have hN : cfg0.N = 32 := N_0
  have ht := t.isLt
  by_cases h : t.val % 32 = 0
  · rw [outsAt0_A m d t h (by omega) h (by omega)]
    dsimp only
    rw [out5_A]
    generalize blkX (F := Ideal) (iblk m d 0 t) (iblk m d 1 t) (iblk m d 2 t) = X
    pointwise
  · rw [outsAt0_B m d t h (by omega) h (by omega)]
    dsimp only
    rw [out5_B]
    generalize blkX (F := Ideal) (iblk m d 0 t) (iblk m d 1 t) (iblk m d 2 t) = X
    pointwise

variable {T : Fin 32 → Fin 1024 → Finset (Fin 1024)} (hT : ∀ b, Nearest (pts m d b) (T b))

/-- An array with one leading row, at an index. -/
theorem one_row (y : Vec Ideal S1x32x1024 .f32) (z : Fin 1) (o : Fin 32) (n : Fin 1024) :
    y (ix3 z o n) = shapeCast S32x1024 y shapeCasts_S1x32x1024_S32x1024 (ix2 o n) := by
  obtain rfl : z = 0 := Subsingleton.elim _ _
  pointwise

include hT

/-- What a point leaves in the second output's buffer. -/
theorem left6 (t : Fin cfg0.N) (z : Fin 1) (o : Fin 32) (n : Fin 1024) :
    (outsAt0 m d t.val t.isLt).2.1 (ix3 z o n) = (T (bat t) n).sup fun k => edgeVal m d (bat t) o n k := by
  refine (one_row _ z o n).trans ?_
  have hN : cfg0.N = 32 := N_0
  have ht := t.isLt
  by_cases h : t.val % 32 = 0
  · rw [outsAt0_A m d t h (by omega) h (by omega)]
    dsimp only
    rw [out6_A]
    exact max_block m d t (hT _) _ o n (start_max o n)
  · rw [outsAt0_B m d t h (by omega) h (by omega)]
    dsimp only
    rw [out6_B]
    exact max_block m d t (hT _) _ o n (start_max o n)

/-- One point's share of a total. -/
def share (T : Fin 32 → Fin 1024 → Finset (Fin 1024)) (g : EReal → EReal) (b o : Fin 32) : EReal :=
  ∑ n, ∑ k ∈ T b n, g (edgeVal m d b o n k)

/-- The total after the last point is the sum of the shares. -/
theorem left7 (t : Fin cfg0.N) (ht : t.val + 1 = cfg0.N) (j : S1x32.Idx) :
    (outsAt0 m d t.val t.isLt).2.2.1 j = 0 + ∑ p : Fin cfg0.N, share m d T id (bat p) (j 1) := by
  have hb : ∀ (p : Fin cfg0.N) (z : Fin 1) (o : Fin 32), k0_pay643 (F := Ideal) (blkAcc (F := Ideal) stepSum (iblk m d 0 p) (iblk m d 1 p) (iblk m d 2 p)
      (iblk m d 3 p) k0_pay641) (ix2 z o) = share m d T id (bat p) o := fun p z o => by
    rw [rowTotal_apply]
    exact Finset.sum_congr rfl fun n _ => sum_block m d p (hT _) stepSum id stepSum_apply _ o n (start_sum o n)
  have hN : cfg0.N = 32 := N_0
  rw [Pipeline.eq_sum_fin_of_reset_step_apply_last (fun n h => (outsAt0 m d n h).2.2.1) 32 (fun _ => (0 : EReal))
    (fun p j => share m d T id (bat p) (j 1)) (fun p h j => ?_) (fun p h j => ?_) (le_of_eq N_0) t ht j]
  · obtain ⟨z, o, rfl⟩ : ∃ z o, j = ix2 z o := ⟨_, _, (ix2_eta j).symm⟩
    have := p.isLt
    rw [outsAt0_A m d p h (by omega) h (by omega)]
    dsimp only
    rw [out7_A, hb, zero_add]
    rfl
  · obtain ⟨z, o, rfl⟩ : ∃ z o, j = ix2 z o := ⟨_, _, (ix2_eta j).symm⟩
    have := p.isLt
    rw [outsAt0_B m d p h (by omega) h (by omega)]
    dsimp only
    rw [out7_B, grown_apply, hb]
    rfl

/-- The total of squares after the last point is the sum of the shares. -/
theorem left8 (t : Fin cfg0.N) (ht : t.val + 1 = cfg0.N) (j : S1x32.Idx) :
    (outsAt0 m d t.val t.isLt).2.2.2 j = 0 + ∑ p : Fin cfg0.N, share m d T (fun y => y * y) (bat p) (j 1) := by
  have hb : ∀ (p : Fin cfg0.N) (z : Fin 1) (o : Fin 32), k0_pay645 (F := Ideal) (blkAcc (F := Ideal) stepSq (iblk m d 0 p) (iblk m d 1 p) (iblk m d 2 p)
      (iblk m d 3 p) k0_pay642) (ix2 z o) = share m d T (fun y => y * y) (bat p) o := fun p z o => by
    rw [rowTotal'_apply]
    exact Finset.sum_congr rfl fun n _ => sum_block m d p (hT _) stepSq (fun y => y * y) stepSq_apply _ o n (start_sq o n)
  have hN : cfg0.N = 32 := N_0
  rw [Pipeline.eq_sum_fin_of_reset_step_apply_last (fun n h => (outsAt0 m d n h).2.2.2) 32 (fun _ => (0 : EReal))
    (fun p j => share m d T (fun y => y * y) (bat p) (j 1)) (fun p h j => ?_) (fun p h j => ?_) (le_of_eq N_0) t ht j]
  · obtain ⟨z, o, rfl⟩ : ∃ z o, j = ix2 z o := ⟨_, _, (ix2_eta j).symm⟩
    have := p.isLt
    rw [outsAt0_A m d p h (by omega) h (by omega)]
    dsimp only
    rw [out8_A, hb, zero_add]
    rfl
  · obtain ⟨z, o, rfl⟩ : ∃ z o, j = ix2 z o := ⟨_, _, (ix2_eta j).symm⟩
    have := p.isLt
    rw [outsAt0_B m d p h (by omega) h (by omega)]
    dsimp only
    rw [out8_B, grown'_apply, hb]
    rfl

omit hT in
/-- The first result array: every batch's points. -/
theorem array5 : (dats m 0 d).arrAt 4 cfg0.N = fun i : S32x32x1024.Idx => pts m d (i 0) (i 1) (i 2) := by
  have e : ∀ t : Fin grid0.N, win0_4.index t = ![t.val, 0, 0] := by decide +kernel
  refine (dats m 0 d).arrAt_eq_of_covers 4 _ (by decide +kernel) fun t hf y => ?_
  rw [after0_4]
  have hy : (cfg0.win 4).xinj (cfg0.grid.coords t) y = (ix3 (y 0) (y 1) (y 2) : S1x32x1024.Idx) := by
    funext a
    match a with
    | ⟨0, _⟩ => rfl
    | ⟨1, _⟩ => rfl
    | ⟨2, _⟩ => rfl
  refine (cast_eq _ _).trans ?_
  rw [hy]
  refine (left5 m d t (y 0) (y 1) (y 2)).trans ?_
  have h0 : ((cfg0.win 4).blk t).view.emb y 0 = bat t := Fin.ext (by blk_simp [e t])
  have h1 : ((cfg0.win 4).blk t).view.emb y 1 = y 1 := Fin.ext (by blk_simp [e t])
  have h2 : ((cfg0.win 4).blk t).view.emb y 2 = y 2 := Fin.ext (by blk_simp [e t])
  rw [h0, h1, h2]

/-- The second result array: the greatest convolution value over the neighbours. -/
theorem array6 : (dats m 0 d).arrAt 5 cfg0.N
    = fun i : S32x32x1024.Idx => (T (i 0) (i 2)).sup fun k => edgeVal m d (i 0) (i 1) (i 2) k := by
  have e : ∀ t : Fin grid0.N, win0_5.index t = ![t.val, 0, 0] := by decide +kernel
  refine (dats m 0 d).arrAt_eq_of_covers 5 _ (by decide +kernel) fun t hf y => ?_
  rw [after0_5]
  have hy : (cfg0.win 5).xinj (cfg0.grid.coords t) y = (ix3 (y 0) (y 1) (y 2) : S1x32x1024.Idx) := by
    funext a
    match a with
    | ⟨0, _⟩ => rfl
    | ⟨1, _⟩ => rfl
    | ⟨2, _⟩ => rfl
  refine (cast_eq _ _).trans ?_
  rw [hy]
  refine (left6 m d hT t (y 0) (y 1) (y 2)).trans ?_
  have h0 : ((cfg0.win 5).blk t).view.emb y 0 = bat t := Fin.ext (by blk_simp [e t])
  have h1 : ((cfg0.win 5).blk t).view.emb y 1 = y 1 := Fin.ext (by blk_simp [e t])
  have h2 : ((cfg0.win 5).blk t).view.emb y 2 = y 2 := Fin.ext (by blk_simp [e t])
  rw [h0, h1, h2]

/-- The third result array: the total over all batches, points and neighbours. -/
theorem array7 : (dats m 0 d).arrAt 6 cfg0.N = fun i : S1x32.Idx => ∑ b, share m d T id b (i 1) := by
  refine (dats m 0 d).arrAt_eq_of_after_last 6 ⟨31, by decide⟩ (by decide +kernel) _ fun j => ?_
  rw [after0_6]
  refine (left7 m d hT ⟨31, by decide⟩ rfl j).trans ?_
  rw [zero_add]
  rfl

/-- The fourth result array: the total of the squares. -/
theorem array8 : (dats m 0 d).arrAt 7 cfg0.N = fun i : S1x32.Idx => ∑ b, share m d T (fun y => y * y) b (i 1) := by
  refine (dats m 0 d).arrAt_eq_of_after_last 7 ⟨31, by decide⟩ (by decide +kernel) _ fun j => ?_
  rw [after0_7]
  refine (left8 m d hT ⟨31, by decide⟩ rfl j).trans ?_
  rw [zero_add]
  rfl

end Cert.Kernel2Ideal.Layer
-- ==== Proof.Equation2.lean ====
module

public import proofs.«01_k».proof.Proof.NoTie2
public import proofs.«01_k».proof.Proof.Arrays2

/-! Array by array, what the kernel leaves is what the reference computes of the same arguments. -/

@[expose] public section

noncomputable section

namespace Cert.Kernel2Ideal.Layer

open Cert.Kernel2Ideal Cert.Kernel2Ideal.Gen Idealize.ShloMosaic Idealize.ShloMosaic.TcCoe Idealize.SL.Sem
open Idealize.ShloMosaic.Pointwise
open Cert.Reference2Ideal.Read (val_main_v10 val_main_v39 val_main_v41 val_main_v44)

variable (m : (ℓ : Loc nD τ sig) → Buf (Elt Ideal) ℓ) (d : Dev nD)

/-- The previous layer's values. -/
abbrev a0 : FVec Ideal S32x32x1024 .f32 := m ((d : Thread nD τ).loc main_arg0)
/-- The scales. -/
abbrev a1 : FVec Ideal S32x1 .f32 := m ((d : Thread nD τ).loc main_arg1)
/-- The shifts. -/
abbrev a2 : FVec Ideal S32x1 .f32 := m ((d : Thread nD τ).loc main_arg2)
/-- The weights. -/
abbrev a3 : FVec Ideal S32x64 .f32 := m ((d : Thread nD τ).loc main_arg3)

/-- The reference's neighbours of each point, of the kernel's arguments. -/
abbrev kin (b : Fin 32) (n : Fin 1024) : Finset (Fin 1024) := near (a0 m d) (a1 m d) (a2 m d) b n

/-- The precondition, of the kernel's arguments. -/
abbrev Apart : Prop := Cert.Pre_no_tie2.fn (F := Ideal) (a0 m d) (a1 m d) (a2 m d) (a3 m d) = fun _ => 1#1

/-- Under the precondition they are the nearest. -/
theorem kin_nearest (h : Apart m d) (b : Fin 32) : Nearest (pts m d b) (kin m d b) :=
  nearest (a0 m d) (a1 m d) (a2 m d) (a3 m d) h b

/-- An index of a three-axis array from its coordinates. -/
theorem coords3 (i : S32x32x1024.Idx) : i = ix3 (i 0) (i 1) (i 2) := by
  funext a
  match a with
  | ⟨0, _⟩ => rfl
  | ⟨1, _⟩ => rfl
  | ⟨2, _⟩ => rfl

/-- An index of a one-row array from its coordinates. -/
theorem coords2 (i : S1x32.Idx) : i = ix2 (i 0) (i 1) := by
  funext a
  match a with
  | ⟨0, _⟩ => rfl
  | ⟨1, _⟩ => rfl

/-- The layer's input: the activated previous layer. -/
theorem equal5 : (dats m 0 d).arrAt 4 cfg0.N = val_main_v10 (F := Ideal) (a0 m d) (a1 m d) (a2 m d) := by
  rw [array5]
  funext i
  rw [coords3 i]
  exact (ref_points (a0 m d) (a1 m d) (a2 m d) (i 0) (i 1) (i 2)).symm

/-- The greatest edge value of each point. -/
theorem equal6 (h : Apart m d) :
    (dats m 0 d).arrAt 5 cfg0.N = val_main_v39 (F := Ideal) (a0 m d) (a1 m d) (a2 m d) (a3 m d) := by
  rw [array6 m d (kin_nearest m d h)]
  funext i
  rw [coords3 i]
  exact (ref_max (a0 m d) (a1 m d) (a2 m d) (a3 m d) (i 0) (i 1) (i 2)).symm

/-- The sums of the edge values. -/
theorem equal7 (h : Apart m d) :
    (dats m 0 d).arrAt 6 cfg0.N = val_main_v41 (F := Ideal) (a0 m d) (a1 m d) (a2 m d) (a3 m d) := by
  rw [array7 m d (kin_nearest m d h)]
  funext i
  rw [coords2 i]
  exact (ref_sum (a0 m d) (a1 m d) (a2 m d) (a3 m d) (i 0) (i 1)).symm

/-- The sums of their squares. -/
theorem equal8 (h : Apart m d) :
    (dats m 0 d).arrAt 7 cfg0.N = val_main_v44 (F := Ideal) (a0 m d) (a1 m d) (a2 m d) (a3 m d) := by
  rw [array8 m d (kin_nearest m d h)]
  funext i
  rw [coords2 i]
  exact (ref_squares (a0 m d) (a1 m d) (a2 m d) (a3 m d) (i 0) (i 1)).symm

end Cert.Kernel2Ideal.Layer

end
-- ==== Proof.Vocab1.lean ====
module

public import proofs.«01_k».proof.Proof.Gen.Kernel1Ideal.Loops
import Idealize.ShloMosaic.Lib.Tactic.RunNames

@[expose] public section

/-! What one trip of the neighbour loop computes, spelled once per operation: the eight columns of a
band, the four bands of a group, the product with the block-diagonal weights, and one accumulation
step per neighbour row. -/

noncomputable section

namespace Cert.Kernel1Ideal.Layer

open Cert.Kernel1Ideal Cert.Kernel1Ideal.Gen Idealize.ShloMosaic Idealize.ShloMosaic.TcCoe Idealize.SL.Sem

variable {F : FTy → Type} [FloatOps F] [Named F]

/-- Column `o` of a 9 × 128 slice is a legal slice. -/
theorem col_slices (o : Fin 128) : S9x128.Slices ![0, o.val] S9x1 := by revert o; decide +kernel
/-- Rows `32 b … 32 b + 31` of the product are a legal slice. -/
theorem band_slices (b : Fin 4) : S128x8192.Slices ![32 * b.val, 0] S32x8192 := by revert b; decide +kernel
/-- Columns `1024 t … 1024 t + 1023` of a band are a legal slice. -/
theorem seg_slices (t : Fin 8) : S32x8192.Slices ![0, 1024 * t.val] S32x1024 := by revert t; decide +kernel
/-- Row `t` of eight mask rows is a legal slice. -/
theorem row_slices (t : Fin 8) : S8x1024.Slices ![t.val, 0] S1x1024 := by revert t; decide +kernel

/-- Neighbour `o`'s features, repeated over all points. -/
def neighCol (xsl : Vec F S9x128 .f32) (o : Fin 128) : FVec F S9x1024 .f32 :=
  broadcastTo S9x1024 (shapeCast S9x1 (extractStridedSlice S9x1 ![0, o.val] xsl (col_slices o))
    shapeCasts_S9x1_S9x1) broadcasts_S9x1_S9x1024

/-- Eight arrays side by side. -/
def beside (f : Fin 8 → FVec F S9x1024 .f32) : FVec F S9x8192 .f32 :=
  concatenate S9x8192 1 [⟨S9x1024, f 0⟩, ⟨S9x1024, f 1⟩, ⟨S9x1024, f 2⟩, ⟨S9x1024, f 3⟩,
    ⟨S9x1024, f 4⟩, ⟨S9x1024, f 5⟩, ⟨S9x1024, f 6⟩, ⟨S9x1024, f 7⟩]
    concatenates_S9x1024_S9x1024_S9x1024_S9x1024_S9x1024_S9x1024_S9x1024_S9x1024_S9x8192_d1

/-- The index of neighbour `t` of band `b` of group `s` within a trip. -/
def nb (s b : Fin 4) (t : Fin 8) : Fin 128 := ⟨32 * s.val + 8 * b.val + t.val, by omega⟩

/-- One band's features: differences over the points' own features. -/
def band (xsl : Vec F S9x128 .f32) (x : Vec F S9x1024 .f32) (s b : Fin 4) : FVec F S18x8192 .bf16 :=
  concatenate S18x8192 0
    [⟨S9x8192, truncf .bf16 (subf (beside fun t => neighCol xsl (nb s b t)) (beside fun _ => x)) bitsLt_bf16_f32⟩,
      ⟨S9x8192, truncf .bf16 (beside fun _ => x) bitsLt_bf16_f32⟩]
    concatenates_S9x8192_S9x8192_S18x8192_d0

/-- The four bands of a group, one above the other. -/
def quad (xsl : Vec F S9x128 .f32) (x : Vec F S9x1024 .f32) (s : Fin 4) : FVec F S72x8192 .bf16 :=
  concatenate S72x8192 0
    [⟨S18x8192, band xsl x s 0⟩, ⟨S18x8192, band xsl x s 1⟩, ⟨S18x8192, band xsl x s 2⟩, ⟨S18x8192, band xsl x s 3⟩]
    concatenates_S18x8192_S18x8192_S18x8192_S18x8192_S72x8192_d0

/-- The block-diagonal weights applied to a group. -/
def conv (w : Vec F S128x72 .bf16) (xsl : Vec F S9x128 .f32) (x : Vec F S9x1024 .f32) (s : Fin 4) :
    FVec F S128x8192 .f32 :=
  matmul dot_S128x72_S72x8192_S128x8192_1_0_0_1_n_n none (shapeCast S128x72 w shapeCasts_S128x72_S128x72)
    (quad xsl x s) (constant S128x8192 .f32 0x00000000#32)

/-- The output channels of neighbour `t` of band `b`. -/
def seg (y : FVec F S128x8192 .f32) (b : Fin 4) (t : Fin 8) : FVec F S32x1024 .f32 :=
  extractStridedSlice S32x1024 ![0, 1024 * t.val]
    (extractStridedSlice S32x8192 ![32 * b.val, 0] y (band_slices b)) (seg_slices t)

/-- Whether neighbour `t` of eight is selected, per point, repeated over the channels. -/
def chosen (m : Vec F S8x1024 .f32) (t : Fin 8) : IVec S32x1024 1 :=
  broadcastTo S32x1024 (shapeCast S1x1024 (cmpf .ogt (extractStridedSlice S1x1024 ![t.val, 0] m (row_slices t))
    (broadcast S1x1024 (Scalar.ofBits .f32 0x00000000#32))) shapeCasts_S1x1024_S1x1024)
    broadcasts_S1x1024_S32x1024

/-- A selected value, zero otherwise. -/
def kept (m : IVec S32x1024 1) (y : FVec F S32x1024 .f32) : FVec F S32x1024 .f32 :=
  select m y (broadcast S32x1024 (Scalar.ofBits .f32 0x00000000#32))

/-- One step of the running maximum. -/
def stepMax (m : IVec S32x1024 1) (y a : FVec F S32x1024 .f32) : FVec F S32x1024 .f32 :=
  maximumf a (select m y (broadcast S32x1024 (Named.named κ "neg" 0xFF61B1E6#32)))

/-- One step of the running sum. -/
def stepSum (m : IVec S32x1024 1) (y a : FVec F S32x1024 .f32) : FVec F S32x1024 .f32 :=
  addf a (kept m y)

/-- One step of the running sum of squares. -/
def stepSq (m : IVec S32x1024 1) (y a : FVec F S32x1024 .f32) : FVec F S32x1024 .f32 :=
  addf a (mulf (kept m y) y)

/-- Eight steps in order. -/
def eight {α : Type} (f : Fin 8 → α → α) (a : α) : α :=
  f 7 (f 6 (f 5 (f 4 (f 3 (f 2 (f 1 (f 0 a)))))))

/-- Four steps in order. -/
def four {α : Type} (f : Fin 4 → α → α) (a : α) : α := f 3 (f 2 (f 1 (f 0 a)))

/-- A trip's 128 steps in order. -/
def trip (step : IVec S32x1024 1 → FVec F S32x1024 .f32 → FVec F S32x1024 .f32 → FVec F S32x1024 .f32)
    (w : Vec F S128x72 .bf16) (xsl : Vec F S9x128 .f32) (x : Vec F S9x1024 .f32)
    (m : Fin 4 → Fin 4 → Vec F S8x1024 .f32) (a : FVec F S32x1024 .f32) : FVec F S32x1024 .f32 :=
  four (fun s => four fun b => eight fun t => step (chosen (m s b) t) (seg (conv w xsl x s) b t)) a

variable (c : Dev nD) (i : grid0.Coords) (arg1 : Memref sig .tc .vmem S1x9x1024 .f32) (harg1 : arg1.IsWhole) (arg2 : Memref sig .tc .vmem S128x72 .bf16) (harg2 : arg2.IsWhole) (arg3 : Memref sig .tc .vmem S1x32x1024 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S9x1024 .f32) (harg6 : arg6.IsWhole) (arg7 : Memref sig .tc .vmem S1024x1024 .f32) (harg7 : arg7.IsWhole) (arg8 : Memref sig .tc .vmem S32x1024 .f32) (harg8 : arg8.IsWhole) (arg9 : Memref sig .tc .vmem S32x1024 .f32) (harg9 : arg9.IsWhole)

/-- The weights as the loop loads them. -/
def ldW (X : BufTy.Contents (Elt F) arg2.view.ty) : Vec F S128x72 .bf16 :=
  View.readAt (Elt F) arg2.view (Rect.unit (s := S128x72) ![0, 0] S128x72.size inb_S128x72_S128x72_0_0).toLoadRect X

/-- A trip's 128 neighbours' features as the loop loads them. -/
def ldX (X : BufTy.Contents (Elt F) arg6.view.ty) (k : Fin k0_t2_loop.trips) : Vec F S9x128 .f32 :=
  View.readAt (Elt F) arg6.view (Rect.unit (s := S9x1024) (k0_off2 k) S9x128.size (k0_off2_inb k)).toLoadRect X

/-- Eight mask rows as the loop loads them. -/
def ldM (X : BufTy.Contents (Elt F) arg7.view.ty) (k : Fin k0_t2_loop.trips) (s b : Fin 4) : Vec F S8x1024 .f32 :=
  View.readAt (Elt F) arg7.view (Rect.unit (s := S1024x1024)
    (k0_off3 k (BitVec.ofNat 32 (32 * s.val)) (BitVec.ofNat 32 (8 * b.val))) S8x1024.size (k0_off3_inb k s b)).toLoadRect X

/-- A 32 × 1024 scratch buffer as the loop loads it. -/
def ldA (m : Memref sig .tc .vmem S32x1024 .f32) (X : BufTy.Contents (Elt F) m.view.ty) : Vec F S32x1024 .f32 :=
  View.readAt (Elt F) m.view (Rect.unit (s := S32x1024) ![0, 0] S32x1024.size inb_S32x1024_S32x1024_0_0).toLoadRect X

/-- The maximum buffer as the loop loads it. -/
def ldP (X : BufTy.Contents (Elt F) arg3.view.ty) : Vec F S1x32x1024 .f32 :=
  View.readAt (Elt F) arg3.view (Rect.unit (s := S1x32x1024) ![0, 0, 0] S1x32x1024.size inb_S1x32x1024_S1x32x1024_0_0_0).toLoadRect X

set_option maxRecDepth 65536 in
set_option maxHeartbeats 4000000 in
/-- What a trip stores: its 128 steps folded over what the three accumulators held. -/
theorem trip_eq (arg0 : BitVec 32) (v388 : Vec F S9x1024 .f32) (X_arg2 : BufTy.Contents (Elt F) arg2.view.ty) (X_arg6 : BufTy.Contents (Elt F) arg6.view.ty) (X_arg7 : BufTy.Contents (Elt F) arg7.view.ty) (k : Fin k0_t2_loop.trips) (f_arg3 : BufTy.Contents (Elt F) arg3.view.ty) (f_arg8 : BufTy.Contents (Elt F) arg8.view.ty) (f_arg9 : BufTy.Contents (Elt F) arg9.view.ty) :
    tripL_k0_t2 (F := F) Variants.none c none i arg1 harg1 arg2 harg2 arg3 harg3 arg4 harg4 arg5 harg5 arg6 harg6 arg7 harg7 arg8 harg8 arg9 harg9 (k0_pay641 v388) (k0_pay642 v388) arg0 X_arg2 X_arg6 X_arg7 k f_arg3 f_arg8 f_arg9 =
     ([⟨Rect.unit ![0, 0, 0] ![1, 32, 1024] inb_S1x32x1024_S1x32x1024_0_0_0,
        shapeCast S1x32x1024 (trip stepMax (ldW arg2 X_arg2) (ldX arg6 X_arg6 k) v388 (ldM arg7 X_arg7 k)
          (shapeCast S32x1024 (ldP arg3 f_arg3) shapeCasts_S1x32x1024_S32x1024)) shapeCasts_S32x1024_S1x32x1024⟩],
      [⟨Rect.unit ![0, 0] ![32, 1024] inb_S32x1024_S32x1024_0_0,
        shapeCast S32x1024 (trip stepSum (ldW arg2 X_arg2) (ldX arg6 X_arg6 k) v388 (ldM arg7 X_arg7 k) (ldA arg8 f_arg8)) shapeCasts_S32x1024_S32x1024⟩],
      [⟨Rect.unit ![0, 0] ![32, 1024] inb_S32x1024_S32x1024_0_0,
        shapeCast S32x1024 (trip stepSq (ldW arg2 X_arg2) (ldX arg6 X_arg6 k) v388 (ldM arg7 X_arg7 k) (ldA arg9 f_arg9)) shapeCasts_S32x1024_S32x1024⟩]) := by
  unfold tripL_k0_t2 trip_k0_t2
  dsimp only
  rfl

end Cert.Kernel1Ideal.Layer

end
-- ==== Proof.Loop1.lean ====
module

public import proofs.«01_k».proof.Proof.Vocab1
public import Idealize.ShloMosaic.Lib.VecWindow
public import Idealize.ShloMosaic.Lib.Pipeline.Value

@[expose] public section

/-! The two counted loops as recursions on values: the rank loop over the rows of the distance matrix, and the neighbour
loop over eight groups of 128 neighbours. -/

noncomputable section

namespace Cert.Kernel1Ideal.Layer

open Cert.Kernel1Ideal Cert.Kernel1Ideal.Gen Idealize.ShloMosaic Idealize.ShloMosaic.TcCoe Idealize.SL.Sem

variable {F : FTy → Type} [FloatOps F] [Named F]

/-- The rank loop runs 1024 times. -/
theorem trips1 : k0_t1_loop.trips = 1024 := by decide +kernel

/-- The neighbour loop runs eight times. -/
theorem trips2 : k0_t2_loop.trips = 8 := by decide +kernel

/-- Row `k` of a square matrix. -/
def rowAt (D : Vec F S1024x1024 .f32) (k : Fin k0_t1_loop.trips) : Vec F S1x1024 .f32 :=
  VecWindow.window D (k0_off1 k) S1x1024.size (k0_off1_inb k)

/-- One trip of the rank loop: one more where row `k` lies below. -/
def rankStep (D v : Vec F S1024x1024 .f32) (k : Fin k0_t1_loop.trips) (acc : IVec S1024x1024 32) : IVec S1024x1024 32 :=
  addi acc (extui 32 (cmpf .olt (broadcastTo S1024x1024 (rowAt D k) broadcasts_S1x1024_S1024x1024) v) natLt_1_32)

/-- The ranks after `k` trips. -/
def rankAfter (D v : Vec F S1024x1024 .f32) (acc : IVec S1024x1024 32) : ℕ → IVec S1024x1024 32
  | 0 => acc
  | k + 1 => if h : k < k0_t1_loop.trips then rankStep D v ⟨k, h⟩ (rankAfter D v acc k) else rankAfter D v acc k

/-- The 128 neighbours' features of trip `k`. -/
def colsAt (X : Vec F S9x1024 .f32) (k : Fin k0_t2_loop.trips) : Vec F S9x128 .f32 :=
  VecWindow.window X (k0_off2 k) S9x128.size (k0_off2_inb k)

/-- Eight mask rows of trip `k`. -/
def rowsAt (M : Vec F S1024x1024 .f32) (k : Fin k0_t2_loop.trips) (s b : Fin 4) : Vec F S8x1024 .f32 :=
  VecWindow.window M (k0_off3 k (BitVec.ofNat 32 (32 * s.val)) (BitVec.ofNat 32 (8 * b.val))) S8x1024.size (k0_off3_inb k s b)

/-- An accumulator after `k` trips of the neighbour loop. -/
def accAfter (step : IVec S32x1024 1 → FVec F S32x1024 .f32 → FVec F S32x1024 .f32 → FVec F S32x1024 .f32)
    (w : Vec F S128x72 .bf16) (X x : Vec F S9x1024 .f32) (M : Vec F S1024x1024 .f32) (a : FVec F S32x1024 .f32) :
    ℕ → FVec F S32x1024 .f32
  | 0 => a
  | k + 1 => if h : k < k0_t2_loop.trips then
      trip step w (colsAt X ⟨k, h⟩) x (rowsAt M ⟨k, h⟩) (accAfter step w X x M a k)
    else accAfter step w X x M a k

variable (c : Dev nD) (i : grid0.Coords) (arg1 : Memref sig .tc .vmem S1x9x1024 .f32) (harg1 : arg1.IsWhole) (arg2 : Memref sig .tc .vmem S128x72 .bf16) (harg2 : arg2.IsWhole) (arg3 : Memref sig .tc .vmem S1x32x1024 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S9x1024 .f32) (harg6 : arg6.IsWhole) (arg7 : Memref sig .tc .vmem S1024x1024 .f32) (harg7 : arg7.IsWhole) (arg8 : Memref sig .tc .vmem S32x1024 .f32) (harg8 : arg8.IsWhole) (arg9 : Memref sig .tc .vmem S32x1024 .f32) (harg9 : arg9.IsWhole)

set_option maxRecDepth 65536 in
/-- The rank loop's carried value is the recursion at the contents of the matrix. -/
theorem st_eq (v0 : Vec F S1x9x1024 .f32) (X_arg7 : BufTy.Contents (Elt F) arg7.view.ty)
    (init : IVec S1024x1024 32) (k : ℕ) (hk : k ≤ k0_t1_loop.trips) :
    st_k0_t1 (F := F) Variants.none c none i arg1 harg1 arg2 harg2 arg3 harg3 arg4 harg4 arg5 harg5 arg6 harg6 arg7 harg7 arg8 harg8 arg9 harg9 v0 X_arg7 init k = rankAfter (arg7.view.read (Elt F) X_arg7) (k0_pay615 v0) init k := by
  induction k with
  | zero => rfl
  | succ k ih =>
    have h := st_k0_t1_succ (F := F) Variants.none c none i arg1 harg1 arg2 harg2 arg3 harg3 arg4 harg4 arg5 harg5 arg6 harg6 arg7 harg7 arg8 harg8 arg9 harg9 v0 X_arg7 init ⟨k, hk⟩
    refine h.trans ?_
    rw [show rankAfter (arg7.view.read (Elt F) X_arg7) (k0_pay615 v0) init (k + 1)
      = rankStep (arg7.view.read (Elt F) X_arg7) (k0_pay615 v0) ⟨k, hk⟩ (rankAfter (arg7.view.read (Elt F) X_arg7) (k0_pay615 v0) init k) from dif_pos hk]
    rw [ih (by omega)]
    unfold tripR_k0_t1 trip_k0_t1
    rfl

/-- The trip's stores, read back. -/
theorem pb_read (arg0 : BitVec 32) (v388 : Vec F S9x1024 .f32) (X_arg2 : BufTy.Contents (Elt F) arg2.view.ty) (X_arg6 : BufTy.Contents (Elt F) arg6.view.ty) (X_arg7 : BufTy.Contents (Elt F) arg7.view.ty) (G_arg3 : BufTy.Contents (Elt F) arg3.view.ty) (G_arg8 : BufTy.Contents (Elt F) arg8.view.ty) (G_arg9 : BufTy.Contents (Elt F) arg9.view.ty)
    (k : ℕ) (hk : k ≤ k0_t2_loop.trips) :
    (shapeCast S32x1024 (arg3.view.read (Elt F) (arg3.view.writes (Elt F) G_arg3
        (pb_k0_t2 (F := F) Variants.none c none i arg1 harg1 arg2 harg2 arg3 harg3 arg4 harg4 arg5 harg5 arg6 harg6 arg7 harg7 arg8 harg8 arg9 harg9 (k0_pay641 v388) (k0_pay642 v388) arg0 X_arg2 X_arg6 X_arg7 G_arg3 G_arg8 G_arg9 k).1)) shapeCasts_S1x32x1024_S32x1024
      = accAfter stepMax (arg2.view.read (Elt F) X_arg2) (arg6.view.read (Elt F) X_arg6) v388 (arg7.view.read (Elt F) X_arg7)
          (shapeCast S32x1024 (arg3.view.read (Elt F) G_arg3) shapeCasts_S1x32x1024_S32x1024) k)
    ∧ (arg8.view.read (Elt F) (arg8.view.writes (Elt F) G_arg8
        (pb_k0_t2 (F := F) Variants.none c none i arg1 harg1 arg2 harg2 arg3 harg3 arg4 harg4 arg5 harg5 arg6 harg6 arg7 harg7 arg8 harg8 arg9 harg9 (k0_pay641 v388) (k0_pay642 v388) arg0 X_arg2 X_arg6 X_arg7 G_arg3 G_arg8 G_arg9 k).2.1)
      = accAfter stepSum (arg2.view.read (Elt F) X_arg2) (arg6.view.read (Elt F) X_arg6) v388 (arg7.view.read (Elt F) X_arg7)
          (arg8.view.read (Elt F) G_arg8) k)
    ∧ (arg9.view.read (Elt F) (arg9.view.writes (Elt F) G_arg9
        (pb_k0_t2 (F := F) Variants.none c none i arg1 harg1 arg2 harg2 arg3 harg3 arg4 harg4 arg5 harg5 arg6 harg6 arg7 harg7 arg8 harg8 arg9 harg9 (k0_pay641 v388) (k0_pay642 v388) arg0 X_arg2 X_arg6 X_arg7 G_arg3 G_arg8 G_arg9 k).2.2)
      = accAfter stepSq (arg2.view.read (Elt F) X_arg2) (arg6.view.read (Elt F) X_arg6) v388 (arg7.view.read (Elt F) X_arg7)
          (arg9.view.read (Elt F) G_arg9) k) := by
  induction k with
  | zero => exact ⟨rfl, rfl, rfl⟩
  | succ k ih =>
    obtain ⟨ih1, ih2, ih3⟩ := ih (by omega)
    have e : ∀ step a, accAfter (F := F) step (arg2.view.read (Elt F) X_arg2) (arg6.view.read (Elt F) X_arg6) v388 (arg7.view.read (Elt F) X_arg7) a (k + 1)
      = trip step (arg2.view.read (Elt F) X_arg2) (colsAt (arg6.view.read (Elt F) X_arg6) ⟨k, hk⟩) v388 (rowsAt (arg7.view.read (Elt F) X_arg7) ⟨k, hk⟩)
        (accAfter step (arg2.view.read (Elt F) X_arg2) (arg6.view.read (Elt F) X_arg6) v388 (arg7.view.read (Elt F) X_arg7) a k) :=
      fun step a => dif_pos hk
    have hw : ldW arg2 X_arg2 = arg2.view.read (Elt F) X_arg2 := View.readAt_full _ _ _
    have hx : ldX arg6 X_arg6 ⟨k, hk⟩ = colsAt (arg6.view.read (Elt F) X_arg6) ⟨k, hk⟩ := rfl
    have hm : ldM arg7 X_arg7 ⟨k, hk⟩ = rowsAt (arg7.view.read (Elt F) X_arg7) ⟨k, hk⟩ := rfl
    have h := pb_k0_t2_succ (F := F) Variants.none c none i arg1 harg1 arg2 harg2 arg3 harg3 arg4 harg4 arg5 harg5 arg6 harg6 arg7 harg7 arg8 harg8 arg9 harg9 (k0_pay641 v388) (k0_pay642 v388) arg0 X_arg2 X_arg6 X_arg7 G_arg3 G_arg8 G_arg9 ⟨k, hk⟩
    rw [trip_eq] at h
    simp only [e]
    rw [show k + 1 = (⟨k, hk⟩ : Fin k0_t2_loop.trips).val + 1 from rfl, h]
    dsimp only [List.singleton_append]
    refine ⟨?_, ?_, ?_⟩
    · refine (congrArg (fun z => shapeCast S32x1024 z shapeCasts_S1x32x1024_S32x1024) (View.read_writes_full _ _ _ _ _)).trans ?_
      refine (shapeCast_shapeCast _ _ _).trans ?_
      rw [hw, hx, hm]
      congr 1
      rw [← ih1]
      congr 1
      exact View.readAt_full _ _ _
    · refine (View.read_writes_full _ _ _ _ _).trans ?_
      refine (shapeCast_self _ _).trans ?_
      rw [hw, hx, hm]
      congr 1
      rw [← ih2]
      exact View.readAt_full _ _ _
    · refine (View.read_writes_full _ _ _ _ _).trans ?_
      refine (shapeCast_self _ _).trans ?_
      rw [hw, hx, hm]
      congr 1
      rw [← ih3]
      exact View.readAt_full _ _ _

end Cert.Kernel1Ideal.Layer

end
-- ==== Proof.Bisect1.lean ====
module

public import proofs.«01_k».proof.Proof.Loop1
public import Idealize.ShloMosaic.Lib.Pointwise
import Idealize.ShloMosaic.Lib.IndicatorCount
import Idealize.ShloMosaic.Lib.Tactic.RunNames

@[expose] public section

/-! The selection of each point's forty nearest neighbours: a bisection on the words, bit by bit, and the mask it leaves. -/

noncomputable section

namespace Cert.Kernel1Ideal.Layer

open Cert.Kernel1Ideal Cert.Kernel1Ideal.Gen Idealize.ShloMosaic Idealize.ShloMosaic.TcCoe Idealize.SL.Sem
open Idealize.ShloMosaic.Pointwise

variable {F : FTy → Type} [FloatOps F] [Named F]

/-- Which entries of a column lie at or below the column's bound. -/
def below (u : IVec S1024x1024 32) (t : IVec S1x1024 32) : IVec S1024x1024 32 :=
  extui 32 (cmpi .ule u (broadcastTo S1024x1024 t broadcasts_S1x1024_S1024x1024)) natLt_1_32

/-- How many entries of each column lie at or below its bound. -/
def count (u : IVec S1024x1024 32) (t : IVec S1x1024 32) : IVec S1024 32 :=
  multiReductionI .add [0] S1024 (below u t) 0#32 reduces_S1024x1024_S1024 rfl

/-- One bit of the bisection: kept clear where forty entries already lie at or below. -/
def bitStep (u : IVec S1024x1024 32) (p : IVec S1x1024 32) (j : ℕ) : IVec S1x1024 32 :=
  select (shapeCast S1x1024 (cmpi .sge (count u (ori p (broadcast S1x1024 (BitVec.ofNat 32 (2 ^ j - 1))))) (broadcast S1024 40#32))
    shapeCasts_S1024_S1x1024) p (ori p (broadcast S1x1024 (BitVec.ofNat 32 (2 ^ j))))

/-- The bisection after `k` bits, from the highest. -/
def bitsAfter (u : IVec S1024x1024 32) : ℕ → IVec S1x1024 32
  | 0 => broadcast S1x1024 0#32
  | k + 1 => bitStep u (bitsAfter u k) (31 - k)

/-- The mask as the kernel computes it from the ranks. -/
def maskOf (v39 : IVec S1024x1024 32) : FVec F S1024x1024 .f32 :=
  let r1 := k0_pay619 v39
  let r4 := k0_pay621 v39
  let r5 := k0_pay623 r1 k0_pay620 r4 k0_pay622
  let r6 := k0_pay624 r1 k0_pay620 r4 k0_pay622
  let r7 := k0_pay626 r1 r5 r6 k0_pay625
  let r8 := k0_pay627 r1 r5 r6 k0_pay625
  let r9 := k0_pay628 r1 r7 r8
  let r10 := k0_pay630 r1 r9 k0_pay629
  let r11 := k0_pay631 r1 r9 k0_pay629
  let r12 := k0_pay633 r1 r10 r11 k0_pay632
  let r13 := k0_pay634 r1 r10 r11 k0_pay632
  let r14 := k0_pay636 r1 r12 r13 k0_pay635
  let r15 := k0_pay637 r1 r12 r13 k0_pay635
  let r16 := k0_pay638 r1 r14 r15
  k0_pay640 r1 r16 k0_pay639

set_option maxRecDepth 65536 in
set_option maxHeartbeats 4000000 in
/-- The mask is the indicator of the words at or below the bound the bisection finds. -/
theorem maskOf_eq (v39 : IVec S1024x1024 32) :
    maskOf (F := F) v39 = shapeCast S1024x1024 (sitofp .f32 (below (k0_pay619 v39) (ori (bitsAfter (k0_pay619 v39) 28) (broadcast S1x1024 15#32)))) shapeCasts_S1024x1024_S1024x1024 := by
  unfold maskOf k0_pay640 k0_pay639 k0_pay638 k0_pay637 k0_pay636 k0_pay635 k0_pay634 k0_pay633 k0_pay632 k0_pay631 k0_pay630 k0_pay629 k0_pay628 k0_pay627 k0_pay626 k0_pay625 k0_pay624 k0_pay623 k0_pay622 k0_pay621 k0_pay620
  dsimp only
  rfl

/-- A column's count at an index. -/
theorem count_apply (u : IVec S1024x1024 32) (t : IVec S1x1024 32) (n : Fin 1024) :
    count u t (ix1 n) = BitVec.ofNat 32 (Finset.univ.filter fun i : Fin 1024 => u (ix2 i n) ≤ t (ix2 0 n)).card := by
  pointwise [count, below]
  refine (IndicatorCount.fold_addi_setWidth_eq_card _ _).trans (congrArg _ (congrArg _ (Finset.filter_congr fun i _ => ?_)))
  show BitVec.ofBool ((u (ix2 i n)).ule (t (ix2 0 n))) = 1#1 ↔ _
  by_cases h : u (ix2 i n) ≤ t (ix2 0 n)
  · exact ⟨fun _ => h, fun _ => by rw [show (u (ix2 i n)).ule (t (ix2 0 n)) = true from decide_eq_true h]; rfl⟩
  · exact ⟨fun e => by rw [show (u (ix2 i n)).ule (t (ix2 0 n)) = false from decide_eq_false h] at e; exact absurd e (by decide), fun e => absurd e h⟩

/-- How many words of a column lie at or below a bound. -/
def tally (u : Fin 1024 → BitVec 32) (t : ℕ) : ℕ := (Finset.univ.filter fun i => (u i).toNat ≤ t).card

/-- A tally is at most 1024. -/
theorem tally_le (u : Fin 1024 → BitVec 32) (t : ℕ) : tally u t ≤ 1024 :=
  (Finset.card_le_univ _).trans (by simp)

/-- One bit of the bisection at a column. -/
theorem bitStep_apply (u : IVec S1024x1024 32) (p : IVec S1x1024 32) (j : ℕ) (n : Fin 1024) :
    bitStep u p j (ix2 0 n) = if 40 ≤ tally (fun i => u (ix2 i n)) (p (ix2 0 n) ||| BitVec.ofNat 32 (2 ^ j - 1)).toNat
      then p (ix2 0 n) else p (ix2 0 n) ||| BitVec.ofNat 32 (2 ^ j) := by
  have hc := count_apply u (ori p (broadcast S1x1024 (BitVec.ofNat 32 (2 ^ j - 1)))) n
  pointwise [bitStep]
  rw [hc]
  show (if BitVec.ofBool (BitVec.sle 40#32 (BitVec.ofNat 32 (tally (fun i => u (ix2 i n)) (p (ix2 0 n) ||| BitVec.ofNat 32 (2 ^ j - 1)).toNat))) = 1#1 then _ else _) = _
  have hle := tally_le (fun i => u (ix2 i n)) (p (ix2 0 n) ||| BitVec.ofNat 32 (2 ^ j - 1)).toNat
  generalize tally (fun i => u (ix2 i n)) (p (ix2 0 n) ||| BitVec.ofNat 32 (2 ^ j - 1)).toNat = N at hle
  have e : BitVec.sle 40#32 (BitVec.ofNat 32 N) = decide (40 ≤ N) := by
    rw [BitVec.sle_eq_decide, BitVec.toInt_eq_toNat_of_lt, BitVec.toInt_eq_toNat_of_lt]
    · simp only [BitVec.toNat_ofNat]
      rw [Nat.mod_eq_of_lt (by omega : N < 2 ^ 32)]
      simp
    · simp only [BitVec.toNat_ofNat]; omega
    · simp
  rw [e]
  by_cases h : 40 ≤ N
  · rw [if_pos h, decide_eq_true h]; rfl
  · rw [if_neg h, decide_eq_false h]; rfl

/-- Setting bits below a multiple adds them. -/
theorem or_low (q : BitVec 32) (J a : ℕ) (hJ : J ≤ 32) (hq : 2 ^ J ∣ q.toNat) (ha : a < 2 ^ J) (hb : a < 2 ^ 32) :
    (q ||| BitVec.ofNat 32 a).toNat = q.toNat + a := by
  obtain ⟨m, hm⟩ := hq
  rw [BitVec.toNat_or, BitVec.toNat_ofNat, Nat.mod_eq_of_lt hb, hm, Nat.two_pow_add_eq_or_of_lt ha]

/-- What the bisection keeps after `k` bits. -/
theorem bits_inv (u : IVec S1024x1024 32) (n : Fin 1024) (k : ℕ) (hk : k ≤ 28) :
    2 ^ (32 - k) ∣ (bitsAfter u k (ix2 0 n)).toNat
    ∧ (Finset.univ.filter fun i : Fin 1024 => (u (ix2 i n)).toNat < (bitsAfter u k (ix2 0 n)).toNat).card < 40
    ∧ 40 ≤ tally (fun i => u (ix2 i n)) ((bitsAfter u k (ix2 0 n)).toNat + (2 ^ (32 - k) - 1)) := by
  induction k with
  | zero =>
    have e : bitsAfter u 0 (ix2 0 n) = 0#32 := rfl
    rw [e]
    refine ⟨by simp, by simp, ?_⟩
    unfold tally
    rw [Finset.filter_true_of_mem]
    · simp
    · intro i _
      have := (u (ix2 i n)).isLt
      simp
      omega
  | succ k ih =>
    obtain ⟨h1, h2, h3⟩ := ih (by omega)
    have e : bitsAfter u (k + 1) (ix2 0 n) = _ := bitStep_apply u (bitsAfter u k) (31 - k) n
    rw [e]
    generalize bitsAfter u k (ix2 0 n) = q at h1 h2 h3
    have hJ : 32 - k = (31 - k) + 1 := by omega
    have hj : 32 - (k + 1) = 31 - k := by omega
    rw [hj]
    have hpow : 2 ^ (32 - k) = 2 * 2 ^ (31 - k) := by rw [hJ, pow_succ, Nat.mul_comm]
    have hpos : 0 < 2 ^ (31 - k) := Nat.two_pow_pos _
    have hlt : 2 ^ (31 - k) < 2 ^ 32 := Nat.pow_lt_pow_right (by omega) (by omega)
    rw [or_low q (32 - k) (2 ^ (31 - k) - 1) (by omega) h1 (by omega) (by omega)]
    have h2' : (q ||| BitVec.ofNat 32 (2 ^ (31 - k))).toNat = q.toNat + 2 ^ (31 - k) := or_low q (32 - k) _ (by omega) h1 (by omega) hlt
    have hd : 2 ^ (31 - k) ∣ q.toNat := (Nat.pow_dvd_pow 2 (by omega)).trans h1
    split_ifs with h
    · exact ⟨hd, h2, h⟩
    · rw [h2']
      refine ⟨(Nat.dvd_add_right hd).2 (dvd_refl _), ?_, ?_⟩
      · refine lt_of_le_of_lt (Finset.card_le_card fun i hi => ?_) (not_le.1 h)
        simp only [Finset.mem_filter, Finset.mem_univ, true_and] at hi ⊢
        omega
      · rw [show q.toNat + 2 ^ (31 - k) + (2 ^ (31 - k) - 1) = q.toNat + (2 ^ (32 - k) - 1) by omega]
        exact h3

/-- Words that are sixteen times a rank, forty of rank at most 39 and the others above: the bound selects the forty. -/
theorem selects (u : IVec S1024x1024 32) (n : Fin 1024) (T : Finset (Fin 1024)) (hT : T.card = 40)
    (hin : ∀ i ∈ T, (u (ix2 i n)).toNat ≤ 624) (hout : ∀ i ∉ T, 640 ≤ (u (ix2 i n)).toNat) (i : Fin 1024) :
    u (ix2 i n) ≤ bitsAfter u 28 (ix2 0 n) ||| 15#32 ↔ i ∈ T := by
  obtain ⟨h1, h2, h3⟩ := bits_inv u n 28 le_rfl
  have ho := or_low (bitsAfter u 28 (ix2 0 n)) 4 15 (by omega) h1 (by norm_num) (by norm_num)
  rw [BitVec.le_def, ho]
  generalize (bitsAfter u 28 (ix2 0 n)).toNat = q at *
  have h1' : 16 ∣ q := h1
  have hq : q < 640 := by
    by_contra hq
    have : T.card < 40 := lt_of_le_of_lt (Finset.card_le_card fun i hi => by
      simp only [Finset.mem_filter, Finset.mem_univ, true_and]
      have := hin i hi
      omega) h2
    omega
  have hsub : (Finset.univ.filter fun i : Fin 1024 => (u (ix2 i n)).toNat ≤ q + 15) ⊆ T := by
    intro i hi
    simp only [Finset.mem_filter, Finset.mem_univ, true_and] at hi
    by_contra hi'
    have := hout i hi'
    omega
  have heq := Finset.eq_of_subset_of_card_le hsub (by rw [hT]; exact h3)
  rw [← heq]
  simp

end Cert.Kernel1Ideal.Layer

end
-- ==== Proof.Mask1.lean ====
module

public import proofs.«01_k».proof.Proof.Bisect1
import Idealize.ShloMosaic.Lib.Pointwise

@[expose] public section

/-! The rank loop counts, for every entry of the distance matrix, the smaller entries of its column; the mask selects a
column's forty smallest entries. -/

noncomputable section

namespace Cert.Kernel1Ideal.Layer

open Cert.Kernel1Ideal Cert.Kernel1Ideal.Gen Idealize.ShloMosaic Idealize.ShloMosaic.TcCoe Idealize.SL.Sem
open Idealize.ShloMosaic.Pointwise

/-- A row of the matrix at an index. -/
theorem rowAt_apply (D : Vec Ideal S1024x1024 .f32) (k : Fin k0_t1_loop.trips) (h : k.val < 1024) (n : Fin 1024) :
    rowAt D k (ix2 0 n) = D (ix2 ⟨k.val, h⟩ n) := by
  refine congrArg D (funext fun d => ?_)
  have e := k0_off1_eq k
  refine Fin.ext ?_
  fin_cases d
  · simp [e]
  · simp [e]

/-- One trip of the rank loop at an index. -/
theorem rankStep_apply (D v : Vec Ideal S1024x1024 .f32) (k : Fin k0_t1_loop.trips) (k' : Fin 1024) (h : k'.val = k.val)
    (acc : IVec S1024x1024 32) (i n : Fin 1024) :
    rankStep D v k acc (ix2 i n) = acc (ix2 i n) + BitVec.ofNat 32 (if D (ix2 k' n) < v (ix2 i n) then 1 else 0) := by
  have hr : rowAt D k (ix2 0 n) = D (ix2 k' n) := by
    rw [rowAt_apply D k (by omega) n]
    exact congrArg D (congrArg (fun z => ix2 z n) (Fin.ext h.symm))
  generalize hd' : D (ix2 k' n) = d at hr ⊢
  pointwise [rankStep]
  rw [hr]
  refine congrArg (acc (ix2 i n) + ·) ?_
  by_cases hd : d < v (ix2 i n)
  · rw [if_pos hd, decide_eq_true hd]; rfl
  · rw [if_neg hd, decide_eq_false hd]; rfl

/-- The rank of an entry in its column after `k` trips. -/
theorem rankAfter_apply (D v : Vec Ideal S1024x1024 .f32) (i n : Fin 1024) (k : ℕ) (hk : k ≤ k0_t1_loop.trips) :
    rankAfter D v k0_pay616 k (ix2 i n)
      = BitVec.ofNat 32 (Finset.univ.filter fun j : Fin 1024 => j.val < k ∧ D (ix2 j n) < v (ix2 i n)).card := by
  induction k with
  | zero =>
    rw [Finset.filter_false_of_mem (by simp)]
    rfl
  | succ k ih =>
    have hk' : k < 1024 := by have := trips1; omega
    rw [show rankAfter D v k0_pay616 (k + 1) = rankStep D v ⟨k, hk⟩ (rankAfter D v k0_pay616 k) from dif_pos hk]
    rw [rankStep_apply D v ⟨k, hk⟩ ⟨k, hk'⟩ rfl, ih (by omega), ← BitVec.ofNat_add]
    congr 1
    have e : (Finset.univ.filter fun j : Fin 1024 => j.val < k + 1 ∧ D (ix2 j n) < v (ix2 i n))
      = (Finset.univ.filter fun j : Fin 1024 => j.val < k ∧ D (ix2 j n) < v (ix2 i n))
        ∪ (if D (ix2 (⟨k, hk'⟩ : Fin 1024) n) < v (ix2 i n) then {⟨k, hk'⟩} else ∅) := by
      ext j
      split_ifs with h
      · simp only [Finset.mem_filter, Finset.mem_univ, true_and, Finset.mem_union, Finset.mem_singleton]
        constructor
        · rintro ⟨h1, h2⟩
          rcases Nat.lt_succ_iff_lt_or_eq.1 h1 with h3 | h3
          · exact Or.inl ⟨h3, h2⟩
          · exact Or.inr (Fin.ext h3)
        · rintro (⟨h1, h2⟩ | rfl)
          · exact ⟨by omega, h2⟩
          · exact ⟨by simp, h⟩
      · simp only [Finset.mem_filter, Finset.mem_univ, true_and, Finset.union_empty]
        constructor
        · rintro ⟨h1, h2⟩
          rcases Nat.lt_succ_iff_lt_or_eq.1 h1 with h3 | h3
          · exact ⟨h3, h2⟩
          · exact absurd (by rwa [show j = ⟨k, hk'⟩ from Fin.ext h3] at h2) h
        · rintro ⟨h1, h2⟩
          exact ⟨by omega, h2⟩
    rw [e, Finset.card_union_of_disjoint]
    · split_ifs <;> rfl
    · split_ifs
      · rw [Finset.disjoint_singleton_right]
        simp
      · exact Finset.disjoint_empty_right _

/-- The ranks shifted left by four bits. -/
theorem shifted_apply (r : IVec S1024x1024 32) (i n : Fin 1024) (N : ℕ) (hN : N ≤ 1024) (h : r (ix2 i n) = BitVec.ofNat 32 N) :
    (k0_pay619 r (ix2 i n)).toNat = 16 * N := by
  have e : k0_pay619 r (ix2 i n) = r (ix2 i n) <<< (4 : ℕ) := by
    pointwise [k0_pay619]
    rfl
  rw [e, h, BitVec.toNat_shiftLeft, BitVec.toNat_ofNat]
  rw [Nat.mod_eq_of_lt (by omega : N < 2 ^ 32), Nat.shiftLeft_eq, Nat.mod_eq_of_lt (by omega)]
  omega

/-- The mask selects the forty entries of a column that lie below all others. -/
theorem mask_apply (D : Vec Ideal S1024x1024 .f32) (n : Fin 1024) (T : Finset (Fin 1024)) (hT : T.card = 40)
    (hlt : ∀ i ∈ T, ∀ j ∉ T, D (ix2 i n) < D (ix2 j n)) (i : Fin 1024) :
    0 < maskOf (F := Ideal) (rankAfter D D k0_pay616 k0_t1_loop.trips) (ix2 i n) ↔ i ∈ T := by
  have hr : ∀ i, rankAfter D D k0_pay616 k0_t1_loop.trips (ix2 i n)
      = BitVec.ofNat 32 (Finset.univ.filter fun j : Fin 1024 => D (ix2 j n) < D (ix2 i n)).card := by
    intro i
    rw [rankAfter_apply D D i n _ le_rfl]
    congr 2
    refine Finset.filter_congr fun j _ => ?_
    rw [trips1]
    simp
  generalize rankAfter D D k0_pay616 k0_t1_loop.trips = r at hr
  have hle : ∀ i, (Finset.univ.filter fun j : Fin 1024 => D (ix2 j n) < D (ix2 i n)).card ≤ 1024 :=
    fun i => (Finset.card_le_univ _).trans (by simp)
  have hs := selects (k0_pay619 r) n T hT (fun i hi => by
    rw [shifted_apply r i n _ (hle i) (hr i)]
    have : (Finset.univ.filter fun j : Fin 1024 => D (ix2 j n) < D (ix2 i n)).card < T.card := by
      refine Finset.card_lt_card ⟨fun j hj => ?_, fun h => ?_⟩
      · by_contra hj'
        exact absurd (lt_trans (Finset.mem_filter.1 hj).2 (hlt i hi j hj')) (lt_irrefl _)
      · exact absurd (Finset.mem_filter.1 (h hi)).2 (lt_irrefl _)
    omega) (fun i hi => by
    rw [shifted_apply r i n _ (hle i) (hr i)]
    have : T.card ≤ (Finset.univ.filter fun j : Fin 1024 => D (ix2 j n) < D (ix2 i n)).card :=
      Finset.card_le_card fun j hj => Finset.mem_filter.2 ⟨Finset.mem_univ _, hlt j hj i hi⟩
    omega) i
  rw [← hs, maskOf_eq]
  generalize k0_pay619 r = u
  generalize bitsAfter u 28 = p
  pointwise [below]
  by_cases h : u (ix2 i n) ≤ p (ix2 0 n) ||| 15#32
  · refine iff_of_true ?_ h
    rw [show IntOp.cmpi CmpIPredicate.ule (u (ix2 i n)) (IntOp.ori (p (ix2 0 n)) 15#32) = 1#1 from congrArg BitVec.ofBool (decide_eq_true h)]
    show (0 : EReal) < (((BitVec.setWidth 32 1#1).toInt : ℝ) : EReal)
    rw [show (BitVec.setWidth 32 1#1).toInt = 1 by decide]
    simp
  · refine iff_of_false ?_ h
    rw [show IntOp.cmpi CmpIPredicate.ule (u (ix2 i n)) (IntOp.ori (p (ix2 0 n)) 15#32) = 0#1 from congrArg BitVec.ofBool (decide_eq_false h)]
    show ¬ (0 : EReal) < (((BitVec.setWidth 32 0#1).toInt : ℝ) : EReal)
    rw [show (BitVec.setWidth 32 0#1).toInt = 0 by decide]
    simp

end Cert.Kernel1Ideal.Layer

end
-- ==== Proof.CaseA1.lean ====
module

public import proofs.«01_k».proof.Proof.Mask1
public import proofs.«01_k».proof.Proof.Gen.Kernel1Ideal.Frame
import Idealize.ShloMosaic.Lib.Tactic.RunNames

@[expose] public section

/-! What one grid point leaves in each output's buffer, in terms of the loops' recursions. -/

noncomputable section

namespace Cert.Kernel1Ideal.Layer

open Cert.Kernel1Ideal Cert.Kernel1Ideal.Gen Idealize.ShloMosaic Idealize.ShloMosaic.TcCoe Idealize.SL.Sem

variable {F : FTy → Type} [FloatOps F] [Named F]

/-- A block's points: the layer input. -/
abbrev blkX (x0 : Vec F S1x9x1024 .f32) : FVec F S9x1024 .f32 := k0_pay613 x0

/-- A block's mask of neighbours. -/
def blkM (x0 : Vec F S1x9x1024 .f32) : FVec F S1024x1024 .f32 :=
  maskOf (rankAfter (k0_pay615 x0) (k0_pay615 x0) k0_pay616 k0_t1_loop.trips)

/-- A block's accumulator after the neighbour loop. -/
def blkAcc (step : IVec S32x1024 1 → FVec F S32x1024 .f32 → FVec F S32x1024 .f32 → FVec F S32x1024 .f32)
    (x0 : Vec F S1x9x1024 .f32) (x1 : Vec F S128x72 .bf16) (a : FVec F S32x1024 .f32) : FVec F S32x1024 .f32 :=
  accAfter step x1 (blkX x0) (blkX x0) (blkM x0) a k0_t2_loop.trips

variable (c : Dev nD) (i : grid0.Coords) (arg1 : Memref sig .tc .vmem S1x9x1024 .f32) (harg1 : arg1.IsWhole) (arg2 : Memref sig .tc .vmem S128x72 .bf16) (harg2 : arg2.IsWhole) (arg3 : Memref sig .tc .vmem S1x32x1024 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S9x1024 .f32) (harg6 : arg6.IsWhole) (arg7 : Memref sig .tc .vmem S1024x1024 .f32) (harg7 : arg7.IsWhole) (arg8 : Memref sig .tc .vmem S32x1024 .f32) (harg8 : arg8.IsWhole) (arg9 : Memref sig .tc .vmem S32x1024 .f32) (harg9 : arg9.IsWhole)
    (x0 : Vec F S1x9x1024 .f32) (x1 : Vec F S128x72 .bf16) (xo3 xo4 : Vec F S1x32 .f32)

/-- The block's points as case A's loop loads them. -/
theorem vA : kernelRun0_A.sl.v371 c arg1 harg1 arg6 x0 = blkX x0 := by
  unfold kernelRun0_A.sl.v371 kernelRun0_A.sl.HS0_1
  rw [View.readCov_full]
  unfold k0_pay614
  dsimp only
  refine (shapeCast_self _ _).trans ?_
  rw [View.readAt_full, harg1.read_unread]

/-- The distance matrix as case A's rank loop reads it. -/
theorem dA : arg7.view.read (Elt F) (arg7.view.writes (Elt F) arg7.view.junk (kernelRun0_A.sl.HS1_1 c arg1 harg1 x0))
    = k0_pay615 x0 := by
  unfold kernelRun0_A.sl.HS1_1
  rw [View.read_writes_full, View.readAt_full, harg1.read_unread]
  unfold k0_pay617
  exact shapeCast_self _ _

set_option maxRecDepth 65536 in
/-- The mask as case A stores it. -/
theorem mA : k0_pay640 (kernelRun0_A.sl.r c i arg1 harg1 arg2 harg2 arg3 harg3 arg4 harg4 arg5 harg5 arg6 harg6 arg7 harg7 arg8 harg8 arg9 harg9 x0) (kernelRun0_A.sl.r_13 c i arg1 harg1 arg2 harg2 arg3 harg3 arg4 harg4 arg5 harg5 arg6 harg6 arg7 harg7 arg8 harg8 arg9 harg9 x0) k0_pay639
    = blkM (F := F) x0 := by
  have h := st_eq c i arg1 harg1 arg2 harg2 arg3 harg3 arg4 harg4 arg5 harg5 arg6 harg6 arg7 harg7 arg8 harg8 arg9 harg9 (View.readAt (Elt F) arg1.view (Rect.unit ![0, 0, 0] S1x9x1024.size inb_S1x9x1024_S1x9x1024_0_0_0).toLoadRect (harg1.unread x0))
    (arg7.view.writes (Elt F) arg7.view.junk (kernelRun0_A.sl.HS1_1 c arg1 harg1 x0)) k0_pay616 k0_t1_loop.trips le_rfl
  have hv : View.readAt (Elt F) arg1.view (Rect.unit ![0, 0, 0] S1x9x1024.size inb_S1x9x1024_S1x9x1024_0_0_0).toLoadRect (harg1.unread x0) = x0 :=
    (View.readAt_full _ _ _).trans (harg1.read_unread _)
  rw [dA] at h
  unfold blkM
  refine Eq.trans ?_ (congrArg maskOf (h.trans (congrArg (fun v => rankAfter (k0_pay615 x0) (k0_pay615 v) k0_pay616 k0_t1_loop.trips) hv)))
  rfl

/-- The neighbour loop's three accumulators in case A. -/
theorem accA (arg0 : BitVec 32) (G_arg3 : BufTy.Contents (Elt F) arg3.view.ty) (G_arg8 : BufTy.Contents (Elt F) arg8.view.ty) (G_arg9 : BufTy.Contents (Elt F) arg9.view.ty) :
    let L := pb_k0_t2 (F := F) Variants.none c none i arg1 harg1 arg2 harg2 arg3 harg3 arg4 harg4 arg5 harg5 arg6 harg6 arg7 harg7 arg8 harg8 arg9 harg9
      (kernelRun0_A.sl.r_14 c arg1 harg1 arg6 x0) (kernelRun0_A.sl.r_15 c arg1 harg1 arg6 x0) arg0 (harg2.unread x1)
      (arg6.view.writes (Elt F) arg6.view.junk (kernelRun0_A.sl.HS0_1 c arg1 harg1 x0))
      (arg7.view.writes (Elt F) arg7.view.junk (⟨Rect.unit ![0, 0] ![1024, 1024] inb_S1024x1024_S1024x1024_0_0,
        k0_pay640 (kernelRun0_A.sl.r c i arg1 harg1 arg2 harg2 arg3 harg3 arg4 harg4 arg5 harg5 arg6 harg6 arg7 harg7 arg8 harg8 arg9 harg9 x0) (kernelRun0_A.sl.r_13 c i arg1 harg1 arg2 harg2 arg3 harg3 arg4 harg4 arg5 harg5 arg6 harg6 arg7 harg7 arg8 harg8 arg9 harg9 x0) k0_pay639⟩ ::
          kernelRun0_A.sl.HS1_1 c arg1 harg1 x0))
      G_arg3 G_arg8 G_arg9 k0_t2_loop.trips
    (shapeCast S32x1024 (arg3.view.read (Elt F) (arg3.view.writes (Elt F) G_arg3 L.1)) shapeCasts_S1x32x1024_S32x1024
        = blkAcc stepMax x0 x1 (shapeCast S32x1024 (arg3.view.read (Elt F) G_arg3) shapeCasts_S1x32x1024_S32x1024))
    ∧ (arg8.view.read (Elt F) (arg8.view.writes (Elt F) G_arg8 L.2.1) = blkAcc stepSum x0 x1 (arg8.view.read (Elt F) G_arg8))
    ∧ (arg9.view.read (Elt F) (arg9.view.writes (Elt F) G_arg9 L.2.2) = blkAcc stepSq x0 x1 (arg9.view.read (Elt F) G_arg9)) := by
  intro L
  have h := pb_read c i arg1 harg1 arg2 harg2 arg3 harg3 arg4 harg4 arg5 harg5 arg6 harg6 arg7 harg7 arg8 harg8 arg9 harg9 arg0 (kernelRun0_A.sl.v371 c arg1 harg1 arg6 x0) (harg2.unread x1)
      (arg6.view.writes (Elt F) arg6.view.junk (kernelRun0_A.sl.HS0_1 c arg1 harg1 x0))
      (arg7.view.writes (Elt F) arg7.view.junk (⟨Rect.unit ![0, 0] ![1024, 1024] inb_S1024x1024_S1024x1024_0_0,
        k0_pay640 (kernelRun0_A.sl.r c i arg1 harg1 arg2 harg2 arg3 harg3 arg4 harg4 arg5 harg5 arg6 harg6 arg7 harg7 arg8 harg8 arg9 harg9 x0) (kernelRun0_A.sl.r_13 c i arg1 harg1 arg2 harg2 arg3 harg3 arg4 harg4 arg5 harg5 arg6 harg6 arg7 harg7 arg8 harg8 arg9 harg9 x0) k0_pay639⟩ ::
          kernelRun0_A.sl.HS1_1 c arg1 harg1 x0))
      G_arg3 G_arg8 G_arg9 k0_t2_loop.trips le_rfl
  have hm : arg7.view.read (Elt F) (arg7.view.writes (Elt F) arg7.view.junk (⟨Rect.unit ![0, 0] ![1024, 1024] inb_S1024x1024_S1024x1024_0_0,
        k0_pay640 (kernelRun0_A.sl.r c i arg1 harg1 arg2 harg2 arg3 harg3 arg4 harg4 arg5 harg5 arg6 harg6 arg7 harg7 arg8 harg8 arg9 harg9 x0) (kernelRun0_A.sl.r_13 c i arg1 harg1 arg2 harg2 arg3 harg3 arg4 harg4 arg5 harg5 arg6 harg6 arg7 harg7 arg8 harg8 arg9 harg9 x0) k0_pay639⟩ ::
          kernelRun0_A.sl.HS1_1 c arg1 harg1 x0)) = blkM x0 :=
    (View.read_writes_full _ _ _ _ _).trans (mA c i arg1 harg1 arg2 harg2 arg3 harg3 arg4 harg4 arg5 harg5 arg6 harg6 arg7 harg7 arg8 harg8 arg9 harg9 x0)
  have hx : arg6.view.read (Elt F) (arg6.view.writes (Elt F) arg6.view.junk (kernelRun0_A.sl.HS0_1 c arg1 harg1 x0)) = blkX x0 := by
    refine Eq.trans ?_ (vA c arg1 harg1 arg6 x0)
    exact (View.readAt_full _ _ _).symm
  have hv := vA c arg1 harg1 arg6 x0
  rw [hm, hx, hv, harg2.read_unread] at h
  rw [← hv] at h
  unfold blkAcc
  rw [← hv]
  exact h

/-- Output 3: the maximum over the selected neighbours. -/
theorem out3_A (hc0 : cond0_0 i) (hc1 : ¬cond0_1 i) (hc2 : cond0_2 i) (hc3 : ¬cond0_3 i) : shapeCast S32x1024 (out0_A_2 c i arg1 harg1 arg2 harg2 arg3 harg3 arg4 harg4 arg5 harg5 arg6 harg6 arg7 harg7 arg8 harg8 arg9 harg9 hc0 hc1 hc2 hc3 x0 x1) shapeCasts_S1x32x1024_S32x1024
    = blkAcc stepMax x0 x1 (shapeCast S32x1024 (k0_pay643) shapeCasts_S1x32x1024_S32x1024) := by
  unfold out0_A_2
  rw [View.read_writes_junk_eq_canon, ← View.read_writes_junk_eq_canon arg3.view]
  unfold kernelRun0_A
  dsimp only
  rw [View.writes_append]
  refine (accA c i arg1 harg1 arg2 harg2 arg3 harg3 arg4 harg4 arg5 harg5 arg6 harg6 arg7 harg7 arg8 harg8 arg9 harg9 x0 x1 _ _ _ _).1.trans ?_
  unfold kernelRun0_A.sl.H2_1
  rw [View.read_writes_full]

/-- The sums as case A loads them after the loop. -/
theorem v387A : kernelRun0_A.sl.v387 c i arg1 harg1 arg2 harg2 arg3 harg3 arg4 harg4 arg5 harg5 arg6 harg6 arg7 harg7 arg8 harg8 arg9 harg9 x0 x1 = blkAcc stepSum x0 x1 k0_pay644 := by
  unfold kernelRun0_A.sl.v387
  refine (View.readAt_full _ _ _).trans ?_
  rw [View.writes_append]
  refine (accA c i arg1 harg1 arg2 harg2 arg3 harg3 arg4 harg4 arg5 harg5 arg6 harg6 arg7 harg7 arg8 harg8 arg9 harg9 x0 x1 _ _ _ _).2.1.trans ?_
  unfold kernelRun0_A.sl.HS2_1
  rw [View.read_writes_full]

/-- The sums of squares as case A loads them after the loop. -/
theorem v389A : kernelRun0_A.sl.v389 c i arg1 harg1 arg2 harg2 arg3 harg3 arg4 harg4 arg5 harg5 arg6 harg6 arg7 harg7 arg8 harg8 arg9 harg9 x0 x1 = blkAcc stepSq x0 x1 k0_pay645 := by
  unfold kernelRun0_A.sl.v389
  refine (View.readAt_full _ _ _).trans ?_
  rw [View.writes_append]
  refine (accA c i arg1 harg1 arg2 harg2 arg3 harg3 arg4 harg4 arg5 harg5 arg6 harg6 arg7 harg7 arg8 harg8 arg9 harg9 x0 x1 _ _ _ _).2.2.trans ?_
  unfold kernelRun0_A.sl.HS3_1
  rw [View.read_writes_full]

/-- Output 4: the sums, added to what the point before left. -/
theorem out4_A (hc0 : cond0_0 i) (hc1 : ¬cond0_1 i) (hc2 : cond0_2 i) (hc3 : ¬cond0_3 i) : out0_A_3 c i arg1 harg1 arg2 harg2 arg3 harg3 arg4 harg4 arg5 harg5 arg6 harg6 arg7 harg7 arg8 harg8 arg9 harg9 hc0 hc1 hc2 hc3 x0 x1 = k0_pay1 (blkAcc stepSum x0 x1 k0_pay644) := by
  unfold out0_A_3
  rw [View.read_writes_junk_eq_canon, ← View.read_writes_junk_eq_canon arg4.view]
  unfold kernelRun0_A
  dsimp only
  rw [View.read_writes_full, v387A]

/-- Output 5: the sums of squares, added to what the point before left. -/
theorem out5_A (hc0 : cond0_0 i) (hc1 : ¬cond0_1 i) (hc2 : cond0_2 i) (hc3 : ¬cond0_3 i) : out0_A_4 c i arg1 harg1 arg2 harg2 arg3 harg3 arg4 harg4 arg5 harg5 arg6 harg6 arg7 harg7 arg8 harg8 arg9 harg9 hc0 hc1 hc2 hc3 x0 x1 = k0_pay3 (blkAcc stepSq x0 x1 k0_pay645) := by
  unfold out0_A_4
  rw [View.read_writes_junk_eq_canon, ← View.read_writes_junk_eq_canon arg5.view]
  unfold kernelRun0_A
  dsimp only
  rw [View.read_writes_full]
  rw [v389A]

end Cert.Kernel1Ideal.Layer

end
-- ==== Proof.CaseB1.lean ====
module

public import proofs.«01_k».proof.Proof.CaseA1
public import proofs.«01_k».proof.Proof.Gen.Kernel1Ideal.Frame
import Idealize.ShloMosaic.Lib.Tactic.RunNames

@[expose] public section

/-! What one grid point leaves in each output's buffer, in terms of the loops' recursions. -/

noncomputable section

namespace Cert.Kernel1Ideal.Layer

open Cert.Kernel1Ideal Cert.Kernel1Ideal.Gen Idealize.ShloMosaic Idealize.ShloMosaic.TcCoe Idealize.SL.Sem

variable {F : FTy → Type} [FloatOps F] [Named F]

variable (c : Dev nD) (i : grid0.Coords) (arg1 : Memref sig .tc .vmem S1x9x1024 .f32) (harg1 : arg1.IsWhole) (arg2 : Memref sig .tc .vmem S128x72 .bf16) (harg2 : arg2.IsWhole) (arg3 : Memref sig .tc .vmem S1x32x1024 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S9x1024 .f32) (harg6 : arg6.IsWhole) (arg7 : Memref sig .tc .vmem S1024x1024 .f32) (harg7 : arg7.IsWhole) (arg8 : Memref sig .tc .vmem S32x1024 .f32) (harg8 : arg8.IsWhole) (arg9 : Memref sig .tc .vmem S32x1024 .f32) (harg9 : arg9.IsWhole)
    (x0 : Vec F S1x9x1024 .f32) (x1 : Vec F S128x72 .bf16) (xo3 xo4 : Vec F S1x32 .f32)

/-- The block's points as case B's loop loads them. -/
theorem vB : kernelRun0_B.sl.v371 c arg1 harg1 arg6 x0 = blkX x0 := by
  unfold kernelRun0_B.sl.v371 kernelRun0_B.sl.HS0_1
  rw [View.readCov_full]
  unfold k0_pay614
  dsimp only
  refine (shapeCast_self _ _).trans ?_
  rw [View.readAt_full, harg1.read_unread]

/-- The distance matrix as case B's rank loop reads it. -/
theorem dB : arg7.view.read (Elt F) (arg7.view.writes (Elt F) arg7.view.junk (kernelRun0_B.sl.HS1_1 c arg1 harg1 x0))
    = k0_pay615 x0 := by
  unfold kernelRun0_B.sl.HS1_1
  rw [View.read_writes_full, View.readAt_full, harg1.read_unread]
  unfold k0_pay617
  exact shapeCast_self _ _

set_option maxRecDepth 65536 in
/-- The mask as case B stores it. -/
theorem mB : k0_pay640 (kernelRun0_B.sl.r c i arg1 harg1 arg2 harg2 arg3 harg3 arg4 harg4 arg5 harg5 arg6 harg6 arg7 harg7 arg8 harg8 arg9 harg9 x0) (kernelRun0_B.sl.r_13 c i arg1 harg1 arg2 harg2 arg3 harg3 arg4 harg4 arg5 harg5 arg6 harg6 arg7 harg7 arg8 harg8 arg9 harg9 x0) k0_pay639
    = blkM (F := F) x0 := by
  have h := st_eq c i arg1 harg1 arg2 harg2 arg3 harg3 arg4 harg4 arg5 harg5 arg6 harg6 arg7 harg7 arg8 harg8 arg9 harg9 (View.readAt (Elt F) arg1.view (Rect.unit ![0, 0, 0] S1x9x1024.size inb_S1x9x1024_S1x9x1024_0_0_0).toLoadRect (harg1.unread x0))
    (arg7.view.writes (Elt F) arg7.view.junk (kernelRun0_B.sl.HS1_1 c arg1 harg1 x0)) k0_pay616 k0_t1_loop.trips le_rfl
  have hv : View.readAt (Elt F) arg1.view (Rect.unit ![0, 0, 0] S1x9x1024.size inb_S1x9x1024_S1x9x1024_0_0_0).toLoadRect (harg1.unread x0) = x0 :=
    (View.readAt_full _ _ _).trans (harg1.read_unread _)
  rw [dB] at h
  unfold blkM
  refine Eq.trans ?_ (congrArg maskOf (h.trans (congrArg (fun v => rankAfter (k0_pay615 x0) (k0_pay615 v) k0_pay616 k0_t1_loop.trips) hv)))
  rfl

/-- The neighbour loop's three accumulators in case B. -/
theorem accB (arg0 : BitVec 32) (G_arg3 : BufTy.Contents (Elt F) arg3.view.ty) (G_arg8 : BufTy.Contents (Elt F) arg8.view.ty) (G_arg9 : BufTy.Contents (Elt F) arg9.view.ty) :
    let L := pb_k0_t2 (F := F) Variants.none c none i arg1 harg1 arg2 harg2 arg3 harg3 arg4 harg4 arg5 harg5 arg6 harg6 arg7 harg7 arg8 harg8 arg9 harg9
      (kernelRun0_B.sl.r_14 c arg1 harg1 arg6 x0) (kernelRun0_B.sl.r_15 c arg1 harg1 arg6 x0) arg0 (harg2.unread x1)
      (arg6.view.writes (Elt F) arg6.view.junk (kernelRun0_B.sl.HS0_1 c arg1 harg1 x0))
      (arg7.view.writes (Elt F) arg7.view.junk (⟨Rect.unit ![0, 0] ![1024, 1024] inb_S1024x1024_S1024x1024_0_0,
        k0_pay640 (kernelRun0_B.sl.r c i arg1 harg1 arg2 harg2 arg3 harg3 arg4 harg4 arg5 harg5 arg6 harg6 arg7 harg7 arg8 harg8 arg9 harg9 x0) (kernelRun0_B.sl.r_13 c i arg1 harg1 arg2 harg2 arg3 harg3 arg4 harg4 arg5 harg5 arg6 harg6 arg7 harg7 arg8 harg8 arg9 harg9 x0) k0_pay639⟩ ::
          kernelRun0_B.sl.HS1_1 c arg1 harg1 x0))
      G_arg3 G_arg8 G_arg9 k0_t2_loop.trips
    (shapeCast S32x1024 (arg3.view.read (Elt F) (arg3.view.writes (Elt F) G_arg3 L.1)) shapeCasts_S1x32x1024_S32x1024
        = blkAcc stepMax x0 x1 (shapeCast S32x1024 (arg3.view.read (Elt F) G_arg3) shapeCasts_S1x32x1024_S32x1024))
    ∧ (arg8.view.read (Elt F) (arg8.view.writes (Elt F) G_arg8 L.2.1) = blkAcc stepSum x0 x1 (arg8.view.read (Elt F) G_arg8))
    ∧ (arg9.view.read (Elt F) (arg9.view.writes (Elt F) G_arg9 L.2.2) = blkAcc stepSq x0 x1 (arg9.view.read (Elt F) G_arg9)) := by
  intro L
  have h := pb_read c i arg1 harg1 arg2 harg2 arg3 harg3 arg4 harg4 arg5 harg5 arg6 harg6 arg7 harg7 arg8 harg8 arg9 harg9 arg0 (kernelRun0_B.sl.v371 c arg1 harg1 arg6 x0) (harg2.unread x1)
      (arg6.view.writes (Elt F) arg6.view.junk (kernelRun0_B.sl.HS0_1 c arg1 harg1 x0))
      (arg7.view.writes (Elt F) arg7.view.junk (⟨Rect.unit ![0, 0] ![1024, 1024] inb_S1024x1024_S1024x1024_0_0,
        k0_pay640 (kernelRun0_B.sl.r c i arg1 harg1 arg2 harg2 arg3 harg3 arg4 harg4 arg5 harg5 arg6 harg6 arg7 harg7 arg8 harg8 arg9 harg9 x0) (kernelRun0_B.sl.r_13 c i arg1 harg1 arg2 harg2 arg3 harg3 arg4 harg4 arg5 harg5 arg6 harg6 arg7 harg7 arg8 harg8 arg9 harg9 x0) k0_pay639⟩ ::
          kernelRun0_B.sl.HS1_1 c arg1 harg1 x0))
      G_arg3 G_arg8 G_arg9 k0_t2_loop.trips le_rfl
  have hm : arg7.view.read (Elt F) (arg7.view.writes (Elt F) arg7.view.junk (⟨Rect.unit ![0, 0] ![1024, 1024] inb_S1024x1024_S1024x1024_0_0,
        k0_pay640 (kernelRun0_B.sl.r c i arg1 harg1 arg2 harg2 arg3 harg3 arg4 harg4 arg5 harg5 arg6 harg6 arg7 harg7 arg8 harg8 arg9 harg9 x0) (kernelRun0_B.sl.r_13 c i arg1 harg1 arg2 harg2 arg3 harg3 arg4 harg4 arg5 harg5 arg6 harg6 arg7 harg7 arg8 harg8 arg9 harg9 x0) k0_pay639⟩ ::
          kernelRun0_B.sl.HS1_1 c arg1 harg1 x0)) = blkM x0 :=
    (View.read_writes_full _ _ _ _ _).trans (mB c i arg1 harg1 arg2 harg2 arg3 harg3 arg4 harg4 arg5 harg5 arg6 harg6 arg7 harg7 arg8 harg8 arg9 harg9 x0)
  have hx : arg6.view.read (Elt F) (arg6.view.writes (Elt F) arg6.view.junk (kernelRun0_B.sl.HS0_1 c arg1 harg1 x0)) = blkX x0 := by
    refine Eq.trans ?_ (vB c arg1 harg1 arg6 x0)
    exact (View.readAt_full _ _ _).symm
  have hv := vB c arg1 harg1 arg6 x0
  rw [hm, hx, hv, harg2.read_unread] at h
  rw [← hv] at h
  unfold blkAcc
  rw [← hv]
  exact h

/-- Output 3: the maximum over the selected neighbours. -/
theorem out3_B (hc0 : ¬cond0_0 i) (hc1 : cond0_1 i) (hc2 : ¬cond0_2 i) (hc3 : cond0_3 i) : shapeCast S32x1024 (out0_B_2 c i arg1 harg1 arg2 harg2 arg3 harg3 arg4 harg4 arg5 harg5 arg6 harg6 arg7 harg7 arg8 harg8 arg9 harg9 hc0 hc1 hc2 hc3 x0 x1 xo3 xo4) shapeCasts_S1x32x1024_S32x1024
    = blkAcc stepMax x0 x1 (shapeCast S32x1024 (k0_pay643) shapeCasts_S1x32x1024_S32x1024) := by
  unfold out0_B_2
  rw [View.read_writes_junk_eq_canon, ← View.read_writes_junk_eq_canon arg3.view]
  unfold kernelRun0_B
  dsimp only
  rw [View.writes_append]
  refine (accB c i arg1 harg1 arg2 harg2 arg3 harg3 arg4 harg4 arg5 harg5 arg6 harg6 arg7 harg7 arg8 harg8 arg9 harg9 x0 x1 _ _ _ _).1.trans ?_
  unfold kernelRun0_B.sl.H2_1
  rw [View.read_writes_full]

/-- The sums as case B loads them after the loop. -/
theorem v387B : kernelRun0_B.sl.v387 c i arg1 harg1 arg2 harg2 arg3 harg3 arg4 harg4 arg5 harg5 arg6 harg6 arg7 harg7 arg8 harg8 arg9 harg9 x0 x1 = blkAcc stepSum x0 x1 k0_pay644 := by
  unfold kernelRun0_B.sl.v387
  refine (View.readAt_full _ _ _).trans ?_
  rw [View.writes_append]
  refine (accB c i arg1 harg1 arg2 harg2 arg3 harg3 arg4 harg4 arg5 harg5 arg6 harg6 arg7 harg7 arg8 harg8 arg9 harg9 x0 x1 _ _ _ _).2.1.trans ?_
  unfold kernelRun0_B.sl.HS2_1
  rw [View.read_writes_full]

/-- The sums of squares as case B loads them after the loop. -/
theorem v389B : kernelRun0_B.sl.v389 c i arg1 harg1 arg2 harg2 arg3 harg3 arg4 harg4 arg5 harg5 arg6 harg6 arg7 harg7 arg8 harg8 arg9 harg9 x0 x1 = blkAcc stepSq x0 x1 k0_pay645 := by
  unfold kernelRun0_B.sl.v389
  refine (View.readAt_full _ _ _).trans ?_
  rw [View.writes_append]
  refine (accB c i arg1 harg1 arg2 harg2 arg3 harg3 arg4 harg4 arg5 harg5 arg6 harg6 arg7 harg7 arg8 harg8 arg9 harg9 x0 x1 _ _ _ _).2.2.trans ?_
  unfold kernelRun0_B.sl.HS3_1
  rw [View.read_writes_full]

/-- Output 4: the sums, added to what the point before left. -/
theorem out4_B (hc0 : ¬cond0_0 i) (hc1 : cond0_1 i) (hc2 : ¬cond0_2 i) (hc3 : cond0_3 i) : out0_B_3 c i arg1 harg1 arg2 harg2 arg3 harg3 arg4 harg4 arg5 harg5 arg6 harg6 arg7 harg7 arg8 harg8 arg9 harg9 hc0 hc1 hc2 hc3 x0 x1 xo3 xo4 = k0_pay2 (blkAcc stepSum x0 x1 k0_pay644) xo3 := by
  unfold out0_B_3
  rw [View.read_writes_junk_eq_canon, ← View.read_writes_junk_eq_canon arg4.view]
  unfold kernelRun0_B
  dsimp only
  rw [View.read_writes_full, v387B]
  refine congrArg _ ((View.readAt_full _ _ _).trans (harg4.read_unread _))

/-- Output 5: the sums of squares, added to what the point before left. -/
theorem out5_B (hc0 : ¬cond0_0 i) (hc1 : cond0_1 i) (hc2 : ¬cond0_2 i) (hc3 : cond0_3 i) : out0_B_4 c i arg1 harg1 arg2 harg2 arg3 harg3 arg4 harg4 arg5 harg5 arg6 harg6 arg7 harg7 arg8 harg8 arg9 harg9 hc0 hc1 hc2 hc3 x0 x1 xo3 xo4 = k0_pay4 (blkAcc stepSq x0 x1 k0_pay645) xo4 := by
  unfold out0_B_4
  rw [View.read_writes_junk_eq_canon, ← View.read_writes_junk_eq_canon arg5.view]
  unfold kernelRun0_B
  dsimp only
  rw [View.read_writes_full]
  rw [v389B]
  refine congrArg _ ((View.readAt_full _ _ _).trans (harg5.read_unread _))

end Cert.Kernel1Ideal.Layer

end
-- ==== Proof.Weights1.lean ====
module

public import proofs.«01_k».proof.Proof.Gen.Kernel1Ideal.Frame.Runs
public import Idealize.ShloMosaic.Lib.Pointwise
import Idealize.ShloMosaic.Lib.Routing.OpsOne
import Idealize.ShloMosaic.Lib.StableHlo.RunRead

@[expose] public section

/-! The weights the host lays down: four copies of the layer's matrix along the diagonal, zero elsewhere. -/

noncomputable section

namespace Cert.Kernel1Ideal.Layer

open Cert.Kernel1Ideal Cert.Kernel1Ideal.Gen Idealize.ShloMosaic Idealize.ShloMosaic.TcCoe Idealize.SL.Sem
open Idealize.ShloMosaic.Pointwise

/-- A corner of a block as the two index words the host makes. -/
def corner (r k : BitVec 32) : IVec S2 32 :=
  concatenate S2 0 [⟨S1, broadcastInDim S1 ![] bcast_S_S1 (constantI S_ 32 r)⟩,
    ⟨S1, broadcastInDim S1 ![] bcast_S_S1 (constantI S_ 32 k)⟩] concatenates_S1_S1_S2_d0

/-- The first index word is the row. -/
theorem corner_zero (r k : BitVec 32) : corner r k (ix1 (0 : Fin 2)) = r := by
  pointwise [corner]

/-- The second index word is the column. -/
theorem corner_one (r k : BitVec 32) : corner r k (ix1 (1 : Fin 2)) = k := by
  pointwise [corner]

/-- The scatter's place of an entry of the copied block. -/
theorem lands_block (r k : BitVec 32) (R K : ℕ) (hr : r.toInt = (R : Int)) (hk : k.toInt = (K : Int)) (p : Fin 32) (q : Fin 18)
    (a : Fin 128) (b : Fin 72) :
    scatter_S128x72_S2_S32x18_01_n_01_0.resultIdx? (ix2 p q) (corner r k) = some (ix2 a b) ↔ R + p.val = a.val ∧ K + q.val = b.val := by
  have h0 : scatter_S128x72_S2_S32x18_01_n_01_0.window (ix2 p q) 0 = p.val := by
    rfl
  have h1 : scatter_S128x72_S2_S32x18_01_n_01_0.window (ix2 p q) 1 = q.val := by
    rfl
  have s0 : scatter_S128x72_S2_S32x18_01_n_01_0.start (ix2 p q) (corner r k) 0 = (R : Int) := by
    rw [← hr, ← corner_zero r k]
    exact congrArg (fun t => (corner r k t).toInt) (by funext x; obtain rfl : x = 0 := Subsingleton.elim _ _; rfl)
  have s1 : scatter_S128x72_S2_S32x18_01_n_01_0.start (ix2 p q) (corner r k) 1 = (K : Int) := by
    rw [← hk, ← corner_one r k]
    exact congrArg (fun t => (corner r k t).toInt) (by funext x; obtain rfl : x = 0 := Subsingleton.elim _ _; rfl)
  refine (Routing.resultIdx?_ix2 _ (ix2 p q) (corner r k) a b).trans ?_
  rw [s0, h0, s1, h1]
  omega

/-- One scatter: the block replaced, everything else kept. -/
theorem scatter_block {α : Type} (r k : BitVec 32) (R K : ℕ) (hr : r.toInt = (R : Int)) (hk : k.toInt = (K : Int))
    (x : S128x72.Idx → α) (u : S32x18.Idx → α) (a : Fin 128) (b : Fin 72) :
    Host.scatter scatter_S128x72_S2_S32x18_01_n_01_0 (fun _ v => v) x (corner r k) u (ix2 a b)
      = if h : (R ≤ a.val ∧ a.val - R < 32) ∧ (K ≤ b.val ∧ b.val - K < 18)
        then u (ix2 ⟨a.val - R, h.1.2⟩ ⟨b.val - K, h.2.2⟩) else x (ix2 a b) := by
  have lands : ∀ j : S32x18.Idx, scatter_S128x72_S2_S32x18_01_n_01_0.resultIdx? j (corner r k) = some (ix2 a b) →
      R + (j 0).val = a.val ∧ K + (j 1).val = b.val := fun j hj =>
    (lands_block r k R K hr hk (j 0) (j 1) a b).1 (by rw [ix2_eta]; exact hj)
  by_cases h : (R ≤ a.val ∧ a.val - R < 32) ∧ (K ≤ b.val ∧ b.val - K < 18)
  · rw [dif_pos h]
    refine Routing.scatter_set_hit _ x (corner r k) u _ _ (fun j hj => ?_) (ix2 ⟨a.val - R, h.1.2⟩ ⟨b.val - K, h.2.2⟩)
      ((lands_block r k R K hr hk _ _ a b).2 ⟨by show R + (a.val - R) = a.val; omega, by show K + (b.val - K) = b.val; omega⟩)
    obtain ⟨e0, e1⟩ := lands j hj
    rw [← ix2_eta j]
    have q0 : j 0 = ⟨a.val - R, h.1.2⟩ := Fin.ext (by show (j 0).val = a.val - R; omega)
    have q1 : j 1 = ⟨b.val - K, h.2.2⟩ := Fin.ext (by show (j 1).val = b.val - K; omega)
    rw [q0, q1]
    rfl
  · rw [dif_neg h]
    refine Routing.scatter_set_miss _ x (corner r k) u _ fun j hj => h ?_
    obtain ⟨e0, e1⟩ := lands j hj
    have := (j 0).isLt
    have := (j 1).isLt
    have l0 : (j 0).val < 32 := (j 0).isLt
    have l1 : (j 1).val < 18 := (j 1).isLt
    omega

/-- The four copies, laid one after the other. -/
def fourCopies (u : FVec Ideal S32x18 .f32) : FVec Ideal S128x72 .f32 :=
  let put := fun (r k : BitVec 32) (x : FVec Ideal S128x72 .f32) =>
    Host.scatter scatter_S128x72_S2_S32x18_01_n_01_0 (fun _ v => v) x (corner r k) u
  put 96#32 54#32 (put 64#32 36#32 (put 32#32 18#32 (put 0#32 0#32
    (broadcastInDim S128x72 ![] bcast_S_S128x72 (constant (F := Ideal) S_ .f32 0x00000000#32)))))

/-- The copies read at an entry: block `(t, t')` is the matrix where `t = t'` and zero elsewhere. -/
theorem fourCopies_apply (u : FVec Ideal S32x18 .f32) (t t' : Fin 4) (o : Fin 32) (q : Fin 18) :
    fourCopies u (ix2 ⟨32 * t.val + o.val, by omega⟩ ⟨18 * t'.val + q.val, by omega⟩) = if t = t' then u (ix2 o q) else (0 : EReal) := by
  have hz : ∀ i, (broadcastInDim S128x72 ![] bcast_S_S128x72 (constant (F := Ideal) S_ .f32 0x00000000#32)) i = (0 : EReal) := by
    intro i
    obtain ⟨a, b, rfl⟩ : ∃ a b, i = ix2 a b := ⟨_, _, (ix2_eta i).symm⟩
    pointwise
  unfold fourCopies
  dsimp only
  rw [scatter_block 96#32 54#32 96 54 rfl rfl, scatter_block 64#32 36#32 64 36 rfl rfl, scatter_block 32#32 18#32 32 18 rfl rfl,
    scatter_block 0#32 0#32 0 0 rfl rfl, hz]
  have ho := o.isLt
  have hq := q.isLt
  fin_cases t <;> fin_cases t' <;> dsimp only
  all_goals
    repeat (first | rw [dif_neg (by omega)] | rw [dif_pos (by omega)])
    simp
  done

variable (m : (ℓ : Loc nD τ sig) → Buf (Elt Ideal) ℓ)

/-- The array of weights at the kernel's call. -/
theorem V_weights (c : Dev nD) :
    V m c main_v17 = truncf .bf16 (fourCopies (m ((c : Thread nD τ).loc main_arg1))) bitsLt_bf16_f32 := by
  unfold V hostOps0
  after_reads_simp
  rfl

/-- The weights at the call, entry by entry. -/
theorem weights_apply' (c : Dev nD) (t t' : Fin 4) (o : Fin 32) (q : Fin 18) :
    V m c main_v17 (ix2 ⟨32 * t.val + o.val, by omega⟩ ⟨18 * t'.val + q.val, by omega⟩)
      = if t = t' then m ((c : Thread nD τ).loc main_arg1) (ix2 o q) else (0 : EReal) := by
  rw [V_weights]
  exact fourCopies_apply _ t t' o q

/-- The weights at the call, at a row and a column told by their blocks. -/
theorem weights_apply (c : Dev nD) (t t' : Fin 4) (o : Fin 32) (q : Fin 18) (r : Fin 128) (k : Fin 72)
    (hr : r.val = 32 * t.val + o.val) (hk : k.val = 18 * t'.val + q.val) :
    V m c main_v17 (ix2 r k) = if t = t' then m ((c : Thread nD τ).loc main_arg1) (ix2 o q) else (0 : EReal) := by
  have h1 : 32 * t.val + o.val < 128 := by clear hr; omega
  have h2 : 18 * t'.val + q.val < 72 := by clear hk; omega
  obtain rfl : r = ⟨32 * t.val + o.val, h1⟩ := Fin.ext hr
  obtain rfl : k = ⟨18 * t'.val + q.val, h2⟩ := Fin.ext hk
  exact weights_apply' m c t t' o q

end Cert.Kernel1Ideal.Layer
-- ==== Proof.Point1.lean ====
module

public import proofs.«01_k».proof.Proof.Loop1
public import Idealize.ShloMosaic.Lib.Pointwise

@[expose] public section

/-! The neighbour loop's operations read at an index, over the extended reals. -/

noncomputable section

namespace Cert.Kernel1Ideal.Layer

open Cert.Kernel1Ideal Cert.Kernel1Ideal.Gen Idealize.ShloMosaic Idealize.ShloMosaic.TcCoe Idealize.SL.Sem
open Idealize.ShloMosaic.Pointwise

/-- Column `1024 t + n` of eight arrays side by side. -/
def wide (t : Fin 8) (n : Fin 1024) : Fin 8192 := ⟨1024 * t.val + n.val, by omega⟩

/-- A neighbour's features over all points, at an index. -/
theorem neighCol_apply (xsl : Vec Ideal S9x128 .f32) (o : Fin 128) (c : Fin 9) (n : Fin 1024) :
    neighCol xsl o (ix2 c n) = xsl (ix2 c o) := by
  pointwise [neighCol]

/-- A band's segment, at an index of the product. -/
theorem seg_apply (y : FVec Ideal S128x8192 .f32) (b : Fin 4) (t : Fin 8) (o : Fin 32) (n : Fin 1024) :
    seg y b t (ix2 o n) = y (ix2 (⟨32 * b.val + o.val, by omega⟩ : Fin 128) (wide t n)) := by
  pointwise [seg]
  rfl

/-- A mask row, at an index: whether its entry is positive. -/
theorem chosen_apply (m : Vec Ideal S8x1024 .f32) (t : Fin 8) (o : Fin 32) (n : Fin 1024) :
    chosen m t (ix2 o n) = BitVec.ofBool (decide (0 < m (ix2 t n))) := by
  pointwise [chosen]

/-- Eight arrays side by side, at a column of the `t`-th. -/
theorem beside_apply (f : Fin 8 → FVec Ideal S9x1024 .f32) (t : Fin 8) (c : Fin 9) (n : Fin 1024) :
    beside f (ix2 c (wide t n)) = f t (ix2 c n) := by
  pointwise [beside]
  have hn := n.isLt
  have hv : (wide t n).val = 1024 * t.val + n.val := rfl
  generalize wide t n = p at hv ⊢
  obtain ⟨p, hp⟩ := p
  dsimp only at hv ⊢
  simp only [hv]
  fin_cases t
  · rw [dif_pos (by dsimp only; omega)]; exact congrArg (fun k => f 0 (ix2 c k)) (Fin.ext (by dsimp only; omega))
  · rw [dif_neg (by dsimp only; omega)]; rw [dif_pos (by dsimp only; omega)]; exact congrArg (fun k => f 1 (ix2 c k)) (Fin.ext (by dsimp only; omega))
  · rw [dif_neg (by dsimp only; omega)]; rw [dif_neg (by dsimp only; omega)]; rw [dif_pos (by dsimp only; omega)]; exact congrArg (fun k => f 2 (ix2 c k)) (Fin.ext (by dsimp only; omega))
  · rw [dif_neg (by dsimp only; omega)]; rw [dif_neg (by dsimp only; omega)]; rw [dif_neg (by dsimp only; omega)]; rw [dif_pos (by dsimp only; omega)]; exact congrArg (fun k => f 3 (ix2 c k)) (Fin.ext (by dsimp only; omega))
  · rw [dif_neg (by dsimp only; omega)]; rw [dif_neg (by dsimp only; omega)]; rw [dif_neg (by dsimp only; omega)]; rw [dif_neg (by dsimp only; omega)]; rw [dif_pos (by dsimp only; omega)]; exact congrArg (fun k => f 4 (ix2 c k)) (Fin.ext (by dsimp only; omega))
  · rw [dif_neg (by dsimp only; omega)]; rw [dif_neg (by dsimp only; omega)]; rw [dif_neg (by dsimp only; omega)]; rw [dif_neg (by dsimp only; omega)]; rw [dif_neg (by dsimp only; omega)]; rw [dif_pos (by dsimp only; omega)]; exact congrArg (fun k => f 5 (ix2 c k)) (Fin.ext (by dsimp only; omega))
  · rw [dif_neg (by dsimp only; omega)]; rw [dif_neg (by dsimp only; omega)]; rw [dif_neg (by dsimp only; omega)]; rw [dif_neg (by dsimp only; omega)]; rw [dif_neg (by dsimp only; omega)]; rw [dif_neg (by dsimp only; omega)]; rw [dif_pos (by dsimp only; omega)]; exact congrArg (fun k => f 6 (ix2 c k)) (Fin.ext (by dsimp only; omega))
  · rw [dif_neg (by dsimp only; omega)]; rw [dif_neg (by dsimp only; omega)]; rw [dif_neg (by dsimp only; omega)]; rw [dif_neg (by dsimp only; omega)]; rw [dif_neg (by dsimp only; omega)]; rw [dif_neg (by dsimp only; omega)]; rw [dif_neg (by dsimp only; omega)]; exact congrArg (fun k => f 7 (ix2 c k)) (Fin.ext (by dsimp only; omega))

/-- The product with the weights, at an index. -/
theorem conv_apply (w : Vec Ideal S128x72 .bf16) (xsl : Vec Ideal S9x128 .f32) (x : Vec Ideal S9x1024 .f32) (s : Fin 4) (r : Fin 128) (p : Fin 8192) :
    conv w xsl x s (ix2 r p) = ∑ u : Fin 72, w (ix2 r u) * quad xsl x s (ix2 u p) := by
  pointwise [conv]

/-- A group's features at a row of its `a`-th band. -/
theorem quad_apply (xsl : Vec Ideal S9x128 .f32) (x : Vec Ideal S9x1024 .f32) (s a : Fin 4) (q : Fin 18) (p : Fin 8192) :
    quad xsl x s (ix2 (⟨18 * a.val + q.val, by omega⟩ : Fin 72) p) = band xsl x s a (ix2 q p) := by
  pointwise [quad]
  have hq := q.isLt
  fin_cases a <;> simp [Nat.add_sub_cancel_left] <;> split_ifs <;> first | omega | (congr 3; omega) | (congr 2)

/-- An edge's 18 features: the neighbour's less the point's, then the point's. -/
def edge (u v : Fin 9 → EReal) (q : Fin 18) : EReal :=
  if h : q.val < 9 then u ⟨q.val, h⟩ - v ⟨q.val, h⟩ else v ⟨q.val - 9, by omega⟩

/-- One output channel of an edge. -/
def outCh (W : Fin 18 → EReal) (u v : Fin 9 → EReal) : EReal := ∑ q : Fin 18, W q * edge u v q

/-- A band's features at an index. -/
theorem band_apply (xsl : Vec Ideal S9x128 .f32) (x : Vec Ideal S9x1024 .f32) (s b : Fin 4) (q : Fin 18) (t : Fin 8) (n : Fin 1024) :
    band xsl x s b (ix2 q (wide t n)) = edge (fun c => xsl (ix2 c (nb s b t))) (fun c => x (ix2 c n)) q := by
  pointwise [band]
  unfold edge
  by_cases h : q.val < 9
  · simp only [dif_pos h]
    rw [beside_apply, beside_apply, neighCol_apply]
  · simp only [dif_neg h]
    rw [beside_apply]

/-- A sum over `m n` indices, by blocks of `n`. -/
theorem sum_blocks {M : Type*} [AddCommMonoid M] {N : ℕ} (m n : ℕ) (h : N = m * n) (f : Fin N → M) :
    ∑ u, f u = ∑ a : Fin m, ∑ q : Fin n, f ⟨n * a.val + q.val, by
      subst h
      calc n * a.val + q.val < n * a.val + n := by omega
        _ = n * (a.val + 1) := by ring
        _ ≤ n * m := Nat.mul_le_mul_left _ a.isLt
        _ = m * n := Nat.mul_comm _ _⟩ := by
  subst h
  rw [← Fintype.sum_prod_type', ← finProdFinEquiv.sum_comp]
  refine Finset.sum_congr rfl fun p _ => congrArg f (Fin.ext ?_)
  simp [finProdFinEquiv, Nat.add_comm]

/-- With block-diagonal weights a segment holds the output channels of its own band's edges. -/
theorem seg_conv (w : Vec Ideal S128x72 .bf16) (W : Fin 32 → Fin 18 → EReal)
    (hw : ∀ (a a' : Fin 4) (o : Fin 32) (q : Fin 18),
      w (ix2 (⟨32 * a.val + o.val, by omega⟩ : Fin 128) (⟨18 * a'.val + q.val, by omega⟩ : Fin 72)) = if a = a' then W o q else 0)
    (xsl : Vec Ideal S9x128 .f32) (x : Vec Ideal S9x1024 .f32) (s b : Fin 4) (t : Fin 8) (o : Fin 32) (n : Fin 1024) :
    seg (conv w xsl x s) b t (ix2 o n) = outCh (W o) (fun c => xsl (ix2 c (nb s b t))) (fun c => x (ix2 c n)) := by
  rw [seg_apply, conv_apply, sum_blocks 4 18 rfl]
  unfold outCh
  rw [Finset.sum_eq_single b]
  · refine Finset.sum_congr rfl fun q _ => ?_
    rw [hw b b o q, quad_apply, band_apply, if_pos rfl]
  · intro a _ ha
    refine Finset.sum_eq_zero fun q _ => ?_
    rw [hw b a o q, if_neg (Ne.symm ha)]
    exact zero_mul _
  · intro h; exact absurd (Finset.mem_univ _) h

/-- Eight additions in order are one sum. -/
theorem eight_sum (f : Fin 8 → EReal) (g : Fin 8 → EReal → EReal) (hg : ∀ t a, g t a = a + f t) (a : EReal) :
    eight g a = a + ∑ t, f t := by
  simp only [eight, hg, Fin.sum_univ_eight, add_assoc]

/-- Four additions in order are one sum. -/
theorem four_sum (f : Fin 4 → EReal) (g : Fin 4 → EReal → EReal) (hg : ∀ t a, g t a = a + f t) (a : EReal) :
    four g a = a + ∑ t, f t := by
  simp only [four, hg, Fin.sum_univ_four, add_assoc]

/-- Eight steps read at an index are eight steps on the entries. -/
theorem eight_apply {ι α : Type} (f : Fin 8 → (ι → α) → (ι → α)) (g : Fin 8 → α → α) (i : ι)
    (h : ∀ t a, f t a i = g t (a i)) (a : ι → α) : eight f a i = eight g (a i) := by
  simp only [eight, h]

/-- Four steps read at an index are four steps on the entries. -/
theorem four_apply {ι α : Type} (f : Fin 4 → (ι → α) → (ι → α)) (g : Fin 4 → α → α) (i : ι)
    (h : ∀ t a, f t a i = g t (a i)) (a : ι → α) : four f a i = four g (a i) := by
  simp only [four, h]

/-- A trip whose step acts on entries acts on entries. -/
theorem trip_apply (step : IVec S32x1024 1 → FVec Ideal S32x1024 .f32 → FVec Ideal S32x1024 .f32 → FVec Ideal S32x1024 .f32)
    (g : BitVec 1 → EReal → EReal → EReal) (hg : ∀ m y a i, step m y a i = g (m i) (y i) (a i))
    (w : Vec Ideal S128x72 .bf16) (xsl : Vec Ideal S9x128 .f32) (x : Vec Ideal S9x1024 .f32)
    (m : Fin 4 → Fin 4 → Vec Ideal S8x1024 .f32) (a : FVec Ideal S32x1024 .f32) (i : S32x1024.Idx) :
    trip step w xsl x m a i
      = four (fun s => four fun b => eight fun t => g (chosen (m s b) t i) (seg (conv w xsl x s) b t i)) (a i) := by
  unfold trip
  refine four_apply _ _ i (fun s a => ?_) a
  refine four_apply _ _ i (fun b a => ?_) a
  refine eight_apply _ _ i (fun t a => ?_) a
  exact hg _ _ _ _

end Cert.Kernel1Ideal.Layer

end
-- ==== Proof.Sums1.lean ====
module

public import proofs.«01_k».proof.Proof.Point1
public import proofs.«01_k».proof.Proof.Loop1
import Idealize.ShloMosaic.Lib.Pointwise

@[expose] public section

/-! The neighbour loop's accumulators at an index: a sum, a sum of squares and a maximum over all 1024 neighbours. -/

noncomputable section

namespace Cert.Kernel1Ideal.Layer

open Cert.Kernel1Ideal Cert.Kernel1Ideal.Gen Idealize.ShloMosaic Idealize.ShloMosaic.TcCoe Idealize.SL.Sem
open Idealize.ShloMosaic.Pointwise

/-- A maximum step at an index. -/
theorem stepMax_apply (m : IVec S32x1024 1) (y a : FVec Ideal S32x1024 .f32) (i : S32x1024.Idx) :
    stepMax m y a i = max (a i) (if m i = 1#1 then y i else (⊥ : EReal)) := by
  rfl

/-- A sum step at an index. -/
theorem stepSum_apply (m : IVec S32x1024 1) (y a : FVec Ideal S32x1024 .f32) (i : S32x1024.Idx) :
    stepSum m y a i = a i + (if m i = 1#1 then y i else (0 : EReal)) := by
  obtain ⟨o, n, rfl⟩ : ∃ o n, i = ix2 o n := ⟨_, _, (ix2_eta i).symm⟩
  pointwise [stepSum, kept]
  rfl

/-- A sum-of-squares step at an index. -/
theorem stepSq_apply (m : IVec S32x1024 1) (y a : FVec Ideal S32x1024 .f32) (i : S32x1024.Idx) :
    stepSq m y a i = a i + (if m i = 1#1 then y i * y i else (0 : EReal)) := by
  obtain ⟨o, n, rfl⟩ : ∃ o n, i = ix2 o n := ⟨_, _, (ix2_eta i).symm⟩
  pointwise [stepSq, kept]
  refine congrArg (a (ix2 o n) + ·) ?_
  by_cases h : m (ix2 o n) = 1#1
  · rw [if_pos h]
    exact if_pos h
  · rw [if_neg h]
    exact if_neg h

/-- A column of the neighbours' features a trip loads. -/
theorem colsAt_apply (X : Vec Ideal S9x1024 .f32) (k : Fin k0_t2_loop.trips) (c : Fin 9) (j : Fin 128) (h : 128 * k.val + j.val < 1024) :
    colsAt X k (ix2 c j) = X (ix2 c ⟨128 * k.val + j.val, h⟩) := by
  refine congrArg X (funext fun d => ?_)
  have e := k0_off2_eq k
  refine Fin.ext ?_
  fin_cases d
  · simp [e]
  · simp [e]

/-- An entry of the mask rows a trip loads. -/
theorem rowsAt_apply (M : Vec Ideal S1024x1024 .f32) (k : Fin k0_t2_loop.trips) (s b : Fin 4) (t : Fin 8) (n : Fin 1024)
    (h : 128 * k.val + (nb s b t).val < 1024) :
    rowsAt M k s b (ix2 t n) = M (ix2 ⟨128 * k.val + (nb s b t).val, h⟩ n) := by
  refine congrArg M (funext fun d => ?_)
  have e := k0_off3_eq k s b
  refine Fin.ext ?_
  fin_cases d
  · simp [e, nb]
    omega
  · simp [e]

variable (w : Vec Ideal S128x72 .bf16) (W : Fin 32 → Fin 18 → EReal)
    (hw : ∀ (a a' : Fin 4) (o : Fin 32) (q : Fin 18),
      w (ix2 (⟨32 * a.val + o.val, by omega⟩ : Fin 128) (⟨18 * a'.val + q.val, by omega⟩ : Fin 72)) = if a = a' then W o q else 0)

/-- A neighbour's contribution: a function of its output channel where the mask selects it, a default elsewhere. -/
def term (g : EReal → EReal) (z : EReal) (W : Fin 32 → Fin 18 → EReal) (X x : Vec Ideal S9x1024 .f32) (M : Vec Ideal S1024x1024 .f32)
    (o : Fin 32) (n : Fin 1024) (m : Fin 1024) : EReal :=
  if 0 < M (ix2 m n) then g (outCh (W o) (fun c => X (ix2 c m)) (fun c => x (ix2 c n))) else z

include hw

/-- A step's masked value in a trip is the neighbour's contribution. -/
theorem term_eq (g : EReal → EReal) (z : EReal) (X x : Vec Ideal S9x1024 .f32) (M : Vec Ideal S1024x1024 .f32)
    (k : Fin k0_t2_loop.trips) (s b : Fin 4) (t : Fin 8) (o : Fin 32) (n : Fin 1024) (h : 128 * k.val + (nb s b t).val < 1024) :
    (if chosen (rowsAt M k s b) t (ix2 o n) = 1#1 then g (seg (conv w (colsAt X k) x s) b t (ix2 o n)) else z)
      = term g z W X x M o n ⟨128 * k.val + (nb s b t).val, h⟩ := by
  rw [chosen_apply, seg_conv w W hw, rowsAt_apply M k s b t n h]
  unfold term
  simp only [colsAt_apply X k _ _ h]
  by_cases hp : 0 < M (ix2 ⟨128 * k.val + (nb s b t).val, h⟩ n)
  · rw [if_pos hp, if_pos (by rw [decide_eq_true hp]; rfl)]
  · rw [if_neg hp, if_neg (by rw [decide_eq_false hp]; decide)]

omit hw in
/-- A trip's neighbours are within range. -/
theorem nb_lt (k : ℕ) (hk : k < k0_t2_loop.trips) (j : Fin 128) : 128 * k + j.val < 1024 := by
  have := trips2; omega

omit hw in
/-- A sum over a trip's 128 neighbours, in its three digits. -/
theorem sum_nb (f : Fin 128 → EReal) : ∑ s : Fin 4, ∑ b : Fin 4, ∑ t : Fin 8, f (nb s b t) = ∑ j, f j := by
  rw [sum_blocks 4 32 rfl f]
  refine Finset.sum_congr rfl fun s _ => ?_
  rw [sum_blocks 4 8 rfl]
  refine Finset.sum_congr rfl fun b _ => Finset.sum_congr rfl fun t _ => congrArg f (Fin.ext ?_)
  simp [nb]; omega

/-- An additive accumulator after `k` trips. -/
theorem accAfter_sum (step : IVec S32x1024 1 → FVec Ideal S32x1024 .f32 → FVec Ideal S32x1024 .f32 → FVec Ideal S32x1024 .f32)
    (g : EReal → EReal) (hg : ∀ m y a i, step m y a i = a i + (if m i = 1#1 then g (y i) else (0 : EReal)))
    (X x : Vec Ideal S9x1024 .f32) (M : Vec Ideal S1024x1024 .f32) (a : FVec Ideal S32x1024 .f32) (o : Fin 32) (n : Fin 1024)
    (k : ℕ) (hk : k ≤ k0_t2_loop.trips) :
    accAfter step w X x M a k (ix2 o n)
      = a (ix2 o n) + ∑ u : Fin k, ∑ j : Fin 128, term g 0 W X x M o n ⟨128 * u.val + j.val, nb_lt u.val (by omega) j⟩ := by
  induction k with
  | zero => simp [accAfter]
  | succ k ih =>
    rw [show accAfter step w X x M a (k + 1) = trip step w (colsAt X ⟨k, hk⟩) x (rowsAt M ⟨k, hk⟩) (accAfter step w X x M a k) from dif_pos hk]
    rw [trip_apply step (fun m y a => a + (if m = 1#1 then g y else (0 : EReal))) hg, ih (by omega)]
    rw [Fin.sum_univ_castSucc, ← add_assoc]
    rw [four_sum (fun s => ∑ b : Fin 4, ∑ t : Fin 8, term g 0 W X x M o n ⟨128 * k + (nb s b t).val, nb_lt k hk _⟩)]
    · refine congrArg₂ (· + ·) rfl ?_
      exact sum_nb (fun j => term g 0 W X x M o n ⟨128 * k + j.val, nb_lt k hk _⟩)
    · intro s a
      refine four_sum _ _ (fun b a => ?_) a
      refine eight_sum _ _ (fun t a => ?_) a
      exact congrArg (a + ·) (term_eq w W hw g 0 X x M ⟨k, hk⟩ s b t o n (nb_lt k hk _))

omit hw in
/-- Eight maxima in order are below a bound when each is. -/
theorem eight_max (f : Fin 8 → EReal) (c : EReal) (g : Fin 8 → EReal → EReal) (hg : ∀ t a, g t a ≤ c ↔ a ≤ c ∧ f t ≤ c) (a : EReal) :
    eight g a ≤ c ↔ a ≤ c ∧ ∀ t, f t ≤ c := by
  simp only [eight, hg]
  constructor
  · rintro ⟨⟨⟨⟨⟨⟨⟨⟨h, h0⟩, h1⟩, h2⟩, h3⟩, h4⟩, h5⟩, h6⟩, h7⟩
    refine ⟨h, fun t => ?_⟩
    fin_cases t <;> assumption
  · rintro ⟨h, hf⟩
    exact ⟨⟨⟨⟨⟨⟨⟨⟨h, hf 0⟩, hf 1⟩, hf 2⟩, hf 3⟩, hf 4⟩, hf 5⟩, hf 6⟩, hf 7⟩

omit hw in
/-- Four maxima in order are below a bound when each is. -/
theorem four_max (p : Fin 4 → Prop) (c : EReal) (g : Fin 4 → EReal → EReal) (hg : ∀ t a, g t a ≤ c ↔ a ≤ c ∧ p t) (a : EReal) :
    four g a ≤ c ↔ a ≤ c ∧ ∀ t, p t := by
  simp only [four, hg]
  constructor
  · rintro ⟨⟨⟨⟨h, h0⟩, h1⟩, h2⟩, h3⟩
    refine ⟨h, fun t => ?_⟩
    fin_cases t <;> assumption
  · rintro ⟨h, hf⟩
    exact ⟨⟨⟨⟨h, hf 0⟩, hf 1⟩, hf 2⟩, hf 3⟩

/-- The maximum accumulator after `k` trips is below a bound when every contribution is. -/
theorem accAfter_max (X x : Vec Ideal S9x1024 .f32) (M : Vec Ideal S1024x1024 .f32) (a : FVec Ideal S32x1024 .f32) (o : Fin 32) (n : Fin 1024)
    (c : EReal) (k : ℕ) (hk : k ≤ k0_t2_loop.trips) :
    accAfter stepMax w X x M a k (ix2 o n) ≤ c
      ↔ a (ix2 o n) ≤ c ∧ ∀ (u : Fin k) (j : Fin 128), term id ⊥ W X x M o n ⟨128 * u.val + j.val, nb_lt u.val (by omega) j⟩ ≤ c := by
  induction k with
  | zero => simp [accAfter]
  | succ k ih =>
    rw [show accAfter stepMax w X x M a (k + 1) = trip stepMax w (colsAt X ⟨k, hk⟩) x (rowsAt M ⟨k, hk⟩) (accAfter stepMax w X x M a k) from dif_pos hk]
    rw [trip_apply stepMax (fun m y a => max a (if m = 1#1 then id y else (⊥ : EReal))) stepMax_apply]
    rw [four_max (fun s => ∀ (b : Fin 4) (t : Fin 8), term id ⊥ W X x M o n ⟨128 * k + (nb s b t).val, nb_lt k hk _⟩ ≤ c), ih (by omega), and_assoc]
    · refine and_congr Iff.rfl ⟨fun h u j => ?_, fun h => ⟨fun u j => h ⟨u.val, by omega⟩ j, fun s b t => h ⟨k, by omega⟩ (nb s b t)⟩⟩
      rcases Nat.lt_or_ge u.val k with hu | hu
      · exact h.1 ⟨u.val, hu⟩ j
      · have hu' : u.val = k := by omega
        have hj : j = nb ⟨j.val / 32, by omega⟩ ⟨j.val % 32 / 8, by omega⟩ ⟨j.val % 8, by omega⟩ := by
          refine Fin.ext ?_
          simp only [nb]; omega
        have := h.2 ⟨j.val / 32, by omega⟩ ⟨j.val % 32 / 8, by omega⟩ ⟨j.val % 8, by omega⟩
        rw [← hj] at this
        simp only [hu']
        exact this
    · intro s a
      refine four_max _ _ _ (fun b a => ?_) a
      refine eight_max _ _ _ (fun t a => ?_) a
      rw [term_eq w W hw id ⊥ X x M ⟨k, hk⟩ s b t o n (nb_lt k hk _), max_le_iff]

/-- The weights are copies of one matrix along the diagonal. -/
def Diagonal (w : Vec Ideal S128x72 .bf16) (W : Fin 32 → Fin 18 → EReal) : Prop :=
  ∀ (a a' : Fin 4) (o : Fin 32) (q : Fin 18) (r : Fin 128) (k : Fin 72), r.val = 32 * a.val + o.val → k.val = 18 * a'.val + q.val →
    w (ix2 r k) = if a = a' then W o q else (0 : EReal)

omit hw in
/-- An additive accumulator after all trips is a sum over all neighbours. -/
theorem accAfter_sum_all (hd : Diagonal w W) (step : IVec S32x1024 1 → FVec Ideal S32x1024 .f32 → FVec Ideal S32x1024 .f32 → FVec Ideal S32x1024 .f32)
    (g : EReal → EReal) (hg : ∀ m y a i, step m y a i = a i + (if m i = 1#1 then g (y i) else (0 : EReal)))
    (X x : Vec Ideal S9x1024 .f32) (M : Vec Ideal S1024x1024 .f32) (a : FVec Ideal S32x1024 .f32) (o : Fin 32) (n : Fin 1024) :
    accAfter step w X x M a k0_t2_loop.trips (ix2 o n) = a (ix2 o n) + ∑ m, term g 0 W X x M o n m := by
  rw [accAfter_sum w W (fun a a' o q => hd a a' o q _ _ rfl rfl) step g hg X x M a o n _ le_rfl, sum_blocks k0_t2_loop.trips 128 (by rw [trips2]) (term g 0 W X x M o n)]

omit hw in
/-- The maximum accumulator after all trips is below a bound when every neighbour's contribution is. -/
theorem accAfter_max_all (hd : Diagonal w W) (X x : Vec Ideal S9x1024 .f32) (M : Vec Ideal S1024x1024 .f32) (a : FVec Ideal S32x1024 .f32) (o : Fin 32) (n : Fin 1024)
    (c : EReal) :
    accAfter stepMax w X x M a k0_t2_loop.trips (ix2 o n) ≤ c ↔ a (ix2 o n) ≤ c ∧ ∀ m, term id ⊥ W X x M o n m ≤ c := by
  rw [accAfter_max w W (fun a a' o q => hd a a' o q _ _ rfl rfl) X x M a o n c _ le_rfl]
  refine and_congr Iff.rfl ⟨fun h m => ?_, fun h u j => h _⟩
  have := h ⟨m.val / 128, by have := trips2; omega⟩ ⟨m.val % 128, by omega⟩
  simpa only [Nat.div_add_mod] using this

end Cert.Kernel1Ideal.Layer

end
-- ==== Proof.Block1.lean ====
module

public import proofs.«01_k».proof.Proof.CaseB1
public import proofs.«01_k».proof.Proof.Weights1
public import proofs.«01_k».proof.Proof.Sums1
public import proofs.«01_k».proof.Proof.Mask1
public import Idealize.ShloMosaic.Lib.Pipeline.ValueKit
import Idealize.ShloMosaic.Lib.Pointwise

@[expose] public section

/-! The block of one grid point: its inputs read off the arrays, its points and its distances. -/

noncomputable section

namespace Cert.Kernel1Ideal.Layer

open Cert.Kernel1Ideal Cert.Kernel1Ideal.Gen Idealize.ShloMosaic Idealize.ShloMosaic.TcCoe Idealize.SL.Sem
open Idealize.ShloMosaic.Pointwise

/-- The distance of point `i` from point `n`, as the kernel writes it down. -/
def far (U : Fin 9 → Fin 1024 → EReal) (i n : Fin 1024) : EReal :=
  ((∑ c, U c n * U c n) - (FloatOps.ofBits (F := Ideal) .f32 0x40000000#32 : EReal) * ∑ c, U c i * U c n) + ∑ c, U c i * U c i

variable (x0 : Vec Ideal S1x9x1024 .f32)

/-- The points of a block at a coordinate. -/
theorem blkX_apply (p : Fin 9) (n : Fin 1024) :
    blkX x0 (ix2 p n) = x0 (ix3 0 p n) := by
  pointwise [blkX, k0_pay613]

/-- The distance matrix of a block at an entry. -/
theorem dist_apply (i n : Fin 1024) :
    k0_pay615 x0 (ix2 i n) = far (fun p k => blkX x0 (ix2 p k)) i n := by
  unfold blkX
  generalize hX : k0_pay613 x0 = X
  pointwise [k0_pay615]
  rw [hX]
  unfold far
  simp

variable (m : (ℓ : Loc nD τ sig) → Buf (Elt Ideal) ℓ) (d : Dev nD) (t : Fin cfg0.N)

/-- The batch a grid point works on. -/
abbrev bat : Fin 32 := ⟨t.val, Nat.lt_of_lt_of_eq t.isLt N_0⟩

/-- The first input's block at a coordinate. -/
theorem in0_apply (p : Fin 9) (n : Fin 1024) :
    (iblk m d 0 t : Vec Ideal S1x9x1024 .f32) (ix3 0 p n) = m ((d : Thread nD τ).loc main_arg0) (ix3 (bat t) p n) := by
  have e : ∀ t : Fin grid0.N, win0_0.index t = ![t.val, 0, 0] := by decide +kernel
  blk_ext [iblk, V_main_arg0, e t]

/-- The weights, at every point the whole array. -/
theorem in1_apply (p : Fin 128) (n : Fin 72) :
    (iblk m d 1 t : Vec Ideal S128x72 .bf16) (ix2 p n) = V m d main_v17 (ix2 p n) := by
  have e : ∀ t : Fin grid0.N, win0_1.index t = ![0, 0] := by decide +kernel
  blk_ext [iblk, e t]

/-- The points of every batch, off the argument array. -/
def pts (b : Fin 32) (p : Fin 9) (n : Fin 1024) : EReal := m ((d : Thread nD τ).loc main_arg0) (ix3 b p n)

/-- The weights, off their argument array. -/
def wts (o : Fin 32) (q : Fin 18) : EReal := m ((d : Thread nD τ).loc main_arg1) (ix2 o q)

/-- The convolution's output for point `n` and its neighbour `k`. -/
def edgeVal (b o : Fin 32) (n k : Fin 1024) : EReal :=
  outCh (wts m d o) (fun p => pts m d b p k) (fun p => pts m d b p n)

/-- The block's points are the batch's. -/
theorem points_apply (p : Fin 9) (n : Fin 1024) :
    blkX (iblk m d 0 t : Vec Ideal S1x9x1024 .f32) (ix2 p n) = pts m d (bat t) p n := by
  rw [blkX_apply, in0_apply]
  rfl

/-- The block's weights are four copies along the diagonal. -/
theorem diagonal : Diagonal (iblk m d 1 t) (wts m d) := fun a a' o q r k hr hk =>
  (in1_apply m d t r k).trans (weights_apply m d a a' o q r k hr hk)

/-- Each point's forty neighbours, told apart by distance. -/
structure Nearest (U : Fin 9 → Fin 1024 → EReal) (T : Fin 1024 → Finset (Fin 1024)) : Prop where
  /-- there are forty of them -/
  card : ∀ n, (T n).card = 40
  /-- every other point is farther -/
  far : ∀ n, ∀ i ∈ T n, ∀ j, j ∉ T n → far U i n < far U j n

variable {T : Fin 1024 → Finset (Fin 1024)} (hT : Nearest (pts m d (bat t)) T)
include hT

/-- The mask of the block marks the neighbours. -/
theorem mask_marks (i n : Fin 1024) :
    0 < blkM (F := Ideal) (iblk m d 0 t) (ix2 i n) ↔ i ∈ T n := by
  refine mask_apply _ n (T n) (hT.card n) (fun i hi j hj => ?_) i
  have e : (fun p k => blkX (iblk m d 0 t : Vec Ideal S1x9x1024 .f32) (ix2 p k))
      = pts m d (bat t) := by
    funext p k
    exact points_apply m d t p k
  rw [dist_apply, dist_apply, e]
  exact hT.far n i hi j hj

/-- One neighbour's term. -/
theorem term_near (g : EReal → EReal) (z : EReal) (o : Fin 32) (n k : Fin 1024) :
    term g z (wts m d) (blkX (F := Ideal) (iblk m d 0 t))
      (blkX (F := Ideal) (iblk m d 0 t))
      (blkM (F := Ideal) (iblk m d 0 t)) o n k
      = if k ∈ T n then g (edgeVal m d (bat t) o n k) else z := by
  unfold term edgeVal
  rw [funext fun p => points_apply m d t p k, funext fun p => points_apply m d t p n]
  exact if_congr (mask_marks m d t hT k n) rfl rfl

/-- The block's sum over the neighbours. -/
theorem sum_block (step : IVec S32x1024 1 → FVec Ideal S32x1024 .f32 → FVec Ideal S32x1024 .f32 → FVec Ideal S32x1024 .f32)
    (g : EReal → EReal) (hg : ∀ m y a i, step m y a i = a i + (if m i = 1#1 then g (y i) else (0 : EReal)))
    (a : FVec Ideal S32x1024 .f32) (o : Fin 32) (n : Fin 1024) (ha : a (ix2 o n) = (0 : EReal)) :
    blkAcc (F := Ideal) step (iblk m d 0 t) (iblk m d 1 t) a (ix2 o n)
      = ∑ k ∈ T n, g (edgeVal m d (bat t) o n k) := by
  unfold blkAcc
  rw [accAfter_sum_all _ (wts m d) (diagonal m d t) step g hg, ha, zero_add, Finset.sum_congr rfl fun k _ => term_near m d t hT g 0 o n k,
    ← Finset.sum_filter]
  congr 1
  ext k
  simp

/-- The block's maximum over the neighbours. -/
theorem max_block (a : FVec Ideal S32x1024 .f32) (o : Fin 32) (n : Fin 1024) (ha : a (ix2 o n) = (⊥ : EReal)) :
    blkAcc (F := Ideal) stepMax (iblk m d 0 t) (iblk m d 1 t) a (ix2 o n)
      = (T n).sup fun k => edgeVal m d (bat t) o n k := by
  unfold blkAcc
  refine eq_of_forall_ge_iff fun c => ?_
  rw [accAfter_max_all _ (wts m d) (diagonal m d t), ha, Finset.sup_le_iff]
  constructor
  · intro h k hk
    have := h.2 k
    rw [term_near m d t hT id ⊥ o n k, if_pos hk] at this
    exact this
  · intro h
    refine ⟨bot_le, fun k => ?_⟩
    rw [term_near m d t hT id ⊥ o n k]
    by_cases hk : k ∈ T n
    · rw [if_pos hk]
      exact h k hk
    · rw [if_neg hk]
      exact bot_le

end Cert.Kernel1Ideal.Layer
-- ==== Proof.Ref1.lean ====
module

public import proofs.«01_k».proof.Proof.Gen.Reference1Ideal.Read
public import proofs.«01_k».proof.Proof.Block1
public import proofs.«01_k».proof.Proof.Order
public import Idealize.ShloMosaic.Lib.Pointwise
import Idealize.ShloMosaic.Lib.StableHlo.Predicate

/-! What the reference's operations hold at an index: the points, their squared distances, the chosen neighbours, the gathered
    features and the edge values. -/

@[expose] public section

noncomputable section

namespace Cert.Kernel1Ideal.Layer

open Cert.KernelIdeal.Layer (pick row first40 first40_card first40_greater greatest_place greatest_value first_injective)
open Cert.Reference1Ideal Cert.Reference1Ideal.Gen Cert.Reference1Ideal.Read Idealize.ShloMosaic Idealize.ShloMosaic.Pointwise

variable (x0 : FVec Ideal S32x9x1024 .f32) (x1 : FVec Ideal S32x18 .f32)

/-- The coordinate `p` of point `n` of batch `b`. -/
def pt (b : Fin 32) (p : Fin 9) (n : Fin 1024) : EReal := x0 (ix3 b p n)

/-- The reference's points with the coordinate last. -/
theorem ref_turned (b : Fin 32) (p : Fin 9) (n : Fin 1024) : val_main_v0 (F := Ideal) x0 (ix3 b n p) = pt x0 b p n := by
  pointwise [val_main_v0, pt]

/-- The other turned copy of the points. -/
theorem ref_turned' (b : Fin 32) (p : Fin 9) (n : Fin 1024) : val_main_v13 (F := Ideal) x0 (ix3 b n p) = pt x0 b p n := by
  pointwise [val_main_v13, pt]

/-- The squared lengths. -/
theorem ref_square (b : Fin 32) (n : Fin 1024) :
    val_main_v2 (F := Ideal) x0 (ix2 b n) = ∑ p, pt x0 b p n * pt x0 b p n := by
  simp only [← ref_turned]
  unfold val_main_v2 val_main_v1
  generalize val_main_v0 (F := Ideal) x0 = y
  pointwise [val_main_cst]

/-- The inner products. -/
theorem ref_inner (b : Fin 32) (n k : Fin 1024) :
    val_main_v3 (F := Ideal) x0 (ix3 b n k) = ∑ p, pt x0 b p n * pt x0 b p k := by
  simp only [← ref_turned]
  rw [val_main_v3_apply]
  generalize val_main_v0 (F := Ideal) x0 = y
  refine Finset.sum_congr rfl fun p _ => ?_
  refine congrArg₂ (· * ·) (congrArg y ?_) (congrArg y ?_) <;> funext a <;> match a with
    | ⟨0, _⟩ => rfl
    | ⟨1, _⟩ => rfl
    | ⟨2, _⟩ => rfl

/-- The row the reference sorts for a point: minus its squared distances from the points. -/
theorem ref_row (b : Fin 32) (n k : Fin 1024) :
    row (val_main_v12 (F := Ideal) x0) b n k = -(far (pt x0 b) k n) := by
  have h1 := ref_square x0 b n
  have h2 := ref_square x0 b k
  have h3 := ref_inner x0 b n k
  unfold row far
  simp only [mul_comm (pt x0 b _ k) (pt x0 b _ n)]
  rw [← h1, ← h2, ← h3]
  unfold val_main_v12 val_main_v11 val_main_v10 val_main_v9 val_main_v8 val_main_v7 val_main_v6 val_main_v5 val_main_v4 val_main_cst_0
  generalize val_main_v2 (F := Ideal) x0 = y
  generalize val_main_v3 (F := Ideal) x0 = z
  pointwise

/-- The neighbours of a point: the places of the first forty of its sorted row. -/
def near (b : Fin 32) (n : Fin 1024) : Finset (Fin 1024) := first40 (row (val_main_v12 (F := Ideal) x0) b n)

/-- The place of the `k`-th neighbour. -/
def nth (b : Fin 32) (n : Fin 1024) (k : Fin 40) : Fin 1024 :=
  pick (row (val_main_v12 (F := Ideal) x0) b n) (Fin.castLE (by decide) k)

/-- The positions the reference's sort returns. -/
theorem ref_place (b : Fin 32) (n : Fin 1024) (k : Fin 40) :
    val_main_indices (F := Ideal) x0 (ix3 b n k) = BitVec.ofNat 32 (nth x0 b n k).val :=
  greatest_place 40 _ _ b n k _ rfl

/-- None of them is below zero, so the reference's wrapping of negative positions leaves them. -/
theorem ref_place' (b : Fin 32) (n : Fin 1024) (k : Fin 40) (z : Fin 1) :
    val_main_v19 (F := Ideal) x0 (ix4 b n k z) = BitVec.ofNat 32 (nth x0 b n k).val := by
  have h := ref_place x0 b n k
  generalize nth x0 b n k = w at h ⊢
  rw [val_main_v19_apply, val_main_v18_apply, val_main_v15_apply, val_main_v14_apply, val_main_c_apply]
  have hi : idx_main_v19 (ix4 b n k z) = ix3 b n k := by
    funext a
    match a with
    | ⟨0, _⟩ => rfl
    | ⟨1, _⟩ => rfl
    | ⟨2, _⟩ => rfl
  rw [hi, h]
  have hw := w.isLt
  have hc : IntOp.cmpi .slt (BitVec.ofNat 32 w.val) 0x00000000#32 = 0#1 := by
    have : (BitVec.ofNat 32 w.val).slt 0x00000000#32 = false := by
      rw [BitVec.slt_eq_decide, StableHlo.Predicate.toInt_ofNat_small _ (by omega)]
      simp
    unfold IntOp.cmpi
    simp [this]
  rw [hc]
  rfl

end Cert.Kernel1Ideal.Layer

end
-- ==== Proof.RefEdge1.lean ====
module

public import proofs.«01_k».proof.Proof.Ref1
import Idealize.ShloMosaic.Lib.StableHlo.Predicate
import Idealize.ShloMosaic.Lib.Pipeline.Value

/-! The reference's gathered features, its edge values, and what it takes of them over the neighbours. -/

@[expose] public section

noncomputable section

namespace Cert.Kernel1Ideal.Layer

open Cert.KernelIdeal.Layer (pick row first40 first40_card first40_greater greatest_place greatest_value first_injective)
open Cert.Reference1Ideal Cert.Reference1Ideal.Gen Cert.Reference1Ideal.Read Idealize.ShloMosaic Idealize.ShloMosaic.Pointwise

/-- The gather reads, for a point and a position, the row the word at that position names. -/
theorem gather_named (x : FVec Ideal S32x1024x9 .f32) (p : IVec S32x1024x40x1 32) (b : Fin 32) (n : Fin 1024) (k : Fin 40) (c : Fin 9)
    (w : Fin 1024) (h : p (ix4 b n k 0) = BitVec.ofNat 32 w.val) :
    Host.gather gather_S32x1024x9_S32x1024x40x1_S32x1024x40x9_3_1_0_0_1_3_119 x p (ix4 b n k c) = x (ix3 b w c) := by
  unfold Host.gather
  refine congrArg x (funext fun a => Fin.ext ?_)
  have hw := w.isLt
  match a with
  | ⟨0, _⟩ =>
    show GatherDims.start _ (ix4 b n k c) p 0 + GatherDims.batchCoord _ (ix4 b n k c) 0 + GatherDims.offCoord _ (ix4 b n k c) 0 = b.val
    rw [GatherDims.offCoord_eq_zero _ _ _ (by decide)]
    unfold GatherDims.start GatherDims.batchCoord
    rw [dif_neg (by decide), dif_pos (by decide)]
    unfold GatherDims.siCoord
    simp only [Nat.add_zero, Nat.zero_add]
    rfl
  | ⟨1, _⟩ =>
    show GatherDims.start _ (ix4 b n k c) p 1 + GatherDims.batchCoord _ (ix4 b n k c) 1 + GatherDims.offCoord _ (ix4 b n k c) 1 = w.val
    rw [GatherDims.offCoord_eq_zero _ _ _ (by decide), GatherDims.batchCoord_eq_zero _ _ _ (by decide)]
    unfold GatherDims.start
    rw [dif_pos (by decide)]
    have hi : ∀ i : S32x1024x40x1.Idx, i = ix4 b n k 0 → min (p i).toInt.toNat 1023 = w.val := by
      rintro _ rfl
      rw [h, StableHlo.Predicate.toInt_ofNat_small _ (by omega)]
      omega
    refine hi _ ?_
    funext a'
    match a' with
    | ⟨0, _⟩ => rfl
    | ⟨1, _⟩ => rfl
    | ⟨2, _⟩ => rfl
    | ⟨3, _⟩ => rfl
  | ⟨2, _⟩ =>
    show GatherDims.start _ (ix4 b n k c) p 2 + GatherDims.batchCoord _ (ix4 b n k c) 2 + GatherDims.offCoord _ (ix4 b n k c) 2 = c.val
    rw [GatherDims.batchCoord_eq_zero _ _ _ (by decide)]
    unfold GatherDims.start GatherDims.offCoord
    rw [dif_neg (by decide), dif_pos (by decide)]
    simp only [Nat.add_zero, Nat.zero_add]
    rfl

variable (x0 : FVec Ideal S32x9x1024 .f32) (x1 : FVec Ideal S32x18 .f32)

/-- The gathered points are the neighbours. -/
theorem ref_gathered (b : Fin 32) (n : Fin 1024) (k : Fin 40) (c : Fin 9) :
    val_main_v20 (F := Ideal) x0 (ix4 b n k c) = pt x0 b c (nth x0 b n k) := by
  unfold val_main_v20
  rw [gather_named _ _ b n k c _ (ref_place' x0 b n k 0), ref_turned']

/-- The point itself, repeated for each neighbour. -/
theorem ref_repeated (b : Fin 32) (n : Fin 1024) (k : Fin 40) (c : Fin 9) :
    val_main_v22 (F := Ideal) x0 (ix4 b n k c) = pt x0 b c n := by
  rw [← ref_turned']
  unfold val_main_v22 val_main_v21
  generalize val_main_v13 (F := Ideal) x0 = y
  pointwise

/-- The features of an edge: differences first, the point itself after. -/
theorem ref_features (b : Fin 32) (n : Fin 1024) (k : Fin 40) (q : Fin 18) :
    val_main_v24 (F := Ideal) x0 (ix4 b n k q)
      = edge (fun c => pt x0 b c (nth x0 b n k)) (fun c => pt x0 b c n) q := by
  unfold val_main_v24 edge
  by_cases h : q.val < 9
  · rw [dif_pos h]
    refine (concatenate_pair_apply_left (s₁ := S32x1024x40x9) (s₂ := S32x1024x40x9) (t := S32x1024x40x18) 3 _ _ _ (ix4 b n k q) rfl
      (ix4 b n k ⟨q.val, h⟩) (fun a => by
        match a with
        | ⟨0, _⟩ => rfl
        | ⟨1, _⟩ => rfl
        | ⟨2, _⟩ => rfl
        | ⟨3, _⟩ => rfl)).trans ?_
    rw [val_main_v23_apply, ref_gathered, ref_repeated]
    rfl
  · have hq := q.isLt
    have hr : q.val - 9 < 9 := by omega
    rw [dif_neg h]
    refine (concatenate_pair_apply_right (s₁ := S32x1024x40x9) (s₂ := S32x1024x40x9) (t := S32x1024x40x18) 3 _ _ _ (ix4 b n k q) rfl rfl
      (ix4 b n k ⟨q.val - 9, hr⟩) (fun a ha => by
        match a with
        | ⟨0, _⟩ => rfl
        | ⟨1, _⟩ => rfl
        | ⟨2, _⟩ => rfl
        | ⟨3, _⟩ => exact absurd rfl ha) (by show q.val - 9 + 9 = q.val; omega)).trans ?_
    rw [ref_repeated]

/-- The value of an output channel on an edge. -/
def val (b o : Fin 32) (n k : Fin 1024) : EReal :=
  outCh (fun q => x1 (ix2 o q)) (fun c => pt x0 b c k) (fun c => pt x0 b c n)

/-- The reference's edge values. -/
theorem ref_edge (b o : Fin 32) (n : Fin 1024) (k : Fin 40) :
    val_main_v27 (F := Ideal) x0 x1 (ix4 b o n k) = val x0 x1 b o n (nth x0 b n k) := by
  rw [val_main_v27_apply, val_main_v26_apply]
  unfold val outCh
  refine Finset.sum_congr rfl fun q _ => ?_
  rw [val_main_v25_apply, ← ref_features, mul_comm]
  refine congrArg₂ (· * ·) (congrArg x1 ?_) (congrArg _ ?_) <;> funext a
  · match a with
    | ⟨0, _⟩ => rfl
    | ⟨1, _⟩ => rfl
  · match a with
    | ⟨0, _⟩ => rfl
    | ⟨1, _⟩ => rfl
    | ⟨2, _⟩ => rfl
    | ⟨3, _⟩ => rfl

/-- A maximum over the neighbours' positions is one over the neighbours. -/
theorem near_sup (b : Fin 32) (n : Fin 1024) (f : Fin 1024 → EReal) :
    (Finset.univ.sup fun k : Fin 40 => f (nth x0 b n k)) = (near x0 b n).sup f := by
  unfold near first40
  rw [Finset.sup_image]
  rfl

/-- A sum over the neighbours' positions is one over the neighbours. -/
theorem near_sum (b : Fin 32) (n : Fin 1024) (f : Fin 1024 → EReal) :
    (∑ k : Fin 40, f (nth x0 b n k)) = ∑ k ∈ near x0 b n, f k := by
  unfold near first40
  rw [Finset.sum_image fun _ _ _ _ h => first_injective _ h]
  rfl

/-- The reference's maximum over the neighbours. -/
theorem ref_max (b o : Fin 32) (n : Fin 1024) :
    val_main_v28 (F := Ideal) x0 x1 (ix3 b o n) = (near x0 b n).sup fun k => val x0 x1 b o n k := by
  rw [← near_sup]
  simp only [← ref_edge]
  unfold val_main_v28
  generalize val_main_v27 (F := Ideal) x0 x1 = y
  pointwise [val_main_cst_2]
  have hb : Ideal.ofBits FTy.f32 4286578688#32 = (⊥ : EReal) := by simp [Ideal.ofBits, Ideal.ieee]
  rw [hb]
  rfl

/-- The indices that a sum over every axis but the second brings to a channel are those with that channel. -/
theorem fiber_channel (h : S32x32x1024x40.ReducesTo [0, 2, 3] S32) (o : Fin 32) (i : S32x32x1024x40.Idx) :
    h.drop i = ix1 o ↔ ∃ k : Fin 32 × Fin 1024 × Fin 40, (ix4 k.1 o k.2.1 k.2.2 : S32x32x1024x40.Idx) = i := by
  constructor
  · intro e
    refine ⟨(i 0, i 2, i 3), ?_⟩
    funext a; apply Fin.ext
    match a with
    | ⟨0, _⟩ => rfl
    | ⟨1, _⟩ => exact (congrArg Fin.val (congrFun e (0 : Fin 1))).symm
    | ⟨2, _⟩ => rfl
    | ⟨3, _⟩ => rfl
  · rintro ⟨k, rfl⟩
    funext a; apply Fin.ext
    match a with
    | ⟨0, _⟩ => rfl

/-- A sum over every axis but the second. -/
theorem total_channel (h : S32x32x1024x40.ReducesTo [0, 2, 3] S32) (y : S32x32x1024x40.Idx → EReal) (o : Fin 32) :
    Ideal.hostReduceAdd h y 0 (ix1 o) = ∑ b : Fin 32, ∑ n : Fin 1024, ∑ k : Fin 40, y (ix4 b o n k) := by
  unfold Ideal.hostReduceAdd
  rw [zero_add, Finset.sum_filter_eq_sum_of_fiber _ (fun k : Fin 32 × Fin 1024 × Fin 40 => (ix4 k.1 o k.2.1 k.2.2 : S32x32x1024x40.Idx))
    (fun _ _ e => Prod.ext (congrFun e (0 : Fin 4)) (Prod.ext (congrFun e (2 : Fin 4)) (congrFun e (3 : Fin 4)))) (fiber_channel h o) y]
  simp only [Fintype.sum_prod_type]

/-- The reference's sum over everything but the channel. -/
theorem ref_sum (z : Fin 1) (o : Fin 32) :
    val_main_v30 (F := Ideal) x0 x1 (ix2 z o)
      = ∑ b, ∑ n, ∑ k ∈ near x0 b n, val x0 x1 b o n k := by
  simp only [← near_sum, ← ref_edge]
  unfold val_main_v30 val_main_v29
  generalize val_main_v27 (F := Ideal) x0 x1 = y
  pointwise [val_main_cst_3]
  exact total_channel _ y o

/-- The reference's sum of squares over everything but the channel. -/
theorem ref_squares (z : Fin 1) (o : Fin 32) :
    val_main_v33 (F := Ideal) x0 x1 (ix2 z o)
      = ∑ b, ∑ n, ∑ k ∈ near x0 b n, val x0 x1 b o n k * val x0 x1 b o n k := by
  simp only [← near_sum x0 _ _ fun k => val x0 x1 _ o _ k * val x0 x1 _ o _ k, ← ref_edge]
  unfold val_main_v33 val_main_v32 val_main_v31
  generalize val_main_v27 (F := Ideal) x0 x1 = y
  pointwise [val_main_cst_4]
  exact total_channel _ _ o

end Cert.Kernel1Ideal.Layer

end
-- ==== Proof.NoTie1.lean ====
module

public import proofs.«01_k».proof.Pre_no_tie1
public import proofs.«01_k».proof.Proof.RefEdge1
import Idealize.ShloMosaic.Lib.StableHlo.Predicate

/-! What the precondition says: each point's fortieth neighbour is strictly nearer than its forty-first. -/

@[expose] public section

noncomputable section

namespace Cert.Kernel1Ideal.Layer

open Cert.KernelIdeal.Layer (pick row first40 first40_card first40_greater greatest_place greatest_value first_injective)
open Cert.Reference1Ideal Cert.Reference1Ideal.Gen Cert.Reference1Ideal.Read Idealize.ShloMosaic Idealize.ShloMosaic.Pointwise

/-- The side conditions of the precondition's operations. -/
instance preFacts : Cert.Pre_no_tie1.Facts where
  transposes_S32x9x1024_S32x1024x9_0_2_1 := by decide
  reducesTo_S32x1024x9_S32x1024_d2 := by decide
  h_S_ := by decide
  bcast_S32x1024_S32x1024x1_0_1 := by decide
  bcast_S_S32x1024x1024 := by decide
  bcast_S32x1024x1_S32x1024x1024_0_1_2 := by decide
  bcast_S32x1024_S32x1x1024_0_2 := by decide
  bcast_S32x1x1024_S32x1024x1024_0_1_2 := by decide
  sliceFits_S32x1024x1024_S32x1024x41 := by decide
  slices_S32x1024x41_S32x1024x1_0_0_39 := by decide
  slices_S32x1024x41_S32x1024x1_0_0_40 := by decide
  dot_S32x1024x9_S32x1024x9_S32x1024x1024_2_2_1_1_0_0_wf := by decide

variable (x0 : FVec Ideal S32x9x1024 .f32) (x1 : FVec Ideal S32x18 .f32)

/-- The precondition compares the values at positions 39 and 40 of the reference's sorted negated distances. -/
theorem pre_eq (b : Fin 32) (n : Fin 1024) (h : Cert.Pre_no_tie1.fn (F := Ideal) x0 x1 = fun _ => 1#1) :
    cmpf (F := Ideal) .ogt
      (extractStridedSlice Cert.Pre_no_tie1.S32x1024x1 ![0, 0, 39]
        (Host.topK Cert.Pre_no_tie1.S32x1024x41 2 (FloatOps.cmpfTotal (F := Ideal) (φ := .f32) .gt) (val_main_v12 (F := Ideal) x0)
          preFacts.sliceFits_S32x1024x1024_S32x1024x41).1 preFacts.slices_S32x1024x41_S32x1024x1_0_0_39)
      (extractStridedSlice Cert.Pre_no_tie1.S32x1024x1 ![0, 0, 40]
        (Host.topK Cert.Pre_no_tie1.S32x1024x41 2 (FloatOps.cmpfTotal (F := Ideal) (φ := .f32) .gt) (val_main_v12 (F := Ideal) x0)
          preFacts.sliceFits_S32x1024x1024_S32x1024x41).1 preFacts.slices_S32x1024x41_S32x1024x1_0_0_40) (ix3 b n 0) = 1#1 := by
  refine Eq.trans (congrFun ?_ _) (congrFun h (ix3 b n 0))
  rfl

/-- Read at a point, the values at positions 39 and 40 of its sorted row. -/
theorem apart (b : Fin 32) (n : Fin 1024) (h : Cert.Pre_no_tie1.fn (F := Ideal) x0 x1 = fun _ => 1#1) :
    row (val_main_v12 (F := Ideal) x0) b n (pick (row (val_main_v12 (F := Ideal) x0) b n) 40)
      < row (val_main_v12 (F := Ideal) x0) b n (pick (row (val_main_v12 (F := Ideal) x0) b n) 39) := by
  have hc := pre_eq x0 x1 b n h
  generalize val_main_v12 (F := Ideal) x0 = y at hc ⊢
  rw [← greatest_value 41 y preFacts.sliceFits_S32x1024x1024_S32x1024x41 b n 40 40 rfl,
    ← greatest_value 41 y preFacts.sliceFits_S32x1024x1024_S32x1024x41 b n 39 39 rfl]
  generalize (Host.topK Cert.Pre_no_tie1.S32x1024x41 2 (FloatOps.cmpfTotal (F := Ideal) (φ := .f32) .gt) y
          preFacts.sliceFits_S32x1024x1024_S32x1024x41).1 = z at hc ⊢
  pointwise at hc
  by_contra hn
  rw [decide_eq_false hn] at hc
  exact absurd hc (by decide)

/-- The points' forty neighbours in the reference are told apart by distance. -/
theorem nearest (h : Cert.Pre_no_tie1.fn (F := Ideal) x0 x1 = fun _ => 1#1) (b : Fin 32) :
    Nearest (pt x0 b) (near x0 b) where
  card n := first40_card _
  far n i hi j hj := by
    have hf := first40_greater _ 39 40 rfl rfl (apart x0 x1 b n h) i j hi hj
    rw [ref_row, ref_row] at hf
    exact EReal.neg_lt_neg_iff.1 hf

end Cert.Kernel1Ideal.Layer

end
-- ==== Proof.Arrays1.lean ====
module

public import proofs.«01_k».proof.Proof.Block1
import Idealize.ShloMosaic.Lib.Pointwise

@[expose] public section

/-! What the three result arrays hold after the call. -/

noncomputable section

namespace Cert.Kernel1Ideal.Layer

open Cert.Kernel1Ideal Cert.Kernel1Ideal.Gen Idealize.ShloMosaic Idealize.ShloMosaic.TcCoe Idealize.SL.Sem
open Idealize.ShloMosaic.Pointwise

/-- A row's total. -/
theorem rowTotal_apply (v : Vec Ideal S32x1024 .f32) (z : Fin 1) (o : Fin 32) : k0_pay1 v (ix2 z o) = ∑ n, (v (ix2 o n) : EReal) := by
  pointwise [k0_pay1]

/-- The other row total. -/
theorem rowTotal'_apply (v : Vec Ideal S32x1024 .f32) (z : Fin 1) (o : Fin 32) : k0_pay3 v (ix2 z o) = ∑ n, (v (ix2 o n) : EReal) := by
  pointwise [k0_pay3]

/-- The running total takes the row totals in. -/
theorem grown_apply (v : Vec Ideal S32x1024 .f32) (a : Vec Ideal S1x32 .f32) (z : Fin 1) (o : Fin 32) :
    k0_pay2 v a (ix2 z o) = (a (ix2 z o) : EReal) + k0_pay1 v (ix2 z o) := by
  generalize hT : k0_pay1 v = T
  pointwise [k0_pay2]
  rw [hT]

/-- The running total of squares takes the row totals in. -/
theorem grown'_apply (v : Vec Ideal S32x1024 .f32) (a : Vec Ideal S1x32 .f32) (z : Fin 1) (o : Fin 32) :
    k0_pay4 v a (ix2 z o) = (a (ix2 z o) : EReal) + k0_pay3 v (ix2 z o) := by
  generalize hT : k0_pay3 v = T
  pointwise [k0_pay4]
  rw [hT]

/-- The sum's first value is zero. -/
theorem start_sum (o : Fin 32) (n : Fin 1024) : k0_pay644 (F := Ideal) (ix2 o n) = (0 : EReal) := by
  pointwise [k0_pay644]

/-- The sum of squares' first value is zero. -/
theorem start_sq (o : Fin 32) (n : Fin 1024) : k0_pay645 (F := Ideal) (ix2 o n) = (0 : EReal) := by
  pointwise [k0_pay645]

/-- The maximum's first value is least. -/
theorem start_max (o : Fin 32) (n : Fin 1024) :
    shapeCast S32x1024 (k0_pay643 (F := Ideal)) shapeCasts_S1x32x1024_S32x1024 (ix2 o n) = (⊥ : EReal) := by
  pointwise [k0_pay643]
  rfl

variable (m : (ℓ : Loc nD τ sig) → Buf (Elt Ideal) ℓ) (d : Dev nD)

variable {T : Fin 32 → Fin 1024 → Finset (Fin 1024)} (hT : ∀ b, Nearest (pts m d b) (T b))

/-- An array with one leading row, at an index. -/
theorem one_row (y : Vec Ideal S1x32x1024 .f32) (z : Fin 1) (o : Fin 32) (n : Fin 1024) :
    y (ix3 z o n) = shapeCast S32x1024 y shapeCasts_S1x32x1024_S32x1024 (ix2 o n) := by
  obtain rfl : z = 0 := Subsingleton.elim _ _
  pointwise

include hT

/-- What a point leaves in the first output's buffer. -/
theorem left3 (t : Fin cfg0.N) (z : Fin 1) (o : Fin 32) (n : Fin 1024) :
    (outsAt0 m d t.val t.isLt).1 (ix3 z o n) = (T (bat t) n).sup fun k => edgeVal m d (bat t) o n k := by
  refine (one_row _ z o n).trans ?_
  have hN : cfg0.N = 32 := N_0
  have ht := t.isLt
  by_cases h : t.val % 32 = 0
  · rw [outsAt0_A m d t h (by omega) h (by omega)]
    dsimp only
    rw [out3_A]
    exact max_block m d t (hT _) _ o n (start_max o n)
  · rw [outsAt0_B m d t h (by omega) h (by omega)]
    dsimp only
    rw [out3_B]
    exact max_block m d t (hT _) _ o n (start_max o n)

/-- One point's share of a total. -/
def share (T : Fin 32 → Fin 1024 → Finset (Fin 1024)) (g : EReal → EReal) (b o : Fin 32) : EReal :=
  ∑ n, ∑ k ∈ T b n, g (edgeVal m d b o n k)

/-- The total after the last point is the sum of the shares. -/
theorem left4 (t : Fin cfg0.N) (ht : t.val + 1 = cfg0.N) (j : S1x32.Idx) :
    (outsAt0 m d t.val t.isLt).2.1 j = 0 + ∑ p : Fin cfg0.N, share m d T id (bat p) (j 1) := by
  have hb : ∀ (p : Fin cfg0.N) (z : Fin 1) (o : Fin 32), k0_pay1 (F := Ideal) (blkAcc (F := Ideal) stepSum (iblk m d 0 p) (iblk m d 1 p) k0_pay644) (ix2 z o) = share m d T id (bat p) o := fun p z o => by
    rw [rowTotal_apply]
    exact Finset.sum_congr rfl fun n _ => sum_block m d p (hT _) stepSum id stepSum_apply _ o n (start_sum o n)
  have hN : cfg0.N = 32 := N_0
  rw [Pipeline.eq_sum_fin_of_reset_step_apply_last (fun n h => (outsAt0 m d n h).2.1) 32 (fun _ => (0 : EReal))
    (fun p j => share m d T id (bat p) (j 1)) (fun p h j => ?_) (fun p h j => ?_) (le_of_eq N_0) t ht j]
  · obtain ⟨z, o, rfl⟩ : ∃ z o, j = ix2 z o := ⟨_, _, (ix2_eta j).symm⟩
    have := p.isLt
    rw [outsAt0_A m d p h (by omega) h (by omega)]
    dsimp only
    rw [out4_A, hb, zero_add]
    rfl
  · obtain ⟨z, o, rfl⟩ : ∃ z o, j = ix2 z o := ⟨_, _, (ix2_eta j).symm⟩
    have := p.isLt
    rw [outsAt0_B m d p h (by omega) h (by omega)]
    dsimp only
    rw [out4_B, grown_apply, hb]
    rfl

/-- The total of squares after the last point is the sum of the shares. -/
theorem left5 (t : Fin cfg0.N) (ht : t.val + 1 = cfg0.N) (j : S1x32.Idx) :
    (outsAt0 m d t.val t.isLt).2.2 j = 0 + ∑ p : Fin cfg0.N, share m d T (fun y => y * y) (bat p) (j 1) := by
  have hb : ∀ (p : Fin cfg0.N) (z : Fin 1) (o : Fin 32), k0_pay3 (F := Ideal) (blkAcc (F := Ideal) stepSq (iblk m d 0 p) (iblk m d 1 p) k0_pay645) (ix2 z o) = share m d T (fun y => y * y) (bat p) o := fun p z o => by
    rw [rowTotal'_apply]
    exact Finset.sum_congr rfl fun n _ => sum_block m d p (hT _) stepSq (fun y => y * y) stepSq_apply _ o n (start_sq o n)
  have hN : cfg0.N = 32 := N_0
  rw [Pipeline.eq_sum_fin_of_reset_step_apply_last (fun n h => (outsAt0 m d n h).2.2) 32 (fun _ => (0 : EReal))
    (fun p j => share m d T (fun y => y * y) (bat p) (j 1)) (fun p h j => ?_) (fun p h j => ?_) (le_of_eq N_0) t ht j]
  · obtain ⟨z, o, rfl⟩ : ∃ z o, j = ix2 z o := ⟨_, _, (ix2_eta j).symm⟩
    have := p.isLt
    rw [outsAt0_A m d p h (by omega) h (by omega)]
    dsimp only
    rw [out5_A, hb, zero_add]
    rfl
  · obtain ⟨z, o, rfl⟩ : ∃ z o, j = ix2 z o := ⟨_, _, (ix2_eta j).symm⟩
    have := p.isLt
    rw [outsAt0_B m d p h (by omega) h (by omega)]
    dsimp only
    rw [out5_B, grown'_apply, hb]
    rfl

/-- The first result array: the greatest convolution value over the neighbours. -/
theorem array3 : (dats m 0 d).arrAt 2 cfg0.N
    = fun i : S32x32x1024.Idx => (T (i 0) (i 2)).sup fun k => edgeVal m d (i 0) (i 1) (i 2) k := by
  have e : ∀ t : Fin grid0.N, win0_2.index t = ![t.val, 0, 0] := by decide +kernel
  refine (dats m 0 d).arrAt_eq_of_covers 2 _ (by decide +kernel) fun t hf y => ?_
  rw [after0_2]
  have hy : (cfg0.win 2).xinj (cfg0.grid.coords t) y = (ix3 (y 0) (y 1) (y 2) : S1x32x1024.Idx) := by
    funext a
    match a with
    | ⟨0, _⟩ => rfl
    | ⟨1, _⟩ => rfl
    | ⟨2, _⟩ => rfl
  refine (cast_eq _ _).trans ?_
  rw [hy]
  refine (left3 m d hT t (y 0) (y 1) (y 2)).trans ?_
  have h0 : ((cfg0.win 2).blk t).view.emb y 0 = bat t := Fin.ext (by blk_simp [e t])
  have h1 : ((cfg0.win 2).blk t).view.emb y 1 = y 1 := Fin.ext (by blk_simp [e t])
  have h2 : ((cfg0.win 2).blk t).view.emb y 2 = y 2 := Fin.ext (by blk_simp [e t])
  rw [h0, h1, h2]

/-- The second result array: the total over all batches, points and neighbours. -/
theorem array4 : (dats m 0 d).arrAt 3 cfg0.N = fun i : S1x32.Idx => ∑ b, share m d T id b (i 1) := by
  refine (dats m 0 d).arrAt_eq_of_after_last 3 ⟨31, by decide⟩ (by decide +kernel) _ fun j => ?_
  rw [after0_3]
  refine (left4 m d hT ⟨31, by decide⟩ rfl j).trans ?_
  rw [zero_add]
  rfl

/-- The third result array: the total of the squares. -/
theorem array5 : (dats m 0 d).arrAt 4 cfg0.N = fun i : S1x32.Idx => ∑ b, share m d T (fun y => y * y) b (i 1) := by
  refine (dats m 0 d).arrAt_eq_of_after_last 4 ⟨31, by decide⟩ (by decide +kernel) _ fun j => ?_
  rw [after0_4]
  refine (left5 m d hT ⟨31, by decide⟩ rfl j).trans ?_
  rw [zero_add]
  rfl

end Cert.Kernel1Ideal.Layer
-- ==== Proof.Equation1.lean ====
module

public import proofs.«01_k».proof.Proof.NoTie1
public import proofs.«01_k».proof.Proof.Arrays1

/-! Array by array, what the kernel leaves is what the reference computes of the same arguments. -/

@[expose] public section

noncomputable section

namespace Cert.Kernel1Ideal.Layer

open Cert.Kernel1Ideal Cert.Kernel1Ideal.Gen Idealize.ShloMosaic Idealize.ShloMosaic.TcCoe Idealize.SL.Sem
open Idealize.ShloMosaic.Pointwise
open Cert.Reference1Ideal.Read (val_main_v28 val_main_v30 val_main_v33)

variable (m : (ℓ : Loc nD τ sig) → Buf (Elt Ideal) ℓ) (d : Dev nD)

/-- The layer's input. -/
abbrev a0 : FVec Ideal S32x9x1024 .f32 := m ((d : Thread nD τ).loc main_arg0)
/-- The weights. -/
abbrev a1 : FVec Ideal S32x18 .f32 := m ((d : Thread nD τ).loc main_arg1)

/-- The reference's neighbours of each point, of the kernel's arguments. -/
abbrev kin (b : Fin 32) (n : Fin 1024) : Finset (Fin 1024) := near (a0 m d) b n

/-- The precondition, of the kernel's arguments. -/
abbrev Apart : Prop := Cert.Pre_no_tie1.fn (F := Ideal) (a0 m d) (a1 m d) = fun _ => 1#1

/-- Under the precondition they are the nearest. -/
theorem kin_nearest (h : Apart m d) (b : Fin 32) : Nearest (pts m d b) (kin m d b) :=
  nearest (a0 m d) (a1 m d) h b

/-- An index of a three-axis array from its coordinates. -/
theorem coords3 (i : S32x32x1024.Idx) : i = ix3 (i 0) (i 1) (i 2) := by
  funext a
  match a with
  | ⟨0, _⟩ => rfl
  | ⟨1, _⟩ => rfl
  | ⟨2, _⟩ => rfl

/-- An index of a one-row array from its coordinates. -/
theorem coords2 (i : S1x32.Idx) : i = ix2 (i 0) (i 1) := by
  funext a
  match a with
  | ⟨0, _⟩ => rfl
  | ⟨1, _⟩ => rfl

/-- The greatest edge value of each point. -/
theorem equal3 (h : Apart m d) :
    (dats m 0 d).arrAt 2 cfg0.N = val_main_v28 (F := Ideal) (a0 m d) (a1 m d) := by
  rw [array3 m d (kin_nearest m d h)]
  funext i
  rw [coords3 i]
  exact (ref_max (a0 m d) (a1 m d) (i 0) (i 1) (i 2)).symm

/-- The sums of the edge values. -/
theorem equal4 (h : Apart m d) :
    (dats m 0 d).arrAt 3 cfg0.N = val_main_v30 (F := Ideal) (a0 m d) (a1 m d) := by
  rw [array4 m d (kin_nearest m d h)]
  funext i
  rw [coords2 i]
  exact (ref_sum (a0 m d) (a1 m d) (i 0) (i 1)).symm

/-- The sums of their squares. -/
theorem equal5 (h : Apart m d) :
    (dats m 0 d).arrAt 4 cfg0.N = val_main_v33 (F := Ideal) (a0 m d) (a1 m d) := by
  rw [array5 m d (kin_nearest m d h)]
  funext i
  rw [coords2 i]
  exact (ref_squares (a0 m d) (a1 m d) (i 0) (i 1)).symm

end Cert.Kernel1Ideal.Layer

end
-- ==== Proof.LastBlock.lean ====
module

public import proofs.«01_k».proof.Proof.Gen.LastIdeal.Value
public import proofs.«01_k».proof.Proof.Gen.LastIdeal.Frame
public import Idealize.ShloMosaic.Lib.Pipeline.ValueKit
public import Idealize.ShloMosaic.Lib.Pointwise
import Idealize.ShloMosaic.Lib.StableHlo.RunRead

/-! The last projection's kernel: what one block computes and what the result array holds. -/

@[expose] public section

noncomputable section

namespace Cert.LastIdeal.Layer

open Cert.LastIdeal Cert.LastIdeal.Gen Idealize.ShloMosaic Idealize.ShloMosaic.TcCoe Idealize.SL.Sem
open Idealize.ShloMosaic.Pointwise

/-- The fourth layer's output at a coordinate: the scaled and shifted value through the leaky unit, plus the third's. -/
def fourth (y s b r : EReal) : EReal :=
  (if 0 ≤ y * s + b then y * s + b else Ideal.ofBits FTy.f32 1045220557#32 * (y * s + b)) + r

/-- The four layers' outputs of a point, one under the other. -/
def stack (x1 x2 x3 x4 : Fin 32 → EReal) (u : Fin 128) : EReal :=
  if h : u.val < 32 then x1 ⟨u.val, h⟩
  else if h : u.val - 32 < 32 then x2 ⟨u.val - 32, h⟩
  else if h : u.val - 32 - 32 < 32 then x3 ⟨u.val - 32 - 32, h⟩
  else x4 ⟨u.val - 32 - 32 - 32, by omega⟩

variable (x0 : Vec Ideal S1x32x1024 .f32) (x1 x2 : Vec Ideal S32x1 .f32) (x3 x4 x5 : Vec Ideal S1x32x1024 .f32) (x6 : Vec Ideal S128x128 .bf16)

/-- The block at a coordinate: the projection's row against the point's four outputs. -/
theorem block_apply (z : Fin 1) (o : Fin 128) (n : Fin 1024) :
    k0_pay1 x0 x1 x2 x3 x4 x5 x3 x6 (ix3 z o n)
      = ∑ u, (x6 (ix2 o u) : EReal) * stack (fun p => x4 (ix3 0 p n)) (fun p => x5 (ix3 0 p n)) (fun p => x3 (ix3 0 p n))
          (fun p => fourth (x0 (ix3 0 p n)) (x1 (ix2 p 0)) (x2 (ix2 p 0)) (x3 (ix3 0 p n))) u := by
  pointwise [k0_pay1]
  unfold stack fourth
  refine Finset.sum_congr rfl fun u _ => ?_
  rfl

/-- What the block's store leaves. -/
theorem out_apply (z : Fin 1) (o : Fin 128) (n : Fin 1024) :
    out0_7 x0 x1 x2 x3 x4 x5 x6 (ix3 z o n)
      = ∑ u, (x6 (ix2 o u) : EReal) * stack (fun p => x4 (ix3 0 p n)) (fun p => x5 (ix3 0 p n)) (fun p => x3 (ix3 0 p n))
          (fun p => fourth (x0 (ix3 0 p n)) (x1 (ix2 p 0)) (x2 (ix2 p 0)) (x3 (ix3 0 p n))) u := by
  rw [← block_apply x0 x1 x2 x3 x4 x5 x6 z o n]
  frame_out [out0_7]

variable (m : (ℓ : Loc nD τ sig) → Buf (Elt Ideal) ℓ) (d : Dev nD) (t : Fin cfg0.N)

/-- The weights at the call are the argument's. -/
theorem V_weights : V m d main_v0 = truncf (F := Ideal) .bf16 (m ((d : Thread nD τ).loc main_arg6)) bitsLt_bf16_f32 := by
  unfold V hostOps0
  after_reads_simp

/-- The batch a grid point works on. -/
abbrev bat : Fin 32 := ⟨t.val, Nat.lt_of_lt_of_eq t.isLt N_0⟩

/-- The block of the previous layer's values. -/
theorem in0_apply (p : Fin 32) (n : Fin 1024) :
    (iblk m d 0 t : Vec Ideal S1x32x1024 .f32) (ix3 0 p n) = m ((d : Thread nD τ).loc main_arg0) (ix3 (bat t) p n) := by
  have e : ∀ t : Fin grid0.N, win0_0.index t = ![t.val, 0, 0] := by decide +kernel
  blk_ext [iblk, V_main_arg0, e t]

/-- The scales, at every point the whole array. -/
theorem in1_apply (p : Fin 32) :
    (iblk m d 1 t : Vec Ideal S32x1 .f32) (ix2 p 0) = m ((d : Thread nD τ).loc main_arg1) (ix2 p 0) := by
  have e : ∀ t : Fin grid0.N, win0_1.index t = ![0, 0] := by decide +kernel
  blk_ext [iblk, V_main_arg1, e t]

/-- The shifts, at every point the whole array. -/
theorem in2_apply (p : Fin 32) :
    (iblk m d 2 t : Vec Ideal S32x1 .f32) (ix2 p 0) = m ((d : Thread nD τ).loc main_arg2) (ix2 p 0) := by
  have e : ∀ t : Fin grid0.N, win0_2.index t = ![0, 0] := by decide +kernel
  blk_ext [iblk, V_main_arg2, e t]

/-- The block of the third layer's output. -/
theorem in3_apply (p : Fin 32) (n : Fin 1024) :
    (iblk m d 3 t : Vec Ideal S1x32x1024 .f32) (ix3 0 p n) = m ((d : Thread nD τ).loc main_arg3) (ix3 (bat t) p n) := by
  have e : ∀ t : Fin grid0.N, win0_3.index t = ![t.val, 0, 0] := by decide +kernel
  blk_ext [iblk, V_main_arg3, e t]

/-- The block of the first layer's output. -/
theorem in4_apply (p : Fin 32) (n : Fin 1024) :
    (iblk m d 4 t : Vec Ideal S1x32x1024 .f32) (ix3 0 p n) = m ((d : Thread nD τ).loc main_arg4) (ix3 (bat t) p n) := by
  have e : ∀ t : Fin grid0.N, win0_4.index t = ![t.val, 0, 0] := by decide +kernel
  blk_ext [iblk, V_main_arg4, e t]

/-- The block of the second layer's output. -/
theorem in5_apply (p : Fin 32) (n : Fin 1024) :
    (iblk m d 5 t : Vec Ideal S1x32x1024 .f32) (ix3 0 p n) = m ((d : Thread nD τ).loc main_arg5) (ix3 (bat t) p n) := by
  have e : ∀ t : Fin grid0.N, win0_5.index t = ![t.val, 0, 0] := by decide +kernel
  blk_ext [iblk, V_main_arg5, e t]

/-- The projection's weights, at every point the whole array. -/
theorem in6_apply (o u : Fin 128) :
    (iblk m d 6 t : Vec Ideal S128x128 .bf16) (ix2 o u) = m ((d : Thread nD τ).loc main_arg6) (ix2 o u) := by
  have e : ∀ t : Fin grid0.N, win0_6.index t = ![0, 0] := by decide +kernel
  have h : (iblk m d 6 t : Vec Ideal S128x128 .bf16) (ix2 o u) = V m d main_v0 (ix2 o u) := by
    blk_ext [iblk, e t]
  rw [h, V_weights]
  rfl

/-- A projected value, of seven arrays. -/
def projOf (y : FVec Ideal S32x32x1024 .f32) (s b : FVec Ideal S32x1 .f32) (u3 u1 u2 : FVec Ideal S32x32x1024 .f32) (w : FVec Ideal S128x128 .f32)
    (k : Fin 32) (o : Fin 128) (n : Fin 1024) : EReal :=
  ∑ u, (w (ix2 o u) : EReal) * stack (fun p => u1 (ix3 k p n)) (fun p => u2 (ix3 k p n)) (fun p => u3 (ix3 k p n))
    (fun p => fourth (y (ix3 k p n)) (s (ix2 p 0)) (b (ix2 p 0)) (u3 (ix3 k p n))) u

/-- A projected value, off the argument arrays. -/
abbrev projected (k : Fin 32) (o : Fin 128) (n : Fin 1024) : EReal :=
  projOf (m ((d : Thread nD τ).loc main_arg0)) (m ((d : Thread nD τ).loc main_arg1)) (m ((d : Thread nD τ).loc main_arg2))
    (m ((d : Thread nD τ).loc main_arg3)) (m ((d : Thread nD τ).loc main_arg4)) (m ((d : Thread nD τ).loc main_arg5))
    (m ((d : Thread nD τ).loc main_arg6)) k o n

/-- What a grid point leaves: its batch's projected values. -/
theorem left7 (z : Fin 1) (o : Fin 128) (n : Fin 1024) :
    out0_7 (iblk m d 0 t) (iblk m d 1 t) (iblk m d 2 t) (iblk m d 3 t) (iblk m d 4 t) (iblk m d 5 t) (iblk m d 6 t) (ix3 z o n)
      = projected m d (bat t) o n := by
  rw [out_apply]
  simp only [in0_apply, in1_apply, in2_apply, in3_apply, in4_apply, in5_apply, in6_apply]
  rfl

/-- The result array: every batch's projected values. -/
theorem array7 : (dats m 0 d).arrAt 7 cfg0.N = fun i : S32x128x1024.Idx => projected m d (i 0) (i 1) (i 2) := by
  have e : ∀ t : Fin grid0.N, win0_7.index t = ![t.val, 0, 0] := by decide +kernel
  refine (dats m 0 d).arrAt_eq_of_covers 7 _ (by decide +kernel) fun t hf y => ?_
  rw [after0_7]
  have hy : (cfg0.win 7).xinj (cfg0.grid.coords t) y = (ix3 (y 0) (y 1) (y 2) : S1x128x1024.Idx) := by
    funext a
    match a with
    | ⟨0, _⟩ => rfl
    | ⟨1, _⟩ => rfl
    | ⟨2, _⟩ => rfl
  refine (cast_eq _ _).trans ?_
  rw [hy]
  refine (left7 m d t (y 0) (y 1) (y 2)).trans ?_
  have h0 : ((cfg0.win 7).blk t).view.emb y 0 = bat t := Fin.ext (by blk_simp [e t])
  have h1 : ((cfg0.win 7).blk t).view.emb y 1 = y 1 := Fin.ext (by blk_simp [e t])
  have h2 : ((cfg0.win 7).blk t).view.emb y 2 = y 2 := Fin.ext (by blk_simp [e t])
  rw [h0, h1, h2]

end Cert.LastIdeal.Layer

end
-- ==== Proof.LastRef.lean ====
module

public import proofs.«01_k».proof.Proof.Gen.ReferenceLastIdeal.Read
public import proofs.«01_k».proof.Proof.LastBlock

/-! The last projection's reference, and the equation with the kernel. -/

@[expose] public section

noncomputable section

namespace Cert.LastIdeal.Layer

open Cert.ReferenceLastIdeal Cert.ReferenceLastIdeal.Gen Cert.ReferenceLastIdeal.Read Idealize.ShloMosaic Idealize.ShloMosaic.TcCoe
open Idealize.ShloMosaic.Pointwise

variable (x0 : FVec Ideal S32x32x1024 .f32) (x1 x2 : FVec Ideal S32x1 .f32) (x3 x4 x5 : FVec Ideal S32x32x1024 .f32) (x6 : FVec Ideal S128x128 .f32)

/-- The reference's fourth layer. -/
theorem ref_fourth (b p : Fin 32) (n : Fin 1024) :
    val_main_v11 (F := Ideal) x0 x1 x2 x3 (ix3 b p n) = fourth (x0 (ix3 b p n)) (x1 (ix2 p 0)) (x2 (ix2 p 0)) (x3 (ix3 b p n)) := by
  unfold fourth
  pointwise [val_main_v11, val_main_v10, val_main_v9, val_main_v8, val_main_v7, val_main_v6, val_main_v5, val_main_v4, val_main_v3,
    val_main_v2, val_main_v1, val_main_v0, val_main_cst, val_main_cst_0]

/-- The reference's four outputs, one under the other. -/
theorem ref_stack (b : Fin 32) (u : Fin 128) (n : Fin 1024) :
    val_main_v12 (F := Ideal) x0 x1 x2 x3 x4 x5 (ix3 b u n)
      = stack (fun p => x4 (ix3 b p n)) (fun p => x5 (ix3 b p n)) (fun p => x3 (ix3 b p n))
          (fun p => fourth (x0 (ix3 b p n)) (x1 (ix2 p 0)) (x2 (ix2 p 0)) (x3 (ix3 b p n))) u := by
  simp only [← ref_fourth]
  unfold val_main_v12
  generalize val_main_v11 (F := Ideal) x0 x1 x2 x3 = y
  pointwise
  rfl

/-- The reference's result. -/
theorem ref_last (b : Fin 32) (o : Fin 128) (n : Fin 1024) :
    val_main_v14 (F := Ideal) x0 x1 x2 x3 x4 x5 x6 (ix3 b o n)
      = projOf x0 x1 x2 x3 x4 x5 x6 b o n := by
  unfold projOf
  simp only [← ref_stack]
  unfold val_main_v14 val_main_v13
  generalize val_main_v12 (F := Ideal) x0 x1 x2 x3 x4 x5 = y
  pointwise
  exact Finset.sum_congr rfl fun u _ => mul_comm _ _

/-- The kernel's result array is the reference's result of the same arguments. -/
theorem equal_last (m : (ℓ : Loc Cert.LastIdeal.nD Cert.LastIdeal.τ Cert.LastIdeal.sig) → Buf (Elt Ideal) ℓ) (d : Dev Cert.LastIdeal.nD) :
    (Cert.LastIdeal.Gen.dats m 0 d).arrAt 7 Cert.LastIdeal.cfg0.N
      = val_main_v14 (F := Ideal) (m ((d.tc : Thread Cert.LastIdeal.nD Cert.LastIdeal.τ).loc Cert.LastIdeal.main_arg0))
          (m ((d.tc : Thread Cert.LastIdeal.nD Cert.LastIdeal.τ).loc Cert.LastIdeal.main_arg1))
          (m ((d.tc : Thread Cert.LastIdeal.nD Cert.LastIdeal.τ).loc Cert.LastIdeal.main_arg2))
          (m ((d.tc : Thread Cert.LastIdeal.nD Cert.LastIdeal.τ).loc Cert.LastIdeal.main_arg3))
          (m ((d.tc : Thread Cert.LastIdeal.nD Cert.LastIdeal.τ).loc Cert.LastIdeal.main_arg4))
          (m ((d.tc : Thread Cert.LastIdeal.nD Cert.LastIdeal.τ).loc Cert.LastIdeal.main_arg5))
          (m ((d.tc : Thread Cert.LastIdeal.nD Cert.LastIdeal.τ).loc Cert.LastIdeal.main_arg6)) := by
  rw [array7]
  funext i
  obtain ⟨b, o, n, rfl⟩ : ∃ b o n, i = ix3 b o n := ⟨i 0, i 1, i 2, by funext a; match a with | ⟨0, _⟩ => rfl | ⟨1, _⟩ => rfl | ⟨2, _⟩ => rfl⟩
  exact (ref_last _ _ _ _ _ _ _ b o n).symm

end Cert.LastIdeal.Layer

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Read
public import proofs.«01_k».proof.Proof.Equation
public import proofs.«01_k».proof.Proof.Equation2
public import proofs.«01_k».proof.Proof.Equation1
public import proofs.«01_k».proof.Proof.LastRef
public import proofs.«01_k».proof.Proof.Gen.Kernel1
public import proofs.«01_k».proof.Proof.Gen.Kernel1.Skeleton
public import proofs.«01_k».proof.Proof.Gen.Kernel1.Loops
public import proofs.«01_k».proof.Proof.Gen.Kernel1.Launch
public import proofs.«01_k».proof.Proof.Gen.Kernel1.Points
public import proofs.«01_k».proof.Proof.Gen.Kernel1.Frame
public import proofs.«01_k».proof.Proof.Gen.Kernel1Ideal
public import proofs.«01_k».proof.Proof.Gen.Kernel1Ideal.Skeleton
public import proofs.«01_k».proof.Proof.Gen.Kernel1Ideal.Loops
public import proofs.«01_k».proof.Proof.Gen.Kernel1Ideal.Launch
public import proofs.«01_k».proof.Proof.Gen.Kernel1Ideal.Points
public import proofs.«01_k».proof.Proof.Gen.Kernel1Ideal.Frame
public import proofs.«01_k».proof.Proof.Gen.Reference1Ideal
public import proofs.«01_k».proof.Proof.Gen.Kernel1Ideal.Value
public import proofs.«01_k».proof.Proof.Gen.Reference1Ideal.Read
public import proofs.«01_k».proof.Proof.Gen.Kernel2
public import proofs.«01_k».proof.Proof.Gen.Kernel2.Skeleton
public import proofs.«01_k».proof.Proof.Gen.Kernel2.Loops
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Loops
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Last
public import proofs.«01_k».proof.Proof.Gen.Last.Skeleton
public import proofs.«01_k».proof.Proof.Gen.Last.Launch
public import proofs.«01_k».proof.Proof.Gen.Last.Points
public import proofs.«01_k».proof.Proof.Gen.Last.Frame
public import proofs.«01_k».proof.Proof.Gen.LastIdeal
public import proofs.«01_k».proof.Proof.Gen.LastIdeal.Skeleton
public import proofs.«01_k».proof.Proof.Gen.LastIdeal.Launch
public import proofs.«01_k».proof.Proof.Gen.LastIdeal.Points
public import proofs.«01_k».proof.Proof.Gen.LastIdeal.Frame
public import proofs.«01_k».proof.Proof.Gen.Reference2Ideal
public import proofs.«01_k».proof.Proof.Gen.ReferenceLastIdeal
public import proofs.«01_k».proof.Proof.Gen.Kernel2Ideal.Value
public import proofs.«01_k».proof.Proof.Gen.Reference2Ideal.Read
public import proofs.«01_k».proof.Proof.Gen.LastIdeal.Value
public import proofs.«01_k».proof.Proof.Gen.ReferenceLastIdeal.Read
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference's arguments end unchanged; it has no semaphore. -/
theorem frame_ref : Cert.quiescent_ReferenceIdeal := fun m ρ _ =>
  (θ_run Cert.ReferenceIdeal.defs _ _).mono (fun r h => ⟨fun c => (h c).2.2.2.2, sem_eq_zero_of_no_sems (by decide) r.2⟩)
    (Cert.ReferenceIdeal.Value.run (F := Ideal) m ρ)

/-- Where the precondition holds, the kernel's four results are the reference's: `equal5` to `equal8` of the kernel's run, against the
    reference's run on memory that agrees on the arguments. -/
theorem algebraic : Cert.algebraic_KernelIdeal_ReferenceIdeal_pre_no_tie := by
  intro m ρ m' ρ' hpre hagree
  refine ⟨fun c => (Cert.KernelIdeal.Gen.dats m 0 c).arrAt 5 Cert.KernelIdeal.cfg0.N, fun c => (Cert.KernelIdeal.Gen.dats m 0 c).arrAt 6 Cert.KernelIdeal.cfg0.N,
    fun c => (Cert.KernelIdeal.Gen.dats m 0 c).arrAt 7 Cert.KernelIdeal.cfg0.N, fun c => (Cert.KernelIdeal.Gen.dats m 0 c).arrAt 8 Cert.KernelIdeal.cfg0.N,
    Cert.KernelIdeal.Value.run_blocks (F := Ideal) m ρ, ?_⟩
  refine (θ_run Cert.ReferenceIdeal.defs _ _).mono (fun r h c => ?_) (Cert.ReferenceIdeal.Value.run (F := Ideal) m' ρ')
  obtain ⟨h0, h1, h2, h3, hargs⟩ := h c
  obtain ⟨e0, e1, e2, e3, e4⟩ := hagree c
  rw [Cert.ReferenceIdeal.Read.val_main_v11_eq, e0, e1, e2, e3] at h0
  rw [Cert.ReferenceIdeal.Read.val_main_v40_eq, e0, e1, e2, e3, e4] at h1
  rw [Cert.ReferenceIdeal.Read.val_main_v42_eq, e0, e1, e2, e3, e4] at h2
  rw [Cert.ReferenceIdeal.Read.val_main_v45_eq, e0, e1, e2, e3, e4] at h3
  exact ⟨h0.trans (Cert.KernelIdeal.Layer.equal5 m c).symm, h1.trans (Cert.KernelIdeal.Layer.equal6 m c (hpre c)).symm,
    h2.trans (Cert.KernelIdeal.Layer.equal7 m c (hpre c)).symm, h3.trans (Cert.KernelIdeal.Layer.equal8 m c (hpre c)).symm, hargs⟩

/-- The second layer's reference leaves its arguments unchanged; it has no semaphore. -/
theorem frame_ref2 : Cert.quiescent_Reference2Ideal := fun m ρ _ =>
  (θ_run Cert.Reference2Ideal.defs _ _).mono (fun r h => ⟨fun c => (h c).2.2.2.2, sem_eq_zero_of_no_sems (by decide) r.2⟩)
    (Cert.Reference2Ideal.Value.run (F := Ideal) m ρ)

/-- The second layer's four arrays are the reference's, on memory that agrees on the arguments and meets the precondition. -/
theorem algebraic2 : Cert.algebraic_Kernel2Ideal_Reference2Ideal_pre_no_tie2 := by
  intro m ρ m' ρ' hpre hagree
  refine ⟨fun c => (Cert.Kernel2Ideal.Gen.dats m 0 c).arrAt 4 Cert.Kernel2Ideal.cfg0.N, fun c => (Cert.Kernel2Ideal.Gen.dats m 0 c).arrAt 5 Cert.Kernel2Ideal.cfg0.N,
    fun c => (Cert.Kernel2Ideal.Gen.dats m 0 c).arrAt 6 Cert.Kernel2Ideal.cfg0.N, fun c => (Cert.Kernel2Ideal.Gen.dats m 0 c).arrAt 7 Cert.Kernel2Ideal.cfg0.N,
    Cert.Kernel2Ideal.Value.run_blocks (F := Ideal) m ρ, ?_⟩
  refine (θ_run Cert.Reference2Ideal.defs _ _).mono (fun r h c => ?_) (Cert.Reference2Ideal.Value.run (F := Ideal) m' ρ')
  obtain ⟨h0, h1, h2, h3, hargs⟩ := h c
  obtain ⟨e0, e1, e2, e3⟩ := hagree c
  rw [Cert.Reference2Ideal.Read.val_main_v10_eq, e0, e1, e2] at h0
  rw [Cert.Reference2Ideal.Read.val_main_v39_eq, e0, e1, e2, e3] at h1
  rw [Cert.Reference2Ideal.Read.val_main_v41_eq, e0, e1, e2, e3] at h2
  rw [Cert.Reference2Ideal.Read.val_main_v44_eq, e0, e1, e2, e3] at h3
  exact ⟨h0.trans (Cert.Kernel2Ideal.Layer.equal5 m c).symm, h1.trans (Cert.Kernel2Ideal.Layer.equal6 m c (hpre c)).symm,
    h2.trans (Cert.Kernel2Ideal.Layer.equal7 m c (hpre c)).symm, h3.trans (Cert.Kernel2Ideal.Layer.equal8 m c (hpre c)).symm, hargs⟩

/-- The first layer's reference leaves its arguments unchanged; it has no semaphore. -/
theorem frame_ref1 : Cert.quiescent_Reference1Ideal := fun m ρ _ =>
  (θ_run Cert.Reference1Ideal.defs _ _).mono (fun r h => ⟨fun c => (h c).2.2.2, sem_eq_zero_of_no_sems (by decide) r.2⟩)
    (Cert.Reference1Ideal.Value.run (F := Ideal) m ρ)

/-- The first layer's three arrays are the reference's, on memory that agrees on the arguments and meets the precondition. -/
theorem algebraic1 : Cert.algebraic_Kernel1Ideal_Reference1Ideal_pre_no_tie1 := by
  intro m ρ m' ρ' hpre hagree
  refine ⟨fun c => (Cert.Kernel1Ideal.Gen.dats m 0 c).arrAt 2 Cert.Kernel1Ideal.cfg0.N, fun c => (Cert.Kernel1Ideal.Gen.dats m 0 c).arrAt 3 Cert.Kernel1Ideal.cfg0.N,
    fun c => (Cert.Kernel1Ideal.Gen.dats m 0 c).arrAt 4 Cert.Kernel1Ideal.cfg0.N, Cert.Kernel1Ideal.Value.run_blocks (F := Ideal) m ρ, ?_⟩
  refine (θ_run Cert.Reference1Ideal.defs _ _).mono (fun r h c => ?_) (Cert.Reference1Ideal.Value.run (F := Ideal) m' ρ')
  obtain ⟨h0, h1, h2, hargs⟩ := h c
  obtain ⟨e0, e1⟩ := hagree c
  rw [Cert.Reference1Ideal.Read.val_main_v28_eq, e0, e1] at h0
  rw [Cert.Reference1Ideal.Read.val_main_v30_eq, e0, e1] at h1
  rw [Cert.Reference1Ideal.Read.val_main_v33_eq, e0, e1] at h2
  exact ⟨h0.trans (Cert.Kernel1Ideal.Layer.equal3 m c (hpre c)).symm, h1.trans (Cert.Kernel1Ideal.Layer.equal4 m c (hpre c)).symm,
    h2.trans (Cert.Kernel1Ideal.Layer.equal5 m c (hpre c)).symm, hargs⟩

/-- The last projection's reference leaves its arguments unchanged; it has no semaphore. -/
theorem frame_ref_last : Cert.quiescent_ReferenceLastIdeal := fun m ρ _ =>
  (θ_run Cert.ReferenceLastIdeal.defs _ _).mono (fun r h => ⟨fun c => (h c).2, sem_eq_zero_of_no_sems (by decide) r.2⟩)
    (Cert.ReferenceLastIdeal.Value.run (F := Ideal) m ρ)

/-- The last projection's array is the reference's, on memory that agrees on the arguments. -/
theorem algebraic_last : Cert.algebraic_LastIdeal_ReferenceLastIdeal := by
  intro m ρ m' ρ' _ hagree
  refine ⟨fun c => (Cert.LastIdeal.Gen.dats m 0 c).arrAt 7 Cert.LastIdeal.cfg0.N, Cert.LastIdeal.Value.run_blocks (F := Ideal) m ρ, ?_⟩
  refine (θ_run Cert.ReferenceLastIdeal.defs _ _).mono (fun r h c => ?_) (Cert.ReferenceLastIdeal.Value.run (F := Ideal) m' ρ')
  obtain ⟨h0, hargs⟩ := h c
  obtain ⟨e0, e1, e2, e3, e4, e5, e6⟩ := hagree c
  rw [Cert.ReferenceLastIdeal.Read.val_main_v14_eq, e0, e1, e2, e3, e4, e5, e6] at h0
  exact ⟨h0.trans (Cert.LastIdeal.Layer.equal_last m c).symm, hargs⟩

/-- The frames, the named constants, and the equations. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Last.Gen.facts, Cert.LastIdeal.Gen.facts, Cert.ReferenceLastIdeal.Gen.facts,
  Cert.Kernel1.Gen.facts, Cert.Kernel1Ideal.Gen.facts, Cert.Reference1Ideal.Gen.facts,
  Cert.KernelIdeal.Layer.preFacts, Cert.Kernel2Ideal.Layer.preFacts, Cert.Kernel1Ideal.Layer.preFacts,
  fun m ρ _ => Cert.Kernel.Gen.frame m ρ,
  fun m ρ _ => Cert.KernelIdeal.Gen.frame m ρ,
  fun m ρ _ => Cert.KernelIdeal.Gen.frame m ρ,
  frame_ref,
  fun m ρ _ => frame_ref m ρ trivial,
  fun m ρ _ => Cert.Kernel2.Gen.frame m ρ,
  fun m ρ _ => Cert.Kernel2Ideal.Gen.frame m ρ,
  fun m ρ _ => Cert.Kernel2Ideal.Gen.frame m ρ,
  frame_ref2,
  fun m ρ _ => frame_ref2 m ρ trivial,
  fun m ρ _ => Cert.Last.Gen.frame m ρ,
  fun m ρ _ => Cert.LastIdeal.Gen.frame m ρ,
  frame_ref_last,
  fun m ρ _ => Cert.Kernel1.Gen.frame m ρ,
  fun m ρ _ => Cert.Kernel1Ideal.Gen.frame m ρ,
  fun m ρ _ => Cert.Kernel1Ideal.Gen.frame m ρ,
  frame_ref1,
  fun m ρ _ => frame_ref1 m ρ trivial,
  IdealRules.named_const.statement Cert.KernelIdeal.κ "neg" .f32 0xFF61B1E6#32 ⊥ rfl,
  algebraic,
  IdealRules.named_const.statement Cert.Kernel2Ideal.κ "neg" .f32 0xFF61B1E6#32 ⊥ rfl,
  algebraic2,
  trivial,
  algebraic_last,
  IdealRules.named_const.statement Cert.Kernel1Ideal.κ "neg" .f32 0xFF61B1E6#32 ⊥ rfl,
  algebraic1⟩

end Cert.Proof

end
